-- ==== Defs.lean ====
def Pre_Kernel (m : (ℓ : Loc Cert.Kernel.nD Cert.Kernel.τ Cert.Kernel.sig) → Buf (Elt Bits) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_PreMix (m : (ℓ : Loc Cert.PreMix.nD Cert.PreMix.τ Cert.PreMix.sig) → Buf (Elt Bits) ℓ) : Prop :=
  True

def Pre_PreMixIdeal (m : (ℓ : Loc Cert.PreMixIdeal.nD Cert.PreMixIdeal.τ Cert.PreMixIdeal.sig) → Buf (Elt Ideal) ℓ) : Prop :=
  True

def Pre_PreMixRefIdeal (m : (ℓ : Loc Cert.PreMixRefIdeal.nD Cert.PreMixRefIdeal.τ Cert.PreMixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_PreMix [hPreMix : Cert.PreMix.Facts] : Prop :=
  ∀ (m : (ℓ : Loc Cert.PreMix.nD Cert.PreMix.τ Cert.PreMix.sig) → Buf (Elt Bits) ℓ) (g : Dev Cert.PreMix.nD → PrngReg), Pre_PreMix m →
    θ_run (Cert.PreMix.defs (F := Bits)) (onTc (τ := Cert.PreMix.τ) (Cert.PreMix.main (F := Bits))) ⟨m, fun _ => 0, g⟩ (fun r => (∀ c : Dev Cert.PreMix.nD,
      r.2.mem ((c.tc : Thread Cert.PreMix.nD Cert.PreMix.τ).loc Cert.PreMix.main_arg0) = m ((c.tc : Thread Cert.PreMix.nD Cert.PreMix.τ).loc Cert.PreMix.main_arg0)
      ∧ r.2.mem ((c.tc : Thread Cert.PreMix.nD Cert.PreMix.τ).loc Cert.PreMix.main_arg1) = m ((c.tc : Thread Cert.PreMix.nD Cert.PreMix.τ).loc Cert.PreMix.main_arg1)
      ∧ r.2.mem ((c.tc : Thread Cert.PreMix.nD Cert.PreMix.τ).loc Cert.PreMix.main_arg2) = m ((c.tc : Thread Cert.PreMix.nD Cert.PreMix.τ).loc Cert.PreMix.main_arg2)
      ∧ r.2.mem ((c.tc : Thread Cert.PreMix.nD Cert.PreMix.τ).loc Cert.PreMix.main_arg3) = m ((c.tc : Thread Cert.PreMix.nD Cert.PreMix.τ).loc Cert.PreMix.main_arg3)
      ∧ r.2.mem ((c.tc : Thread Cert.PreMix.nD Cert.PreMix.τ).loc Cert.PreMix.main_arg4) = m ((c.tc : Thread Cert.PreMix.nD Cert.PreMix.τ).loc Cert.PreMix.main_arg4)
      ∧ r.2.mem ((c.tc : Thread Cert.PreMix.nD Cert.PreMix.τ).loc Cert.PreMix.main_arg5) = m ((c.tc : Thread Cert.PreMix.nD Cert.PreMix.τ).loc Cert.PreMix.main_arg5)
      ∧ r.2.mem ((c.tc : Thread Cert.PreMix.nD Cert.PreMix.τ).loc Cert.PreMix.main_arg6) = m ((c.tc : Thread Cert.PreMix.nD Cert.PreMix.τ).loc Cert.PreMix.main_arg6)
      ∧ r.2.mem ((c.tc : Thread Cert.PreMix.nD Cert.PreMix.τ).loc Cert.PreMix.main_arg7) = m ((c.tc : Thread Cert.PreMix.nD Cert.PreMix.τ).loc Cert.PreMix.main_arg7)
      ∧ r.2.mem ((c.tc : Thread Cert.PreMix.nD Cert.PreMix.τ).loc Cert.PreMix.main_arg8) = m ((c.tc : Thread Cert.PreMix.nD Cert.PreMix.τ).loc Cert.PreMix.main_arg8)
      ∧ r.2.mem ((c.tc : Thread Cert.PreMix.nD Cert.PreMix.τ).loc Cert.PreMix.main_arg9) = m ((c.tc : Thread Cert.PreMix.nD Cert.PreMix.τ).loc Cert.PreMix.main_arg9)
      ∧ r.2.mem ((c.tc : Thread Cert.PreMix.nD Cert.PreMix.τ).loc Cert.PreMix.main_arg10) = m ((c.tc : Thread Cert.PreMix.nD Cert.PreMix.τ).loc Cert.PreMix.main_arg10)
      ∧ r.2.mem ((c.tc : Thread Cert.PreMix.nD Cert.PreMix.τ).loc Cert.PreMix.main_arg11) = m ((c.tc : Thread Cert.PreMix.nD Cert.PreMix.τ).loc Cert.PreMix.main_arg11)
      ∧ r.2.mem ((c.tc : Thread Cert.PreMix.nD Cert.PreMix.τ).loc Cert.PreMix.main_arg12) = m ((c.tc : Thread Cert.PreMix.nD Cert.PreMix.τ).loc Cert.PreMix.main_arg12))
      ∧ r.2.sem = fun _ => 0)

def quiescent_PreMixIdeal [hPreMixIdeal : Cert.PreMixIdeal.Facts] : Prop :=
  ∀ (m : (ℓ : Loc Cert.PreMixIdeal.nD Cert.PreMixIdeal.τ Cert.PreMixIdeal.sig) → Buf (Elt Ideal) ℓ) (g : Dev Cert.PreMixIdeal.nD → PrngReg), Pre_PreMixIdeal m →
    θ_run (Cert.PreMixIdeal.defs (F := Ideal)) (onTc (τ := Cert.PreMixIdeal.τ) (Cert.PreMixIdeal.main (F := Ideal))) ⟨m, fun _ => 0, g⟩ (fun r => (∀ c : Dev Cert.PreMixIdeal.nD,
      r.2.mem ((c.tc : Thread Cert.PreMixIdeal.nD Cert.PreMixIdeal.τ).loc Cert.PreMixIdeal.main_arg0) = m ((c.tc : Thread Cert.PreMixIdeal.nD Cert.PreMixIdeal.τ).loc Cert.PreMixIdeal.main_arg0)
      ∧ r.2.mem ((c.tc : Thread Cert.PreMixIdeal.nD Cert.PreMixIdeal.τ).loc Cert.PreMixIdeal.main_arg1) = m ((c.tc : Thread Cert.PreMixIdeal.nD Cert.PreMixIdeal.τ).loc Cert.PreMixIdeal.main_arg1)
      ∧ r.2.mem ((c.tc : Thread Cert.PreMixIdeal.nD Cert.PreMixIdeal.τ).loc Cert.PreMixIdeal.main_arg2) = m ((c.tc : Thread Cert.PreMixIdeal.nD Cert.PreMixIdeal.τ).loc Cert.PreMixIdeal.main_arg2)
      ∧ r.2.mem ((c.tc : Thread Cert.PreMixIdeal.nD Cert.PreMixIdeal.τ).loc Cert.PreMixIdeal.main_arg3) = m ((c.tc : Thread Cert.PreMixIdeal.nD Cert.PreMixIdeal.τ).loc Cert.PreMixIdeal.main_arg3)
      ∧ r.2.mem ((c.tc : Thread Cert.PreMixIdeal.nD Cert.PreMixIdeal.τ).loc Cert.PreMixIdeal.main_arg4) = m ((c.tc : Thread Cert.PreMixIdeal.nD Cert.PreMixIdeal.τ).loc Cert.PreMixIdeal.main_arg4)
      ∧ r.2.mem ((c.tc : Thread Cert.PreMixIdeal.nD Cert.PreMixIdeal.τ).loc Cert.PreMixIdeal.main_arg5) = m ((c.tc : Thread Cert.PreMixIdeal.nD Cert.PreMixIdeal.τ).loc Cert.PreMixIdeal.main_arg5)
      ∧ r.2.mem ((c.tc : Thread Cert.PreMixIdeal.nD Cert.PreMixIdeal.τ).loc Cert.PreMixIdeal.main_arg6) = m ((c.tc : Thread Cert.PreMixIdeal.nD Cert.PreMixIdeal.τ).loc Cert.PreMixIdeal.main_arg6)
      ∧ r.2.mem ((c.tc : Thread Cert.PreMixIdeal.nD Cert.PreMixIdeal.τ).loc Cert.PreMixIdeal.main_arg7) = m ((c.tc : Thread Cert.PreMixIdeal.nD Cert.PreMixIdeal.τ).loc Cert.PreMixIdeal.main_arg7)
      ∧ r.2.mem ((c.tc : Thread Cert.PreMixIdeal.nD Cert.PreMixIdeal.τ).loc Cert.PreMixIdeal.main_arg8) = m ((c.tc : Thread Cert.PreMixIdeal.nD Cert.PreMixIdeal.τ).loc Cert.PreMixIdeal.main_arg8)
      ∧ r.2.mem ((c.tc : Thread Cert.PreMixIdeal.nD Cert.PreMixIdeal.τ).loc Cert.PreMixIdeal.main_arg9) = m ((c.tc : Thread Cert.PreMixIdeal.nD Cert.PreMixIdeal.τ).loc Cert.PreMixIdeal.main_arg9)
      ∧ r.2.mem ((c.tc : Thread Cert.PreMixIdeal.nD Cert.PreMixIdeal.τ).loc Cert.PreMixIdeal.main_arg10) = m ((c.tc : Thread Cert.PreMixIdeal.nD Cert.PreMixIdeal.τ).loc Cert.PreMixIdeal.main_arg10)
      ∧ r.2.mem ((c.tc : Thread Cert.PreMixIdeal.nD Cert.PreMixIdeal.τ).loc Cert.PreMixIdeal.main_arg11) = m ((c.tc : Thread Cert.PreMixIdeal.nD Cert.PreMixIdeal.τ).loc Cert.PreMixIdeal.main_arg11)
      ∧ r.2.mem ((c.tc : Thread Cert.PreMixIdeal.nD Cert.PreMixIdeal.τ).loc Cert.PreMixIdeal.main_arg12) = m ((c.tc : Thread Cert.PreMixIdeal.nD Cert.PreMixIdeal.τ).loc Cert.PreMixIdeal.main_arg12))
      ∧ r.2.sem = fun _ => 0)

def quiescent_PreMixRefIdeal [hPreMixRefIdeal : Cert.PreMixRefIdeal.Facts] : Prop :=
  ∀ (m : (ℓ : Loc Cert.PreMixRefIdeal.nD Cert.PreMixRefIdeal.τ Cert.PreMixRefIdeal.sig) → Buf (Elt Ideal) ℓ) (g : Dev Cert.PreMixRefIdeal.nD → PrngReg), Pre_PreMixRefIdeal m →
    θ_run (Cert.PreMixRefIdeal.defs (F := Ideal)) (onTc (τ := Cert.PreMixRefIdeal.τ) (Cert.PreMixRefIdeal.main (F := Ideal))) ⟨m, fun _ => 0, g⟩ (fun r => (∀ c : Dev Cert.PreMixRefIdeal.nD,
      r.2.mem ((c.tc : Thread Cert.PreMixRefIdeal.nD Cert.PreMixRefIdeal.τ).loc Cert.PreMixRefIdeal.main_arg0) = m ((c.tc : Thread Cert.PreMixRefIdeal.nD Cert.PreMixRefIdeal.τ).loc Cert.PreMixRefIdeal.main_arg0)
      ∧ r.2.mem ((c.tc : Thread Cert.PreMixRefIdeal.nD Cert.PreMixRefIdeal.τ).loc Cert.PreMixRefIdeal.main_arg1) = m ((c.tc : Thread Cert.PreMixRefIdeal.nD Cert.PreMixRefIdeal.τ).loc Cert.PreMixRefIdeal.main_arg1)
      ∧ r.2.mem ((c.tc : Thread Cert.PreMixRefIdeal.nD Cert.PreMixRefIdeal.τ).loc Cert.PreMixRefIdeal.main_arg2) = m ((c.tc : Thread Cert.PreMixRefIdeal.nD Cert.PreMixRefIdeal.τ).loc Cert.PreMixRefIdeal.main_arg2)
      ∧ r.2.mem ((c.tc : Thread Cert.PreMixRefIdeal.nD Cert.PreMixRefIdeal.τ).loc Cert.PreMixRefIdeal.main_arg3) = m ((c.tc : Thread Cert.PreMixRefIdeal.nD Cert.PreMixRefIdeal.τ).loc Cert.PreMixRefIdeal.main_arg3)
      ∧ r.2.mem ((c.tc : Thread Cert.PreMixRefIdeal.nD Cert.PreMixRefIdeal.τ).loc Cert.PreMixRefIdeal.main_arg4) = m ((c.tc : Thread Cert.PreMixRefIdeal.nD Cert.PreMixRefIdeal.τ).loc Cert.PreMixRefIdeal.main_arg4)
      ∧ r.2.mem ((c.tc : Thread Cert.PreMixRefIdeal.nD Cert.PreMixRefIdeal.τ).loc Cert.PreMixRefIdeal.main_arg5) = m ((c.tc : Thread Cert.PreMixRefIdeal.nD Cert.PreMixRefIdeal.τ).loc Cert.PreMixRefIdeal.main_arg5)
      ∧ r.2.mem ((c.tc : Thread Cert.PreMixRefIdeal.nD Cert.PreMixRefIdeal.τ).loc Cert.PreMixRefIdeal.main_arg6) = m ((c.tc : Thread Cert.PreMixRefIdeal.nD Cert.PreMixRefIdeal.τ).loc Cert.PreMixRefIdeal.main_arg6)
      ∧ r.2.mem ((c.tc : Thread Cert.PreMixRefIdeal.nD Cert.PreMixRefIdeal.τ).loc Cert.PreMixRefIdeal.main_arg7) = m ((c.tc : Thread Cert.PreMixRefIdeal.nD Cert.PreMixRefIdeal.τ).loc Cert.PreMixRefIdeal.main_arg7)
      ∧ r.2.mem ((c.tc : Thread Cert.PreMixRefIdeal.nD Cert.PreMixRefIdeal.τ).loc Cert.PreMixRefIdeal.main_arg8) = m ((c.tc : Thread Cert.PreMixRefIdeal.nD Cert.PreMixRefIdeal.τ).loc Cert.PreMixRefIdeal.main_arg8)
      ∧ r.2.mem ((c.tc : Thread Cert.PreMixRefIdeal.nD Cert.PreMixRefIdeal.τ).loc Cert.PreMixRefIdeal.main_arg9) = m ((c.tc : Thread Cert.PreMixRefIdeal.nD Cert.PreMixRefIdeal.τ).loc Cert.PreMixRefIdeal.main_arg9)
      ∧ r.2.mem ((c.tc : Thread Cert.PreMixRefIdeal.nD Cert.PreMixRefIdeal.τ).loc Cert.PreMixRefIdeal.main_arg10) = m ((c.tc : Thread Cert.PreMixRefIdeal.nD Cert.PreMixRefIdeal.τ).loc Cert.PreMixRefIdeal.main_arg10)
      ∧ r.2.mem ((c.tc : Thread Cert.PreMixRefIdeal.nD Cert.PreMixRefIdeal.τ).loc Cert.PreMixRefIdeal.main_arg11) = m ((c.tc : Thread Cert.PreMixRefIdeal.nD Cert.PreMixRefIdeal.τ).loc Cert.PreMixRefIdeal.main_arg11)
      ∧ r.2.mem ((c.tc : Thread Cert.PreMixRefIdeal.nD Cert.PreMixRefIdeal.τ).loc Cert.PreMixRefIdeal.main_arg12) = m ((c.tc : Thread Cert.PreMixRefIdeal.nD Cert.PreMixRefIdeal.τ).loc Cert.PreMixRefIdeal.main_arg12))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v66) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_PreMix_PreMixIdeal : Prop :=
  True

def algebraic_PreMixIdeal_PreMixRefIdeal [hPreMixIdeal : Cert.PreMixIdeal.Facts] [hPreMixRefIdeal : Cert.PreMixRefIdeal.Facts] : Prop :=
  ∀ (m : (ℓ : Loc Cert.PreMixIdeal.nD Cert.PreMixIdeal.τ Cert.PreMixIdeal.sig) → Buf (Elt Ideal) ℓ) (g : Dev Cert.PreMixIdeal.nD → PrngReg)
    (m' : (ℓ : Loc Cert.PreMixRefIdeal.nD Cert.PreMixRefIdeal.τ Cert.PreMixRefIdeal.sig) → Buf (Elt Ideal) ℓ) (g' : Dev Cert.PreMixRefIdeal.nD → PrngReg), Pre_PreMixIdeal m →
    (∀ c : Dev Cert.PreMixIdeal.nD,
      m' ((c.tc : Thread Cert.PreMixRefIdeal.nD Cert.PreMixRefIdeal.τ).loc Cert.PreMixRefIdeal.main_arg0) = m ((c.tc : Thread Cert.PreMixIdeal.nD Cert.PreMixIdeal.τ).loc Cert.PreMixIdeal.main_arg0)
      ∧ m' ((c.tc : Thread Cert.PreMixRefIdeal.nD Cert.PreMixRefIdeal.τ).loc Cert.PreMixRefIdeal.main_arg1) = m ((c.tc : Thread Cert.PreMixIdeal.nD Cert.PreMixIdeal.τ).loc Cert.PreMixIdeal.main_arg1)
      ∧ m' ((c.tc : Thread Cert.PreMixRefIdeal.nD Cert.PreMixRefIdeal.τ).loc Cert.PreMixRefIdeal.main_arg2) = m ((c.tc : Thread Cert.PreMixIdeal.nD Cert.PreMixIdeal.τ).loc Cert.PreMixIdeal.main_arg2)
      ∧ m' ((c.tc : Thread Cert.PreMixRefIdeal.nD Cert.PreMixRefIdeal.τ).loc Cert.PreMixRefIdeal.main_arg3) = m ((c.tc : Thread Cert.PreMixIdeal.nD Cert.PreMixIdeal.τ).loc Cert.PreMixIdeal.main_arg3)
      ∧ m' ((c.tc : Thread Cert.PreMixRefIdeal.nD Cert.PreMixRefIdeal.τ).loc Cert.PreMixRefIdeal.main_arg4) = m ((c.tc : Thread Cert.PreMixIdeal.nD Cert.PreMixIdeal.τ).loc Cert.PreMixIdeal.main_arg4)
      ∧ m' ((c.tc : Thread Cert.PreMixRefIdeal.nD Cert.PreMixRefIdeal.τ).loc Cert.PreMixRefIdeal.main_arg5) = m ((c.tc : Thread Cert.PreMixIdeal.nD Cert.PreMixIdeal.τ).loc Cert.PreMixIdeal.main_arg5)
      ∧ m' ((c.tc : Thread Cert.PreMixRefIdeal.nD Cert.PreMixRefIdeal.τ).loc Cert.PreMixRefIdeal.main_arg6) = m ((c.tc : Thread Cert.PreMixIdeal.nD Cert.PreMixIdeal.τ).loc Cert.PreMixIdeal.main_arg6)
      ∧ m' ((c.tc : Thread Cert.PreMixRefIdeal.nD Cert.PreMixRefIdeal.τ).loc Cert.PreMixRefIdeal.main_arg7) = m ((c.tc : Thread Cert.PreMixIdeal.nD Cert.PreMixIdeal.τ).loc Cert.PreMixIdeal.main_arg7)
      ∧ m' ((c.tc : Thread Cert.PreMixRefIdeal.nD Cert.PreMixRefIdeal.τ).loc Cert.PreMixRefIdeal.main_arg8) = m ((c.tc : Thread Cert.PreMixIdeal.nD Cert.PreMixIdeal.τ).loc Cert.PreMixIdeal.main_arg8)
      ∧ m' ((c.tc : Thread Cert.PreMixRefIdeal.nD Cert.PreMixRefIdeal.τ).loc Cert.PreMixRefIdeal.main_arg9) = m ((c.tc : Thread Cert.PreMixIdeal.nD Cert.PreMixIdeal.τ).loc Cert.PreMixIdeal.main_arg9)
      ∧ m' ((c.tc : Thread Cert.PreMixRefIdeal.nD Cert.PreMixRefIdeal.τ).loc Cert.PreMixRefIdeal.main_arg10) = m ((c.tc : Thread Cert.PreMixIdeal.nD Cert.PreMixIdeal.τ).loc Cert.PreMixIdeal.main_arg10)
      ∧ m' ((c.tc : Thread Cert.PreMixRefIdeal.nD Cert.PreMixRefIdeal.τ).loc Cert.PreMixRefIdeal.main_arg11) = m ((c.tc : Thread Cert.PreMixIdeal.nD Cert.PreMixIdeal.τ).loc Cert.PreMixIdeal.main_arg11)
      ∧ m' ((c.tc : Thread Cert.PreMixRefIdeal.nD Cert.PreMixRefIdeal.τ).loc Cert.PreMixRefIdeal.main_arg12) = m ((c.tc : Thread Cert.PreMixIdeal.nD Cert.PreMixIdeal.τ).loc Cert.PreMixIdeal.main_arg12)) →
    ∃ (v0 : (c : Dev Cert.PreMixIdeal.nD) → Buf (Elt Ideal) ((c.tc : Thread Cert.PreMixIdeal.nD Cert.PreMixIdeal.τ).loc Cert.PreMixIdeal.main_v32_0)) (v1 : (c : Dev Cert.PreMixIdeal.nD) → Buf (Elt Ideal) ((c.tc : Thread Cert.PreMixIdeal.nD Cert.PreMixIdeal.τ).loc Cert.PreMixIdeal.main_v32_1)) (v2 : (c : Dev Cert.PreMixIdeal.nD) → Buf (Elt Ideal) ((c.tc : Thread Cert.PreMixIdeal.nD Cert.PreMixIdeal.τ).loc Cert.PreMixIdeal.main_v32_2)) (v3 : (c : Dev Cert.PreMixIdeal.nD) → Buf (Elt Ideal) ((c.tc : Thread Cert.PreMixIdeal.nD Cert.PreMixIdeal.τ).loc Cert.PreMixIdeal.main_v32_3)) (v4 : (c : Dev Cert.PreMixIdeal.nD) → Buf (Elt Ideal) ((c.tc : Thread Cert.PreMixIdeal.nD Cert.PreMixIdeal.τ).loc Cert.PreMixIdeal.main_v32_4)) (v5 : (c : Dev Cert.PreMixIdeal.nD) → Buf (Elt Ideal) ((c.tc : Thread Cert.PreMixIdeal.nD Cert.PreMixIdeal.τ).loc Cert.PreMixIdeal.main_v32_5)) (v6 : (c : Dev Cert.PreMixIdeal.nD) → Buf (Elt Ideal) ((c.tc : Thread Cert.PreMixIdeal.nD Cert.PreMixIdeal.τ).loc Cert.PreMixIdeal.main_v32_6)) (v7 : (c : Dev Cert.PreMixIdeal.nD) → Buf (Elt Ideal) ((c.tc : Thread Cert.PreMixIdeal.nD Cert.PreMixIdeal.τ).loc Cert.PreMixIdeal.main_v32_7)) (v8 : (c : Dev Cert.PreMixIdeal.nD) → Buf (Elt Ideal) ((c.tc : Thread Cert.PreMixIdeal.nD Cert.PreMixIdeal.τ).loc Cert.PreMixIdeal.main_v32_8)) (v9 : (c : Dev Cert.PreMixIdeal.nD) → Buf (Elt Ideal) ((c.tc : Thread Cert.PreMixIdeal.nD Cert.PreMixIdeal.τ).loc Cert.PreMixIdeal.main_v32_9)) (v10 : (c : Dev Cert.PreMixIdeal.nD) → Buf (Elt Ideal) ((c.tc : Thread Cert.PreMixIdeal.nD Cert.PreMixIdeal.τ).loc Cert.PreMixIdeal.main_v32_10)),
      θ_run (Cert.PreMixIdeal.defs (F := Ideal)) (onTc (τ := Cert.PreMixIdeal.τ) (Cert.PreMixIdeal.main (F := Ideal))) ⟨m, fun _ => 0, g⟩ (fun r => ∀ c : Dev Cert.PreMixIdeal.nD,
          r.2.mem ((c.tc : Thread Cert.PreMixIdeal.nD Cert.PreMixIdeal.τ).loc Cert.PreMixIdeal.main_v32_0) = v0 c
          ∧ r.2.mem ((c.tc : Thread Cert.PreMixIdeal.nD Cert.PreMixIdeal.τ).loc Cert.PreMixIdeal.main_v32_1) = v1 c
          ∧ r.2.mem ((c.tc : Thread Cert.PreMixIdeal.nD Cert.PreMixIdeal.τ).loc Cert.PreMixIdeal.main_v32_2) = v2 c
          ∧ r.2.mem ((c.tc : Thread Cert.PreMixIdeal.nD Cert.PreMixIdeal.τ).loc Cert.PreMixIdeal.main_v32_3) = v3 c
          ∧ r.2.mem ((c.tc : Thread Cert.PreMixIdeal.nD Cert.PreMixIdeal.τ).loc Cert.PreMixIdeal.main_v32_4) = v4 c
          ∧ r.2.mem ((c.tc : Thread Cert.PreMixIdeal.nD Cert.PreMixIdeal.τ).loc Cert.PreMixIdeal.main_v32_5) = v5 c
          ∧ r.2.mem ((c.tc : Thread Cert.PreMixIdeal.nD Cert.PreMixIdeal.τ).loc Cert.PreMixIdeal.main_v32_6) = v6 c
          ∧ r.2.mem ((c.tc : Thread Cert.PreMixIdeal.nD Cert.PreMixIdeal.τ).loc Cert.PreMixIdeal.main_v32_7) = v7 c
          ∧ r.2.mem ((c.tc : Thread Cert.PreMixIdeal.nD Cert.PreMixIdeal.τ).loc Cert.PreMixIdeal.main_v32_8) = v8 c
          ∧ r.2.mem ((c.tc : Thread Cert.PreMixIdeal.nD Cert.PreMixIdeal.τ).loc Cert.PreMixIdeal.main_v32_9) = v9 c
          ∧ r.2.mem ((c.tc : Thread Cert.PreMixIdeal.nD Cert.PreMixIdeal.τ).loc Cert.PreMixIdeal.main_v32_10) = v10 c
          ∧ r.2.mem ((c.tc : Thread Cert.PreMixIdeal.nD Cert.PreMixIdeal.τ).loc Cert.PreMixIdeal.main_arg0) = m ((c.tc : Thread Cert.PreMixIdeal.nD Cert.PreMixIdeal.τ).loc Cert.PreMixIdeal.main_arg0)
          ∧ r.2.mem ((c.tc : Thread Cert.PreMixIdeal.nD Cert.PreMixIdeal.τ).loc Cert.PreMixIdeal.main_arg1) = m ((c.tc : Thread Cert.PreMixIdeal.nD Cert.PreMixIdeal.τ).loc Cert.PreMixIdeal.main_arg1)
          ∧ r.2.mem ((c.tc : Thread Cert.PreMixIdeal.nD Cert.PreMixIdeal.τ).loc Cert.PreMixIdeal.main_arg2) = m ((c.tc : Thread Cert.PreMixIdeal.nD Cert.PreMixIdeal.τ).loc Cert.PreMixIdeal.main_arg2)
          ∧ r.2.mem ((c.tc : Thread Cert.PreMixIdeal.nD Cert.PreMixIdeal.τ).loc Cert.PreMixIdeal.main_arg3) = m ((c.tc : Thread Cert.PreMixIdeal.nD Cert.PreMixIdeal.τ).loc Cert.PreMixIdeal.main_arg3)
          ∧ r.2.mem ((c.tc : Thread Cert.PreMixIdeal.nD Cert.PreMixIdeal.τ).loc Cert.PreMixIdeal.main_arg4) = m ((c.tc : Thread Cert.PreMixIdeal.nD Cert.PreMixIdeal.τ).loc Cert.PreMixIdeal.main_arg4)
          ∧ r.2.mem ((c.tc : Thread Cert.PreMixIdeal.nD Cert.PreMixIdeal.τ).loc Cert.PreMixIdeal.main_arg5) = m ((c.tc : Thread Cert.PreMixIdeal.nD Cert.PreMixIdeal.τ).loc Cert.PreMixIdeal.main_arg5)
          ∧ r.2.mem ((c.tc : Thread Cert.PreMixIdeal.nD Cert.PreMixIdeal.τ).loc Cert.PreMixIdeal.main_arg6) = m ((c.tc : Thread Cert.PreMixIdeal.nD Cert.PreMixIdeal.τ).loc Cert.PreMixIdeal.main_arg6)
          ∧ r.2.mem ((c.tc : Thread Cert.PreMixIdeal.nD Cert.PreMixIdeal.τ).loc Cert.PreMixIdeal.main_arg7) = m ((c.tc : Thread Cert.PreMixIdeal.nD Cert.PreMixIdeal.τ).loc Cert.PreMixIdeal.main_arg7)
          ∧ r.2.mem ((c.tc : Thread Cert.PreMixIdeal.nD Cert.PreMixIdeal.τ).loc Cert.PreMixIdeal.main_arg8) = m ((c.tc : Thread Cert.PreMixIdeal.nD Cert.PreMixIdeal.τ).loc Cert.PreMixIdeal.main_arg8)
          ∧ r.2.mem ((c.tc : Thread Cert.PreMixIdeal.nD Cert.PreMixIdeal.τ).loc Cert.PreMixIdeal.main_arg9) = m ((c.tc : Thread Cert.PreMixIdeal.nD Cert.PreMixIdeal.τ).loc Cert.PreMixIdeal.main_arg9)
          ∧ r.2.mem ((c.tc : Thread Cert.PreMixIdeal.nD Cert.PreMixIdeal.τ).loc Cert.PreMixIdeal.main_arg10) = m ((c.tc : Thread Cert.PreMixIdeal.nD Cert.PreMixIdeal.τ).loc Cert.PreMixIdeal.main_arg10)
          ∧ r.2.mem ((c.tc : Thread Cert.PreMixIdeal.nD Cert.PreMixIdeal.τ).loc Cert.PreMixIdeal.main_arg11) = m ((c.tc : Thread Cert.PreMixIdeal.nD Cert.PreMixIdeal.τ).loc Cert.PreMixIdeal.main_arg11)
          ∧ r.2.mem ((c.tc : Thread Cert.PreMixIdeal.nD Cert.PreMixIdeal.τ).loc Cert.PreMixIdeal.main_arg12) = m ((c.tc : Thread Cert.PreMixIdeal.nD Cert.PreMixIdeal.τ).loc Cert.PreMixIdeal.main_arg12))
      ∧ θ_run (Cert.PreMixRefIdeal.defs (F := Ideal)) (onTc (τ := Cert.PreMixRefIdeal.τ) (Cert.PreMixRefIdeal.main (F := Ideal))) ⟨m', fun _ => 0, g'⟩ (fun r => ∀ c : Dev Cert.PreMixRefIdeal.nD,
          r.2.mem ((c.tc : Thread Cert.PreMixRefIdeal.nD Cert.PreMixRefIdeal.τ).loc Cert.PreMixRefIdeal.main_v158) = v0 c
          ∧ r.2.mem ((c.tc : Thread Cert.PreMixRefIdeal.nD Cert.PreMixRefIdeal.τ).loc Cert.PreMixRefIdeal.main_v159) = v1 c
          ∧ r.2.mem ((c.tc : Thread Cert.PreMixRefIdeal.nD Cert.PreMixRefIdeal.τ).loc Cert.PreMixRefIdeal.main_v162) = v2 c
          ∧ r.2.mem ((c.tc : Thread Cert.PreMixRefIdeal.nD Cert.PreMixRefIdeal.τ).loc Cert.PreMixRefIdeal.main_v68) = v3 c
          ∧ r.2.mem ((c.tc : Thread Cert.PreMixRefIdeal.nD Cert.PreMixRefIdeal.τ).loc Cert.PreMixRefIdeal.main_v163) = v4 c
          ∧ r.2.mem ((c.tc : Thread Cert.PreMixRefIdeal.nD Cert.PreMixRefIdeal.τ).loc Cert.PreMixRefIdeal.main_v167) = v5 c
          ∧ r.2.mem ((c.tc : Thread Cert.PreMixRefIdeal.nD Cert.PreMixRefIdeal.τ).loc Cert.PreMixRefIdeal.main_v170) = v6 c
          ∧ r.2.mem ((c.tc : Thread Cert.PreMixRefIdeal.nD Cert.PreMixRefIdeal.τ).loc Cert.PreMixRefIdeal.main_v171) = v7 c
          ∧ r.2.mem ((c.tc : Thread Cert.PreMixRefIdeal.nD Cert.PreMixRefIdeal.τ).loc Cert.PreMixRefIdeal.main_v172) = v8 c
          ∧ r.2.mem ((c.tc : Thread Cert.PreMixRefIdeal.nD Cert.PreMixRefIdeal.τ).loc Cert.PreMixRefIdeal.main_v175) = v9 c
          ∧ r.2.mem ((c.tc : Thread Cert.PreMixRefIdeal.nD Cert.PreMixRefIdeal.τ).loc Cert.PreMixRefIdeal.main_v178) = v10 c
          ∧ r.2.mem ((c.tc : Thread Cert.PreMixRefIdeal.nD Cert.PreMixRefIdeal.τ).loc Cert.PreMixRefIdeal.main_arg0) = m' ((c.tc : Thread Cert.PreMixRefIdeal.nD Cert.PreMixRefIdeal.τ).loc Cert.PreMixRefIdeal.main_arg0)
          ∧ r.2.mem ((c.tc : Thread Cert.PreMixRefIdeal.nD Cert.PreMixRefIdeal.τ).loc Cert.PreMixRefIdeal.main_arg1) = m' ((c.tc : Thread Cert.PreMixRefIdeal.nD Cert.PreMixRefIdeal.τ).loc Cert.PreMixRefIdeal.main_arg1)
          ∧ r.2.mem ((c.tc : Thread Cert.PreMixRefIdeal.nD Cert.PreMixRefIdeal.τ).loc Cert.PreMixRefIdeal.main_arg2) = m' ((c.tc : Thread Cert.PreMixRefIdeal.nD Cert.PreMixRefIdeal.τ).loc Cert.PreMixRefIdeal.main_arg2)
          ∧ r.2.mem ((c.tc : Thread Cert.PreMixRefIdeal.nD Cert.PreMixRefIdeal.τ).loc Cert.PreMixRefIdeal.main_arg3) = m' ((c.tc : Thread Cert.PreMixRefIdeal.nD Cert.PreMixRefIdeal.τ).loc Cert.PreMixRefIdeal.main_arg3)
          ∧ r.2.mem ((c.tc : Thread Cert.PreMixRefIdeal.nD Cert.PreMixRefIdeal.τ).loc Cert.PreMixRefIdeal.main_arg4) = m' ((c.tc : Thread Cert.PreMixRefIdeal.nD Cert.PreMixRefIdeal.τ).loc Cert.PreMixRefIdeal.main_arg4)
          ∧ r.2.mem ((c.tc : Thread Cert.PreMixRefIdeal.nD Cert.PreMixRefIdeal.τ).loc Cert.PreMixRefIdeal.main_arg5) = m' ((c.tc : Thread Cert.PreMixRefIdeal.nD Cert.PreMixRefIdeal.τ).loc Cert.PreMixRefIdeal.main_arg5)
          ∧ r.2.mem ((c.tc : Thread Cert.PreMixRefIdeal.nD Cert.PreMixRefIdeal.τ).loc Cert.PreMixRefIdeal.main_arg6) = m' ((c.tc : Thread Cert.PreMixRefIdeal.nD Cert.PreMixRefIdeal.τ).loc Cert.PreMixRefIdeal.main_arg6)
          ∧ r.2.mem ((c.tc : Thread Cert.PreMixRefIdeal.nD Cert.PreMixRefIdeal.τ).loc Cert.PreMixRefIdeal.main_arg7) = m' ((c.tc : Thread Cert.PreMixRefIdeal.nD Cert.PreMixRefIdeal.τ).loc Cert.PreMixRefIdeal.main_arg7)
          ∧ r.2.mem ((c.tc : Thread Cert.PreMixRefIdeal.nD Cert.PreMixRefIdeal.τ).loc Cert.PreMixRefIdeal.main_arg8) = m' ((c.tc : Thread Cert.PreMixRefIdeal.nD Cert.PreMixRefIdeal.τ).loc Cert.PreMixRefIdeal.main_arg8)
          ∧ r.2.mem ((c.tc : Thread Cert.PreMixRefIdeal.nD Cert.PreMixRefIdeal.τ).loc Cert.PreMixRefIdeal.main_arg9) = m' ((c.tc : Thread Cert.PreMixRefIdeal.nD Cert.PreMixRefIdeal.τ).loc Cert.PreMixRefIdeal.main_arg9)
          ∧ r.2.mem ((c.tc : Thread Cert.PreMixRefIdeal.nD Cert.PreMixRefIdeal.τ).loc Cert.PreMixRefIdeal.main_arg10) = m' ((c.tc : Thread Cert.PreMixRefIdeal.nD Cert.PreMixRefIdeal.τ).loc Cert.PreMixRefIdeal.main_arg10)
          ∧ r.2.mem ((c.tc : Thread Cert.PreMixRefIdeal.nD Cert.PreMixRefIdeal.τ).loc Cert.PreMixRefIdeal.main_arg11) = m' ((c.tc : Thread Cert.PreMixRefIdeal.nD Cert.PreMixRefIdeal.τ).loc Cert.PreMixRefIdeal.main_arg11)
          ∧ r.2.mem ((c.tc : Thread Cert.PreMixRefIdeal.nD Cert.PreMixRefIdeal.τ).loc Cert.PreMixRefIdeal.main_arg12) = m' ((c.tc : Thread Cert.PreMixRefIdeal.nD Cert.PreMixRefIdeal.τ).loc Cert.PreMixRefIdeal.main_arg12))

def Claim : Prop :=
  ∃ (hKernel : Cert.Kernel.Facts) (hMerge : Cert.Merge.Facts) (hMergeIdeal : Cert.MergeIdeal.Facts) (hMergeRefIdeal : Cert.MergeRefIdeal.Facts) (hPreMix : Cert.PreMix.Facts) (hPreMixIdeal : Cert.PreMixIdeal.Facts) (hPreMixRefIdeal : Cert.PreMixRefIdeal.Facts),
    quiescent_Kernel (hKernel := hKernel)
    ∧ quiescent_Merge (hMerge := hMerge)
    ∧ quiescent_MergeIdeal (hMergeIdeal := hMergeIdeal)
    ∧ quiescent_MergeRefIdeal (hMergeRefIdeal := hMergeRefIdeal)
    ∧ quiescent_PreMix (hPreMix := hPreMix)
    ∧ quiescent_PreMixIdeal (hPreMixIdeal := hPreMixIdeal)
    ∧ quiescent_PreMixRefIdeal (hPreMixRefIdeal := hPreMixRefIdeal)
    ∧ preserves_Merge_MergeIdeal
    ∧ algebraic_MergeIdeal_MergeRefIdeal (hMergeIdeal := hMergeIdeal) (hMergeRefIdeal := hMergeRefIdeal)
    ∧ preserves_PreMix_PreMixIdeal
    ∧ algebraic_PreMixIdeal_PreMixRefIdeal (hPreMixIdeal := hPreMixIdeal) (hPreMixRefIdeal := hPreMixRefIdeal)
-- ==== Kernel.lean ====
abbrev S16384x256 : Shape := ⟨2, ![16384, 256]⟩
abbrev S16384x128 : Shape := ⟨2, ![16384, 128]⟩
abbrev S8x16384 : Shape := ⟨2, ![8, 16384]⟩
abbrev S64x256x256 : Shape := ⟨3, ![64, 256, 256]⟩
abbrev S16384x32 : Shape := ⟨2, ![16384, 32]⟩
abbrev S256x256 : Shape := ⟨2, ![256, 256]⟩
abbrev S256x128 : Shape := ⟨2, ![256, 128]⟩
abbrev S8x256 : Shape := ⟨2, ![8, 256]⟩
abbrev S2048x8x256 : Shape := ⟨3, ![2048, 8, 256]⟩
abbrev S64x8x256 : Shape := ⟨3, ![64, 8, 256]⟩
abbrev S4x256x256 : Shape := ⟨3, ![4, 256, 256]⟩
abbrev S128x256 : Shape := ⟨2, ![128, 256]⟩
abbrev S320x256 : Shape := ⟨2, ![320, 256]⟩
abbrev S8x128 : Shape := ⟨2, ![8, 128]⟩
abbrev S1x256 : Shape := ⟨2, ![1, 256]⟩
abbrev S256x1 : Shape := ⟨2, ![256, 1]⟩
abbrev S1x256x256 : Shape := ⟨3, ![1, 256, 256]⟩
abbrev S1x128 : Shape := ⟨2, ![1, 128]⟩
abbrev S2048x256 : Shape := ⟨2, ![2048, 256]⟩
abbrev S2048x128 : Shape := ⟨2, ![2048, 128]⟩
abbrev S128 : Shape := ⟨1, ![128]⟩
abbrev S64x256 : Shape := ⟨2, ![64, 256]⟩
abbrev S256 : Shape := ⟨1, ![256]⟩
abbrev S1x1 : Shape := ⟨2, ![1, 1]⟩
abbrev S2048x32 : Shape := ⟨2, ![2048, 32]⟩
abbrev S32x256 : Shape := ⟨2, ![32, 256]⟩
abbrev S1x8x256 : Shape := ⟨3, ![1, 8, 256]⟩
abbrev S2048x1 : Shape := ⟨2, ![2048, 1]⟩
abbrev S256x32 : Shape := ⟨2, ![256, 32]⟩
abbrev S16x256 : Shape := ⟨2, ![16, 256]⟩
abbrev S80x256 : Shape := ⟨2, ![80, 256]⟩
abbrev S4x256 : Shape := ⟨2, ![4, 256]⟩
abbrev S4 : Shape := ⟨1, ![4]⟩
abbrev S4x1 : Shape := ⟨2, ![4, 1]⟩
abbrev S1 : Shape := ⟨1, ![1]⟩

abbrev nBuf : Space → Nat
  | .hbm => 7
  | .vmem => 19
  | .smem => 0
  | _ => 0

abbrev bufTy : (tb : Table) → Fin (tcTables nBuf tb) → BufTy
  | .hbm, ⟨0, _⟩ => ⟨S16384x256, .f32⟩
  | .hbm, ⟨1, _⟩ => ⟨S16384x128, .f32⟩
  | .hbm, ⟨2, _⟩ => ⟨S8x16384, .f32⟩
  | .hbm, ⟨3, _⟩ => ⟨S16384x256, .bf16⟩
  | .hbm, ⟨4, _⟩ => ⟨S64x256x256, .bf16⟩
  | .hbm, ⟨5, _⟩ => ⟨S16384x32, .bf16⟩
  | .hbm, ⟨6, _⟩ => ⟨S16384x256, .f32⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S8x256, .f32⟩
  | .local _ .vmem, ⟨5, _⟩ => ⟨S8x256, .f32⟩
  | .local _ .vmem, ⟨6, _⟩ => ⟨S16384x256, .bf16⟩
  | .local _ .vmem, ⟨7, _⟩ => ⟨S64x256x256, .bf16⟩
  | .local _ .vmem, ⟨8, _⟩ => ⟨S16384x32, .bf16⟩
  | .local _ .vmem, ⟨9, _⟩ => ⟨S256x256, .f32⟩
  | .local _ .vmem, ⟨10, _⟩ => ⟨S256x256, .f32⟩
  | .local _ .vmem, ⟨11, _⟩ => ⟨S2048x8x256, .i32⟩
  | .local _ .vmem, ⟨12, _⟩ => ⟨S64x8x256, .i32⟩
  | .local _ .vmem, ⟨13, _⟩ => ⟨S64x8x256, .i32⟩
  | .local _ .vmem, ⟨14, _⟩ => ⟨S4x256x256, .bf16⟩
  | .local _ .vmem, ⟨15, _⟩ => ⟨S128x256, .bf16⟩
  | .local _ .vmem, ⟨16, _⟩ => ⟨S320x256, .f32⟩
  | .local _ .vmem, ⟨17, _⟩ => ⟨S8x256, .f32⟩
  | .local _ .vmem, ⟨18, _⟩ => ⟨S8x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨1, ![64], ![false]⟩

def k0_cond1 (i : grid0.Coords) : BitVec 1 :=
  let arg0 : BitVec 32 := BitVec.ofNat 32 (i 0).val
  let c0_i32_41 : BitVec 32 := 0#32
  let v120 : BitVec 1 := Scalar.cmpi .eq arg0 c0_i32_41
  let v121 : BitVec 32 := Scalar.extui v120
  let c0_i32_42 : BitVec 32 := 0#32
  let v122 : BitVec 1 := Scalar.cmpi .ne v121 c0_i32_42
  v122

@[reducible] def k0_t1_loop : Scf.Loop 32 :=
  let c0_i32_206 : BitVec 32 := 0#32
  let c8_i32_207 : BitVec 32 := 8#32
  let v430 : BitVec 32 := Scalar.addi c0_i32_206 c8_i32_207
  let c1_i32_208 : BitVec 32 := 1#32
  ⟨c0_i32_206, v430, c1_i32_208⟩
def k0_mult1 (k0_t1 : Fin k0_t1_loop.trips) : BitVec 32 :=
  let c0_i32_206 : BitVec 32 := 0#32
  let c1_i32_208 : BitVec 32 := 1#32
  let arg16 : BitVec 32 := Scf.iv c0_i32_206 c1_i32_208 k0_t1
  let c2048_i32_212 : BitVec 32 := 2048#32
  let v437 : BitVec 32 := Scalar.muli arg16 c2048_i32_212
  v437
def k0_off1 (k0_t1 : Fin k0_t1_loop.trips) : Fin 2 → Nat :=
  let c0_i32_206 : BitVec 32 := 0#32
  let c1_i32_208 : BitVec 32 := 1#32
  let arg16 : BitVec 32 := Scf.iv c0_i32_206 c1_i32_208 k0_t1
  let c2048_i32_212 : BitVec 32 := 2048#32
  let v437 : BitVec 32 := Scalar.muli arg16 c2048_i32_212
  let v438 : BitVec 32 := v437
  let v439 : Index := Scalar.indexCast v438
  let c0_213 : Index := 0#32
  ![v439.toNat, 0]
@[reducible] def k0_t2_loop (i : grid0.Coords) : Scf.Loop 32 :=
  let c0_i32_73 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v177 : BitVec 32 := Scalar.subi v21 c0_i32_73
  let c1_i32_74 : BitVec 32 := 1#32
  let v179 : BitVec 32 := Scalar.divsi v177 c1_i32_74
  let v180 : BitVec 32 := Scalar.muli v179 c1_i32_74
  let v181 : BitVec 32 := Scalar.addi c0_i32_73 v180
  let c1_i32_75 : BitVec 32 := 1#32
  ⟨c0_i32_73, v181, c1_i32_75⟩
def k0_mult2 (i : grid0.Coords) (k0_t2 : Fin (k0_t2_loop i).trips) : BitVec 32 :=
  let c0_i32_73 : BitVec 32 := 0#32
  let c1_i32_75 : BitVec 32 := 1#32
  let arg16 : BitVec 32 := Scf.iv c0_i32_73 c1_i32_75 k0_t2
  let c2048_i32_198 : BitVec 32 := 2048#32
  let v397 : BitVec 32 := Scalar.muli arg16 c2048_i32_198
  v397
def k0_off2 (i : grid0.Coords) (k0_t2 : Fin (k0_t2_loop i).trips) : Fin 2 → Nat :=
  let c0_i32_73 : BitVec 32 := 0#32
  let c1_i32_75 : BitVec 32 := 1#32
  let arg16 : BitVec 32 := Scf.iv c0_i32_73 c1_i32_75 k0_t2
  let c2048_i32_198 : BitVec 32 := 2048#32
  let v397 : BitVec 32 := Scalar.muli arg16 c2048_i32_198
  let v398 : BitVec 32 := v397
  let v399 : Index := Scalar.indexCast v398
  let c0_199 : Index := 0#32
  ![v399.toNat, 0]
def k0_off3 (i : grid0.Coords) (k0_t2 : Fin (k0_t2_loop i).trips) (c0_i32_455 : BitVec 32) (c0_i32_457 : BitVec 32) : Fin 3 → Nat :=
  let c0_i32_73 : BitVec 32 := 0#32
  let c1_i32_75 : BitVec 32 := 1#32
  let arg16 : BitVec 32 := Scf.iv c0_i32_73 c1_i32_75 k0_t2
  let c2048_i32_198 : BitVec 32 := 2048#32
  let v397 : BitVec 32 := Scalar.muli arg16 c2048_i32_198
  let v398 : BitVec 32 := v397
  let c0_i32_449 : BitVec 32 := 0#32
  let v1187 : BitVec 1 := Scalar.cmpi .sgt v398 c0_i32_449
  let v1188 : BitVec 32 := Scalar.extui v1187
  let c0_i32_450 : BitVec 32 := 0#32
  let v1189 : BitVec 1 := Scalar.cmpi .slt v398 c0_i32_450
  let v1190 : BitVec 32 := Scalar.extui v1189
  let v1191 : BitVec 32 := Scalar.subi v1188 v1190
  let c256_i32_448 : BitVec 32 := 256#32
  let c0_i32_451 : BitVec 32 := 0#32
  let v1192 : BitVec 1 := Scalar.cmpi .sgt c256_i32_448 c0_i32_451
  let v1193 : BitVec 32 := Scalar.extui v1192
  let c0_i32_452 : BitVec 32 := 0#32
  let v1194 : BitVec 1 := Scalar.cmpi .slt c256_i32_448 c0_i32_452
  let v1195 : BitVec 32 := Scalar.extui v1194
  let v1196 : BitVec 32 := Scalar.subi v1193 v1195
  let v1197 : BitVec 1 := Scalar.cmpi .ne v1191 v1196
  let v1198 : BitVec 32 := Scalar.remsi v398 c256_i32_448
  let c0_i32_453 : BitVec 32 := 0#32
  let v1199 : BitVec 1 := Scalar.cmpi .ne v1198 c0_i32_453
  let v1200 : BitVec 1 := Scalar.andi v1197 v1199
  let v1186 : BitVec 32 := Scalar.divsi v398 c256_i32_448
  let c1_i32_454 : BitVec 32 := 1#32
  let v1201 : BitVec 32 := Scalar.subi v1186 c1_i32_454
  let v1202 : BitVec 32 := Scalar.select v1200 v1201 v1186
  let v1203 : BitVec 32 := Scalar.addi v1202 c0_i32_455
  let c32_i32_456 : BitVec 32 := 32#32
  let v1204 : BitVec 32 := Scalar.muli v1203 c32_i32_456
  let v1205 : BitVec 32 := Scalar.addi v1204 c0_i32_457
  let v1206 : Index := Scalar.indexCast v1205
  let c0_458 : Index := 0#32
  let c0_459 : Index := 0#32
  ![v1206.toNat, 0, 0]
@[reducible] def k0_t3_loop (i : grid0.Coords) : Scf.Loop 32 :=
  let c0_i32_73 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v177 : BitVec 32 := Scalar.subi v21 c0_i32_73
  let c1_i32_74 : BitVec 32 := 1#32
  let v179 : BitVec 32 := Scalar.divsi v177 c1_i32_74
  let v180 : BitVec 32 := Scalar.muli v179 c1_i32_74
  let v181 : BitVec 32 := Scalar.addi c0_i32_73 v180
  let v178 : BitVec 32 := Scalar.addi c0_i32_73 v177
  let c1_i32_76 : BitVec 32 := 1#32
  ⟨v181, v178, c1_i32_76⟩
def k0_mult3 (i : grid0.Coords) (k0_t3 : Fin (k0_t3_loop i).trips) : BitVec 32 :=
  let c0_i32_73 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v177 : BitVec 32 := Scalar.subi v21 c0_i32_73
  let c1_i32_74 : BitVec 32 := 1#32
  let v179 : BitVec 32 := Scalar.divsi v177 c1_i32_74
  let v180 : BitVec 32 := Scalar.muli v179 c1_i32_74
  let v181 : BitVec 32 := Scalar.addi c0_i32_73 v180
  let c1_i32_76 : BitVec 32 := 1#32
  let arg16 : BitVec 32 := Scf.iv v181 c1_i32_76 k0_t3
  let c2048_i32_198 : BitVec 32 := 2048#32
  let v397 : BitVec 32 := Scalar.muli arg16 c2048_i32_198
  v397
def k0_off4 (i : grid0.Coords) (k0_t3 : Fin (k0_t3_loop i).trips) : Fin 2 → Nat :=
  let c0_i32_73 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v177 : BitVec 32 := Scalar.subi v21 c0_i32_73
  let c1_i32_74 : BitVec 32 := 1#32
  let v179 : BitVec 32 := Scalar.divsi v177 c1_i32_74
  let v180 : BitVec 32 := Scalar.muli v179 c1_i32_74
  let v181 : BitVec 32 := Scalar.addi c0_i32_73 v180
  let c1_i32_76 : BitVec 32 := 1#32
  let arg16 : BitVec 32 := Scf.iv v181 c1_i32_76 k0_t3
  let c2048_i32_198 : BitVec 32 := 2048#32
  let v397 : BitVec 32 := Scalar.muli arg16 c2048_i32_198
  let v398 : BitVec 32 := v397
  let v399 : Index := Scalar.indexCast v398
  let c0_199 : Index := 0#32
  ![v399.toNat, 0]
def k0_off5 (i : grid0.Coords) (k0_t3 : Fin (k0_t3_loop i).trips) (c0_i32_455 : BitVec 32) (c0_i32_457 : BitVec 32) : Fin 3 → Nat :=
  let c0_i32_73 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v177 : BitVec 32 := Scalar.subi v21 c0_i32_73
  let c1_i32_74 : BitVec 32 := 1#32
  let v179 : BitVec 32 := Scalar.divsi v177 c1_i32_74
  let v180 : BitVec 32 := Scalar.muli v179 c1_i32_74
  let v181 : BitVec 32 := Scalar.addi c0_i32_73 v180
  let c1_i32_76 : BitVec 32 := 1#32
  let arg16 : BitVec 32 := Scf.iv v181 c1_i32_76 k0_t3
  let c2048_i32_198 : BitVec 32 := 2048#32
  let v397 : BitVec 32 := Scalar.muli arg16 c2048_i32_198
  let v398 : BitVec 32 := v397
  let c0_i32_449 : BitVec 32 := 0#32
  let v1187 : BitVec 1 := Scalar.cmpi .sgt v398 c0_i32_449
  let v1188 : BitVec 32 := Scalar.extui v1187
  let c0_i32_450 : BitVec 32 := 0#32
  let v1189 : BitVec 1 := Scalar.cmpi .slt v398 c0_i32_450
  let v1190 : BitVec 32 := Scalar.extui v1189
  let v1191 : BitVec 32 := Scalar.subi v1188 v1190
  let c256_i32_448 : BitVec 32 := 256#32
  let c0_i32_451 : BitVec 32 := 0#32
  let v1192 : BitVec 1 := Scalar.cmpi .sgt c256_i32_448 c0_i32_451
  let v1193 : BitVec 32 := Scalar.extui v1192
  let c0_i32_452 : BitVec 32 := 0#32
  let v1194 : BitVec 1 := Scalar.cmpi .slt c256_i32_448 c0_i32_452
  let v1195 : BitVec 32 := Scalar.extui v1194
  let v1196 : BitVec 32 := Scalar.subi v1193 v1195
  let v1197 : BitVec 1 := Scalar.cmpi .ne v1191 v1196
  let v1198 : BitVec 32 := Scalar.remsi v398 c256_i32_448
  let c0_i32_453 : BitVec 32 := 0#32
  let v1199 : BitVec 1 := Scalar.cmpi .ne v1198 c0_i32_453
  let v1200 : BitVec 1 := Scalar.andi v1197 v1199
  let v1186 : BitVec 32 := Scalar.divsi v398 c256_i32_448
  let c1_i32_454 : BitVec 32 := 1#32
  let v1201 : BitVec 32 := Scalar.subi v1186 c1_i32_454
  let v1202 : BitVec 32 := Scalar.select v1200 v1201 v1186
  let v1203 : BitVec 32 := Scalar.addi v1202 c0_i32_455
  let c32_i32_456 : BitVec 32 := 32#32
  let v1204 : BitVec 32 := Scalar.muli v1203 c32_i32_456
  let v1205 : BitVec 32 := Scalar.addi v1204 c0_i32_457
  let v1206 : Index := Scalar.indexCast v1205
  let c0_458 : Index := 0#32
  let c0_459 : Index := 0#32
  ![v1206.toNat, 0, 0]
def k0_mult4 (i : grid0.Coords) : BitVec 32 :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_77 : BitVec 32 := 2048#32
  let v182 : BitVec 32 := Scalar.muli v21 c2048_i32_77
  v182
@[reducible] def k0_t4_loop (i : grid0.Coords) : Scf.Loop 32 :=
  let c0_i32_79 : BitVec 32 := 0#32
  let arg0 : BitVec 32 := BitVec.ofNat 32 (i 0).val
  let c1_i32_5 : BitVec 32 := 1#32
  let v22 : BitVec 32 := Scalar.addi arg0 c1_i32_5
  let c256_i32_6 : BitVec 32 := 256#32
  let v23 : BitVec 32 := Scalar.muli v22 c256_i32_6
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c4_i32 : BitVec 32 := 4#32
  let v43 : BitVec 1 := Scalar.cmpi .sgt v42 c4_i32
  let v44 : BitVec 32 := Scalar.extui v43
  let v184 : BitVec 32 := Scalar.subi v44 c0_i32_79
  let c1_i32_80 : BitVec 32 := 1#32
  let v186 : BitVec 32 := Scalar.divsi v184 c1_i32_80
  let v187 : BitVec 32 := Scalar.muli v186 c1_i32_80
  let v188 : BitVec 32 := Scalar.addi c0_i32_79 v187
  let c1_i32_81 : BitVec 32 := 1#32
  ⟨c0_i32_79, v188, c1_i32_81⟩
def k0_off6 (i : grid0.Coords) : Fin 2 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_77 : BitVec 32 := 2048#32
  let v182 : BitVec 32 := Scalar.muli v21 c2048_i32_77
  let v183 : BitVec 32 := v182
  let v397 : Index := Scalar.indexCast v183
  let c0_198 : Index := 0#32
  ![v397.toNat, 0]
def k0_off7 (i : grid0.Coords) (c0_i32_455 : BitVec 32) (c0_i32_457 : BitVec 32) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_77 : BitVec 32 := 2048#32
  let v182 : BitVec 32 := Scalar.muli v21 c2048_i32_77
  let v183 : BitVec 32 := v182
  let c0_i32_449 : BitVec 32 := 0#32
  let v1193 : BitVec 1 := Scalar.cmpi .sgt v183 c0_i32_449
  let v1194 : BitVec 32 := Scalar.extui v1193
  let c0_i32_450 : BitVec 32 := 0#32
  let v1195 : BitVec 1 := Scalar.cmpi .slt v183 c0_i32_450
  let v1196 : BitVec 32 := Scalar.extui v1195
  let v1197 : BitVec 32 := Scalar.subi v1194 v1196
  let c256_i32_448 : BitVec 32 := 256#32
  let c0_i32_451 : BitVec 32 := 0#32
  let v1198 : BitVec 1 := Scalar.cmpi .sgt c256_i32_448 c0_i32_451
  let v1199 : BitVec 32 := Scalar.extui v1198
  let c0_i32_452 : BitVec 32 := 0#32
  let v1200 : BitVec 1 := Scalar.cmpi .slt c256_i32_448 c0_i32_452
  let v1201 : BitVec 32 := Scalar.extui v1200
  let v1202 : BitVec 32 := Scalar.subi v1199 v1201
  let v1203 : BitVec 1 := Scalar.cmpi .ne v1197 v1202
  let v1204 : BitVec 32 := Scalar.remsi v183 c256_i32_448
  let c0_i32_453 : BitVec 32 := 0#32
  let v1205 : BitVec 1 := Scalar.cmpi .ne v1204 c0_i32_453
  let v1206 : BitVec 1 := Scalar.andi v1203 v1205
  let v1192 : BitVec 32 := Scalar.divsi v183 c256_i32_448
  let c1_i32_454 : BitVec 32 := 1#32
  let v1207 : BitVec 32 := Scalar.subi v1192 c1_i32_454
  let v1208 : BitVec 32 := Scalar.select v1206 v1207 v1192
  let v1209 : BitVec 32 := Scalar.addi v1208 c0_i32_455
  let c32_i32_456 : BitVec 32 := 32#32
  let v1210 : BitVec 32 := Scalar.muli v1209 c32_i32_456
  let v1211 : BitVec 32 := Scalar.addi v1210 c0_i32_457
  let v1212 : Index := Scalar.indexCast v1211
  let c0_458 : Index := 0#32
  let c0_459 : Index := 0#32
  ![v1212.toNat, 0, 0]
@[reducible] def k0_t5_loop (i : grid0.Coords) : Scf.Loop 32 :=
  let c0_i32_79 : BitVec 32 := 0#32
  let arg0 : BitVec 32 := BitVec.ofNat 32 (i 0).val
  let c1_i32_5 : BitVec 32 := 1#32
  let v22 : BitVec 32 := Scalar.addi arg0 c1_i32_5
  let c256_i32_6 : BitVec 32 := 256#32
  let v23 : BitVec 32 := Scalar.muli v22 c256_i32_6
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c4_i32 : BitVec 32 := 4#32
  let v43 : BitVec 1 := Scalar.cmpi .sgt v42 c4_i32
  let v44 : BitVec 32 := Scalar.extui v43
  let v184 : BitVec 32 := Scalar.subi v44 c0_i32_79
  let c1_i32_80 : BitVec 32 := 1#32
  let v186 : BitVec 32 := Scalar.divsi v184 c1_i32_80
  let v187 : BitVec 32 := Scalar.muli v186 c1_i32_80
  let v188 : BitVec 32 := Scalar.addi c0_i32_79 v187
  let v185 : BitVec 32 := Scalar.addi c0_i32_79 v184
  let c1_i32_82 : BitVec 32 := 1#32
  ⟨v188, v185, c1_i32_82⟩
def k0_off8 (i : grid0.Coords) : Fin 2 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_77 : BitVec 32 := 2048#32
  let v182 : BitVec 32 := Scalar.muli v21 c2048_i32_77
  let v183 : BitVec 32 := v182
  let v397 : Index := Scalar.indexCast v183
  let c0_198 : Index := 0#32
  ![v397.toNat, 0]
def k0_off9 (i : grid0.Coords) (c0_i32_455 : BitVec 32) (c0_i32_457 : BitVec 32) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_77 : BitVec 32 := 2048#32
  let v182 : BitVec 32 := Scalar.muli v21 c2048_i32_77
  let v183 : BitVec 32 := v182
  let c0_i32_449 : BitVec 32 := 0#32
  let v1193 : BitVec 1 := Scalar.cmpi .sgt v183 c0_i32_449
  let v1194 : BitVec 32 := Scalar.extui v1193
  let c0_i32_450 : BitVec 32 := 0#32
  let v1195 : BitVec 1 := Scalar.cmpi .slt v183 c0_i32_450
  let v1196 : BitVec 32 := Scalar.extui v1195
  let v1197 : BitVec 32 := Scalar.subi v1194 v1196
  let c256_i32_448 : BitVec 32 := 256#32
  let c0_i32_451 : BitVec 32 := 0#32
  let v1198 : BitVec 1 := Scalar.cmpi .sgt c256_i32_448 c0_i32_451
  let v1199 : BitVec 32 := Scalar.extui v1198
  let c0_i32_452 : BitVec 32 := 0#32
  let v1200 : BitVec 1 := Scalar.cmpi .slt c256_i32_448 c0_i32_452
  let v1201 : BitVec 32 := Scalar.extui v1200
  let v1202 : BitVec 32 := Scalar.subi v1199 v1201
  let v1203 : BitVec 1 := Scalar.cmpi .ne v1197 v1202
  let v1204 : BitVec 32 := Scalar.remsi v183 c256_i32_448
  let c0_i32_453 : BitVec 32 := 0#32
  let v1205 : BitVec 1 := Scalar.cmpi .ne v1204 c0_i32_453
  let v1206 : BitVec 1 := Scalar.andi v1203 v1205
  let v1192 : BitVec 32 := Scalar.divsi v183 c256_i32_448
  let c1_i32_454 : BitVec 32 := 1#32
  let v1207 : BitVec 32 := Scalar.subi v1192 c1_i32_454
  let v1208 : BitVec 32 := Scalar.select v1206 v1207 v1192
  let v1209 : BitVec 32 := Scalar.addi v1208 c0_i32_455
  let c32_i32_456 : BitVec 32 := 32#32
  let v1210 : BitVec 32 := Scalar.muli v1209 c32_i32_456
  let v1211 : BitVec 32 := Scalar.addi v1210 c0_i32_457
  let v1212 : Index := Scalar.indexCast v1211
  let c0_458 : Index := 0#32
  let c0_459 : Index := 0#32
  ![v1212.toNat, 0, 0]
@[reducible] def k0_t6_loop (i : grid0.Coords) : Scf.Loop 32 :=
  let c0_i32_84 : BitVec 32 := 0#32
  let arg0 : BitVec 32 := BitVec.ofNat 32 (i 0).val
  let c1_i32_5 : BitVec 32 := 1#32
  let v22 : BitVec 32 := Scalar.addi arg0 c1_i32_5
  let c256_i32_6 : BitVec 32 := 256#32
  let v23 : BitVec 32 := Scalar.muli v22 c256_i32_6
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v189 : BitVec 32 := Scalar.subi v46 c0_i32_84
  let c1_i32_85 : BitVec 32 := 1#32
  let v191 : BitVec 32 := Scalar.divsi v189 c1_i32_85
  let v192 : BitVec 32 := Scalar.muli v191 c1_i32_85
  let v193 : BitVec 32 := Scalar.addi c0_i32_84 v192
  let c1_i32_86 : BitVec 32 := 1#32
  ⟨c0_i32_84, v193, c1_i32_86⟩
def k0_mult5 (i : grid0.Coords) (k0_t6 : Fin (k0_t6_loop i).trips) : BitVec 32 :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_77 : BitVec 32 := 2048#32
  let v182 : BitVec 32 := Scalar.muli v21 c2048_i32_77
  let v183 : BitVec 32 := v182
  let c0_i32_84 : BitVec 32 := 0#32
  let c1_i32_86 : BitVec 32 := 1#32
  let arg16 : BitVec 32 := Scf.iv c0_i32_84 c1_i32_86 k0_t6
  let c256_i32_198 : BitVec 32 := 256#32
  let v397 : BitVec 32 := Scalar.muli arg16 c256_i32_198
  let v398 : BitVec 32 := Scalar.addi v183 v397
  v398
def k0_off10 (i : grid0.Coords) (k0_t6 : Fin (k0_t6_loop i).trips) : Fin 2 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_77 : BitVec 32 := 2048#32
  let v182 : BitVec 32 := Scalar.muli v21 c2048_i32_77
  let v183 : BitVec 32 := v182
  let c0_i32_84 : BitVec 32 := 0#32
  let c1_i32_86 : BitVec 32 := 1#32
  let arg16 : BitVec 32 := Scf.iv c0_i32_84 c1_i32_86 k0_t6
  let c256_i32_198 : BitVec 32 := 256#32
  let v397 : BitVec 32 := Scalar.muli arg16 c256_i32_198
  let v398 : BitVec 32 := Scalar.addi v183 v397
  let v399 : BitVec 32 := v398
  let v400 : Index := Scalar.indexCast v399
  let c0_199 : Index := 0#32
  ![v400.toNat, 0]
def k0_off11 (i : grid0.Coords) (k0_t6 : Fin (k0_t6_loop i).trips) (c0_i32_458 : BitVec 32) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_77 : BitVec 32 := 2048#32
  let v182 : BitVec 32 := Scalar.muli v21 c2048_i32_77
  let v183 : BitVec 32 := v182
  let c0_i32_84 : BitVec 32 := 0#32
  let c1_i32_86 : BitVec 32 := 1#32
  let arg16 : BitVec 32 := Scf.iv c0_i32_84 c1_i32_86 k0_t6
  let c256_i32_198 : BitVec 32 := 256#32
  let v397 : BitVec 32 := Scalar.muli arg16 c256_i32_198
  let v398 : BitVec 32 := Scalar.addi v183 v397
  let v399 : BitVec 32 := v398
  let c0_i32_450 : BitVec 32 := 0#32
  let v1196 : BitVec 1 := Scalar.cmpi .sgt v399 c0_i32_450
  let v1197 : BitVec 32 := Scalar.extui v1196
  let c0_i32_451 : BitVec 32 := 0#32
  let v1198 : BitVec 1 := Scalar.cmpi .slt v399 c0_i32_451
  let v1199 : BitVec 32 := Scalar.extui v1198
  let v1200 : BitVec 32 := Scalar.subi v1197 v1199
  let c256_i32_449 : BitVec 32 := 256#32
  let c0_i32_452 : BitVec 32 := 0#32
  let v1201 : BitVec 1 := Scalar.cmpi .sgt c256_i32_449 c0_i32_452
  let v1202 : BitVec 32 := Scalar.extui v1201
  let c0_i32_453 : BitVec 32 := 0#32
  let v1203 : BitVec 1 := Scalar.cmpi .slt c256_i32_449 c0_i32_453
  let v1204 : BitVec 32 := Scalar.extui v1203
  let v1205 : BitVec 32 := Scalar.subi v1202 v1204
  let v1206 : BitVec 1 := Scalar.cmpi .ne v1200 v1205
  let v1207 : BitVec 32 := Scalar.remsi v399 c256_i32_449
  let c0_i32_454 : BitVec 32 := 0#32
  let v1208 : BitVec 1 := Scalar.cmpi .ne v1207 c0_i32_454
  let v1209 : BitVec 1 := Scalar.andi v1206 v1208
  let v1195 : BitVec 32 := Scalar.divsi v399 c256_i32_449
  let c1_i32_455 : BitVec 32 := 1#32
  let v1210 : BitVec 32 := Scalar.subi v1195 c1_i32_455
  let v1211 : BitVec 32 := Scalar.select v1209 v1210 v1195
  let c0_i32_456 : BitVec 32 := 0#32
  let v1212 : BitVec 32 := Scalar.addi v1211 c0_i32_456
  let c32_i32_457 : BitVec 32 := 32#32
  let v1213 : BitVec 32 := Scalar.muli v1212 c32_i32_457
  let v1214 : BitVec 32 := Scalar.addi v1213 c0_i32_458
  let v1215 : Index := Scalar.indexCast v1214
  let c0_459 : Index := 0#32
  let c0_460 : Index := 0#32
  ![v1215.toNat, 0, 0]
@[reducible] def k0_t7_loop (i : grid0.Coords) : Scf.Loop 32 :=
  let c0_i32_84 : BitVec 32 := 0#32
  let arg0 : BitVec 32 := BitVec.ofNat 32 (i 0).val
  let c1_i32_5 : BitVec 32 := 1#32
  let v22 : BitVec 32 := Scalar.addi arg0 c1_i32_5
  let c256_i32_6 : BitVec 32 := 256#32
  let v23 : BitVec 32 := Scalar.muli v22 c256_i32_6
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v189 : BitVec 32 := Scalar.subi v46 c0_i32_84
  let c1_i32_85 : BitVec 32 := 1#32
  let v191 : BitVec 32 := Scalar.divsi v189 c1_i32_85
  let v192 : BitVec 32 := Scalar.muli v191 c1_i32_85
  let v193 : BitVec 32 := Scalar.addi c0_i32_84 v192
  let v190 : BitVec 32 := Scalar.addi c0_i32_84 v189
  let c1_i32_87 : BitVec 32 := 1#32
  ⟨v193, v190, c1_i32_87⟩
def k0_mult6 (i : grid0.Coords) (k0_t7 : Fin (k0_t7_loop i).trips) : BitVec 32 :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_77 : BitVec 32 := 2048#32
  let v182 : BitVec 32 := Scalar.muli v21 c2048_i32_77
  let v183 : BitVec 32 := v182
  let c0_i32_84 : BitVec 32 := 0#32
  let c1_i32_5 : BitVec 32 := 1#32
  let v22 : BitVec 32 := Scalar.addi arg0 c1_i32_5
  let c256_i32_6 : BitVec 32 := 256#32
  let v23 : BitVec 32 := Scalar.muli v22 c256_i32_6
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v189 : BitVec 32 := Scalar.subi v46 c0_i32_84
  let c1_i32_85 : BitVec 32 := 1#32
  let v191 : BitVec 32 := Scalar.divsi v189 c1_i32_85
  let v192 : BitVec 32 := Scalar.muli v191 c1_i32_85
  let v193 : BitVec 32 := Scalar.addi c0_i32_84 v192
  let c1_i32_87 : BitVec 32 := 1#32
  let arg16 : BitVec 32 := Scf.iv v193 c1_i32_87 k0_t7
  let c256_i32_198 : BitVec 32 := 256#32
  let v397 : BitVec 32 := Scalar.muli arg16 c256_i32_198
  let v398 : BitVec 32 := Scalar.addi v183 v397
  v398
def k0_off12 (i : grid0.Coords) (k0_t7 : Fin (k0_t7_loop i).trips) : Fin 2 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_77 : BitVec 32 := 2048#32
  let v182 : BitVec 32 := Scalar.muli v21 c2048_i32_77
  let v183 : BitVec 32 := v182
  let c0_i32_84 : BitVec 32 := 0#32
  let c1_i32_5 : BitVec 32 := 1#32
  let v22 : BitVec 32 := Scalar.addi arg0 c1_i32_5
  let c256_i32_6 : BitVec 32 := 256#32
  let v23 : BitVec 32 := Scalar.muli v22 c256_i32_6
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v189 : BitVec 32 := Scalar.subi v46 c0_i32_84
  let c1_i32_85 : BitVec 32 := 1#32
  let v191 : BitVec 32 := Scalar.divsi v189 c1_i32_85
  let v192 : BitVec 32 := Scalar.muli v191 c1_i32_85
  let v193 : BitVec 32 := Scalar.addi c0_i32_84 v192
  let c1_i32_87 : BitVec 32 := 1#32
  let arg16 : BitVec 32 := Scf.iv v193 c1_i32_87 k0_t7
  let c256_i32_198 : BitVec 32 := 256#32
  let v397 : BitVec 32 := Scalar.muli arg16 c256_i32_198
  let v398 : BitVec 32 := Scalar.addi v183 v397
  let v399 : BitVec 32 := v398
  let v400 : Index := Scalar.indexCast v399
  let c0_199 : Index := 0#32
  ![v400.toNat, 0]
def k0_off13 (i : grid0.Coords) (k0_t7 : Fin (k0_t7_loop i).trips) (c0_i32_458 : BitVec 32) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_77 : BitVec 32 := 2048#32
  let v182 : BitVec 32 := Scalar.muli v21 c2048_i32_77
  let v183 : BitVec 32 := v182
  let c0_i32_84 : BitVec 32 := 0#32
  let c1_i32_5 : BitVec 32 := 1#32
  let v22 : BitVec 32 := Scalar.addi arg0 c1_i32_5
  let c256_i32_6 : BitVec 32 := 256#32
  let v23 : BitVec 32 := Scalar.muli v22 c256_i32_6
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v189 : BitVec 32 := Scalar.subi v46 c0_i32_84
  let c1_i32_85 : BitVec 32 := 1#32
  let v191 : BitVec 32 := Scalar.divsi v189 c1_i32_85
  let v192 : BitVec 32 := Scalar.muli v191 c1_i32_85
  let v193 : BitVec 32 := Scalar.addi c0_i32_84 v192
  let c1_i32_87 : BitVec 32 := 1#32
  let arg16 : BitVec 32 := Scf.iv v193 c1_i32_87 k0_t7
  let c256_i32_198 : BitVec 32 := 256#32
  let v397 : BitVec 32 := Scalar.muli arg16 c256_i32_198
  let v398 : BitVec 32 := Scalar.addi v183 v397
  let v399 : BitVec 32 := v398
  let c0_i32_450 : BitVec 32 := 0#32
  let v1196 : BitVec 1 := Scalar.cmpi .sgt v399 c0_i32_450
  let v1197 : BitVec 32 := Scalar.extui v1196
  let c0_i32_451 : BitVec 32 := 0#32
  let v1198 : BitVec 1 := Scalar.cmpi .slt v399 c0_i32_451
  let v1199 : BitVec 32 := Scalar.extui v1198
  let v1200 : BitVec 32 := Scalar.subi v1197 v1199
  let c256_i32_449 : BitVec 32 := 256#32
  let c0_i32_452 : BitVec 32 := 0#32
  let v1201 : BitVec 1 := Scalar.cmpi .sgt c256_i32_449 c0_i32_452
  let v1202 : BitVec 32 := Scalar.extui v1201
  let c0_i32_453 : BitVec 32 := 0#32
  let v1203 : BitVec 1 := Scalar.cmpi .slt c256_i32_449 c0_i32_453
  let v1204 : BitVec 32 := Scalar.extui v1203
  let v1205 : BitVec 32 := Scalar.subi v1202 v1204
  let v1206 : BitVec 1 := Scalar.cmpi .ne v1200 v1205
  let v1207 : BitVec 32 := Scalar.remsi v399 c256_i32_449
  let c0_i32_454 : BitVec 32 := 0#32
  let v1208 : BitVec 1 := Scalar.cmpi .ne v1207 c0_i32_454
  let v1209 : BitVec 1 := Scalar.andi v1206 v1208
  let v1195 : BitVec 32 := Scalar.divsi v399 c256_i32_449
  let c1_i32_455 : BitVec 32 := 1#32
  let v1210 : BitVec 32 := Scalar.subi v1195 c1_i32_455
  let v1211 : BitVec 32 := Scalar.select v1209 v1210 v1195
  let c0_i32_456 : BitVec 32 := 0#32
  let v1212 : BitVec 32 := Scalar.addi v1211 c0_i32_456
  let c32_i32_457 : BitVec 32 := 32#32
  let v1213 : BitVec 32 := Scalar.muli v1212 c32_i32_457
  let v1214 : BitVec 32 := Scalar.addi v1213 c0_i32_458
  let v1215 : Index := Scalar.indexCast v1214
  let c0_459 : Index := 0#32
  let c0_460 : Index := 0#32
  ![v1215.toNat, 0, 0]
@[reducible] def k0_t8_loop (i : grid0.Coords) : Scf.Loop 32 :=
  let c0_i32_105 : BitVec 32 := 0#32
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_98 : BitVec 32 := 0#32
  let v216 : BitVec 1 := Scalar.cmpi .sgt v212 c0_i32_98
  let v217 : BitVec 32 := Scalar.extui v216
  let c0_i32_99 : BitVec 32 := 0#32
  let v218 : BitVec 1 := Scalar.cmpi .slt v212 c0_i32_99
  let v219 : BitVec 32 := Scalar.extui v218
  let v220 : BitVec 32 := Scalar.subi v217 v219
  let c8_i32 : BitVec 32 := 8#32
  let c0_i32_100 : BitVec 32 := 0#32
  let v221 : BitVec 1 := Scalar.cmpi .sgt c8_i32 c0_i32_100
  let v222 : BitVec 32 := Scalar.extui v221
  let c0_i32_101 : BitVec 32 := 0#32
  let v223 : BitVec 1 := Scalar.cmpi .slt c8_i32 c0_i32_101
  let v224 : BitVec 32 := Scalar.extui v223
  let v225 : BitVec 32 := Scalar.subi v222 v224
  let v226 : BitVec 1 := Scalar.cmpi .ne v220 v225
  let v227 : BitVec 32 := Scalar.remsi v212 c8_i32
  let c0_i32_102 : BitVec 32 := 0#32
  let v228 : BitVec 1 := Scalar.cmpi .ne v227 c0_i32_102
  let v229 : BitVec 1 := Scalar.andi v226 v228
  let v215 : BitVec 32 := Scalar.divsi v212 c8_i32
  let c1_i32_103 : BitVec 32 := 1#32
  let v230 : BitVec 32 := Scalar.subi v215 c1_i32_103
  let v231 : BitVec 32 := Scalar.select v229 v230 v215
  let v232 : BitVec 32 := Scalar.subi v231 c0_i32_105
  let c1_i32_106 : BitVec 32 := 1#32
  let v234 : BitVec 32 := Scalar.divsi v232 c1_i32_106
  let v235 : BitVec 32 := Scalar.muli v234 c1_i32_106
  let v236 : BitVec 32 := Scalar.addi c0_i32_105 v235
  let c1_i32_107 : BitVec 32 := 1#32
  ⟨c0_i32_105, v236, c1_i32_107⟩
def k0_off14 (i : grid0.Coords) (k0_t8 : Fin (k0_t8_loop i).trips) (c0_i32_199 : BitVec 32) : Fin 3 → Nat :=
  let c0_i32_105 : BitVec 32 := 0#32
  let c1_i32_107 : BitVec 32 := 1#32
  let arg16 : BitVec 32 := Scf.iv c0_i32_105 c1_i32_107 k0_t8
  let c8_i32_198 : BitVec 32 := 8#32
  let v397 : BitVec 32 := Scalar.muli arg16 c8_i32_198
  let v398 : BitVec 32 := Scalar.addi v397 c0_i32_199
  let v399 : Index := Scalar.indexCast v398
  let c0_200 : Index := 0#32
  let c0_201 : Index := 0#32
  ![v399.toNat, 0, 0]
@[reducible] def k0_t9_loop (i : grid0.Coords) : Scf.Loop 32 :=
  let c0_i32_105 : BitVec 32 := 0#32
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_98 : BitVec 32 := 0#32
  let v216 : BitVec 1 := Scalar.cmpi .sgt v212 c0_i32_98
  let v217 : BitVec 32 := Scalar.extui v216
  let c0_i32_99 : BitVec 32 := 0#32
  let v218 : BitVec 1 := Scalar.cmpi .slt v212 c0_i32_99
  let v219 : BitVec 32 := Scalar.extui v218
  let v220 : BitVec 32 := Scalar.subi v217 v219
  let c8_i32 : BitVec 32 := 8#32
  let c0_i32_100 : BitVec 32 := 0#32
  let v221 : BitVec 1 := Scalar.cmpi .sgt c8_i32 c0_i32_100
  let v222 : BitVec 32 := Scalar.extui v221
  let c0_i32_101 : BitVec 32 := 0#32
  let v223 : BitVec 1 := Scalar.cmpi .slt c8_i32 c0_i32_101
  let v224 : BitVec 32 := Scalar.extui v223
  let v225 : BitVec 32 := Scalar.subi v222 v224
  let v226 : BitVec 1 := Scalar.cmpi .ne v220 v225
  let v227 : BitVec 32 := Scalar.remsi v212 c8_i32
  let c0_i32_102 : BitVec 32 := 0#32
  let v228 : BitVec 1 := Scalar.cmpi .ne v227 c0_i32_102
  let v229 : BitVec 1 := Scalar.andi v226 v228
  let v215 : BitVec 32 := Scalar.divsi v212 c8_i32
  let c1_i32_103 : BitVec 32 := 1#32
  let v230 : BitVec 32 := Scalar.subi v215 c1_i32_103
  let v231 : BitVec 32 := Scalar.select v229 v230 v215
  let v232 : BitVec 32 := Scalar.subi v231 c0_i32_105
  let c1_i32_106 : BitVec 32 := 1#32
  let v234 : BitVec 32 := Scalar.divsi v232 c1_i32_106
  let v235 : BitVec 32 := Scalar.muli v234 c1_i32_106
  let v236 : BitVec 32 := Scalar.addi c0_i32_105 v235
  let v233 : BitVec 32 := Scalar.addi c0_i32_105 v232
  let c1_i32_108 : BitVec 32 := 1#32
  ⟨v236, v233, c1_i32_108⟩
def k0_off15 (i : grid0.Coords) (k0_t9 : Fin (k0_t9_loop i).trips) (c0_i32_199 : BitVec 32) : Fin 3 → Nat :=
  let c0_i32_105 : BitVec 32 := 0#32
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_98 : BitVec 32 := 0#32
  let v216 : BitVec 1 := Scalar.cmpi .sgt v212 c0_i32_98
  let v217 : BitVec 32 := Scalar.extui v216
  let c0_i32_99 : BitVec 32 := 0#32
  let v218 : BitVec 1 := Scalar.cmpi .slt v212 c0_i32_99
  let v219 : BitVec 32 := Scalar.extui v218
  let v220 : BitVec 32 := Scalar.subi v217 v219
  let c8_i32 : BitVec 32 := 8#32
  let c0_i32_100 : BitVec 32 := 0#32
  let v221 : BitVec 1 := Scalar.cmpi .sgt c8_i32 c0_i32_100
  let v222 : BitVec 32 := Scalar.extui v221
  let c0_i32_101 : BitVec 32 := 0#32
  let v223 : BitVec 1 := Scalar.cmpi .slt c8_i32 c0_i32_101
  let v224 : BitVec 32 := Scalar.extui v223
  let v225 : BitVec 32 := Scalar.subi v222 v224
  let v226 : BitVec 1 := Scalar.cmpi .ne v220 v225
  let v227 : BitVec 32 := Scalar.remsi v212 c8_i32
  let c0_i32_102 : BitVec 32 := 0#32
  let v228 : BitVec 1 := Scalar.cmpi .ne v227 c0_i32_102
  let v229 : BitVec 1 := Scalar.andi v226 v228
  let v215 : BitVec 32 := Scalar.divsi v212 c8_i32
  let c1_i32_103 : BitVec 32 := 1#32
  let v230 : BitVec 32 := Scalar.subi v215 c1_i32_103
  let v231 : BitVec 32 := Scalar.select v229 v230 v215
  let v232 : BitVec 32 := Scalar.subi v231 c0_i32_105
  let c1_i32_106 : BitVec 32 := 1#32
  let v234 : BitVec 32 := Scalar.divsi v232 c1_i32_106
  let v235 : BitVec 32 := Scalar.muli v234 c1_i32_106
  let v236 : BitVec 32 := Scalar.addi c0_i32_105 v235
  let c1_i32_108 : BitVec 32 := 1#32
  let arg16 : BitVec 32 := Scf.iv v236 c1_i32_108 k0_t9
  let c8_i32_198 : BitVec 32 := 8#32
  let v397 : BitVec 32 := Scalar.muli arg16 c8_i32_198
  let v398 : BitVec 32 := Scalar.addi v397 c0_i32_199
  let v399 : Index := Scalar.indexCast v398
  let c0_200 : Index := 0#32
  let c0_201 : Index := 0#32
  ![v399.toNat, 0, 0]
@[reducible] def k0_t10_loop (i : grid0.Coords) : Scf.Loop 32 :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_98 : BitVec 32 := 0#32
  let v216 : BitVec 1 := Scalar.cmpi .sgt v212 c0_i32_98
  let v217 : BitVec 32 := Scalar.extui v216
  let c0_i32_99 : BitVec 32 := 0#32
  let v218 : BitVec 1 := Scalar.cmpi .slt v212 c0_i32_99
  let v219 : BitVec 32 := Scalar.extui v218
  let v220 : BitVec 32 := Scalar.subi v217 v219
  let c8_i32 : BitVec 32 := 8#32
  let c0_i32_100 : BitVec 32 := 0#32
  let v221 : BitVec 1 := Scalar.cmpi .sgt c8_i32 c0_i32_100
  let v222 : BitVec 32 := Scalar.extui v221
  let c0_i32_101 : BitVec 32 := 0#32
  let v223 : BitVec 1 := Scalar.cmpi .slt c8_i32 c0_i32_101
  let v224 : BitVec 32 := Scalar.extui v223
  let v225 : BitVec 32 := Scalar.subi v222 v224
  let v226 : BitVec 1 := Scalar.cmpi .ne v220 v225
  let v227 : BitVec 32 := Scalar.remsi v212 c8_i32
  let c0_i32_102 : BitVec 32 := 0#32
  let v228 : BitVec 1 := Scalar.cmpi .ne v227 c0_i32_102
  let v229 : BitVec 1 := Scalar.andi v226 v228
  let v215 : BitVec 32 := Scalar.divsi v212 c8_i32
  let c1_i32_103 : BitVec 32 := 1#32
  let v230 : BitVec 32 := Scalar.subi v215 c1_i32_103
  let v231 : BitVec 32 := Scalar.select v229 v230 v215
  let c8_i32_109 : BitVec 32 := 8#32
  let v237 : BitVec 32 := Scalar.muli v231 c8_i32_109
  let v238 : BitVec 32 := Scalar.subi v212 v237
  let c1_i32_111 : BitVec 32 := 1#32
  let v240 : BitVec 32 := Scalar.divsi v238 c1_i32_111
  let v241 : BitVec 32 := Scalar.muli v240 c1_i32_111
  let v242 : BitVec 32 := Scalar.addi v237 v241
  let c1_i32_112 : BitVec 32 := 1#32
  ⟨v237, v242, c1_i32_112⟩
def k0_off16 (i : grid0.Coords) (k0_t10 : Fin (k0_t10_loop i).trips) : Fin 3 → Nat :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_98 : BitVec 32 := 0#32
  let v216 : BitVec 1 := Scalar.cmpi .sgt v212 c0_i32_98
  let v217 : BitVec 32 := Scalar.extui v216
  let c0_i32_99 : BitVec 32 := 0#32
  let v218 : BitVec 1 := Scalar.cmpi .slt v212 c0_i32_99
  let v219 : BitVec 32 := Scalar.extui v218
  let v220 : BitVec 32 := Scalar.subi v217 v219
  let c8_i32 : BitVec 32 := 8#32
  let c0_i32_100 : BitVec 32 := 0#32
  let v221 : BitVec 1 := Scalar.cmpi .sgt c8_i32 c0_i32_100
  let v222 : BitVec 32 := Scalar.extui v221
  let c0_i32_101 : BitVec 32 := 0#32
  let v223 : BitVec 1 := Scalar.cmpi .slt c8_i32 c0_i32_101
  let v224 : BitVec 32 := Scalar.extui v223
  let v225 : BitVec 32 := Scalar.subi v222 v224
  let v226 : BitVec 1 := Scalar.cmpi .ne v220 v225
  let v227 : BitVec 32 := Scalar.remsi v212 c8_i32
  let c0_i32_102 : BitVec 32 := 0#32
  let v228 : BitVec 1 := Scalar.cmpi .ne v227 c0_i32_102
  let v229 : BitVec 1 := Scalar.andi v226 v228
  let v215 : BitVec 32 := Scalar.divsi v212 c8_i32
  let c1_i32_103 : BitVec 32 := 1#32
  let v230 : BitVec 32 := Scalar.subi v215 c1_i32_103
  let v231 : BitVec 32 := Scalar.select v229 v230 v215
  let c8_i32_109 : BitVec 32 := 8#32
  let v237 : BitVec 32 := Scalar.muli v231 c8_i32_109
  let c1_i32_112 : BitVec 32 := 1#32
  let arg16 : BitVec 32 := Scf.iv v237 c1_i32_112 k0_t10
  let v397 : Index := Scalar.indexCast arg16
  let c0_198 : Index := 0#32
  let c0_199 : Index := 0#32
  ![v397.toNat, 0, 0]
@[reducible] def k0_t11_loop (i : grid0.Coords) : Scf.Loop 32 :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_98 : BitVec 32 := 0#32
  let v216 : BitVec 1 := Scalar.cmpi .sgt v212 c0_i32_98
  let v217 : BitVec 32 := Scalar.extui v216
  let c0_i32_99 : BitVec 32 := 0#32
  let v218 : BitVec 1 := Scalar.cmpi .slt v212 c0_i32_99
  let v219 : BitVec 32 := Scalar.extui v218
  let v220 : BitVec 32 := Scalar.subi v217 v219
  let c8_i32 : BitVec 32 := 8#32
  let c0_i32_100 : BitVec 32 := 0#32
  let v221 : BitVec 1 := Scalar.cmpi .sgt c8_i32 c0_i32_100
  let v222 : BitVec 32 := Scalar.extui v221
  let c0_i32_101 : BitVec 32 := 0#32
  let v223 : BitVec 1 := Scalar.cmpi .slt c8_i32 c0_i32_101
  let v224 : BitVec 32 := Scalar.extui v223
  let v225 : BitVec 32 := Scalar.subi v222 v224
  let v226 : BitVec 1 := Scalar.cmpi .ne v220 v225
  let v227 : BitVec 32 := Scalar.remsi v212 c8_i32
  let c0_i32_102 : BitVec 32 := 0#32
  let v228 : BitVec 1 := Scalar.cmpi .ne v227 c0_i32_102
  let v229 : BitVec 1 := Scalar.andi v226 v228
  let v215 : BitVec 32 := Scalar.divsi v212 c8_i32
  let c1_i32_103 : BitVec 32 := 1#32
  let v230 : BitVec 32 := Scalar.subi v215 c1_i32_103
  let v231 : BitVec 32 := Scalar.select v229 v230 v215
  let c8_i32_109 : BitVec 32 := 8#32
  let v237 : BitVec 32 := Scalar.muli v231 c8_i32_109
  let v238 : BitVec 32 := Scalar.subi v212 v237
  let c1_i32_111 : BitVec 32 := 1#32
  let v240 : BitVec 32 := Scalar.divsi v238 c1_i32_111
  let v241 : BitVec 32 := Scalar.muli v240 c1_i32_111
  let v242 : BitVec 32 := Scalar.addi v237 v241
  let v239 : BitVec 32 := Scalar.addi v237 v238
  let c1_i32_113 : BitVec 32 := 1#32
  ⟨v242, v239, c1_i32_113⟩
def k0_off17 (i : grid0.Coords) (k0_t11 : Fin (k0_t11_loop i).trips) : Fin 3 → Nat :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_98 : BitVec 32 := 0#32
  let v216 : BitVec 1 := Scalar.cmpi .sgt v212 c0_i32_98
  let v217 : BitVec 32 := Scalar.extui v216
  let c0_i32_99 : BitVec 32 := 0#32
  let v218 : BitVec 1 := Scalar.cmpi .slt v212 c0_i32_99
  let v219 : BitVec 32 := Scalar.extui v218
  let v220 : BitVec 32 := Scalar.subi v217 v219
  let c8_i32 : BitVec 32 := 8#32
  let c0_i32_100 : BitVec 32 := 0#32
  let v221 : BitVec 1 := Scalar.cmpi .sgt c8_i32 c0_i32_100
  let v222 : BitVec 32 := Scalar.extui v221
  let c0_i32_101 : BitVec 32 := 0#32
  let v223 : BitVec 1 := Scalar.cmpi .slt c8_i32 c0_i32_101
  let v224 : BitVec 32 := Scalar.extui v223
  let v225 : BitVec 32 := Scalar.subi v222 v224
  let v226 : BitVec 1 := Scalar.cmpi .ne v220 v225
  let v227 : BitVec 32 := Scalar.remsi v212 c8_i32
  let c0_i32_102 : BitVec 32 := 0#32
  let v228 : BitVec 1 := Scalar.cmpi .ne v227 c0_i32_102
  let v229 : BitVec 1 := Scalar.andi v226 v228
  let v215 : BitVec 32 := Scalar.divsi v212 c8_i32
  let c1_i32_103 : BitVec 32 := 1#32
  let v230 : BitVec 32 := Scalar.subi v215 c1_i32_103
  let v231 : BitVec 32 := Scalar.select v229 v230 v215
  let c8_i32_109 : BitVec 32 := 8#32
  let v237 : BitVec 32 := Scalar.muli v231 c8_i32_109
  let v238 : BitVec 32 := Scalar.subi v212 v237
  let c1_i32_111 : BitVec 32 := 1#32
  let v240 : BitVec 32 := Scalar.divsi v238 c1_i32_111
  let v241 : BitVec 32 := Scalar.muli v240 c1_i32_111
  let v242 : BitVec 32 := Scalar.addi v237 v241
  let c1_i32_113 : BitVec 32 := 1#32
  let arg16 : BitVec 32 := Scf.iv v242 c1_i32_113 k0_t11
  let v397 : Index := Scalar.indexCast arg16
  let c0_198 : Index := 0#32
  let c0_199 : Index := 0#32
  ![v397.toNat, 0, 0]
@[reducible] def k0_t12_loop (i : grid0.Coords) : Scf.Loop 32 :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c1_i32_5 : BitVec 32 := 1#32
  let v22 : BitVec 32 := Scalar.addi arg0 c1_i32_5
  let c256_i32_6 : BitVec 32 := 256#32
  let v23 : BitVec 32 := Scalar.muli v22 c256_i32_6
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c4_i32 : BitVec 32 := 4#32
  let v43 : BitVec 1 := Scalar.cmpi .sgt v42 c4_i32
  let v44 : BitVec 32 := Scalar.extui v43
  let v243 : BitVec 32 := Scalar.addi v21 v44
  let c8_i32_114 : BitVec 32 := 8#32
  let v244 : BitVec 32 := Scalar.muli v243 c8_i32_114
  let c1_i32_15 : BitVec 32 := 1#32
  let v45 : BitVec 32 := Scalar.subi c1_i32_15 v44
  let v46 : BitVec 32 := Scalar.muli v42 v45
  let c1_i32_115 : BitVec 32 := 1#32
  let v245 : BitVec 32 := Scalar.muli v46 c1_i32_115
  let v246 : BitVec 32 := Scalar.addi v244 v245
  let v247 : BitVec 32 := Scalar.subi v246 v212
  let c1_i32_117 : BitVec 32 := 1#32
  let v249 : BitVec 32 := Scalar.divsi v247 c1_i32_117
  let v250 : BitVec 32 := Scalar.muli v249 c1_i32_117
  let v251 : BitVec 32 := Scalar.addi v212 v250
  let c1_i32_118 : BitVec 32 := 1#32
  ⟨v212, v251, c1_i32_118⟩
def k0_off18 (i : grid0.Coords) (k0_t12 : Fin (k0_t12_loop i).trips) : Fin 3 → Nat :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c1_i32_118 : BitVec 32 := 1#32
  let arg16 : BitVec 32 := Scf.iv v212 c1_i32_118 k0_t12
  let v397 : Index := Scalar.indexCast arg16
  let c0_198 : Index := 0#32
  let c0_199 : Index := 0#32
  ![v397.toNat, 0, 0]
@[reducible] def k0_t13_loop (i : grid0.Coords) : Scf.Loop 32 :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c1_i32_5 : BitVec 32 := 1#32
  let v22 : BitVec 32 := Scalar.addi arg0 c1_i32_5
  let c256_i32_6 : BitVec 32 := 256#32
  let v23 : BitVec 32 := Scalar.muli v22 c256_i32_6
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c4_i32 : BitVec 32 := 4#32
  let v43 : BitVec 1 := Scalar.cmpi .sgt v42 c4_i32
  let v44 : BitVec 32 := Scalar.extui v43
  let v243 : BitVec 32 := Scalar.addi v21 v44
  let c8_i32_114 : BitVec 32 := 8#32
  let v244 : BitVec 32 := Scalar.muli v243 c8_i32_114
  let c1_i32_15 : BitVec 32 := 1#32
  let v45 : BitVec 32 := Scalar.subi c1_i32_15 v44
  let v46 : BitVec 32 := Scalar.muli v42 v45
  let c1_i32_115 : BitVec 32 := 1#32
  let v245 : BitVec 32 := Scalar.muli v46 c1_i32_115
  let v246 : BitVec 32 := Scalar.addi v244 v245
  let v247 : BitVec 32 := Scalar.subi v246 v212
  let c1_i32_117 : BitVec 32 := 1#32
  let v249 : BitVec 32 := Scalar.divsi v247 c1_i32_117
  let v250 : BitVec 32 := Scalar.muli v249 c1_i32_117
  let v251 : BitVec 32 := Scalar.addi v212 v250
  let v248 : BitVec 32 := Scalar.addi v212 v247
  let c1_i32_119 : BitVec 32 := 1#32
  ⟨v251, v248, c1_i32_119⟩
def k0_off19 (i : grid0.Coords) (k0_t13 : Fin (k0_t13_loop i).trips) : Fin 3 → Nat :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c1_i32_5 : BitVec 32 := 1#32
  let v22 : BitVec 32 := Scalar.addi arg0 c1_i32_5
  let c256_i32_6 : BitVec 32 := 256#32
  let v23 : BitVec 32 := Scalar.muli v22 c256_i32_6
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c4_i32 : BitVec 32 := 4#32
  let v43 : BitVec 1 := Scalar.cmpi .sgt v42 c4_i32
  let v44 : BitVec 32 := Scalar.extui v43
  let v243 : BitVec 32 := Scalar.addi v21 v44
  let c8_i32_114 : BitVec 32 := 8#32
  let v244 : BitVec 32 := Scalar.muli v243 c8_i32_114
  let c1_i32_15 : BitVec 32 := 1#32
  let v45 : BitVec 32 := Scalar.subi c1_i32_15 v44
  let v46 : BitVec 32 := Scalar.muli v42 v45
  let c1_i32_115 : BitVec 32 := 1#32
  let v245 : BitVec 32 := Scalar.muli v46 c1_i32_115
  let v246 : BitVec 32 := Scalar.addi v244 v245
  let v247 : BitVec 32 := Scalar.subi v246 v212
  let c1_i32_117 : BitVec 32 := 1#32
  let v249 : BitVec 32 := Scalar.divsi v247 c1_i32_117
  let v250 : BitVec 32 := Scalar.muli v249 c1_i32_117
  let v251 : BitVec 32 := Scalar.addi v212 v250
  let c1_i32_119 : BitVec 32 := 1#32
  let arg16 : BitVec 32 := Scf.iv v251 c1_i32_119 k0_t13
  let v397 : Index := Scalar.indexCast arg16
  let c0_198 : Index := 0#32
  let c0_199 : Index := 0#32
  ![v397.toNat, 0, 0]
@[reducible] def k0_t14_loop (i : grid0.Coords) : Scf.Loop 32 :=
  let c0_i32_127 : BitVec 32 := 0#32
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_121 : BitVec 32 := 0#32
  let v253 : BitVec 1 := Scalar.cmpi .sgt v212 c0_i32_121
  let v254 : BitVec 32 := Scalar.extui v253
  let c0_i32_122 : BitVec 32 := 0#32
  let v255 : BitVec 1 := Scalar.cmpi .slt v212 c0_i32_122
  let v256 : BitVec 32 := Scalar.extui v255
  let v257 : BitVec 32 := Scalar.subi v254 v256
  let c8_i32_120 : BitVec 32 := 8#32
  let c0_i32_123 : BitVec 32 := 0#32
  let v258 : BitVec 1 := Scalar.cmpi .sgt c8_i32_120 c0_i32_123
  let v259 : BitVec 32 := Scalar.extui v258
  let c0_i32_124 : BitVec 32 := 0#32
  let v260 : BitVec 1 := Scalar.cmpi .slt c8_i32_120 c0_i32_124
  let v261 : BitVec 32 := Scalar.extui v260
  let v262 : BitVec 32 := Scalar.subi v259 v261
  let v263 : BitVec 1 := Scalar.cmpi .ne v257 v262
  let v264 : BitVec 32 := Scalar.remsi v212 c8_i32_120
  let c0_i32_125 : BitVec 32 := 0#32
  let v265 : BitVec 1 := Scalar.cmpi .ne v264 c0_i32_125
  let v266 : BitVec 1 := Scalar.andi v263 v265
  let v252 : BitVec 32 := Scalar.divsi v212 c8_i32_120
  let c1_i32_126 : BitVec 32 := 1#32
  let v267 : BitVec 32 := Scalar.subi v252 c1_i32_126
  let v268 : BitVec 32 := Scalar.select v266 v267 v252
  let v269 : BitVec 32 := Scalar.subi v268 c0_i32_127
  let c1_i32_128 : BitVec 32 := 1#32
  let v271 : BitVec 32 := Scalar.divsi v269 c1_i32_128
  let v272 : BitVec 32 := Scalar.muli v271 c1_i32_128
  let v273 : BitVec 32 := Scalar.addi c0_i32_127 v272
  let c1_i32_129 : BitVec 32 := 1#32
  ⟨c0_i32_127, v273, c1_i32_129⟩
def k0_off20 (i : grid0.Coords) (k0_t14 : Fin (k0_t14_loop i).trips) (c0_i32_199 : BitVec 32) : Fin 3 → Nat :=
  let c0_i32_127 : BitVec 32 := 0#32
  let c1_i32_129 : BitVec 32 := 1#32
  let arg16 : BitVec 32 := Scf.iv c0_i32_127 c1_i32_129 k0_t14
  let c8_i32_198 : BitVec 32 := 8#32
  let v397 : BitVec 32 := Scalar.muli arg16 c8_i32_198
  let v398 : BitVec 32 := Scalar.addi v397 c0_i32_199
  let v399 : Index := Scalar.indexCast v398
  let c0_200 : Index := 0#32
  let c0_201 : Index := 0#32
  ![v399.toNat, 0, 0]
def k0_off21 (i : grid0.Coords) (k0_t14 : Fin (k0_t14_loop i).trips) (c0_i32_199 : BitVec 32) : Fin 3 → Nat :=
  let c0_i32_127 : BitVec 32 := 0#32
  let c1_i32_129 : BitVec 32 := 1#32
  let arg16 : BitVec 32 := Scf.iv c0_i32_127 c1_i32_129 k0_t14
  let c8_i32_198 : BitVec 32 := 8#32
  let v397 : BitVec 32 := Scalar.muli arg16 c8_i32_198
  let v398 : BitVec 32 := Scalar.addi v397 c0_i32_199
  let c32_i32_204 : BitVec 32 := 32#32
  let v405 : BitVec 32 := Scalar.muli v398 c32_i32_204
  let v406 : Index := Scalar.indexCast v405
  let c0_205 : Index := 0#32
  let c0_206 : Index := 0#32
  ![v406.toNat, 0, 0]
@[reducible] def k0_t15_loop (i : grid0.Coords) : Scf.Loop 32 :=
  let c0_i32_127 : BitVec 32 := 0#32
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_121 : BitVec 32 := 0#32
  let v253 : BitVec 1 := Scalar.cmpi .sgt v212 c0_i32_121
  let v254 : BitVec 32 := Scalar.extui v253
  let c0_i32_122 : BitVec 32 := 0#32
  let v255 : BitVec 1 := Scalar.cmpi .slt v212 c0_i32_122
  let v256 : BitVec 32 := Scalar.extui v255
  let v257 : BitVec 32 := Scalar.subi v254 v256
  let c8_i32_120 : BitVec 32 := 8#32
  let c0_i32_123 : BitVec 32 := 0#32
  let v258 : BitVec 1 := Scalar.cmpi .sgt c8_i32_120 c0_i32_123
  let v259 : BitVec 32 := Scalar.extui v258
  let c0_i32_124 : BitVec 32 := 0#32
  let v260 : BitVec 1 := Scalar.cmpi .slt c8_i32_120 c0_i32_124
  let v261 : BitVec 32 := Scalar.extui v260
  let v262 : BitVec 32 := Scalar.subi v259 v261
  let v263 : BitVec 1 := Scalar.cmpi .ne v257 v262
  let v264 : BitVec 32 := Scalar.remsi v212 c8_i32_120
  let c0_i32_125 : BitVec 32 := 0#32
  let v265 : BitVec 1 := Scalar.cmpi .ne v264 c0_i32_125
  let v266 : BitVec 1 := Scalar.andi v263 v265
  let v252 : BitVec 32 := Scalar.divsi v212 c8_i32_120
  let c1_i32_126 : BitVec 32 := 1#32
  let v267 : BitVec 32 := Scalar.subi v252 c1_i32_126
  let v268 : BitVec 32 := Scalar.select v266 v267 v252
  let v269 : BitVec 32 := Scalar.subi v268 c0_i32_127
  let c1_i32_128 : BitVec 32 := 1#32
  let v271 : BitVec 32 := Scalar.divsi v269 c1_i32_128
  let v272 : BitVec 32 := Scalar.muli v271 c1_i32_128
  let v273 : BitVec 32 := Scalar.addi c0_i32_127 v272
  let v270 : BitVec 32 := Scalar.addi c0_i32_127 v269
  let c1_i32_130 : BitVec 32 := 1#32
  ⟨v273, v270, c1_i32_130⟩
def k0_off22 (i : grid0.Coords) (k0_t15 : Fin (k0_t15_loop i).trips) (c0_i32_199 : BitVec 32) : Fin 3 → Nat :=
  let c0_i32_127 : BitVec 32 := 0#32
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_121 : BitVec 32 := 0#32
  let v253 : BitVec 1 := Scalar.cmpi .sgt v212 c0_i32_121
  let v254 : BitVec 32 := Scalar.extui v253
  let c0_i32_122 : BitVec 32 := 0#32
  let v255 : BitVec 1 := Scalar.cmpi .slt v212 c0_i32_122
  let v256 : BitVec 32 := Scalar.extui v255
  let v257 : BitVec 32 := Scalar.subi v254 v256
  let c8_i32_120 : BitVec 32 := 8#32
  let c0_i32_123 : BitVec 32 := 0#32
  let v258 : BitVec 1 := Scalar.cmpi .sgt c8_i32_120 c0_i32_123
  let v259 : BitVec 32 := Scalar.extui v258
  let c0_i32_124 : BitVec 32 := 0#32
  let v260 : BitVec 1 := Scalar.cmpi .slt c8_i32_120 c0_i32_124
  let v261 : BitVec 32 := Scalar.extui v260
  let v262 : BitVec 32 := Scalar.subi v259 v261
  let v263 : BitVec 1 := Scalar.cmpi .ne v257 v262
  let v264 : BitVec 32 := Scalar.remsi v212 c8_i32_120
  let c0_i32_125 : BitVec 32 := 0#32
  let v265 : BitVec 1 := Scalar.cmpi .ne v264 c0_i32_125
  let v266 : BitVec 1 := Scalar.andi v263 v265
  let v252 : BitVec 32 := Scalar.divsi v212 c8_i32_120
  let c1_i32_126 : BitVec 32 := 1#32
  let v267 : BitVec 32 := Scalar.subi v252 c1_i32_126
  let v268 : BitVec 32 := Scalar.select v266 v267 v252
  let v269 : BitVec 32 := Scalar.subi v268 c0_i32_127
  let c1_i32_128 : BitVec 32 := 1#32
  let v271 : BitVec 32 := Scalar.divsi v269 c1_i32_128
  let v272 : BitVec 32 := Scalar.muli v271 c1_i32_128
  let v273 : BitVec 32 := Scalar.addi c0_i32_127 v272
  let c1_i32_130 : BitVec 32 := 1#32
  let arg16 : BitVec 32 := Scf.iv v273 c1_i32_130 k0_t15
  let c8_i32_198 : BitVec 32 := 8#32
  let v397 : BitVec 32 := Scalar.muli arg16 c8_i32_198
  let v398 : BitVec 32 := Scalar.addi v397 c0_i32_199
  let v399 : Index := Scalar.indexCast v398
  let c0_200 : Index := 0#32
  let c0_201 : Index := 0#32
  ![v399.toNat, 0, 0]
def k0_off23 (i : grid0.Coords) (k0_t15 : Fin (k0_t15_loop i).trips) (c0_i32_199 : BitVec 32) : Fin 3 → Nat :=
  let c0_i32_127 : BitVec 32 := 0#32
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_121 : BitVec 32 := 0#32
  let v253 : BitVec 1 := Scalar.cmpi .sgt v212 c0_i32_121
  let v254 : BitVec 32 := Scalar.extui v253
  let c0_i32_122 : BitVec 32 := 0#32
  let v255 : BitVec 1 := Scalar.cmpi .slt v212 c0_i32_122
  let v256 : BitVec 32 := Scalar.extui v255
  let v257 : BitVec 32 := Scalar.subi v254 v256
  let c8_i32_120 : BitVec 32 := 8#32
  let c0_i32_123 : BitVec 32 := 0#32
  let v258 : BitVec 1 := Scalar.cmpi .sgt c8_i32_120 c0_i32_123
  let v259 : BitVec 32 := Scalar.extui v258
  let c0_i32_124 : BitVec 32 := 0#32
  let v260 : BitVec 1 := Scalar.cmpi .slt c8_i32_120 c0_i32_124
  let v261 : BitVec 32 := Scalar.extui v260
  let v262 : BitVec 32 := Scalar.subi v259 v261
  let v263 : BitVec 1 := Scalar.cmpi .ne v257 v262
  let v264 : BitVec 32 := Scalar.remsi v212 c8_i32_120
  let c0_i32_125 : BitVec 32 := 0#32
  let v265 : BitVec 1 := Scalar.cmpi .ne v264 c0_i32_125
  let v266 : BitVec 1 := Scalar.andi v263 v265
  let v252 : BitVec 32 := Scalar.divsi v212 c8_i32_120
  let c1_i32_126 : BitVec 32 := 1#32
  let v267 : BitVec 32 := Scalar.subi v252 c1_i32_126
  let v268 : BitVec 32 := Scalar.select v266 v267 v252
  let v269 : BitVec 32 := Scalar.subi v268 c0_i32_127
  let c1_i32_128 : BitVec 32 := 1#32
  let v271 : BitVec 32 := Scalar.divsi v269 c1_i32_128
  let v272 : BitVec 32 := Scalar.muli v271 c1_i32_128
  let v273 : BitVec 32 := Scalar.addi c0_i32_127 v272
  let c1_i32_130 : BitVec 32 := 1#32
  let arg16 : BitVec 32 := Scf.iv v273 c1_i32_130 k0_t15
  let c8_i32_198 : BitVec 32 := 8#32
  let v397 : BitVec 32 := Scalar.muli arg16 c8_i32_198
  let v398 : BitVec 32 := Scalar.addi v397 c0_i32_199
  let c32_i32_204 : BitVec 32 := 32#32
  let v405 : BitVec 32 := Scalar.muli v398 c32_i32_204
  let v406 : Index := Scalar.indexCast v405
  let c0_205 : Index := 0#32
  let c0_206 : Index := 0#32
  ![v406.toNat, 0, 0]
@[reducible] def k0_t16_loop (i : grid0.Coords) : Scf.Loop 32 :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_121 : BitVec 32 := 0#32
  let v253 : BitVec 1 := Scalar.cmpi .sgt v212 c0_i32_121
  let v254 : BitVec 32 := Scalar.extui v253
  let c0_i32_122 : BitVec 32 := 0#32
  let v255 : BitVec 1 := Scalar.cmpi .slt v212 c0_i32_122
  let v256 : BitVec 32 := Scalar.extui v255
  let v257 : BitVec 32 := Scalar.subi v254 v256
  let c8_i32_120 : BitVec 32 := 8#32
  let c0_i32_123 : BitVec 32 := 0#32
  let v258 : BitVec 1 := Scalar.cmpi .sgt c8_i32_120 c0_i32_123
  let v259 : BitVec 32 := Scalar.extui v258
  let c0_i32_124 : BitVec 32 := 0#32
  let v260 : BitVec 1 := Scalar.cmpi .slt c8_i32_120 c0_i32_124
  let v261 : BitVec 32 := Scalar.extui v260
  let v262 : BitVec 32 := Scalar.subi v259 v261
  let v263 : BitVec 1 := Scalar.cmpi .ne v257 v262
  let v264 : BitVec 32 := Scalar.remsi v212 c8_i32_120
  let c0_i32_125 : BitVec 32 := 0#32
  let v265 : BitVec 1 := Scalar.cmpi .ne v264 c0_i32_125
  let v266 : BitVec 1 := Scalar.andi v263 v265
  let v252 : BitVec 32 := Scalar.divsi v212 c8_i32_120
  let c1_i32_126 : BitVec 32 := 1#32
  let v267 : BitVec 32 := Scalar.subi v252 c1_i32_126
  let v268 : BitVec 32 := Scalar.select v266 v267 v252
  let c8_i32_131 : BitVec 32 := 8#32
  let v276 : BitVec 32 := Scalar.muli v268 c8_i32_131
  let v277 : BitVec 32 := Scalar.subi v212 v276
  let c1_i32_132 : BitVec 32 := 1#32
  let v279 : BitVec 32 := Scalar.divsi v277 c1_i32_132
  let v280 : BitVec 32 := Scalar.muli v279 c1_i32_132
  let v281 : BitVec 32 := Scalar.addi v276 v280
  let c1_i32_133 : BitVec 32 := 1#32
  ⟨v276, v281, c1_i32_133⟩
def k0_off24 (i : grid0.Coords) (k0_t16 : Fin (k0_t16_loop i).trips) : Fin 3 → Nat :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_121 : BitVec 32 := 0#32
  let v253 : BitVec 1 := Scalar.cmpi .sgt v212 c0_i32_121
  let v254 : BitVec 32 := Scalar.extui v253
  let c0_i32_122 : BitVec 32 := 0#32
  let v255 : BitVec 1 := Scalar.cmpi .slt v212 c0_i32_122
  let v256 : BitVec 32 := Scalar.extui v255
  let v257 : BitVec 32 := Scalar.subi v254 v256
  let c8_i32_120 : BitVec 32 := 8#32
  let c0_i32_123 : BitVec 32 := 0#32
  let v258 : BitVec 1 := Scalar.cmpi .sgt c8_i32_120 c0_i32_123
  let v259 : BitVec 32 := Scalar.extui v258
  let c0_i32_124 : BitVec 32 := 0#32
  let v260 : BitVec 1 := Scalar.cmpi .slt c8_i32_120 c0_i32_124
  let v261 : BitVec 32 := Scalar.extui v260
  let v262 : BitVec 32 := Scalar.subi v259 v261
  let v263 : BitVec 1 := Scalar.cmpi .ne v257 v262
  let v264 : BitVec 32 := Scalar.remsi v212 c8_i32_120
  let c0_i32_125 : BitVec 32 := 0#32
  let v265 : BitVec 1 := Scalar.cmpi .ne v264 c0_i32_125
  let v266 : BitVec 1 := Scalar.andi v263 v265
  let v252 : BitVec 32 := Scalar.divsi v212 c8_i32_120
  let c1_i32_126 : BitVec 32 := 1#32
  let v267 : BitVec 32 := Scalar.subi v252 c1_i32_126
  let v268 : BitVec 32 := Scalar.select v266 v267 v252
  let c8_i32_131 : BitVec 32 := 8#32
  let v276 : BitVec 32 := Scalar.muli v268 c8_i32_131
  let c1_i32_133 : BitVec 32 := 1#32
  let arg16 : BitVec 32 := Scf.iv v276 c1_i32_133 k0_t16
  let v397 : Index := Scalar.indexCast arg16
  let c0_198 : Index := 0#32
  let c0_199 : Index := 0#32
  ![v397.toNat, 0, 0]
def k0_off25 (i : grid0.Coords) (k0_t16 : Fin (k0_t16_loop i).trips) : Fin 3 → Nat :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_121 : BitVec 32 := 0#32
  let v253 : BitVec 1 := Scalar.cmpi .sgt v212 c0_i32_121
  let v254 : BitVec 32 := Scalar.extui v253
  let c0_i32_122 : BitVec 32 := 0#32
  let v255 : BitVec 1 := Scalar.cmpi .slt v212 c0_i32_122
  let v256 : BitVec 32 := Scalar.extui v255
  let v257 : BitVec 32 := Scalar.subi v254 v256
  let c8_i32_120 : BitVec 32 := 8#32
  let c0_i32_123 : BitVec 32 := 0#32
  let v258 : BitVec 1 := Scalar.cmpi .sgt c8_i32_120 c0_i32_123
  let v259 : BitVec 32 := Scalar.extui v258
  let c0_i32_124 : BitVec 32 := 0#32
  let v260 : BitVec 1 := Scalar.cmpi .slt c8_i32_120 c0_i32_124
  let v261 : BitVec 32 := Scalar.extui v260
  let v262 : BitVec 32 := Scalar.subi v259 v261
  let v263 : BitVec 1 := Scalar.cmpi .ne v257 v262
  let v264 : BitVec 32 := Scalar.remsi v212 c8_i32_120
  let c0_i32_125 : BitVec 32 := 0#32
  let v265 : BitVec 1 := Scalar.cmpi .ne v264 c0_i32_125
  let v266 : BitVec 1 := Scalar.andi v263 v265
  let v252 : BitVec 32 := Scalar.divsi v212 c8_i32_120
  let c1_i32_126 : BitVec 32 := 1#32
  let v267 : BitVec 32 := Scalar.subi v252 c1_i32_126
  let v268 : BitVec 32 := Scalar.select v266 v267 v252
  let c8_i32_131 : BitVec 32 := 8#32
  let v276 : BitVec 32 := Scalar.muli v268 c8_i32_131
  let c1_i32_133 : BitVec 32 := 1#32
  let arg16 : BitVec 32 := Scf.iv v276 c1_i32_133 k0_t16
  let c32_i32_202 : BitVec 32 := 32#32
  let v403 : BitVec 32 := Scalar.muli arg16 c32_i32_202
  let v404 : Index := Scalar.indexCast v403
  let c0_203 : Index := 0#32
  let c0_204 : Index := 0#32
  ![v404.toNat, 0, 0]
@[reducible] def k0_t17_loop (i : grid0.Coords) : Scf.Loop 32 :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_121 : BitVec 32 := 0#32
  let v253 : BitVec 1 := Scalar.cmpi .sgt v212 c0_i32_121
  let v254 : BitVec 32 := Scalar.extui v253
  let c0_i32_122 : BitVec 32 := 0#32
  let v255 : BitVec 1 := Scalar.cmpi .slt v212 c0_i32_122
  let v256 : BitVec 32 := Scalar.extui v255
  let v257 : BitVec 32 := Scalar.subi v254 v256
  let c8_i32_120 : BitVec 32 := 8#32
  let c0_i32_123 : BitVec 32 := 0#32
  let v258 : BitVec 1 := Scalar.cmpi .sgt c8_i32_120 c0_i32_123
  let v259 : BitVec 32 := Scalar.extui v258
  let c0_i32_124 : BitVec 32 := 0#32
  let v260 : BitVec 1 := Scalar.cmpi .slt c8_i32_120 c0_i32_124
  let v261 : BitVec 32 := Scalar.extui v260
  let v262 : BitVec 32 := Scalar.subi v259 v261
  let v263 : BitVec 1 := Scalar.cmpi .ne v257 v262
  let v264 : BitVec 32 := Scalar.remsi v212 c8_i32_120
  let c0_i32_125 : BitVec 32 := 0#32
  let v265 : BitVec 1 := Scalar.cmpi .ne v264 c0_i32_125
  let v266 : BitVec 1 := Scalar.andi v263 v265
  let v252 : BitVec 32 := Scalar.divsi v212 c8_i32_120
  let c1_i32_126 : BitVec 32 := 1#32
  let v267 : BitVec 32 := Scalar.subi v252 c1_i32_126
  let v268 : BitVec 32 := Scalar.select v266 v267 v252
  let c8_i32_131 : BitVec 32 := 8#32
  let v276 : BitVec 32 := Scalar.muli v268 c8_i32_131
  let v277 : BitVec 32 := Scalar.subi v212 v276
  let c1_i32_132 : BitVec 32 := 1#32
  let v279 : BitVec 32 := Scalar.divsi v277 c1_i32_132
  let v280 : BitVec 32 := Scalar.muli v279 c1_i32_132
  let v281 : BitVec 32 := Scalar.addi v276 v280
  let v278 : BitVec 32 := Scalar.addi v276 v277
  let c1_i32_134 : BitVec 32 := 1#32
  ⟨v281, v278, c1_i32_134⟩
def k0_off26 (i : grid0.Coords) (k0_t17 : Fin (k0_t17_loop i).trips) : Fin 3 → Nat :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_121 : BitVec 32 := 0#32
  let v253 : BitVec 1 := Scalar.cmpi .sgt v212 c0_i32_121
  let v254 : BitVec 32 := Scalar.extui v253
  let c0_i32_122 : BitVec 32 := 0#32
  let v255 : BitVec 1 := Scalar.cmpi .slt v212 c0_i32_122
  let v256 : BitVec 32 := Scalar.extui v255
  let v257 : BitVec 32 := Scalar.subi v254 v256
  let c8_i32_120 : BitVec 32 := 8#32
  let c0_i32_123 : BitVec 32 := 0#32
  let v258 : BitVec 1 := Scalar.cmpi .sgt c8_i32_120 c0_i32_123
  let v259 : BitVec 32 := Scalar.extui v258
  let c0_i32_124 : BitVec 32 := 0#32
  let v260 : BitVec 1 := Scalar.cmpi .slt c8_i32_120 c0_i32_124
  let v261 : BitVec 32 := Scalar.extui v260
  let v262 : BitVec 32 := Scalar.subi v259 v261
  let v263 : BitVec 1 := Scalar.cmpi .ne v257 v262
  let v264 : BitVec 32 := Scalar.remsi v212 c8_i32_120
  let c0_i32_125 : BitVec 32 := 0#32
  let v265 : BitVec 1 := Scalar.cmpi .ne v264 c0_i32_125
  let v266 : BitVec 1 := Scalar.andi v263 v265
  let v252 : BitVec 32 := Scalar.divsi v212 c8_i32_120
  let c1_i32_126 : BitVec 32 := 1#32
  let v267 : BitVec 32 := Scalar.subi v252 c1_i32_126
  let v268 : BitVec 32 := Scalar.select v266 v267 v252
  let c8_i32_131 : BitVec 32 := 8#32
  let v276 : BitVec 32 := Scalar.muli v268 c8_i32_131
  let v277 : BitVec 32 := Scalar.subi v212 v276
  let c1_i32_132 : BitVec 32 := 1#32
  let v279 : BitVec 32 := Scalar.divsi v277 c1_i32_132
  let v280 : BitVec 32 := Scalar.muli v279 c1_i32_132
  let v281 : BitVec 32 := Scalar.addi v276 v280
  let c1_i32_134 : BitVec 32 := 1#32
  let arg16 : BitVec 32 := Scf.iv v281 c1_i32_134 k0_t17
  let v397 : Index := Scalar.indexCast arg16
  let c0_198 : Index := 0#32
  let c0_199 : Index := 0#32
  ![v397.toNat, 0, 0]
def k0_off27 (i : grid0.Coords) (k0_t17 : Fin (k0_t17_loop i).trips) : Fin 3 → Nat :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_121 : BitVec 32 := 0#32
  let v253 : BitVec 1 := Scalar.cmpi .sgt v212 c0_i32_121
  let v254 : BitVec 32 := Scalar.extui v253
  let c0_i32_122 : BitVec 32 := 0#32
  let v255 : BitVec 1 := Scalar.cmpi .slt v212 c0_i32_122
  let v256 : BitVec 32 := Scalar.extui v255
  let v257 : BitVec 32 := Scalar.subi v254 v256
  let c8_i32_120 : BitVec 32 := 8#32
  let c0_i32_123 : BitVec 32 := 0#32
  let v258 : BitVec 1 := Scalar.cmpi .sgt c8_i32_120 c0_i32_123
  let v259 : BitVec 32 := Scalar.extui v258
  let c0_i32_124 : BitVec 32 := 0#32
  let v260 : BitVec 1 := Scalar.cmpi .slt c8_i32_120 c0_i32_124
  let v261 : BitVec 32 := Scalar.extui v260
  let v262 : BitVec 32 := Scalar.subi v259 v261
  let v263 : BitVec 1 := Scalar.cmpi .ne v257 v262
  let v264 : BitVec 32 := Scalar.remsi v212 c8_i32_120
  let c0_i32_125 : BitVec 32 := 0#32
  let v265 : BitVec 1 := Scalar.cmpi .ne v264 c0_i32_125
  let v266 : BitVec 1 := Scalar.andi v263 v265
  let v252 : BitVec 32 := Scalar.divsi v212 c8_i32_120
  let c1_i32_126 : BitVec 32 := 1#32
  let v267 : BitVec 32 := Scalar.subi v252 c1_i32_126
  let v268 : BitVec 32 := Scalar.select v266 v267 v252
  let c8_i32_131 : BitVec 32 := 8#32
  let v276 : BitVec 32 := Scalar.muli v268 c8_i32_131
  let v277 : BitVec 32 := Scalar.subi v212 v276
  let c1_i32_132 : BitVec 32 := 1#32
  let v279 : BitVec 32 := Scalar.divsi v277 c1_i32_132
  let v280 : BitVec 32 := Scalar.muli v279 c1_i32_132
  let v281 : BitVec 32 := Scalar.addi v276 v280
  let c1_i32_134 : BitVec 32 := 1#32
  let arg16 : BitVec 32 := Scf.iv v281 c1_i32_134 k0_t17
  let c32_i32_202 : BitVec 32 := 32#32
  let v403 : BitVec 32 := Scalar.muli arg16 c32_i32_202
  let v404 : Index := Scalar.indexCast v403
  let c0_203 : Index := 0#32
  let c0_204 : Index := 0#32
  ![v404.toNat, 0, 0]
@[reducible] def k0_t18_loop : Scf.Loop 32 :=
  let c0_i32_135 : BitVec 32 := 0#32
  let c32_i32 : BitVec 32 := 32#32
  let v284 : BitVec 32 := Scalar.addi c0_i32_135 c32_i32
  let c1_i32_136 : BitVec 32 := 1#32
  ⟨c0_i32_135, v284, c1_i32_136⟩
@[reducible] def k0_t19_loop (i : grid0.Coords) : Scf.Loop 32 :=
  let c0_i32_210 : BitVec 32 := 0#32
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_204 : BitVec 32 := 0#32
  let v409 : BitVec 1 := Scalar.cmpi .sgt v212 c0_i32_204
  let v410 : BitVec 32 := Scalar.extui v409
  let c0_i32_205 : BitVec 32 := 0#32
  let v411 : BitVec 1 := Scalar.cmpi .slt v212 c0_i32_205
  let v412 : BitVec 32 := Scalar.extui v411
  let v413 : BitVec 32 := Scalar.subi v410 v412
  let c8_i32_203 : BitVec 32 := 8#32
  let c0_i32_206 : BitVec 32 := 0#32
  let v414 : BitVec 1 := Scalar.cmpi .sgt c8_i32_203 c0_i32_206
  let v415 : BitVec 32 := Scalar.extui v414
  let c0_i32_207 : BitVec 32 := 0#32
  let v416 : BitVec 1 := Scalar.cmpi .slt c8_i32_203 c0_i32_207
  let v417 : BitVec 32 := Scalar.extui v416
  let v418 : BitVec 32 := Scalar.subi v415 v417
  let v419 : BitVec 1 := Scalar.cmpi .ne v413 v418
  let v420 : BitVec 32 := Scalar.remsi v212 c8_i32_203
  let c0_i32_208 : BitVec 32 := 0#32
  let v421 : BitVec 1 := Scalar.cmpi .ne v420 c0_i32_208
  let v422 : BitVec 1 := Scalar.andi v419 v421
  let v408 : BitVec 32 := Scalar.divsi v212 c8_i32_203
  let c1_i32_209 : BitVec 32 := 1#32
  let v423 : BitVec 32 := Scalar.subi v408 c1_i32_209
  let v424 : BitVec 32 := Scalar.select v422 v423 v408
  let v425 : BitVec 32 := Scalar.subi v424 c0_i32_210
  let c1_i32_211 : BitVec 32 := 1#32
  let v427 : BitVec 32 := Scalar.divsi v425 c1_i32_211
  let v428 : BitVec 32 := Scalar.muli v427 c1_i32_211
  let v429 : BitVec 32 := Scalar.addi c0_i32_210 v428
  let c1_i32_212 : BitVec 32 := 1#32
  ⟨c0_i32_210, v429, c1_i32_212⟩
def k0_off28 (i : grid0.Coords) (k0_t19 : Fin (k0_t19_loop i).trips) (c0_i32_219 : BitVec 32) : Fin 3 → Nat :=
  let c0_i32_210 : BitVec 32 := 0#32
  let c1_i32_212 : BitVec 32 := 1#32
  let arg18 : BitVec 32 := Scf.iv c0_i32_210 c1_i32_212 k0_t19
  let c8_i32_218 : BitVec 32 := 8#32
  let v440 : BitVec 32 := Scalar.muli arg18 c8_i32_218
  let v441 : BitVec 32 := Scalar.addi v440 c0_i32_219
  let v442 : Index := Scalar.indexCast v441
  let c0_220 : Index := 0#32
  let c0_221 : Index := 0#32
  ![v442.toNat, 0, 0]
def k0_off29 (i : grid0.Coords) (k0_t18 : Fin k0_t18_loop.trips) (k0_t19 : Fin (k0_t19_loop i).trips) (c0_i32_219 : BitVec 32) : Fin 3 → Nat :=
  let c0_i32_210 : BitVec 32 := 0#32
  let c1_i32_212 : BitVec 32 := 1#32
  let arg18 : BitVec 32 := Scf.iv c0_i32_210 c1_i32_212 k0_t19
  let c8_i32_218 : BitVec 32 := 8#32
  let v440 : BitVec 32 := Scalar.muli arg18 c8_i32_218
  let v441 : BitVec 32 := Scalar.addi v440 c0_i32_219
  let c32_i32_222 : BitVec 32 := 32#32
  let v445 : BitVec 32 := Scalar.muli v441 c32_i32_222
  let c0_i32_135 : BitVec 32 := 0#32
  let c1_i32_136 : BitVec 32 := 1#32
  let arg16 : BitVec 32 := Scf.iv c0_i32_135 c1_i32_136 k0_t18
  let v446 : BitVec 32 := Scalar.addi v445 arg16
  let v447 : Index := Scalar.indexCast v446
  let c0_223 : Index := 0#32
  let c0_224 : Index := 0#32
  ![v447.toNat, 0, 0]
def k0_off30 (i : grid0.Coords) (k0_t18 : Fin k0_t18_loop.trips) (k0_t19 : Fin (k0_t19_loop i).trips) (c0_i32_219 : BitVec 32) : Fin 3 → Nat :=
  let c0_i32_210 : BitVec 32 := 0#32
  let c1_i32_212 : BitVec 32 := 1#32
  let arg18 : BitVec 32 := Scf.iv c0_i32_210 c1_i32_212 k0_t19
  let c8_i32_218 : BitVec 32 := 8#32
  let v440 : BitVec 32 := Scalar.muli arg18 c8_i32_218
  let v441 : BitVec 32 := Scalar.addi v440 c0_i32_219
  let c32_i32_233 : BitVec 32 := 32#32
  let v470 : BitVec 32 := Scalar.muli v441 c32_i32_233
  let c0_i32_135 : BitVec 32 := 0#32
  let c1_i32_136 : BitVec 32 := 1#32
  let arg16 : BitVec 32 := Scf.iv c0_i32_135 c1_i32_136 k0_t18
  let c1_i32_202 : BitVec 32 := 1#32
  let v406 : BitVec 32 := Scalar.addi arg16 c1_i32_202
  let c31_i32 : BitVec 32 := 31#32
  let v407 : BitVec 32 := Scalar.minsi v406 c31_i32
  let v471 : BitVec 32 := Scalar.addi v470 v407
  let v472 : Index := Scalar.indexCast v471
  let c0_234 : Index := 0#32
  let c0_235 : Index := 0#32
  ![v472.toNat, 0, 0]
@[reducible] def k0_t20_loop (i : grid0.Coords) : Scf.Loop 32 :=
  let c0_i32_210 : BitVec 32 := 0#32
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_204 : BitVec 32 := 0#32
  let v409 : BitVec 1 := Scalar.cmpi .sgt v212 c0_i32_204
  let v410 : BitVec 32 := Scalar.extui v409
  let c0_i32_205 : BitVec 32 := 0#32
  let v411 : BitVec 1 := Scalar.cmpi .slt v212 c0_i32_205
  let v412 : BitVec 32 := Scalar.extui v411
  let v413 : BitVec 32 := Scalar.subi v410 v412
  let c8_i32_203 : BitVec 32 := 8#32
  let c0_i32_206 : BitVec 32 := 0#32
  let v414 : BitVec 1 := Scalar.cmpi .sgt c8_i32_203 c0_i32_206
  let v415 : BitVec 32 := Scalar.extui v414
  let c0_i32_207 : BitVec 32 := 0#32
  let v416 : BitVec 1 := Scalar.cmpi .slt c8_i32_203 c0_i32_207
  let v417 : BitVec 32 := Scalar.extui v416
  let v418 : BitVec 32 := Scalar.subi v415 v417
  let v419 : BitVec 1 := Scalar.cmpi .ne v413 v418
  let v420 : BitVec 32 := Scalar.remsi v212 c8_i32_203
  let c0_i32_208 : BitVec 32 := 0#32
  let v421 : BitVec 1 := Scalar.cmpi .ne v420 c0_i32_208
  let v422 : BitVec 1 := Scalar.andi v419 v421
  let v408 : BitVec 32 := Scalar.divsi v212 c8_i32_203
  let c1_i32_209 : BitVec 32 := 1#32
  let v423 : BitVec 32 := Scalar.subi v408 c1_i32_209
  let v424 : BitVec 32 := Scalar.select v422 v423 v408
  let v425 : BitVec 32 := Scalar.subi v424 c0_i32_210
  let c1_i32_211 : BitVec 32 := 1#32
  let v427 : BitVec 32 := Scalar.divsi v425 c1_i32_211
  let v428 : BitVec 32 := Scalar.muli v427 c1_i32_211
  let v429 : BitVec 32 := Scalar.addi c0_i32_210 v428
  let v426 : BitVec 32 := Scalar.addi c0_i32_210 v425
  let c1_i32_213 : BitVec 32 := 1#32
  ⟨v429, v426, c1_i32_213⟩
def k0_off31 (i : grid0.Coords) (k0_t20 : Fin (k0_t20_loop i).trips) (c0_i32_219 : BitVec 32) : Fin 3 → Nat :=
  let c0_i32_210 : BitVec 32 := 0#32
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_204 : BitVec 32 := 0#32
  let v409 : BitVec 1 := Scalar.cmpi .sgt v212 c0_i32_204
  let v410 : BitVec 32 := Scalar.extui v409
  let c0_i32_205 : BitVec 32 := 0#32
  let v411 : BitVec 1 := Scalar.cmpi .slt v212 c0_i32_205
  let v412 : BitVec 32 := Scalar.extui v411
  let v413 : BitVec 32 := Scalar.subi v410 v412
  let c8_i32_203 : BitVec 32 := 8#32
  let c0_i32_206 : BitVec 32 := 0#32
  let v414 : BitVec 1 := Scalar.cmpi .sgt c8_i32_203 c0_i32_206
  let v415 : BitVec 32 := Scalar.extui v414
  let c0_i32_207 : BitVec 32 := 0#32
  let v416 : BitVec 1 := Scalar.cmpi .slt c8_i32_203 c0_i32_207
  let v417 : BitVec 32 := Scalar.extui v416
  let v418 : BitVec 32 := Scalar.subi v415 v417
  let v419 : BitVec 1 := Scalar.cmpi .ne v413 v418
  let v420 : BitVec 32 := Scalar.remsi v212 c8_i32_203
  let c0_i32_208 : BitVec 32 := 0#32
  let v421 : BitVec 1 := Scalar.cmpi .ne v420 c0_i32_208
  let v422 : BitVec 1 := Scalar.andi v419 v421
  let v408 : BitVec 32 := Scalar.divsi v212 c8_i32_203
  let c1_i32_209 : BitVec 32 := 1#32
  let v423 : BitVec 32 := Scalar.subi v408 c1_i32_209
  let v424 : BitVec 32 := Scalar.select v422 v423 v408
  let v425 : BitVec 32 := Scalar.subi v424 c0_i32_210
  let c1_i32_211 : BitVec 32 := 1#32
  let v427 : BitVec 32 := Scalar.divsi v425 c1_i32_211
  let v428 : BitVec 32 := Scalar.muli v427 c1_i32_211
  let v429 : BitVec 32 := Scalar.addi c0_i32_210 v428
  let c1_i32_213 : BitVec 32 := 1#32
  let arg18 : BitVec 32 := Scf.iv v429 c1_i32_213 k0_t20
  let c8_i32_218 : BitVec 32 := 8#32
  let v440 : BitVec 32 := Scalar.muli arg18 c8_i32_218
  let v441 : BitVec 32 := Scalar.addi v440 c0_i32_219
  let v442 : Index := Scalar.indexCast v441
  let c0_220 : Index := 0#32
  let c0_221 : Index := 0#32
  ![v442.toNat, 0, 0]
def k0_off32 (i : grid0.Coords) (k0_t18 : Fin k0_t18_loop.trips) (k0_t20 : Fin (k0_t20_loop i).trips) (c0_i32_219 : BitVec 32) : Fin 3 → Nat :=
  let c0_i32_210 : BitVec 32 := 0#32
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_204 : BitVec 32 := 0#32
  let v409 : BitVec 1 := Scalar.cmpi .sgt v212 c0_i32_204
  let v410 : BitVec 32 := Scalar.extui v409
  let c0_i32_205 : BitVec 32 := 0#32
  let v411 : BitVec 1 := Scalar.cmpi .slt v212 c0_i32_205
  let v412 : BitVec 32 := Scalar.extui v411
  let v413 : BitVec 32 := Scalar.subi v410 v412
  let c8_i32_203 : BitVec 32 := 8#32
  let c0_i32_206 : BitVec 32 := 0#32
  let v414 : BitVec 1 := Scalar.cmpi .sgt c8_i32_203 c0_i32_206
  let v415 : BitVec 32 := Scalar.extui v414
  let c0_i32_207 : BitVec 32 := 0#32
  let v416 : BitVec 1 := Scalar.cmpi .slt c8_i32_203 c0_i32_207
  let v417 : BitVec 32 := Scalar.extui v416
  let v418 : BitVec 32 := Scalar.subi v415 v417
  let v419 : BitVec 1 := Scalar.cmpi .ne v413 v418
  let v420 : BitVec 32 := Scalar.remsi v212 c8_i32_203
  let c0_i32_208 : BitVec 32 := 0#32
  let v421 : BitVec 1 := Scalar.cmpi .ne v420 c0_i32_208
  let v422 : BitVec 1 := Scalar.andi v419 v421
  let v408 : BitVec 32 := Scalar.divsi v212 c8_i32_203
  let c1_i32_209 : BitVec 32 := 1#32
  let v423 : BitVec 32 := Scalar.subi v408 c1_i32_209
  let v424 : BitVec 32 := Scalar.select v422 v423 v408
  let v425 : BitVec 32 := Scalar.subi v424 c0_i32_210
  let c1_i32_211 : BitVec 32 := 1#32
  let v427 : BitVec 32 := Scalar.divsi v425 c1_i32_211
  let v428 : BitVec 32 := Scalar.muli v427 c1_i32_211
  let v429 : BitVec 32 := Scalar.addi c0_i32_210 v428
  let c1_i32_213 : BitVec 32 := 1#32
  let arg18 : BitVec 32 := Scf.iv v429 c1_i32_213 k0_t20
  let c8_i32_218 : BitVec 32 := 8#32
  let v440 : BitVec 32 := Scalar.muli arg18 c8_i32_218
  let v441 : BitVec 32 := Scalar.addi v440 c0_i32_219
  let c32_i32_222 : BitVec 32 := 32#32
  let v445 : BitVec 32 := Scalar.muli v441 c32_i32_222
  let c0_i32_135 : BitVec 32 := 0#32
  let c1_i32_136 : BitVec 32 := 1#32
  let arg16 : BitVec 32 := Scf.iv c0_i32_135 c1_i32_136 k0_t18
  let v446 : BitVec 32 := Scalar.addi v445 arg16
  let v447 : Index := Scalar.indexCast v446
  let c0_223 : Index := 0#32
  let c0_224 : Index := 0#32
  ![v447.toNat, 0, 0]
def k0_off33 (i : grid0.Coords) (k0_t18 : Fin k0_t18_loop.trips) (k0_t20 : Fin (k0_t20_loop i).trips) (c0_i32_219 : BitVec 32) : Fin 3 → Nat :=
  let c0_i32_210 : BitVec 32 := 0#32
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_204 : BitVec 32 := 0#32
  let v409 : BitVec 1 := Scalar.cmpi .sgt v212 c0_i32_204
  let v410 : BitVec 32 := Scalar.extui v409
  let c0_i32_205 : BitVec 32 := 0#32
  let v411 : BitVec 1 := Scalar.cmpi .slt v212 c0_i32_205
  let v412 : BitVec 32 := Scalar.extui v411
  let v413 : BitVec 32 := Scalar.subi v410 v412
  let c8_i32_203 : BitVec 32 := 8#32
  let c0_i32_206 : BitVec 32 := 0#32
  let v414 : BitVec 1 := Scalar.cmpi .sgt c8_i32_203 c0_i32_206
  let v415 : BitVec 32 := Scalar.extui v414
  let c0_i32_207 : BitVec 32 := 0#32
  let v416 : BitVec 1 := Scalar.cmpi .slt c8_i32_203 c0_i32_207
  let v417 : BitVec 32 := Scalar.extui v416
  let v418 : BitVec 32 := Scalar.subi v415 v417
  let v419 : BitVec 1 := Scalar.cmpi .ne v413 v418
  let v420 : BitVec 32 := Scalar.remsi v212 c8_i32_203
  let c0_i32_208 : BitVec 32 := 0#32
  let v421 : BitVec 1 := Scalar.cmpi .ne v420 c0_i32_208
  let v422 : BitVec 1 := Scalar.andi v419 v421
  let v408 : BitVec 32 := Scalar.divsi v212 c8_i32_203
  let c1_i32_209 : BitVec 32 := 1#32
  let v423 : BitVec 32 := Scalar.subi v408 c1_i32_209
  let v424 : BitVec 32 := Scalar.select v422 v423 v408
  let v425 : BitVec 32 := Scalar.subi v424 c0_i32_210
  let c1_i32_211 : BitVec 32 := 1#32
  let v427 : BitVec 32 := Scalar.divsi v425 c1_i32_211
  let v428 : BitVec 32 := Scalar.muli v427 c1_i32_211
  let v429 : BitVec 32 := Scalar.addi c0_i32_210 v428
  let c1_i32_213 : BitVec 32 := 1#32
  let arg18 : BitVec 32 := Scf.iv v429 c1_i32_213 k0_t20
  let c8_i32_218 : BitVec 32 := 8#32
  let v440 : BitVec 32 := Scalar.muli arg18 c8_i32_218
  let v441 : BitVec 32 := Scalar.addi v440 c0_i32_219
  let c32_i32_233 : BitVec 32 := 32#32
  let v470 : BitVec 32 := Scalar.muli v441 c32_i32_233
  let c0_i32_135 : BitVec 32 := 0#32
  let c1_i32_136 : BitVec 32 := 1#32
  let arg16 : BitVec 32 := Scf.iv c0_i32_135 c1_i32_136 k0_t18
  let c1_i32_202 : BitVec 32 := 1#32
  let v406 : BitVec 32 := Scalar.addi arg16 c1_i32_202
  let c31_i32 : BitVec 32 := 31#32
  let v407 : BitVec 32 := Scalar.minsi v406 c31_i32
  let v471 : BitVec 32 := Scalar.addi v470 v407
  let v472 : Index := Scalar.indexCast v471
  let c0_234 : Index := 0#32
  let c0_235 : Index := 0#32
  ![v472.toNat, 0, 0]
@[reducible] def k0_t21_loop (i : grid0.Coords) : Scf.Loop 32 :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_204 : BitVec 32 := 0#32
  let v409 : BitVec 1 := Scalar.cmpi .sgt v212 c0_i32_204
  let v410 : BitVec 32 := Scalar.extui v409
  let c0_i32_205 : BitVec 32 := 0#32
  let v411 : BitVec 1 := Scalar.cmpi .slt v212 c0_i32_205
  let v412 : BitVec 32 := Scalar.extui v411
  let v413 : BitVec 32 := Scalar.subi v410 v412
  let c8_i32_203 : BitVec 32 := 8#32
  let c0_i32_206 : BitVec 32 := 0#32
  let v414 : BitVec 1 := Scalar.cmpi .sgt c8_i32_203 c0_i32_206
  let v415 : BitVec 32 := Scalar.extui v414
  let c0_i32_207 : BitVec 32 := 0#32
  let v416 : BitVec 1 := Scalar.cmpi .slt c8_i32_203 c0_i32_207
  let v417 : BitVec 32 := Scalar.extui v416
  let v418 : BitVec 32 := Scalar.subi v415 v417
  let v419 : BitVec 1 := Scalar.cmpi .ne v413 v418
  let v420 : BitVec 32 := Scalar.remsi v212 c8_i32_203
  let c0_i32_208 : BitVec 32 := 0#32
  let v421 : BitVec 1 := Scalar.cmpi .ne v420 c0_i32_208
  let v422 : BitVec 1 := Scalar.andi v419 v421
  let v408 : BitVec 32 := Scalar.divsi v212 c8_i32_203
  let c1_i32_209 : BitVec 32 := 1#32
  let v423 : BitVec 32 := Scalar.subi v408 c1_i32_209
  let v424 : BitVec 32 := Scalar.select v422 v423 v408
  let c8_i32_214 : BitVec 32 := 8#32
  let v432 : BitVec 32 := Scalar.muli v424 c8_i32_214
  let v433 : BitVec 32 := Scalar.subi v212 v432
  let c1_i32_215 : BitVec 32 := 1#32
  let v435 : BitVec 32 := Scalar.divsi v433 c1_i32_215
  let v436 : BitVec 32 := Scalar.muli v435 c1_i32_215
  let v437 : BitVec 32 := Scalar.addi v432 v436
  let c1_i32_216 : BitVec 32 := 1#32
  ⟨v432, v437, c1_i32_216⟩
def k0_off34 (i : grid0.Coords) (k0_t21 : Fin (k0_t21_loop i).trips) : Fin 3 → Nat :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_204 : BitVec 32 := 0#32
  let v409 : BitVec 1 := Scalar.cmpi .sgt v212 c0_i32_204
  let v410 : BitVec 32 := Scalar.extui v409
  let c0_i32_205 : BitVec 32 := 0#32
  let v411 : BitVec 1 := Scalar.cmpi .slt v212 c0_i32_205
  let v412 : BitVec 32 := Scalar.extui v411
  let v413 : BitVec 32 := Scalar.subi v410 v412
  let c8_i32_203 : BitVec 32 := 8#32
  let c0_i32_206 : BitVec 32 := 0#32
  let v414 : BitVec 1 := Scalar.cmpi .sgt c8_i32_203 c0_i32_206
  let v415 : BitVec 32 := Scalar.extui v414
  let c0_i32_207 : BitVec 32 := 0#32
  let v416 : BitVec 1 := Scalar.cmpi .slt c8_i32_203 c0_i32_207
  let v417 : BitVec 32 := Scalar.extui v416
  let v418 : BitVec 32 := Scalar.subi v415 v417
  let v419 : BitVec 1 := Scalar.cmpi .ne v413 v418
  let v420 : BitVec 32 := Scalar.remsi v212 c8_i32_203
  let c0_i32_208 : BitVec 32 := 0#32
  let v421 : BitVec 1 := Scalar.cmpi .ne v420 c0_i32_208
  let v422 : BitVec 1 := Scalar.andi v419 v421
  let v408 : BitVec 32 := Scalar.divsi v212 c8_i32_203
  let c1_i32_209 : BitVec 32 := 1#32
  let v423 : BitVec 32 := Scalar.subi v408 c1_i32_209
  let v424 : BitVec 32 := Scalar.select v422 v423 v408
  let c8_i32_214 : BitVec 32 := 8#32
  let v432 : BitVec 32 := Scalar.muli v424 c8_i32_214
  let c1_i32_216 : BitVec 32 := 1#32
  let arg18 : BitVec 32 := Scf.iv v432 c1_i32_216 k0_t21
  let v440 : Index := Scalar.indexCast arg18
  let c0_218 : Index := 0#32
  let c0_219 : Index := 0#32
  ![v440.toNat, 0, 0]
def k0_off35 (i : grid0.Coords) (k0_t18 : Fin k0_t18_loop.trips) (k0_t21 : Fin (k0_t21_loop i).trips) : Fin 3 → Nat :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_204 : BitVec 32 := 0#32
  let v409 : BitVec 1 := Scalar.cmpi .sgt v212 c0_i32_204
  let v410 : BitVec 32 := Scalar.extui v409
  let c0_i32_205 : BitVec 32 := 0#32
  let v411 : BitVec 1 := Scalar.cmpi .slt v212 c0_i32_205
  let v412 : BitVec 32 := Scalar.extui v411
  let v413 : BitVec 32 := Scalar.subi v410 v412
  let c8_i32_203 : BitVec 32 := 8#32
  let c0_i32_206 : BitVec 32 := 0#32
  let v414 : BitVec 1 := Scalar.cmpi .sgt c8_i32_203 c0_i32_206
  let v415 : BitVec 32 := Scalar.extui v414
  let c0_i32_207 : BitVec 32 := 0#32
  let v416 : BitVec 1 := Scalar.cmpi .slt c8_i32_203 c0_i32_207
  let v417 : BitVec 32 := Scalar.extui v416
  let v418 : BitVec 32 := Scalar.subi v415 v417
  let v419 : BitVec 1 := Scalar.cmpi .ne v413 v418
  let v420 : BitVec 32 := Scalar.remsi v212 c8_i32_203
  let c0_i32_208 : BitVec 32 := 0#32
  let v421 : BitVec 1 := Scalar.cmpi .ne v420 c0_i32_208
  let v422 : BitVec 1 := Scalar.andi v419 v421
  let v408 : BitVec 32 := Scalar.divsi v212 c8_i32_203
  let c1_i32_209 : BitVec 32 := 1#32
  let v423 : BitVec 32 := Scalar.subi v408 c1_i32_209
  let v424 : BitVec 32 := Scalar.select v422 v423 v408
  let c8_i32_214 : BitVec 32 := 8#32
  let v432 : BitVec 32 := Scalar.muli v424 c8_i32_214
  let c1_i32_216 : BitVec 32 := 1#32
  let arg18 : BitVec 32 := Scf.iv v432 c1_i32_216 k0_t21
  let c32_i32_220 : BitVec 32 := 32#32
  let v443 : BitVec 32 := Scalar.muli arg18 c32_i32_220
  let c0_i32_135 : BitVec 32 := 0#32
  let c1_i32_136 : BitVec 32 := 1#32
  let arg16 : BitVec 32 := Scf.iv c0_i32_135 c1_i32_136 k0_t18
  let v444 : BitVec 32 := Scalar.addi v443 arg16
  let v445 : Index := Scalar.indexCast v444
  let c0_221 : Index := 0#32
  let c0_222 : Index := 0#32
  ![v445.toNat, 0, 0]
def k0_off36 (i : grid0.Coords) (k0_t18 : Fin k0_t18_loop.trips) (k0_t21 : Fin (k0_t21_loop i).trips) : Fin 3 → Nat :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_204 : BitVec 32 := 0#32
  let v409 : BitVec 1 := Scalar.cmpi .sgt v212 c0_i32_204
  let v410 : BitVec 32 := Scalar.extui v409
  let c0_i32_205 : BitVec 32 := 0#32
  let v411 : BitVec 1 := Scalar.cmpi .slt v212 c0_i32_205
  let v412 : BitVec 32 := Scalar.extui v411
  let v413 : BitVec 32 := Scalar.subi v410 v412
  let c8_i32_203 : BitVec 32 := 8#32
  let c0_i32_206 : BitVec 32 := 0#32
  let v414 : BitVec 1 := Scalar.cmpi .sgt c8_i32_203 c0_i32_206
  let v415 : BitVec 32 := Scalar.extui v414
  let c0_i32_207 : BitVec 32 := 0#32
  let v416 : BitVec 1 := Scalar.cmpi .slt c8_i32_203 c0_i32_207
  let v417 : BitVec 32 := Scalar.extui v416
  let v418 : BitVec 32 := Scalar.subi v415 v417
  let v419 : BitVec 1 := Scalar.cmpi .ne v413 v418
  let v420 : BitVec 32 := Scalar.remsi v212 c8_i32_203
  let c0_i32_208 : BitVec 32 := 0#32
  let v421 : BitVec 1 := Scalar.cmpi .ne v420 c0_i32_208
  let v422 : BitVec 1 := Scalar.andi v419 v421
  let v408 : BitVec 32 := Scalar.divsi v212 c8_i32_203
  let c1_i32_209 : BitVec 32 := 1#32
  let v423 : BitVec 32 := Scalar.subi v408 c1_i32_209
  let v424 : BitVec 32 := Scalar.select v422 v423 v408
  let c8_i32_214 : BitVec 32 := 8#32
  let v432 : BitVec 32 := Scalar.muli v424 c8_i32_214
  let c1_i32_216 : BitVec 32 := 1#32
  let arg18 : BitVec 32 := Scf.iv v432 c1_i32_216 k0_t21
  let c32_i32_231 : BitVec 32 := 32#32
  let v468 : BitVec 32 := Scalar.muli arg18 c32_i32_231
  let c0_i32_135 : BitVec 32 := 0#32
  let c1_i32_136 : BitVec 32 := 1#32
  let arg16 : BitVec 32 := Scf.iv c0_i32_135 c1_i32_136 k0_t18
  let c1_i32_202 : BitVec 32 := 1#32
  let v406 : BitVec 32 := Scalar.addi arg16 c1_i32_202
  let c31_i32 : BitVec 32 := 31#32
  let v407 : BitVec 32 := Scalar.minsi v406 c31_i32
  let v469 : BitVec 32 := Scalar.addi v468 v407
  let v470 : Index := Scalar.indexCast v469
  let c0_232 : Index := 0#32
  let c0_233 : Index := 0#32
  ![v470.toNat, 0, 0]
@[reducible] def k0_t22_loop (i : grid0.Coords) : Scf.Loop 32 :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_204 : BitVec 32 := 0#32
  let v409 : BitVec 1 := Scalar.cmpi .sgt v212 c0_i32_204
  let v410 : BitVec 32 := Scalar.extui v409
  let c0_i32_205 : BitVec 32 := 0#32
  let v411 : BitVec 1 := Scalar.cmpi .slt v212 c0_i32_205
  let v412 : BitVec 32 := Scalar.extui v411
  let v413 : BitVec 32 := Scalar.subi v410 v412
  let c8_i32_203 : BitVec 32 := 8#32
  let c0_i32_206 : BitVec 32 := 0#32
  let v414 : BitVec 1 := Scalar.cmpi .sgt c8_i32_203 c0_i32_206
  let v415 : BitVec 32 := Scalar.extui v414
  let c0_i32_207 : BitVec 32 := 0#32
  let v416 : BitVec 1 := Scalar.cmpi .slt c8_i32_203 c0_i32_207
  let v417 : BitVec 32 := Scalar.extui v416
  let v418 : BitVec 32 := Scalar.subi v415 v417
  let v419 : BitVec 1 := Scalar.cmpi .ne v413 v418
  let v420 : BitVec 32 := Scalar.remsi v212 c8_i32_203
  let c0_i32_208 : BitVec 32 := 0#32
  let v421 : BitVec 1 := Scalar.cmpi .ne v420 c0_i32_208
  let v422 : BitVec 1 := Scalar.andi v419 v421
  let v408 : BitVec 32 := Scalar.divsi v212 c8_i32_203
  let c1_i32_209 : BitVec 32 := 1#32
  let v423 : BitVec 32 := Scalar.subi v408 c1_i32_209
  let v424 : BitVec 32 := Scalar.select v422 v423 v408
  let c8_i32_214 : BitVec 32 := 8#32
  let v432 : BitVec 32 := Scalar.muli v424 c8_i32_214
  let v433 : BitVec 32 := Scalar.subi v212 v432
  let c1_i32_215 : BitVec 32 := 1#32
  let v435 : BitVec 32 := Scalar.divsi v433 c1_i32_215
  let v436 : BitVec 32 := Scalar.muli v435 c1_i32_215
  let v437 : BitVec 32 := Scalar.addi v432 v436
  let v434 : BitVec 32 := Scalar.addi v432 v433
  let c1_i32_217 : BitVec 32 := 1#32
  ⟨v437, v434, c1_i32_217⟩
def k0_off37 (i : grid0.Coords) (k0_t22 : Fin (k0_t22_loop i).trips) : Fin 3 → Nat :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_204 : BitVec 32 := 0#32
  let v409 : BitVec 1 := Scalar.cmpi .sgt v212 c0_i32_204
  let v410 : BitVec 32 := Scalar.extui v409
  let c0_i32_205 : BitVec 32 := 0#32
  let v411 : BitVec 1 := Scalar.cmpi .slt v212 c0_i32_205
  let v412 : BitVec 32 := Scalar.extui v411
  let v413 : BitVec 32 := Scalar.subi v410 v412
  let c8_i32_203 : BitVec 32 := 8#32
  let c0_i32_206 : BitVec 32 := 0#32
  let v414 : BitVec 1 := Scalar.cmpi .sgt c8_i32_203 c0_i32_206
  let v415 : BitVec 32 := Scalar.extui v414
  let c0_i32_207 : BitVec 32 := 0#32
  let v416 : BitVec 1 := Scalar.cmpi .slt c8_i32_203 c0_i32_207
  let v417 : BitVec 32 := Scalar.extui v416
  let v418 : BitVec 32 := Scalar.subi v415 v417
  let v419 : BitVec 1 := Scalar.cmpi .ne v413 v418
  let v420 : BitVec 32 := Scalar.remsi v212 c8_i32_203
  let c0_i32_208 : BitVec 32 := 0#32
  let v421 : BitVec 1 := Scalar.cmpi .ne v420 c0_i32_208
  let v422 : BitVec 1 := Scalar.andi v419 v421
  let v408 : BitVec 32 := Scalar.divsi v212 c8_i32_203
  let c1_i32_209 : BitVec 32 := 1#32
  let v423 : BitVec 32 := Scalar.subi v408 c1_i32_209
  let v424 : BitVec 32 := Scalar.select v422 v423 v408
  let c8_i32_214 : BitVec 32 := 8#32
  let v432 : BitVec 32 := Scalar.muli v424 c8_i32_214
  let v433 : BitVec 32 := Scalar.subi v212 v432
  let c1_i32_215 : BitVec 32 := 1#32
  let v435 : BitVec 32 := Scalar.divsi v433 c1_i32_215
  let v436 : BitVec 32 := Scalar.muli v435 c1_i32_215
  let v437 : BitVec 32 := Scalar.addi v432 v436
  let c1_i32_217 : BitVec 32 := 1#32
  let arg18 : BitVec 32 := Scf.iv v437 c1_i32_217 k0_t22
  let v440 : Index := Scalar.indexCast arg18
  let c0_218 : Index := 0#32
  let c0_219 : Index := 0#32
  ![v440.toNat, 0, 0]
def k0_off38 (i : grid0.Coords) (k0_t18 : Fin k0_t18_loop.trips) (k0_t22 : Fin (k0_t22_loop i).trips) : Fin 3 → Nat :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_204 : BitVec 32 := 0#32
  let v409 : BitVec 1 := Scalar.cmpi .sgt v212 c0_i32_204
  let v410 : BitVec 32 := Scalar.extui v409
  let c0_i32_205 : BitVec 32 := 0#32
  let v411 : BitVec 1 := Scalar.cmpi .slt v212 c0_i32_205
  let v412 : BitVec 32 := Scalar.extui v411
  let v413 : BitVec 32 := Scalar.subi v410 v412
  let c8_i32_203 : BitVec 32 := 8#32
  let c0_i32_206 : BitVec 32 := 0#32
  let v414 : BitVec 1 := Scalar.cmpi .sgt c8_i32_203 c0_i32_206
  let v415 : BitVec 32 := Scalar.extui v414
  let c0_i32_207 : BitVec 32 := 0#32
  let v416 : BitVec 1 := Scalar.cmpi .slt c8_i32_203 c0_i32_207
  let v417 : BitVec 32 := Scalar.extui v416
  let v418 : BitVec 32 := Scalar.subi v415 v417
  let v419 : BitVec 1 := Scalar.cmpi .ne v413 v418
  let v420 : BitVec 32 := Scalar.remsi v212 c8_i32_203
  let c0_i32_208 : BitVec 32 := 0#32
  let v421 : BitVec 1 := Scalar.cmpi .ne v420 c0_i32_208
  let v422 : BitVec 1 := Scalar.andi v419 v421
  let v408 : BitVec 32 := Scalar.divsi v212 c8_i32_203
  let c1_i32_209 : BitVec 32 := 1#32
  let v423 : BitVec 32 := Scalar.subi v408 c1_i32_209
  let v424 : BitVec 32 := Scalar.select v422 v423 v408
  let c8_i32_214 : BitVec 32 := 8#32
  let v432 : BitVec 32 := Scalar.muli v424 c8_i32_214
  let v433 : BitVec 32 := Scalar.subi v212 v432
  let c1_i32_215 : BitVec 32 := 1#32
  let v435 : BitVec 32 := Scalar.divsi v433 c1_i32_215
  let v436 : BitVec 32 := Scalar.muli v435 c1_i32_215
  let v437 : BitVec 32 := Scalar.addi v432 v436
  let c1_i32_217 : BitVec 32 := 1#32
  let arg18 : BitVec 32 := Scf.iv v437 c1_i32_217 k0_t22
  let c32_i32_220 : BitVec 32 := 32#32
  let v443 : BitVec 32 := Scalar.muli arg18 c32_i32_220
  let c0_i32_135 : BitVec 32 := 0#32
  let c1_i32_136 : BitVec 32 := 1#32
  let arg16 : BitVec 32 := Scf.iv c0_i32_135 c1_i32_136 k0_t18
  let v444 : BitVec 32 := Scalar.addi v443 arg16
  let v445 : Index := Scalar.indexCast v444
  let c0_221 : Index := 0#32
  let c0_222 : Index := 0#32
  ![v445.toNat, 0, 0]
def k0_off39 (i : grid0.Coords) (k0_t18 : Fin k0_t18_loop.trips) (k0_t22 : Fin (k0_t22_loop i).trips) : Fin 3 → Nat :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_204 : BitVec 32 := 0#32
  let v409 : BitVec 1 := Scalar.cmpi .sgt v212 c0_i32_204
  let v410 : BitVec 32 := Scalar.extui v409
  let c0_i32_205 : BitVec 32 := 0#32
  let v411 : BitVec 1 := Scalar.cmpi .slt v212 c0_i32_205
  let v412 : BitVec 32 := Scalar.extui v411
  let v413 : BitVec 32 := Scalar.subi v410 v412
  let c8_i32_203 : BitVec 32 := 8#32
  let c0_i32_206 : BitVec 32 := 0#32
  let v414 : BitVec 1 := Scalar.cmpi .sgt c8_i32_203 c0_i32_206
  let v415 : BitVec 32 := Scalar.extui v414
  let c0_i32_207 : BitVec 32 := 0#32
  let v416 : BitVec 1 := Scalar.cmpi .slt c8_i32_203 c0_i32_207
  let v417 : BitVec 32 := Scalar.extui v416
  let v418 : BitVec 32 := Scalar.subi v415 v417
  let v419 : BitVec 1 := Scalar.cmpi .ne v413 v418
  let v420 : BitVec 32 := Scalar.remsi v212 c8_i32_203
  let c0_i32_208 : BitVec 32 := 0#32
  let v421 : BitVec 1 := Scalar.cmpi .ne v420 c0_i32_208
  let v422 : BitVec 1 := Scalar.andi v419 v421
  let v408 : BitVec 32 := Scalar.divsi v212 c8_i32_203
  let c1_i32_209 : BitVec 32 := 1#32
  let v423 : BitVec 32 := Scalar.subi v408 c1_i32_209
  let v424 : BitVec 32 := Scalar.select v422 v423 v408
  let c8_i32_214 : BitVec 32 := 8#32
  let v432 : BitVec 32 := Scalar.muli v424 c8_i32_214
  let v433 : BitVec 32 := Scalar.subi v212 v432
  let c1_i32_215 : BitVec 32 := 1#32
  let v435 : BitVec 32 := Scalar.divsi v433 c1_i32_215
  let v436 : BitVec 32 := Scalar.muli v435 c1_i32_215
  let v437 : BitVec 32 := Scalar.addi v432 v436
  let c1_i32_217 : BitVec 32 := 1#32
  let arg18 : BitVec 32 := Scf.iv v437 c1_i32_217 k0_t22
  let c32_i32_231 : BitVec 32 := 32#32
  let v468 : BitVec 32 := Scalar.muli arg18 c32_i32_231
  let c0_i32_135 : BitVec 32 := 0#32
  let c1_i32_136 : BitVec 32 := 1#32
  let arg16 : BitVec 32 := Scf.iv c0_i32_135 c1_i32_136 k0_t18
  let c1_i32_202 : BitVec 32 := 1#32
  let v406 : BitVec 32 := Scalar.addi arg16 c1_i32_202
  let c31_i32 : BitVec 32 := 31#32
  let v407 : BitVec 32 := Scalar.minsi v406 c31_i32
  let v469 : BitVec 32 := Scalar.addi v468 v407
  let v470 : Index := Scalar.indexCast v469
  let c0_232 : Index := 0#32
  let c0_233 : Index := 0#32
  ![v470.toNat, 0, 0]
@[reducible] def k0_t23_loop (i : grid0.Coords) : Scf.Loop 32 :=
  let c0_i32_145 : BitVec 32 := 0#32
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_139 : BitVec 32 := 0#32
  let v287 : BitVec 1 := Scalar.cmpi .sgt v212 c0_i32_139
  let v288 : BitVec 32 := Scalar.extui v287
  let c0_i32_140 : BitVec 32 := 0#32
  let v289 : BitVec 1 := Scalar.cmpi .slt v212 c0_i32_140
  let v290 : BitVec 32 := Scalar.extui v289
  let v291 : BitVec 32 := Scalar.subi v288 v290
  let c8_i32_138 : BitVec 32 := 8#32
  let c0_i32_141 : BitVec 32 := 0#32
  let v292 : BitVec 1 := Scalar.cmpi .sgt c8_i32_138 c0_i32_141
  let v293 : BitVec 32 := Scalar.extui v292
  let c0_i32_142 : BitVec 32 := 0#32
  let v294 : BitVec 1 := Scalar.cmpi .slt c8_i32_138 c0_i32_142
  let v295 : BitVec 32 := Scalar.extui v294
  let v296 : BitVec 32 := Scalar.subi v293 v295
  let v297 : BitVec 1 := Scalar.cmpi .ne v291 v296
  let v298 : BitVec 32 := Scalar.remsi v212 c8_i32_138
  let c0_i32_143 : BitVec 32 := 0#32
  let v299 : BitVec 1 := Scalar.cmpi .ne v298 c0_i32_143
  let v300 : BitVec 1 := Scalar.andi v297 v299
  let v286 : BitVec 32 := Scalar.divsi v212 c8_i32_138
  let c1_i32_144 : BitVec 32 := 1#32
  let v301 : BitVec 32 := Scalar.subi v286 c1_i32_144
  let v302 : BitVec 32 := Scalar.select v300 v301 v286
  let v303 : BitVec 32 := Scalar.subi v302 c0_i32_145
  let c1_i32_146 : BitVec 32 := 1#32
  let v305 : BitVec 32 := Scalar.divsi v303 c1_i32_146
  let v306 : BitVec 32 := Scalar.muli v305 c1_i32_146
  let v307 : BitVec 32 := Scalar.addi c0_i32_145 v306
  let c1_i32_147 : BitVec 32 := 1#32
  ⟨c0_i32_145, v307, c1_i32_147⟩
def k0_off40 (i : grid0.Coords) (k0_t23 : Fin (k0_t23_loop i).trips) (c0_i32_199 : BitVec 32) : Fin 3 → Nat :=
  let c0_i32_145 : BitVec 32 := 0#32
  let c1_i32_147 : BitVec 32 := 1#32
  let arg16 : BitVec 32 := Scf.iv c0_i32_145 c1_i32_147 k0_t23
  let c8_i32_198 : BitVec 32 := 8#32
  let v397 : BitVec 32 := Scalar.muli arg16 c8_i32_198
  let v398 : BitVec 32 := Scalar.addi v397 c0_i32_199
  let v399 : Index := Scalar.indexCast v398
  let c0_200 : Index := 0#32
  let c0_201 : Index := 0#32
  ![v399.toNat, 0, 0]
@[reducible] def k0_t24_loop (i : grid0.Coords) : Scf.Loop 32 :=
  let c0_i32_145 : BitVec 32 := 0#32
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_139 : BitVec 32 := 0#32
  let v287 : BitVec 1 := Scalar.cmpi .sgt v212 c0_i32_139
  let v288 : BitVec 32 := Scalar.extui v287
  let c0_i32_140 : BitVec 32 := 0#32
  let v289 : BitVec 1 := Scalar.cmpi .slt v212 c0_i32_140
  let v290 : BitVec 32 := Scalar.extui v289
  let v291 : BitVec 32 := Scalar.subi v288 v290
  let c8_i32_138 : BitVec 32 := 8#32
  let c0_i32_141 : BitVec 32 := 0#32
  let v292 : BitVec 1 := Scalar.cmpi .sgt c8_i32_138 c0_i32_141
  let v293 : BitVec 32 := Scalar.extui v292
  let c0_i32_142 : BitVec 32 := 0#32
  let v294 : BitVec 1 := Scalar.cmpi .slt c8_i32_138 c0_i32_142
  let v295 : BitVec 32 := Scalar.extui v294
  let v296 : BitVec 32 := Scalar.subi v293 v295
  let v297 : BitVec 1 := Scalar.cmpi .ne v291 v296
  let v298 : BitVec 32 := Scalar.remsi v212 c8_i32_138
  let c0_i32_143 : BitVec 32 := 0#32
  let v299 : BitVec 1 := Scalar.cmpi .ne v298 c0_i32_143
  let v300 : BitVec 1 := Scalar.andi v297 v299
  let v286 : BitVec 32 := Scalar.divsi v212 c8_i32_138
  let c1_i32_144 : BitVec 32 := 1#32
  let v301 : BitVec 32 := Scalar.subi v286 c1_i32_144
  let v302 : BitVec 32 := Scalar.select v300 v301 v286
  let v303 : BitVec 32 := Scalar.subi v302 c0_i32_145
  let c1_i32_146 : BitVec 32 := 1#32
  let v305 : BitVec 32 := Scalar.divsi v303 c1_i32_146
  let v306 : BitVec 32 := Scalar.muli v305 c1_i32_146
  let v307 : BitVec 32 := Scalar.addi c0_i32_145 v306
  let v304 : BitVec 32 := Scalar.addi c0_i32_145 v303
  let c1_i32_148 : BitVec 32 := 1#32
  ⟨v307, v304, c1_i32_148⟩
def k0_off41 (i : grid0.Coords) (k0_t24 : Fin (k0_t24_loop i).trips) (c0_i32_199 : BitVec 32) : Fin 3 → Nat :=
  let c0_i32_145 : BitVec 32 := 0#32
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_139 : BitVec 32 := 0#32
  let v287 : BitVec 1 := Scalar.cmpi .sgt v212 c0_i32_139
  let v288 : BitVec 32 := Scalar.extui v287
  let c0_i32_140 : BitVec 32 := 0#32
  let v289 : BitVec 1 := Scalar.cmpi .slt v212 c0_i32_140
  let v290 : BitVec 32 := Scalar.extui v289
  let v291 : BitVec 32 := Scalar.subi v288 v290
  let c8_i32_138 : BitVec 32 := 8#32
  let c0_i32_141 : BitVec 32 := 0#32
  let v292 : BitVec 1 := Scalar.cmpi .sgt c8_i32_138 c0_i32_141
  let v293 : BitVec 32 := Scalar.extui v292
  let c0_i32_142 : BitVec 32 := 0#32
  let v294 : BitVec 1 := Scalar.cmpi .slt c8_i32_138 c0_i32_142
  let v295 : BitVec 32 := Scalar.extui v294
  let v296 : BitVec 32 := Scalar.subi v293 v295
  let v297 : BitVec 1 := Scalar.cmpi .ne v291 v296
  let v298 : BitVec 32 := Scalar.remsi v212 c8_i32_138
  let c0_i32_143 : BitVec 32 := 0#32
  let v299 : BitVec 1 := Scalar.cmpi .ne v298 c0_i32_143
  let v300 : BitVec 1 := Scalar.andi v297 v299
  let v286 : BitVec 32 := Scalar.divsi v212 c8_i32_138
  let c1_i32_144 : BitVec 32 := 1#32
  let v301 : BitVec 32 := Scalar.subi v286 c1_i32_144
  let v302 : BitVec 32 := Scalar.select v300 v301 v286
  let v303 : BitVec 32 := Scalar.subi v302 c0_i32_145
  let c1_i32_146 : BitVec 32 := 1#32
  let v305 : BitVec 32 := Scalar.divsi v303 c1_i32_146
  let v306 : BitVec 32 := Scalar.muli v305 c1_i32_146
  let v307 : BitVec 32 := Scalar.addi c0_i32_145 v306
  let c1_i32_148 : BitVec 32 := 1#32
  let arg16 : BitVec 32 := Scf.iv v307 c1_i32_148 k0_t24
  let c8_i32_198 : BitVec 32 := 8#32
  let v397 : BitVec 32 := Scalar.muli arg16 c8_i32_198
  let v398 : BitVec 32 := Scalar.addi v397 c0_i32_199
  let v399 : Index := Scalar.indexCast v398
  let c0_200 : Index := 0#32
  let c0_201 : Index := 0#32
  ![v399.toNat, 0, 0]
@[reducible] def k0_t25_loop (i : grid0.Coords) : Scf.Loop 32 :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_139 : BitVec 32 := 0#32
  let v287 : BitVec 1 := Scalar.cmpi .sgt v212 c0_i32_139
  let v288 : BitVec 32 := Scalar.extui v287
  let c0_i32_140 : BitVec 32 := 0#32
  let v289 : BitVec 1 := Scalar.cmpi .slt v212 c0_i32_140
  let v290 : BitVec 32 := Scalar.extui v289
  let v291 : BitVec 32 := Scalar.subi v288 v290
  let c8_i32_138 : BitVec 32 := 8#32
  let c0_i32_141 : BitVec 32 := 0#32
  let v292 : BitVec 1 := Scalar.cmpi .sgt c8_i32_138 c0_i32_141
  let v293 : BitVec 32 := Scalar.extui v292
  let c0_i32_142 : BitVec 32 := 0#32
  let v294 : BitVec 1 := Scalar.cmpi .slt c8_i32_138 c0_i32_142
  let v295 : BitVec 32 := Scalar.extui v294
  let v296 : BitVec 32 := Scalar.subi v293 v295
  let v297 : BitVec 1 := Scalar.cmpi .ne v291 v296
  let v298 : BitVec 32 := Scalar.remsi v212 c8_i32_138
  let c0_i32_143 : BitVec 32 := 0#32
  let v299 : BitVec 1 := Scalar.cmpi .ne v298 c0_i32_143
  let v300 : BitVec 1 := Scalar.andi v297 v299
  let v286 : BitVec 32 := Scalar.divsi v212 c8_i32_138
  let c1_i32_144 : BitVec 32 := 1#32
  let v301 : BitVec 32 := Scalar.subi v286 c1_i32_144
  let v302 : BitVec 32 := Scalar.select v300 v301 v286
  let c8_i32_149 : BitVec 32 := 8#32
  let v310 : BitVec 32 := Scalar.muli v302 c8_i32_149
  let v311 : BitVec 32 := Scalar.subi v212 v310
  let c1_i32_150 : BitVec 32 := 1#32
  let v313 : BitVec 32 := Scalar.divsi v311 c1_i32_150
  let v314 : BitVec 32 := Scalar.muli v313 c1_i32_150
  let v315 : BitVec 32 := Scalar.addi v310 v314
  let c1_i32_151 : BitVec 32 := 1#32
  ⟨v310, v315, c1_i32_151⟩
def k0_off42 (i : grid0.Coords) (k0_t25 : Fin (k0_t25_loop i).trips) : Fin 3 → Nat :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_139 : BitVec 32 := 0#32
  let v287 : BitVec 1 := Scalar.cmpi .sgt v212 c0_i32_139
  let v288 : BitVec 32 := Scalar.extui v287
  let c0_i32_140 : BitVec 32 := 0#32
  let v289 : BitVec 1 := Scalar.cmpi .slt v212 c0_i32_140
  let v290 : BitVec 32 := Scalar.extui v289
  let v291 : BitVec 32 := Scalar.subi v288 v290
  let c8_i32_138 : BitVec 32 := 8#32
  let c0_i32_141 : BitVec 32 := 0#32
  let v292 : BitVec 1 := Scalar.cmpi .sgt c8_i32_138 c0_i32_141
  let v293 : BitVec 32 := Scalar.extui v292
  let c0_i32_142 : BitVec 32 := 0#32
  let v294 : BitVec 1 := Scalar.cmpi .slt c8_i32_138 c0_i32_142
  let v295 : BitVec 32 := Scalar.extui v294
  let v296 : BitVec 32 := Scalar.subi v293 v295
  let v297 : BitVec 1 := Scalar.cmpi .ne v291 v296
  let v298 : BitVec 32 := Scalar.remsi v212 c8_i32_138
  let c0_i32_143 : BitVec 32 := 0#32
  let v299 : BitVec 1 := Scalar.cmpi .ne v298 c0_i32_143
  let v300 : BitVec 1 := Scalar.andi v297 v299
  let v286 : BitVec 32 := Scalar.divsi v212 c8_i32_138
  let c1_i32_144 : BitVec 32 := 1#32
  let v301 : BitVec 32 := Scalar.subi v286 c1_i32_144
  let v302 : BitVec 32 := Scalar.select v300 v301 v286
  let c8_i32_149 : BitVec 32 := 8#32
  let v310 : BitVec 32 := Scalar.muli v302 c8_i32_149
  let c1_i32_151 : BitVec 32 := 1#32
  let arg16 : BitVec 32 := Scf.iv v310 c1_i32_151 k0_t25
  let v397 : Index := Scalar.indexCast arg16
  let c0_198 : Index := 0#32
  let c0_199 : Index := 0#32
  ![v397.toNat, 0, 0]
@[reducible] def k0_t26_loop (i : grid0.Coords) : Scf.Loop 32 :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_139 : BitVec 32 := 0#32
  let v287 : BitVec 1 := Scalar.cmpi .sgt v212 c0_i32_139
  let v288 : BitVec 32 := Scalar.extui v287
  let c0_i32_140 : BitVec 32 := 0#32
  let v289 : BitVec 1 := Scalar.cmpi .slt v212 c0_i32_140
  let v290 : BitVec 32 := Scalar.extui v289
  let v291 : BitVec 32 := Scalar.subi v288 v290
  let c8_i32_138 : BitVec 32 := 8#32
  let c0_i32_141 : BitVec 32 := 0#32
  let v292 : BitVec 1 := Scalar.cmpi .sgt c8_i32_138 c0_i32_141
  let v293 : BitVec 32 := Scalar.extui v292
  let c0_i32_142 : BitVec 32 := 0#32
  let v294 : BitVec 1 := Scalar.cmpi .slt c8_i32_138 c0_i32_142
  let v295 : BitVec 32 := Scalar.extui v294
  let v296 : BitVec 32 := Scalar.subi v293 v295
  let v297 : BitVec 1 := Scalar.cmpi .ne v291 v296
  let v298 : BitVec 32 := Scalar.remsi v212 c8_i32_138
  let c0_i32_143 : BitVec 32 := 0#32
  let v299 : BitVec 1 := Scalar.cmpi .ne v298 c0_i32_143
  let v300 : BitVec 1 := Scalar.andi v297 v299
  let v286 : BitVec 32 := Scalar.divsi v212 c8_i32_138
  let c1_i32_144 : BitVec 32 := 1#32
  let v301 : BitVec 32 := Scalar.subi v286 c1_i32_144
  let v302 : BitVec 32 := Scalar.select v300 v301 v286
  let c8_i32_149 : BitVec 32 := 8#32
  let v310 : BitVec 32 := Scalar.muli v302 c8_i32_149
  let v311 : BitVec 32 := Scalar.subi v212 v310
  let c1_i32_150 : BitVec 32 := 1#32
  let v313 : BitVec 32 := Scalar.divsi v311 c1_i32_150
  let v314 : BitVec 32 := Scalar.muli v313 c1_i32_150
  let v315 : BitVec 32 := Scalar.addi v310 v314
  let v312 : BitVec 32 := Scalar.addi v310 v311
  let c1_i32_152 : BitVec 32 := 1#32
  ⟨v315, v312, c1_i32_152⟩
def k0_off43 (i : grid0.Coords) (k0_t26 : Fin (k0_t26_loop i).trips) : Fin 3 → Nat :=
  let arg0 : BitVec 32 := BitVec.ofNat 32 (i 0).val
  let c1_i32_88 : BitVec 32 := 1#32
  let v194 : BitVec 32 := Scalar.addi arg0 c1_i32_88
  let c256_i32_89 : BitVec 32 := 256#32
  let v195 : BitVec 32 := Scalar.muli v194 c256_i32_89
  let c0_i32_91 : BitVec 32 := 0#32
  let v197 : BitVec 1 := Scalar.cmpi .sgt v195 c0_i32_91
  let v198 : BitVec 32 := Scalar.extui v197
  let c0_i32_92 : BitVec 32 := 0#32
  let v199 : BitVec 1 := Scalar.cmpi .slt v195 c0_i32_92
  let v200 : BitVec 32 := Scalar.extui v199
  let v201 : BitVec 32 := Scalar.subi v198 v200
  let c256_i32_90 : BitVec 32 := 256#32
  let c0_i32_93 : BitVec 32 := 0#32
  let v202 : BitVec 1 := Scalar.cmpi .sgt c256_i32_90 c0_i32_93
  let v203 : BitVec 32 := Scalar.extui v202
  let c0_i32_94 : BitVec 32 := 0#32
  let v204 : BitVec 1 := Scalar.cmpi .slt c256_i32_90 c0_i32_94
  let v205 : BitVec 32 := Scalar.extui v204
  let v206 : BitVec 32 := Scalar.subi v203 v205
  let v207 : BitVec 1 := Scalar.cmpi .ne v201 v206
  let v208 : BitVec 32 := Scalar.remsi v195 c256_i32_90
  let c0_i32_95 : BitVec 32 := 0#32
  let v209 : BitVec 1 := Scalar.cmpi .ne v208 c0_i32_95
  let v210 : BitVec 1 := Scalar.andi v207 v209
  let v196 : BitVec 32 := Scalar.divsi v195 c256_i32_90
  let c1_i32_96 : BitVec 32 := 1#32
  let v211 : BitVec 32 := Scalar.subi v196 c1_i32_96
  let v212 : BitVec 32 := Scalar.select v210 v211 v196
  let c0_i32_139 : BitVec 32 := 0#32
  let v287 : BitVec 1 := Scalar.cmpi .sgt v212 c0_i32_139
  let v288 : BitVec 32 := Scalar.extui v287
  let c0_i32_140 : BitVec 32 := 0#32
  let v289 : BitVec 1 := Scalar.cmpi .slt v212 c0_i32_140
  let v290 : BitVec 32 := Scalar.extui v289
  let v291 : BitVec 32 := Scalar.subi v288 v290
  let c8_i32_138 : BitVec 32 := 8#32
  let c0_i32_141 : BitVec 32 := 0#32
  let v292 : BitVec 1 := Scalar.cmpi .sgt c8_i32_138 c0_i32_141
  let v293 : BitVec 32 := Scalar.extui v292
  let c0_i32_142 : BitVec 32 := 0#32
  let v294 : BitVec 1 := Scalar.cmpi .slt c8_i32_138 c0_i32_142
  let v295 : BitVec 32 := Scalar.extui v294
  let v296 : BitVec 32 := Scalar.subi v293 v295
  let v297 : BitVec 1 := Scalar.cmpi .ne v291 v296
  let v298 : BitVec 32 := Scalar.remsi v212 c8_i32_138
  let c0_i32_143 : BitVec 32 := 0#32
  let v299 : BitVec 1 := Scalar.cmpi .ne v298 c0_i32_143
  let v300 : BitVec 1 := Scalar.andi v297 v299
  let v286 : BitVec 32 := Scalar.divsi v212 c8_i32_138
  let c1_i32_144 : BitVec 32 := 1#32
  let v301 : BitVec 32 := Scalar.subi v286 c1_i32_144
  let v302 : BitVec 32 := Scalar.select v300 v301 v286
  let c8_i32_149 : BitVec 32 := 8#32
  let v310 : BitVec 32 := Scalar.muli v302 c8_i32_149
  let v311 : BitVec 32 := Scalar.subi v212 v310
  let c1_i32_150 : BitVec 32 := 1#32
  let v313 : BitVec 32 := Scalar.divsi v311 c1_i32_150
  let v314 : BitVec 32 := Scalar.muli v313 c1_i32_150
  let v315 : BitVec 32 := Scalar.addi v310 v314
  let c1_i32_152 : BitVec 32 := 1#32
  let arg16 : BitVec 32 := Scf.iv v315 c1_i32_152 k0_t26
  let v397 : Index := Scalar.indexCast arg16
  let c0_198 : Index := 0#32
  let c0_199 : Index := 0#32
  ![v397.toNat, 0, 0]
@[reducible] def k0_t27_loop (i : grid0.Coords) : Scf.Loop 32 :=
  let c0_i32_162 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v341 : BitVec 32 := Scalar.subi v21 c0_i32_162
  let c1_i32_163 : BitVec 32 := 1#32
  let v343 : BitVec 32 := Scalar.divsi v341 c1_i32_163
  let v344 : BitVec 32 := Scalar.muli v343 c1_i32_163
  let v345 : BitVec 32 := Scalar.addi c0_i32_162 v344
  let c1_i32_164 : BitVec 32 := 1#32
  ⟨c0_i32_162, v345, c1_i32_164⟩
def k0_mult7 (i : grid0.Coords) (k0_t27 : Fin (k0_t27_loop i).trips) : BitVec 32 :=
  let c0_i32_162 : BitVec 32 := 0#32
  let c1_i32_164 : BitVec 32 := 1#32
  let arg16 : BitVec 32 := Scf.iv c0_i32_162 c1_i32_164 k0_t27
  let c2048_i32_198 : BitVec 32 := 2048#32
  let v397 : BitVec 32 := Scalar.muli arg16 c2048_i32_198
  v397
def k0_off44 (i : grid0.Coords) (k0_t27 : Fin (k0_t27_loop i).trips) (c0_i32_206 : BitVec 32) : Fin 3 → Nat :=
  let c0_i32_162 : BitVec 32 := 0#32
  let c1_i32_164 : BitVec 32 := 1#32
  let arg16 : BitVec 32 := Scf.iv c0_i32_162 c1_i32_164 k0_t27
  let c2048_i32_198 : BitVec 32 := 2048#32
  let v397 : BitVec 32 := Scalar.muli arg16 c2048_i32_198
  let v398 : BitVec 32 := v397
  let c0_i32_200 : BitVec 32 := 0#32
  let v400 : BitVec 1 := Scalar.cmpi .sgt v398 c0_i32_200
  let v401 : BitVec 32 := Scalar.extui v400
  let c0_i32_201 : BitVec 32 := 0#32
  let v402 : BitVec 1 := Scalar.cmpi .slt v398 c0_i32_201
  let v403 : BitVec 32 := Scalar.extui v402
  let v404 : BitVec 32 := Scalar.subi v401 v403
  let c256_i32_199 : BitVec 32 := 256#32
  let c0_i32_202 : BitVec 32 := 0#32
  let v405 : BitVec 1 := Scalar.cmpi .sgt c256_i32_199 c0_i32_202
  let v406 : BitVec 32 := Scalar.extui v405
  let c0_i32_203 : BitVec 32 := 0#32
  let v407 : BitVec 1 := Scalar.cmpi .slt c256_i32_199 c0_i32_203
  let v408 : BitVec 32 := Scalar.extui v407
  let v409 : BitVec 32 := Scalar.subi v406 v408
  let v410 : BitVec 1 := Scalar.cmpi .ne v404 v409
  let v411 : BitVec 32 := Scalar.remsi v398 c256_i32_199
  let c0_i32_204 : BitVec 32 := 0#32
  let v412 : BitVec 1 := Scalar.cmpi .ne v411 c0_i32_204
  let v413 : BitVec 1 := Scalar.andi v410 v412
  let v399 : BitVec 32 := Scalar.divsi v398 c256_i32_199
  let c1_i32_205 : BitVec 32 := 1#32
  let v414 : BitVec 32 := Scalar.subi v399 c1_i32_205
  let v415 : BitVec 32 := Scalar.select v413 v414 v399
  let v416 : BitVec 32 := Scalar.addi v415 c0_i32_206
  let v417 : Index := Scalar.indexCast v416
  let c0_207 : Index := 0#32
  let c0_208 : Index := 0#32
  ![v417.toNat, 0, 0]
def k0_off45 (i : grid0.Coords) (k0_t27 : Fin (k0_t27_loop i).trips) : Fin 2 → Nat :=
  let c0_i32_162 : BitVec 32 := 0#32
  let c1_i32_164 : BitVec 32 := 1#32
  let arg16 : BitVec 32 := Scf.iv c0_i32_162 c1_i32_164 k0_t27
  let c2048_i32_198 : BitVec 32 := 2048#32
  let v397 : BitVec 32 := Scalar.muli arg16 c2048_i32_198
  let v398 : BitVec 32 := v397
  let v2723 : Index := Scalar.indexCast v398
  let c0_1313 : Index := 0#32
  ![v2723.toNat, 0]
def k0_off46 (i : grid0.Coords) (k0_t27 : Fin (k0_t27_loop i).trips) (c0_i32_1321 : BitVec 32) : Fin 3 → Nat :=
  let c0_i32_162 : BitVec 32 := 0#32
  let c1_i32_164 : BitVec 32 := 1#32
  let arg16 : BitVec 32 := Scf.iv c0_i32_162 c1_i32_164 k0_t27
  let c2048_i32_198 : BitVec 32 := 2048#32
  let v397 : BitVec 32 := Scalar.muli arg16 c2048_i32_198
  let v398 : BitVec 32 := v397
  let c0_i32_1315 : BitVec 32 := 0#32
  let v2726 : BitVec 1 := Scalar.cmpi .sgt v398 c0_i32_1315
  let v2727 : BitVec 32 := Scalar.extui v2726
  let c0_i32_1316 : BitVec 32 := 0#32
  let v2728 : BitVec 1 := Scalar.cmpi .slt v398 c0_i32_1316
  let v2729 : BitVec 32 := Scalar.extui v2728
  let v2730 : BitVec 32 := Scalar.subi v2727 v2729
  let c256_i32_1314 : BitVec 32 := 256#32
  let c0_i32_1317 : BitVec 32 := 0#32
  let v2731 : BitVec 1 := Scalar.cmpi .sgt c256_i32_1314 c0_i32_1317
  let v2732 : BitVec 32 := Scalar.extui v2731
  let c0_i32_1318 : BitVec 32 := 0#32
  let v2733 : BitVec 1 := Scalar.cmpi .slt c256_i32_1314 c0_i32_1318
  let v2734 : BitVec 32 := Scalar.extui v2733
  let v2735 : BitVec 32 := Scalar.subi v2732 v2734
  let v2736 : BitVec 1 := Scalar.cmpi .ne v2730 v2735
  let v2737 : BitVec 32 := Scalar.remsi v398 c256_i32_1314
  let c0_i32_1319 : BitVec 32 := 0#32
  let v2738 : BitVec 1 := Scalar.cmpi .ne v2737 c0_i32_1319
  let v2739 : BitVec 1 := Scalar.andi v2736 v2738
  let v2725 : BitVec 32 := Scalar.divsi v398 c256_i32_1314
  let c1_i32_1320 : BitVec 32 := 1#32
  let v2740 : BitVec 32 := Scalar.subi v2725 c1_i32_1320
  let v2741 : BitVec 32 := Scalar.select v2739 v2740 v2725
  let v2742 : BitVec 32 := Scalar.addi v2741 c0_i32_1321
  let v2743 : Index := Scalar.indexCast v2742
  let c0_1322 : Index := 0#32
  let c0_1323 : Index := 0#32
  ![v2743.toNat, 0, 0]
@[reducible] def k0_t28_loop (i : grid0.Coords) : Scf.Loop 32 :=
  let c0_i32_162 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v341 : BitVec 32 := Scalar.subi v21 c0_i32_162
  let c1_i32_163 : BitVec 32 := 1#32
  let v343 : BitVec 32 := Scalar.divsi v341 c1_i32_163
  let v344 : BitVec 32 := Scalar.muli v343 c1_i32_163
  let v345 : BitVec 32 := Scalar.addi c0_i32_162 v344
  let v342 : BitVec 32 := Scalar.addi c0_i32_162 v341
  let c1_i32_165 : BitVec 32 := 1#32
  ⟨v345, v342, c1_i32_165⟩
def k0_mult8 (i : grid0.Coords) (k0_t28 : Fin (k0_t28_loop i).trips) : BitVec 32 :=
  let c0_i32_162 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v341 : BitVec 32 := Scalar.subi v21 c0_i32_162
  let c1_i32_163 : BitVec 32 := 1#32
  let v343 : BitVec 32 := Scalar.divsi v341 c1_i32_163
  let v344 : BitVec 32 := Scalar.muli v343 c1_i32_163
  let v345 : BitVec 32 := Scalar.addi c0_i32_162 v344
  let c1_i32_165 : BitVec 32 := 1#32
  let arg16 : BitVec 32 := Scf.iv v345 c1_i32_165 k0_t28
  let c2048_i32_198 : BitVec 32 := 2048#32
  let v397 : BitVec 32 := Scalar.muli arg16 c2048_i32_198
  v397
def k0_off47 (i : grid0.Coords) (k0_t28 : Fin (k0_t28_loop i).trips) (c0_i32_206 : BitVec 32) : Fin 3 → Nat :=
  let c0_i32_162 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v341 : BitVec 32 := Scalar.subi v21 c0_i32_162
  let c1_i32_163 : BitVec 32 := 1#32
  let v343 : BitVec 32 := Scalar.divsi v341 c1_i32_163
  let v344 : BitVec 32 := Scalar.muli v343 c1_i32_163
  let v345 : BitVec 32 := Scalar.addi c0_i32_162 v344
  let c1_i32_165 : BitVec 32 := 1#32
  let arg16 : BitVec 32 := Scf.iv v345 c1_i32_165 k0_t28
  let c2048_i32_198 : BitVec 32 := 2048#32
  let v397 : BitVec 32 := Scalar.muli arg16 c2048_i32_198
  let v398 : BitVec 32 := v397
  let c0_i32_200 : BitVec 32 := 0#32
  let v400 : BitVec 1 := Scalar.cmpi .sgt v398 c0_i32_200
  let v401 : BitVec 32 := Scalar.extui v400
  let c0_i32_201 : BitVec 32 := 0#32
  let v402 : BitVec 1 := Scalar.cmpi .slt v398 c0_i32_201
  let v403 : BitVec 32 := Scalar.extui v402
  let v404 : BitVec 32 := Scalar.subi v401 v403
  let c256_i32_199 : BitVec 32 := 256#32
  let c0_i32_202 : BitVec 32 := 0#32
  let v405 : BitVec 1 := Scalar.cmpi .sgt c256_i32_199 c0_i32_202
  let v406 : BitVec 32 := Scalar.extui v405
  let c0_i32_203 : BitVec 32 := 0#32
  let v407 : BitVec 1 := Scalar.cmpi .slt c256_i32_199 c0_i32_203
  let v408 : BitVec 32 := Scalar.extui v407
  let v409 : BitVec 32 := Scalar.subi v406 v408
  let v410 : BitVec 1 := Scalar.cmpi .ne v404 v409
  let v411 : BitVec 32 := Scalar.remsi v398 c256_i32_199
  let c0_i32_204 : BitVec 32 := 0#32
  let v412 : BitVec 1 := Scalar.cmpi .ne v411 c0_i32_204
  let v413 : BitVec 1 := Scalar.andi v410 v412
  let v399 : BitVec 32 := Scalar.divsi v398 c256_i32_199
  let c1_i32_205 : BitVec 32 := 1#32
  let v414 : BitVec 32 := Scalar.subi v399 c1_i32_205
  let v415 : BitVec 32 := Scalar.select v413 v414 v399
  let v416 : BitVec 32 := Scalar.addi v415 c0_i32_206
  let v417 : Index := Scalar.indexCast v416
  let c0_207 : Index := 0#32
  let c0_208 : Index := 0#32
  ![v417.toNat, 0, 0]
def k0_off48 (i : grid0.Coords) (k0_t28 : Fin (k0_t28_loop i).trips) : Fin 2 → Nat :=
  let c0_i32_162 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v341 : BitVec 32 := Scalar.subi v21 c0_i32_162
  let c1_i32_163 : BitVec 32 := 1#32
  let v343 : BitVec 32 := Scalar.divsi v341 c1_i32_163
  let v344 : BitVec 32 := Scalar.muli v343 c1_i32_163
  let v345 : BitVec 32 := Scalar.addi c0_i32_162 v344
  let c1_i32_165 : BitVec 32 := 1#32
  let arg16 : BitVec 32 := Scf.iv v345 c1_i32_165 k0_t28
  let c2048_i32_198 : BitVec 32 := 2048#32
  let v397 : BitVec 32 := Scalar.muli arg16 c2048_i32_198
  let v398 : BitVec 32 := v397
  let v2723 : Index := Scalar.indexCast v398
  let c0_1313 : Index := 0#32
  ![v2723.toNat, 0]
def k0_off49 (i : grid0.Coords) (k0_t28 : Fin (k0_t28_loop i).trips) (c0_i32_1321 : BitVec 32) : Fin 3 → Nat :=
  let c0_i32_162 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v341 : BitVec 32 := Scalar.subi v21 c0_i32_162
  let c1_i32_163 : BitVec 32 := 1#32
  let v343 : BitVec 32 := Scalar.divsi v341 c1_i32_163
  let v344 : BitVec 32 := Scalar.muli v343 c1_i32_163
  let v345 : BitVec 32 := Scalar.addi c0_i32_162 v344
  let c1_i32_165 : BitVec 32 := 1#32
  let arg16 : BitVec 32 := Scf.iv v345 c1_i32_165 k0_t28
  let c2048_i32_198 : BitVec 32 := 2048#32
  let v397 : BitVec 32 := Scalar.muli arg16 c2048_i32_198
  let v398 : BitVec 32 := v397
  let c0_i32_1315 : BitVec 32 := 0#32
  let v2726 : BitVec 1 := Scalar.cmpi .sgt v398 c0_i32_1315
  let v2727 : BitVec 32 := Scalar.extui v2726
  let c0_i32_1316 : BitVec 32 := 0#32
  let v2728 : BitVec 1 := Scalar.cmpi .slt v398 c0_i32_1316
  let v2729 : BitVec 32 := Scalar.extui v2728
  let v2730 : BitVec 32 := Scalar.subi v2727 v2729
  let c256_i32_1314 : BitVec 32 := 256#32
  let c0_i32_1317 : BitVec 32 := 0#32
  let v2731 : BitVec 1 := Scalar.cmpi .sgt c256_i32_1314 c0_i32_1317
  let v2732 : BitVec 32 := Scalar.extui v2731
  let c0_i32_1318 : BitVec 32 := 0#32
  let v2733 : BitVec 1 := Scalar.cmpi .slt c256_i32_1314 c0_i32_1318
  let v2734 : BitVec 32 := Scalar.extui v2733
  let v2735 : BitVec 32 := Scalar.subi v2732 v2734
  let v2736 : BitVec 1 := Scalar.cmpi .ne v2730 v2735
  let v2737 : BitVec 32 := Scalar.remsi v398 c256_i32_1314
  let c0_i32_1319 : BitVec 32 := 0#32
  let v2738 : BitVec 1 := Scalar.cmpi .ne v2737 c0_i32_1319
  let v2739 : BitVec 1 := Scalar.andi v2736 v2738
  let v2725 : BitVec 32 := Scalar.divsi v398 c256_i32_1314
  let c1_i32_1320 : BitVec 32 := 1#32
  let v2740 : BitVec 32 := Scalar.subi v2725 c1_i32_1320
  let v2741 : BitVec 32 := Scalar.select v2739 v2740 v2725
  let v2742 : BitVec 32 := Scalar.addi v2741 c0_i32_1321
  let v2743 : Index := Scalar.indexCast v2742
  let c0_1322 : Index := 0#32
  let c0_1323 : Index := 0#32
  ![v2743.toNat, 0, 0]
def k0_mult9 (i : grid0.Coords) : BitVec 32 :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_166 : BitVec 32 := 2048#32
  let v348 : BitVec 32 := Scalar.muli v21 c2048_i32_166
  v348
@[reducible] def k0_t29_loop (i : grid0.Coords) : Scf.Loop 32 :=
  let c0_i32_167 : BitVec 32 := 0#32
  let arg0 : BitVec 32 := BitVec.ofNat 32 (i 0).val
  let c1_i32_5 : BitVec 32 := 1#32
  let v22 : BitVec 32 := Scalar.addi arg0 c1_i32_5
  let c256_i32_6 : BitVec 32 := 256#32
  let v23 : BitVec 32 := Scalar.muli v22 c256_i32_6
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c4_i32 : BitVec 32 := 4#32
  let v43 : BitVec 1 := Scalar.cmpi .sgt v42 c4_i32
  let v44 : BitVec 32 := Scalar.extui v43
  let v350 : BitVec 32 := Scalar.subi v44 c0_i32_167
  let c1_i32_168 : BitVec 32 := 1#32
  let v352 : BitVec 32 := Scalar.divsi v350 c1_i32_168
  let v353 : BitVec 32 := Scalar.muli v352 c1_i32_168
  let v354 : BitVec 32 := Scalar.addi c0_i32_167 v353
  let c1_i32_169 : BitVec 32 := 1#32
  ⟨c0_i32_167, v354, c1_i32_169⟩
def k0_off50 (i : grid0.Coords) (c0_i32_205 : BitVec 32) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_166 : BitVec 32 := 2048#32
  let v348 : BitVec 32 := Scalar.muli v21 c2048_i32_166
  let v349 : BitVec 32 := v348
  let c0_i32_199 : BitVec 32 := 0#32
  let v398 : BitVec 1 := Scalar.cmpi .sgt v349 c0_i32_199
  let v399 : BitVec 32 := Scalar.extui v398
  let c0_i32_200 : BitVec 32 := 0#32
  let v400 : BitVec 1 := Scalar.cmpi .slt v349 c0_i32_200
  let v401 : BitVec 32 := Scalar.extui v400
  let v402 : BitVec 32 := Scalar.subi v399 v401
  let c256_i32_198 : BitVec 32 := 256#32
  let c0_i32_201 : BitVec 32 := 0#32
  let v403 : BitVec 1 := Scalar.cmpi .sgt c256_i32_198 c0_i32_201
  let v404 : BitVec 32 := Scalar.extui v403
  let c0_i32_202 : BitVec 32 := 0#32
  let v405 : BitVec 1 := Scalar.cmpi .slt c256_i32_198 c0_i32_202
  let v406 : BitVec 32 := Scalar.extui v405
  let v407 : BitVec 32 := Scalar.subi v404 v406
  let v408 : BitVec 1 := Scalar.cmpi .ne v402 v407
  let v409 : BitVec 32 := Scalar.remsi v349 c256_i32_198
  let c0_i32_203 : BitVec 32 := 0#32
  let v410 : BitVec 1 := Scalar.cmpi .ne v409 c0_i32_203
  let v411 : BitVec 1 := Scalar.andi v408 v410
  let v397 : BitVec 32 := Scalar.divsi v349 c256_i32_198
  let c1_i32_204 : BitVec 32 := 1#32
  let v412 : BitVec 32 := Scalar.subi v397 c1_i32_204
  let v413 : BitVec 32 := Scalar.select v411 v412 v397
  let v414 : BitVec 32 := Scalar.addi v413 c0_i32_205
  let v415 : Index := Scalar.indexCast v414
  let c0_206 : Index := 0#32
  let c0_207 : Index := 0#32
  ![v415.toNat, 0, 0]
def k0_off51 (i : grid0.Coords) : Fin 2 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_166 : BitVec 32 := 2048#32
  let v348 : BitVec 32 := Scalar.muli v21 c2048_i32_166
  let v349 : BitVec 32 := v348
  let v2732 : Index := Scalar.indexCast v349
  let c0_1314 : Index := 0#32
  ![v2732.toNat, 0]
def k0_off52 (i : grid0.Coords) (c0_i32_1322 : BitVec 32) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_166 : BitVec 32 := 2048#32
  let v348 : BitVec 32 := Scalar.muli v21 c2048_i32_166
  let v349 : BitVec 32 := v348
  let c0_i32_1316 : BitVec 32 := 0#32
  let v2735 : BitVec 1 := Scalar.cmpi .sgt v349 c0_i32_1316
  let v2736 : BitVec 32 := Scalar.extui v2735
  let c0_i32_1317 : BitVec 32 := 0#32
  let v2737 : BitVec 1 := Scalar.cmpi .slt v349 c0_i32_1317
  let v2738 : BitVec 32 := Scalar.extui v2737
  let v2739 : BitVec 32 := Scalar.subi v2736 v2738
  let c256_i32_1315 : BitVec 32 := 256#32
  let c0_i32_1318 : BitVec 32 := 0#32
  let v2740 : BitVec 1 := Scalar.cmpi .sgt c256_i32_1315 c0_i32_1318
  let v2741 : BitVec 32 := Scalar.extui v2740
  let c0_i32_1319 : BitVec 32 := 0#32
  let v2742 : BitVec 1 := Scalar.cmpi .slt c256_i32_1315 c0_i32_1319
  let v2743 : BitVec 32 := Scalar.extui v2742
  let v2744 : BitVec 32 := Scalar.subi v2741 v2743
  let v2745 : BitVec 1 := Scalar.cmpi .ne v2739 v2744
  let v2746 : BitVec 32 := Scalar.remsi v349 c256_i32_1315
  let c0_i32_1320 : BitVec 32 := 0#32
  let v2747 : BitVec 1 := Scalar.cmpi .ne v2746 c0_i32_1320
  let v2748 : BitVec 1 := Scalar.andi v2745 v2747
  let v2734 : BitVec 32 := Scalar.divsi v349 c256_i32_1315
  let c1_i32_1321 : BitVec 32 := 1#32
  let v2749 : BitVec 32 := Scalar.subi v2734 c1_i32_1321
  let v2750 : BitVec 32 := Scalar.select v2748 v2749 v2734
  let v2751 : BitVec 32 := Scalar.addi v2750 c0_i32_1322
  let v2752 : Index := Scalar.indexCast v2751
  let c0_1323 : Index := 0#32
  let c0_1324 : Index := 0#32
  ![v2752.toNat, 0, 0]
@[reducible] def k0_t30_loop (i : grid0.Coords) : Scf.Loop 32 :=
  let c0_i32_167 : BitVec 32 := 0#32
  let arg0 : BitVec 32 := BitVec.ofNat 32 (i 0).val
  let c1_i32_5 : BitVec 32 := 1#32
  let v22 : BitVec 32 := Scalar.addi arg0 c1_i32_5
  let c256_i32_6 : BitVec 32 := 256#32
  let v23 : BitVec 32 := Scalar.muli v22 c256_i32_6
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c4_i32 : BitVec 32 := 4#32
  let v43 : BitVec 1 := Scalar.cmpi .sgt v42 c4_i32
  let v44 : BitVec 32 := Scalar.extui v43
  let v350 : BitVec 32 := Scalar.subi v44 c0_i32_167
  let c1_i32_168 : BitVec 32 := 1#32
  let v352 : BitVec 32 := Scalar.divsi v350 c1_i32_168
  let v353 : BitVec 32 := Scalar.muli v352 c1_i32_168
  let v354 : BitVec 32 := Scalar.addi c0_i32_167 v353
  let v351 : BitVec 32 := Scalar.addi c0_i32_167 v350
  let c1_i32_170 : BitVec 32 := 1#32
  ⟨v354, v351, c1_i32_170⟩
def k0_off53 (i : grid0.Coords) (c0_i32_205 : BitVec 32) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_166 : BitVec 32 := 2048#32
  let v348 : BitVec 32 := Scalar.muli v21 c2048_i32_166
  let v349 : BitVec 32 := v348
  let c0_i32_199 : BitVec 32 := 0#32
  let v398 : BitVec 1 := Scalar.cmpi .sgt v349 c0_i32_199
  let v399 : BitVec 32 := Scalar.extui v398
  let c0_i32_200 : BitVec 32 := 0#32
  let v400 : BitVec 1 := Scalar.cmpi .slt v349 c0_i32_200
  let v401 : BitVec 32 := Scalar.extui v400
  let v402 : BitVec 32 := Scalar.subi v399 v401
  let c256_i32_198 : BitVec 32 := 256#32
  let c0_i32_201 : BitVec 32 := 0#32
  let v403 : BitVec 1 := Scalar.cmpi .sgt c256_i32_198 c0_i32_201
  let v404 : BitVec 32 := Scalar.extui v403
  let c0_i32_202 : BitVec 32 := 0#32
  let v405 : BitVec 1 := Scalar.cmpi .slt c256_i32_198 c0_i32_202
  let v406 : BitVec 32 := Scalar.extui v405
  let v407 : BitVec 32 := Scalar.subi v404 v406
  let v408 : BitVec 1 := Scalar.cmpi .ne v402 v407
  let v409 : BitVec 32 := Scalar.remsi v349 c256_i32_198
  let c0_i32_203 : BitVec 32 := 0#32
  let v410 : BitVec 1 := Scalar.cmpi .ne v409 c0_i32_203
  let v411 : BitVec 1 := Scalar.andi v408 v410
  let v397 : BitVec 32 := Scalar.divsi v349 c256_i32_198
  let c1_i32_204 : BitVec 32 := 1#32
  let v412 : BitVec 32 := Scalar.subi v397 c1_i32_204
  let v413 : BitVec 32 := Scalar.select v411 v412 v397
  let v414 : BitVec 32 := Scalar.addi v413 c0_i32_205
  let v415 : Index := Scalar.indexCast v414
  let c0_206 : Index := 0#32
  let c0_207 : Index := 0#32
  ![v415.toNat, 0, 0]
def k0_off54 (i : grid0.Coords) : Fin 2 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_166 : BitVec 32 := 2048#32
  let v348 : BitVec 32 := Scalar.muli v21 c2048_i32_166
  let v349 : BitVec 32 := v348
  let v2732 : Index := Scalar.indexCast v349
  let c0_1314 : Index := 0#32
  ![v2732.toNat, 0]
def k0_off55 (i : grid0.Coords) (c0_i32_1322 : BitVec 32) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_166 : BitVec 32 := 2048#32
  let v348 : BitVec 32 := Scalar.muli v21 c2048_i32_166
  let v349 : BitVec 32 := v348
  let c0_i32_1316 : BitVec 32 := 0#32
  let v2735 : BitVec 1 := Scalar.cmpi .sgt v349 c0_i32_1316
  let v2736 : BitVec 32 := Scalar.extui v2735
  let c0_i32_1317 : BitVec 32 := 0#32
  let v2737 : BitVec 1 := Scalar.cmpi .slt v349 c0_i32_1317
  let v2738 : BitVec 32 := Scalar.extui v2737
  let v2739 : BitVec 32 := Scalar.subi v2736 v2738
  let c256_i32_1315 : BitVec 32 := 256#32
  let c0_i32_1318 : BitVec 32 := 0#32
  let v2740 : BitVec 1 := Scalar.cmpi .sgt c256_i32_1315 c0_i32_1318
  let v2741 : BitVec 32 := Scalar.extui v2740
  let c0_i32_1319 : BitVec 32 := 0#32
  let v2742 : BitVec 1 := Scalar.cmpi .slt c256_i32_1315 c0_i32_1319
  let v2743 : BitVec 32 := Scalar.extui v2742
  let v2744 : BitVec 32 := Scalar.subi v2741 v2743
  let v2745 : BitVec 1 := Scalar.cmpi .ne v2739 v2744
  let v2746 : BitVec 32 := Scalar.remsi v349 c256_i32_1315
  let c0_i32_1320 : BitVec 32 := 0#32
  let v2747 : BitVec 1 := Scalar.cmpi .ne v2746 c0_i32_1320
  let v2748 : BitVec 1 := Scalar.andi v2745 v2747
  let v2734 : BitVec 32 := Scalar.divsi v349 c256_i32_1315
  let c1_i32_1321 : BitVec 32 := 1#32
  let v2749 : BitVec 32 := Scalar.subi v2734 c1_i32_1321
  let v2750 : BitVec 32 := Scalar.select v2748 v2749 v2734
  let v2751 : BitVec 32 := Scalar.addi v2750 c0_i32_1322
  let v2752 : Index := Scalar.indexCast v2751
  let c0_1323 : Index := 0#32
  let c0_1324 : Index := 0#32
  ![v2752.toNat, 0, 0]
@[reducible] def k0_t31_loop (i : grid0.Coords) : Scf.Loop 32 :=
  let c0_i32_171 : BitVec 32 := 0#32
  let arg0 : BitVec 32 := BitVec.ofNat 32 (i 0).val
  let c1_i32_5 : BitVec 32 := 1#32
  let v22 : BitVec 32 := Scalar.addi arg0 c1_i32_5
  let c256_i32_6 : BitVec 32 := 256#32
  let v23 : BitVec 32 := Scalar.muli v22 c256_i32_6
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v357 : BitVec 32 := Scalar.subi v46 c0_i32_171
  let c1_i32_172 : BitVec 32 := 1#32
  let v359 : BitVec 32 := Scalar.divsi v357 c1_i32_172
  let v360 : BitVec 32 := Scalar.muli v359 c1_i32_172
  let v361 : BitVec 32 := Scalar.addi c0_i32_171 v360
  let c1_i32_173 : BitVec 32 := 1#32
  ⟨c0_i32_171, v361, c1_i32_173⟩
def k0_mult10 (i : grid0.Coords) (k0_t31 : Fin (k0_t31_loop i).trips) : BitVec 32 :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_166 : BitVec 32 := 2048#32
  let v348 : BitVec 32 := Scalar.muli v21 c2048_i32_166
  let v349 : BitVec 32 := v348
  let c0_i32_171 : BitVec 32 := 0#32
  let c1_i32_173 : BitVec 32 := 1#32
  let arg16 : BitVec 32 := Scf.iv c0_i32_171 c1_i32_173 k0_t31
  let c256_i32_198 : BitVec 32 := 256#32
  let v397 : BitVec 32 := Scalar.muli arg16 c256_i32_198
  let v398 : BitVec 32 := Scalar.addi v349 v397
  v398
def k0_off56 (i : grid0.Coords) (k0_t31 : Fin (k0_t31_loop i).trips) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_166 : BitVec 32 := 2048#32
  let v348 : BitVec 32 := Scalar.muli v21 c2048_i32_166
  let v349 : BitVec 32 := v348
  let c0_i32_171 : BitVec 32 := 0#32
  let c1_i32_173 : BitVec 32 := 1#32
  let arg16 : BitVec 32 := Scf.iv c0_i32_171 c1_i32_173 k0_t31
  let c256_i32_198 : BitVec 32 := 256#32
  let v397 : BitVec 32 := Scalar.muli arg16 c256_i32_198
  let v398 : BitVec 32 := Scalar.addi v349 v397
  let v399 : BitVec 32 := v398
  let c0_i32_200 : BitVec 32 := 0#32
  let v401 : BitVec 1 := Scalar.cmpi .sgt v399 c0_i32_200
  let v402 : BitVec 32 := Scalar.extui v401
  let c0_i32_201 : BitVec 32 := 0#32
  let v403 : BitVec 1 := Scalar.cmpi .slt v399 c0_i32_201
  let v404 : BitVec 32 := Scalar.extui v403
  let v405 : BitVec 32 := Scalar.subi v402 v404
  let c256_i32_199 : BitVec 32 := 256#32
  let c0_i32_202 : BitVec 32 := 0#32
  let v406 : BitVec 1 := Scalar.cmpi .sgt c256_i32_199 c0_i32_202
  let v407 : BitVec 32 := Scalar.extui v406
  let c0_i32_203 : BitVec 32 := 0#32
  let v408 : BitVec 1 := Scalar.cmpi .slt c256_i32_199 c0_i32_203
  let v409 : BitVec 32 := Scalar.extui v408
  let v410 : BitVec 32 := Scalar.subi v407 v409
  let v411 : BitVec 1 := Scalar.cmpi .ne v405 v410
  let v412 : BitVec 32 := Scalar.remsi v399 c256_i32_199
  let c0_i32_204 : BitVec 32 := 0#32
  let v413 : BitVec 1 := Scalar.cmpi .ne v412 c0_i32_204
  let v414 : BitVec 1 := Scalar.andi v411 v413
  let v400 : BitVec 32 := Scalar.divsi v399 c256_i32_199
  let c1_i32_205 : BitVec 32 := 1#32
  let v415 : BitVec 32 := Scalar.subi v400 c1_i32_205
  let v416 : BitVec 32 := Scalar.select v414 v415 v400
  let c0_i32_206 : BitVec 32 := 0#32
  let v417 : BitVec 32 := Scalar.addi v416 c0_i32_206
  let v418 : Index := Scalar.indexCast v417
  let c0_207 : Index := 0#32
  let c0_208 : Index := 0#32
  ![v418.toNat, 0, 0]
def k0_off57 (i : grid0.Coords) (k0_t31 : Fin (k0_t31_loop i).trips) : Fin 2 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_166 : BitVec 32 := 2048#32
  let v348 : BitVec 32 := Scalar.muli v21 c2048_i32_166
  let v349 : BitVec 32 := v348
  let c0_i32_171 : BitVec 32 := 0#32
  let c1_i32_173 : BitVec 32 := 1#32
  let arg16 : BitVec 32 := Scf.iv c0_i32_171 c1_i32_173 k0_t31
  let c256_i32_198 : BitVec 32 := 256#32
  let v397 : BitVec 32 := Scalar.muli arg16 c256_i32_198
  let v398 : BitVec 32 := Scalar.addi v349 v397
  let v399 : BitVec 32 := v398
  let v717 : Index := Scalar.indexCast v399
  let c0_321 : Index := 0#32
  ![v717.toNat, 0]
def k0_off58 (i : grid0.Coords) (k0_t31 : Fin (k0_t31_loop i).trips) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_166 : BitVec 32 := 2048#32
  let v348 : BitVec 32 := Scalar.muli v21 c2048_i32_166
  let v349 : BitVec 32 := v348
  let c0_i32_171 : BitVec 32 := 0#32
  let c1_i32_173 : BitVec 32 := 1#32
  let arg16 : BitVec 32 := Scf.iv c0_i32_171 c1_i32_173 k0_t31
  let c256_i32_198 : BitVec 32 := 256#32
  let v397 : BitVec 32 := Scalar.muli arg16 c256_i32_198
  let v398 : BitVec 32 := Scalar.addi v349 v397
  let v399 : BitVec 32 := v398
  let c0_i32_323 : BitVec 32 := 0#32
  let v720 : BitVec 1 := Scalar.cmpi .sgt v399 c0_i32_323
  let v721 : BitVec 32 := Scalar.extui v720
  let c0_i32_324 : BitVec 32 := 0#32
  let v722 : BitVec 1 := Scalar.cmpi .slt v399 c0_i32_324
  let v723 : BitVec 32 := Scalar.extui v722
  let v724 : BitVec 32 := Scalar.subi v721 v723
  let c256_i32_322 : BitVec 32 := 256#32
  let c0_i32_325 : BitVec 32 := 0#32
  let v725 : BitVec 1 := Scalar.cmpi .sgt c256_i32_322 c0_i32_325
  let v726 : BitVec 32 := Scalar.extui v725
  let c0_i32_326 : BitVec 32 := 0#32
  let v727 : BitVec 1 := Scalar.cmpi .slt c256_i32_322 c0_i32_326
  let v728 : BitVec 32 := Scalar.extui v727
  let v729 : BitVec 32 := Scalar.subi v726 v728
  let v730 : BitVec 1 := Scalar.cmpi .ne v724 v729
  let v731 : BitVec 32 := Scalar.remsi v399 c256_i32_322
  let c0_i32_327 : BitVec 32 := 0#32
  let v732 : BitVec 1 := Scalar.cmpi .ne v731 c0_i32_327
  let v733 : BitVec 1 := Scalar.andi v730 v732
  let v719 : BitVec 32 := Scalar.divsi v399 c256_i32_322
  let c1_i32_328 : BitVec 32 := 1#32
  let v734 : BitVec 32 := Scalar.subi v719 c1_i32_328
  let v735 : BitVec 32 := Scalar.select v733 v734 v719
  let c0_i32_329 : BitVec 32 := 0#32
  let v736 : BitVec 32 := Scalar.addi v735 c0_i32_329
  let v737 : Index := Scalar.indexCast v736
  let c0_330 : Index := 0#32
  let c0_331 : Index := 0#32
  ![v737.toNat, 0, 0]
@[reducible] def k0_t32_loop (i : grid0.Coords) : Scf.Loop 32 :=
  let c0_i32_171 : BitVec 32 := 0#32
  let arg0 : BitVec 32 := BitVec.ofNat 32 (i 0).val
  let c1_i32_5 : BitVec 32 := 1#32
  let v22 : BitVec 32 := Scalar.addi arg0 c1_i32_5
  let c256_i32_6 : BitVec 32 := 256#32
  let v23 : BitVec 32 := Scalar.muli v22 c256_i32_6
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v357 : BitVec 32 := Scalar.subi v46 c0_i32_171
  let c1_i32_172 : BitVec 32 := 1#32
  let v359 : BitVec 32 := Scalar.divsi v357 c1_i32_172
  let v360 : BitVec 32 := Scalar.muli v359 c1_i32_172
  let v361 : BitVec 32 := Scalar.addi c0_i32_171 v360
  let v358 : BitVec 32 := Scalar.addi c0_i32_171 v357
  let c1_i32_174 : BitVec 32 := 1#32
  ⟨v361, v358, c1_i32_174⟩
def k0_mult11 (i : grid0.Coords) (k0_t32 : Fin (k0_t32_loop i).trips) : BitVec 32 :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_166 : BitVec 32 := 2048#32
  let v348 : BitVec 32 := Scalar.muli v21 c2048_i32_166
  let v349 : BitVec 32 := v348
  let c0_i32_171 : BitVec 32 := 0#32
  let c1_i32_5 : BitVec 32 := 1#32
  let v22 : BitVec 32 := Scalar.addi arg0 c1_i32_5
  let c256_i32_6 : BitVec 32 := 256#32
  let v23 : BitVec 32 := Scalar.muli v22 c256_i32_6
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v357 : BitVec 32 := Scalar.subi v46 c0_i32_171
  let c1_i32_172 : BitVec 32 := 1#32
  let v359 : BitVec 32 := Scalar.divsi v357 c1_i32_172
  let v360 : BitVec 32 := Scalar.muli v359 c1_i32_172
  let v361 : BitVec 32 := Scalar.addi c0_i32_171 v360
  let c1_i32_174 : BitVec 32 := 1#32
  let arg16 : BitVec 32 := Scf.iv v361 c1_i32_174 k0_t32
  let c256_i32_198 : BitVec 32 := 256#32
  let v397 : BitVec 32 := Scalar.muli arg16 c256_i32_198
  let v398 : BitVec 32 := Scalar.addi v349 v397
  v398
def k0_off59 (i : grid0.Coords) (k0_t32 : Fin (k0_t32_loop i).trips) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_166 : BitVec 32 := 2048#32
  let v348 : BitVec 32 := Scalar.muli v21 c2048_i32_166
  let v349 : BitVec 32 := v348
  let c0_i32_171 : BitVec 32 := 0#32
  let c1_i32_5 : BitVec 32 := 1#32
  let v22 : BitVec 32 := Scalar.addi arg0 c1_i32_5
  let c256_i32_6 : BitVec 32 := 256#32
  let v23 : BitVec 32 := Scalar.muli v22 c256_i32_6
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v357 : BitVec 32 := Scalar.subi v46 c0_i32_171
  let c1_i32_172 : BitVec 32 := 1#32
  let v359 : BitVec 32 := Scalar.divsi v357 c1_i32_172
  let v360 : BitVec 32 := Scalar.muli v359 c1_i32_172
  let v361 : BitVec 32 := Scalar.addi c0_i32_171 v360
  let c1_i32_174 : BitVec 32 := 1#32
  let arg16 : BitVec 32 := Scf.iv v361 c1_i32_174 k0_t32
  let c256_i32_198 : BitVec 32 := 256#32
  let v397 : BitVec 32 := Scalar.muli arg16 c256_i32_198
  let v398 : BitVec 32 := Scalar.addi v349 v397
  let v399 : BitVec 32 := v398
  let c0_i32_200 : BitVec 32 := 0#32
  let v401 : BitVec 1 := Scalar.cmpi .sgt v399 c0_i32_200
  let v402 : BitVec 32 := Scalar.extui v401
  let c0_i32_201 : BitVec 32 := 0#32
  let v403 : BitVec 1 := Scalar.cmpi .slt v399 c0_i32_201
  let v404 : BitVec 32 := Scalar.extui v403
  let v405 : BitVec 32 := Scalar.subi v402 v404
  let c256_i32_199 : BitVec 32 := 256#32
  let c0_i32_202 : BitVec 32 := 0#32
  let v406 : BitVec 1 := Scalar.cmpi .sgt c256_i32_199 c0_i32_202
  let v407 : BitVec 32 := Scalar.extui v406
  let c0_i32_203 : BitVec 32 := 0#32
  let v408 : BitVec 1 := Scalar.cmpi .slt c256_i32_199 c0_i32_203
  let v409 : BitVec 32 := Scalar.extui v408
  let v410 : BitVec 32 := Scalar.subi v407 v409
  let v411 : BitVec 1 := Scalar.cmpi .ne v405 v410
  let v412 : BitVec 32 := Scalar.remsi v399 c256_i32_199
  let c0_i32_204 : BitVec 32 := 0#32
  let v413 : BitVec 1 := Scalar.cmpi .ne v412 c0_i32_204
  let v414 : BitVec 1 := Scalar.andi v411 v413
  let v400 : BitVec 32 := Scalar.divsi v399 c256_i32_199
  let c1_i32_205 : BitVec 32 := 1#32
  let v415 : BitVec 32 := Scalar.subi v400 c1_i32_205
  let v416 : BitVec 32 := Scalar.select v414 v415 v400
  let c0_i32_206 : BitVec 32 := 0#32
  let v417 : BitVec 32 := Scalar.addi v416 c0_i32_206
  let v418 : Index := Scalar.indexCast v417
  let c0_207 : Index := 0#32
  let c0_208 : Index := 0#32
  ![v418.toNat, 0, 0]
def k0_off60 (i : grid0.Coords) (k0_t32 : Fin (k0_t32_loop i).trips) : Fin 2 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_166 : BitVec 32 := 2048#32
  let v348 : BitVec 32 := Scalar.muli v21 c2048_i32_166
  let v349 : BitVec 32 := v348
  let c0_i32_171 : BitVec 32 := 0#32
  let c1_i32_5 : BitVec 32 := 1#32
  let v22 : BitVec 32 := Scalar.addi arg0 c1_i32_5
  let c256_i32_6 : BitVec 32 := 256#32
  let v23 : BitVec 32 := Scalar.muli v22 c256_i32_6
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v357 : BitVec 32 := Scalar.subi v46 c0_i32_171
  let c1_i32_172 : BitVec 32 := 1#32
  let v359 : BitVec 32 := Scalar.divsi v357 c1_i32_172
  let v360 : BitVec 32 := Scalar.muli v359 c1_i32_172
  let v361 : BitVec 32 := Scalar.addi c0_i32_171 v360
  let c1_i32_174 : BitVec 32 := 1#32
  let arg16 : BitVec 32 := Scf.iv v361 c1_i32_174 k0_t32
  let c256_i32_198 : BitVec 32 := 256#32
  let v397 : BitVec 32 := Scalar.muli arg16 c256_i32_198
  let v398 : BitVec 32 := Scalar.addi v349 v397
  let v399 : BitVec 32 := v398
  let v717 : Index := Scalar.indexCast v399
  let c0_321 : Index := 0#32
  ![v717.toNat, 0]
def k0_off61 (i : grid0.Coords) (k0_t32 : Fin (k0_t32_loop i).trips) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_166 : BitVec 32 := 2048#32
  let v348 : BitVec 32 := Scalar.muli v21 c2048_i32_166
  let v349 : BitVec 32 := v348
  let c0_i32_171 : BitVec 32 := 0#32
  let c1_i32_5 : BitVec 32 := 1#32
  let v22 : BitVec 32 := Scalar.addi arg0 c1_i32_5
  let c256_i32_6 : BitVec 32 := 256#32
  let v23 : BitVec 32 := Scalar.muli v22 c256_i32_6
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v357 : BitVec 32 := Scalar.subi v46 c0_i32_171
  let c1_i32_172 : BitVec 32 := 1#32
  let v359 : BitVec 32 := Scalar.divsi v357 c1_i32_172
  let v360 : BitVec 32 := Scalar.muli v359 c1_i32_172
  let v361 : BitVec 32 := Scalar.addi c0_i32_171 v360
  let c1_i32_174 : BitVec 32 := 1#32
  let arg16 : BitVec 32 := Scf.iv v361 c1_i32_174 k0_t32
  let c256_i32_198 : BitVec 32 := 256#32
  let v397 : BitVec 32 := Scalar.muli arg16 c256_i32_198
  let v398 : BitVec 32 := Scalar.addi v349 v397
  let v399 : BitVec 32 := v398
  let c0_i32_323 : BitVec 32 := 0#32
  let v720 : BitVec 1 := Scalar.cmpi .sgt v399 c0_i32_323
  let v721 : BitVec 32 := Scalar.extui v720
  let c0_i32_324 : BitVec 32 := 0#32
  let v722 : BitVec 1 := Scalar.cmpi .slt v399 c0_i32_324
  let v723 : BitVec 32 := Scalar.extui v722
  let v724 : BitVec 32 := Scalar.subi v721 v723
  let c256_i32_322 : BitVec 32 := 256#32
  let c0_i32_325 : BitVec 32 := 0#32
  let v725 : BitVec 1 := Scalar.cmpi .sgt c256_i32_322 c0_i32_325
  let v726 : BitVec 32 := Scalar.extui v725
  let c0_i32_326 : BitVec 32 := 0#32
  let v727 : BitVec 1 := Scalar.cmpi .slt c256_i32_322 c0_i32_326
  let v728 : BitVec 32 := Scalar.extui v727
  let v729 : BitVec 32 := Scalar.subi v726 v728
  let v730 : BitVec 1 := Scalar.cmpi .ne v724 v729
  let v731 : BitVec 32 := Scalar.remsi v399 c256_i32_322
  let c0_i32_327 : BitVec 32 := 0#32
  let v732 : BitVec 1 := Scalar.cmpi .ne v731 c0_i32_327
  let v733 : BitVec 1 := Scalar.andi v730 v732
  let v719 : BitVec 32 := Scalar.divsi v399 c256_i32_322
  let c1_i32_328 : BitVec 32 := 1#32
  let v734 : BitVec 32 := Scalar.subi v719 c1_i32_328
  let v735 : BitVec 32 := Scalar.select v733 v734 v719
  let c0_i32_329 : BitVec 32 := 0#32
  let v736 : BitVec 32 := Scalar.addi v735 c0_i32_329
  let v737 : Index := Scalar.indexCast v736
  let c0_330 : Index := 0#32
  let c0_331 : Index := 0#32
  ![v737.toNat, 0, 0]
@[reducible] def k0_t33_loop (i : grid0.Coords) : Scf.Loop 32 :=
  let c0_i32_205 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v406 : BitVec 32 := Scalar.subi v21 c0_i32_205
  let c1_i32_206 : BitVec 32 := 1#32
  let v408 : BitVec 32 := Scalar.divsi v406 c1_i32_206
  let v409 : BitVec 32 := Scalar.muli v408 c1_i32_206
  let v410 : BitVec 32 := Scalar.addi c0_i32_205 v409
  let c1_i32_207 : BitVec 32 := 1#32
  ⟨c0_i32_205, v410, c1_i32_207⟩
def k0_mult12 (i : grid0.Coords) (k0_t33 : Fin (k0_t33_loop i).trips) : BitVec 32 :=
  let c0_i32_205 : BitVec 32 := 0#32
  let c1_i32_207 : BitVec 32 := 1#32
  let arg16 : BitVec 32 := Scf.iv c0_i32_205 c1_i32_207 k0_t33
  let c2048_i32_218 : BitVec 32 := 2048#32
  let v429 : BitVec 32 := Scalar.muli arg16 c2048_i32_218
  v429
def k0_off62 (i : grid0.Coords) (k0_t33 : Fin (k0_t33_loop i).trips) (c0_i32_226 : BitVec 32) : Fin 3 → Nat :=
  let c0_i32_205 : BitVec 32 := 0#32
  let c1_i32_207 : BitVec 32 := 1#32
  let arg16 : BitVec 32 := Scf.iv c0_i32_205 c1_i32_207 k0_t33
  let c2048_i32_218 : BitVec 32 := 2048#32
  let v429 : BitVec 32 := Scalar.muli arg16 c2048_i32_218
  let v430 : BitVec 32 := v429
  let c0_i32_220 : BitVec 32 := 0#32
  let v432 : BitVec 1 := Scalar.cmpi .sgt v430 c0_i32_220
  let v433 : BitVec 32 := Scalar.extui v432
  let c0_i32_221 : BitVec 32 := 0#32
  let v434 : BitVec 1 := Scalar.cmpi .slt v430 c0_i32_221
  let v435 : BitVec 32 := Scalar.extui v434
  let v436 : BitVec 32 := Scalar.subi v433 v435
  let c256_i32_219 : BitVec 32 := 256#32
  let c0_i32_222 : BitVec 32 := 0#32
  let v437 : BitVec 1 := Scalar.cmpi .sgt c256_i32_219 c0_i32_222
  let v438 : BitVec 32 := Scalar.extui v437
  let c0_i32_223 : BitVec 32 := 0#32
  let v439 : BitVec 1 := Scalar.cmpi .slt c256_i32_219 c0_i32_223
  let v440 : BitVec 32 := Scalar.extui v439
  let v441 : BitVec 32 := Scalar.subi v438 v440
  let v442 : BitVec 1 := Scalar.cmpi .ne v436 v441
  let v443 : BitVec 32 := Scalar.remsi v430 c256_i32_219
  let c0_i32_224 : BitVec 32 := 0#32
  let v444 : BitVec 1 := Scalar.cmpi .ne v443 c0_i32_224
  let v445 : BitVec 1 := Scalar.andi v442 v444
  let v431 : BitVec 32 := Scalar.divsi v430 c256_i32_219
  let c1_i32_225 : BitVec 32 := 1#32
  let v446 : BitVec 32 := Scalar.subi v431 c1_i32_225
  let v447 : BitVec 32 := Scalar.select v445 v446 v431
  let v448 : BitVec 32 := Scalar.addi v447 c0_i32_226
  let v449 : Index := Scalar.indexCast v448
  let c0_227 : Index := 0#32
  let c0_228 : Index := 0#32
  ![v449.toNat, 0, 0]
def k0_off63 (i : grid0.Coords) (k0_t33 : Fin (k0_t33_loop i).trips) : Fin 2 → Nat :=
  let c0_i32_205 : BitVec 32 := 0#32
  let c1_i32_207 : BitVec 32 := 1#32
  let arg16 : BitVec 32 := Scf.iv c0_i32_205 c1_i32_207 k0_t33
  let c2048_i32_218 : BitVec 32 := 2048#32
  let v429 : BitVec 32 := Scalar.muli arg16 c2048_i32_218
  let v430 : BitVec 32 := v429
  let v2755 : Index := Scalar.indexCast v430
  let c0_1333 : Index := 0#32
  ![v2755.toNat, 0]
def k0_off64 (i : grid0.Coords) (k0_t33 : Fin (k0_t33_loop i).trips) (c0_i32_1341 : BitVec 32) : Fin 3 → Nat :=
  let c0_i32_205 : BitVec 32 := 0#32
  let c1_i32_207 : BitVec 32 := 1#32
  let arg16 : BitVec 32 := Scf.iv c0_i32_205 c1_i32_207 k0_t33
  let c2048_i32_218 : BitVec 32 := 2048#32
  let v429 : BitVec 32 := Scalar.muli arg16 c2048_i32_218
  let v430 : BitVec 32 := v429
  let c0_i32_1335 : BitVec 32 := 0#32
  let v2758 : BitVec 1 := Scalar.cmpi .sgt v430 c0_i32_1335
  let v2759 : BitVec 32 := Scalar.extui v2758
  let c0_i32_1336 : BitVec 32 := 0#32
  let v2760 : BitVec 1 := Scalar.cmpi .slt v430 c0_i32_1336
  let v2761 : BitVec 32 := Scalar.extui v2760
  let v2762 : BitVec 32 := Scalar.subi v2759 v2761
  let c256_i32_1334 : BitVec 32 := 256#32
  let c0_i32_1337 : BitVec 32 := 0#32
  let v2763 : BitVec 1 := Scalar.cmpi .sgt c256_i32_1334 c0_i32_1337
  let v2764 : BitVec 32 := Scalar.extui v2763
  let c0_i32_1338 : BitVec 32 := 0#32
  let v2765 : BitVec 1 := Scalar.cmpi .slt c256_i32_1334 c0_i32_1338
  let v2766 : BitVec 32 := Scalar.extui v2765
  let v2767 : BitVec 32 := Scalar.subi v2764 v2766
  let v2768 : BitVec 1 := Scalar.cmpi .ne v2762 v2767
  let v2769 : BitVec 32 := Scalar.remsi v430 c256_i32_1334
  let c0_i32_1339 : BitVec 32 := 0#32
  let v2770 : BitVec 1 := Scalar.cmpi .ne v2769 c0_i32_1339
  let v2771 : BitVec 1 := Scalar.andi v2768 v2770
  let v2757 : BitVec 32 := Scalar.divsi v430 c256_i32_1334
  let c1_i32_1340 : BitVec 32 := 1#32
  let v2772 : BitVec 32 := Scalar.subi v2757 c1_i32_1340
  let v2773 : BitVec 32 := Scalar.select v2771 v2772 v2757
  let v2774 : BitVec 32 := Scalar.addi v2773 c0_i32_1341
  let v2775 : Index := Scalar.indexCast v2774
  let c0_1342 : Index := 0#32
  let c0_1343 : Index := 0#32
  ![v2775.toNat, 0, 0]
@[reducible] def k0_t34_loop (i : grid0.Coords) : Scf.Loop 32 :=
  let c0_i32_205 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v406 : BitVec 32 := Scalar.subi v21 c0_i32_205
  let c1_i32_206 : BitVec 32 := 1#32
  let v408 : BitVec 32 := Scalar.divsi v406 c1_i32_206
  let v409 : BitVec 32 := Scalar.muli v408 c1_i32_206
  let v410 : BitVec 32 := Scalar.addi c0_i32_205 v409
  let v407 : BitVec 32 := Scalar.addi c0_i32_205 v406
  let c1_i32_208 : BitVec 32 := 1#32
  ⟨v410, v407, c1_i32_208⟩
def k0_mult13 (i : grid0.Coords) (k0_t34 : Fin (k0_t34_loop i).trips) : BitVec 32 :=
  let c0_i32_205 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v406 : BitVec 32 := Scalar.subi v21 c0_i32_205
  let c1_i32_206 : BitVec 32 := 1#32
  let v408 : BitVec 32 := Scalar.divsi v406 c1_i32_206
  let v409 : BitVec 32 := Scalar.muli v408 c1_i32_206
  let v410 : BitVec 32 := Scalar.addi c0_i32_205 v409
  let c1_i32_208 : BitVec 32 := 1#32
  let arg16 : BitVec 32 := Scf.iv v410 c1_i32_208 k0_t34
  let c2048_i32_218 : BitVec 32 := 2048#32
  let v429 : BitVec 32 := Scalar.muli arg16 c2048_i32_218
  v429
def k0_off65 (i : grid0.Coords) (k0_t34 : Fin (k0_t34_loop i).trips) (c0_i32_226 : BitVec 32) : Fin 3 → Nat :=
  let c0_i32_205 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v406 : BitVec 32 := Scalar.subi v21 c0_i32_205
  let c1_i32_206 : BitVec 32 := 1#32
  let v408 : BitVec 32 := Scalar.divsi v406 c1_i32_206
  let v409 : BitVec 32 := Scalar.muli v408 c1_i32_206
  let v410 : BitVec 32 := Scalar.addi c0_i32_205 v409
  let c1_i32_208 : BitVec 32 := 1#32
  let arg16 : BitVec 32 := Scf.iv v410 c1_i32_208 k0_t34
  let c2048_i32_218 : BitVec 32 := 2048#32
  let v429 : BitVec 32 := Scalar.muli arg16 c2048_i32_218
  let v430 : BitVec 32 := v429
  let c0_i32_220 : BitVec 32 := 0#32
  let v432 : BitVec 1 := Scalar.cmpi .sgt v430 c0_i32_220
  let v433 : BitVec 32 := Scalar.extui v432
  let c0_i32_221 : BitVec 32 := 0#32
  let v434 : BitVec 1 := Scalar.cmpi .slt v430 c0_i32_221
  let v435 : BitVec 32 := Scalar.extui v434
  let v436 : BitVec 32 := Scalar.subi v433 v435
  let c256_i32_219 : BitVec 32 := 256#32
  let c0_i32_222 : BitVec 32 := 0#32
  let v437 : BitVec 1 := Scalar.cmpi .sgt c256_i32_219 c0_i32_222
  let v438 : BitVec 32 := Scalar.extui v437
  let c0_i32_223 : BitVec 32 := 0#32
  let v439 : BitVec 1 := Scalar.cmpi .slt c256_i32_219 c0_i32_223
  let v440 : BitVec 32 := Scalar.extui v439
  let v441 : BitVec 32 := Scalar.subi v438 v440
  let v442 : BitVec 1 := Scalar.cmpi .ne v436 v441
  let v443 : BitVec 32 := Scalar.remsi v430 c256_i32_219
  let c0_i32_224 : BitVec 32 := 0#32
  let v444 : BitVec 1 := Scalar.cmpi .ne v443 c0_i32_224
  let v445 : BitVec 1 := Scalar.andi v442 v444
  let v431 : BitVec 32 := Scalar.divsi v430 c256_i32_219
  let c1_i32_225 : BitVec 32 := 1#32
  let v446 : BitVec 32 := Scalar.subi v431 c1_i32_225
  let v447 : BitVec 32 := Scalar.select v445 v446 v431
  let v448 : BitVec 32 := Scalar.addi v447 c0_i32_226
  let v449 : Index := Scalar.indexCast v448
  let c0_227 : Index := 0#32
  let c0_228 : Index := 0#32
  ![v449.toNat, 0, 0]
def k0_off66 (i : grid0.Coords) (k0_t34 : Fin (k0_t34_loop i).trips) : Fin 2 → Nat :=
  let c0_i32_205 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v406 : BitVec 32 := Scalar.subi v21 c0_i32_205
  let c1_i32_206 : BitVec 32 := 1#32
  let v408 : BitVec 32 := Scalar.divsi v406 c1_i32_206
  let v409 : BitVec 32 := Scalar.muli v408 c1_i32_206
  let v410 : BitVec 32 := Scalar.addi c0_i32_205 v409
  let c1_i32_208 : BitVec 32 := 1#32
  let arg16 : BitVec 32 := Scf.iv v410 c1_i32_208 k0_t34
  let c2048_i32_218 : BitVec 32 := 2048#32
  let v429 : BitVec 32 := Scalar.muli arg16 c2048_i32_218
  let v430 : BitVec 32 := v429
  let v2755 : Index := Scalar.indexCast v430
  let c0_1333 : Index := 0#32
  ![v2755.toNat, 0]
def k0_off67 (i : grid0.Coords) (k0_t34 : Fin (k0_t34_loop i).trips) (c0_i32_1341 : BitVec 32) : Fin 3 → Nat :=
  let c0_i32_205 : BitVec 32 := 0#32
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let v406 : BitVec 32 := Scalar.subi v21 c0_i32_205
  let c1_i32_206 : BitVec 32 := 1#32
  let v408 : BitVec 32 := Scalar.divsi v406 c1_i32_206
  let v409 : BitVec 32 := Scalar.muli v408 c1_i32_206
  let v410 : BitVec 32 := Scalar.addi c0_i32_205 v409
  let c1_i32_208 : BitVec 32 := 1#32
  let arg16 : BitVec 32 := Scf.iv v410 c1_i32_208 k0_t34
  let c2048_i32_218 : BitVec 32 := 2048#32
  let v429 : BitVec 32 := Scalar.muli arg16 c2048_i32_218
  let v430 : BitVec 32 := v429
  let c0_i32_1335 : BitVec 32 := 0#32
  let v2758 : BitVec 1 := Scalar.cmpi .sgt v430 c0_i32_1335
  let v2759 : BitVec 32 := Scalar.extui v2758
  let c0_i32_1336 : BitVec 32 := 0#32
  let v2760 : BitVec 1 := Scalar.cmpi .slt v430 c0_i32_1336
  let v2761 : BitVec 32 := Scalar.extui v2760
  let v2762 : BitVec 32 := Scalar.subi v2759 v2761
  let c256_i32_1334 : BitVec 32 := 256#32
  let c0_i32_1337 : BitVec 32 := 0#32
  let v2763 : BitVec 1 := Scalar.cmpi .sgt c256_i32_1334 c0_i32_1337
  let v2764 : BitVec 32 := Scalar.extui v2763
  let c0_i32_1338 : BitVec 32 := 0#32
  let v2765 : BitVec 1 := Scalar.cmpi .slt c256_i32_1334 c0_i32_1338
  let v2766 : BitVec 32 := Scalar.extui v2765
  let v2767 : BitVec 32 := Scalar.subi v2764 v2766
  let v2768 : BitVec 1 := Scalar.cmpi .ne v2762 v2767
  let v2769 : BitVec 32 := Scalar.remsi v430 c256_i32_1334
  let c0_i32_1339 : BitVec 32 := 0#32
  let v2770 : BitVec 1 := Scalar.cmpi .ne v2769 c0_i32_1339
  let v2771 : BitVec 1 := Scalar.andi v2768 v2770
  let v2757 : BitVec 32 := Scalar.divsi v430 c256_i32_1334
  let c1_i32_1340 : BitVec 32 := 1#32
  let v2772 : BitVec 32 := Scalar.subi v2757 c1_i32_1340
  let v2773 : BitVec 32 := Scalar.select v2771 v2772 v2757
  let v2774 : BitVec 32 := Scalar.addi v2773 c0_i32_1341
  let v2775 : Index := Scalar.indexCast v2774
  let c0_1342 : Index := 0#32
  let c0_1343 : Index := 0#32
  ![v2775.toNat, 0, 0]
def k0_mult14 (i : grid0.Coords) : BitVec 32 :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_209 : BitVec 32 := 2048#32
  let v413 : BitVec 32 := Scalar.muli v21 c2048_i32_209
  v413
@[reducible] def k0_t35_loop (i : grid0.Coords) : Scf.Loop 32 :=
  let c0_i32_210 : BitVec 32 := 0#32
  let arg0 : BitVec 32 := BitVec.ofNat 32 (i 0).val
  let c1_i32_5 : BitVec 32 := 1#32
  let v22 : BitVec 32 := Scalar.addi arg0 c1_i32_5
  let c256_i32_6 : BitVec 32 := 256#32
  let v23 : BitVec 32 := Scalar.muli v22 c256_i32_6
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c4_i32 : BitVec 32 := 4#32
  let v43 : BitVec 1 := Scalar.cmpi .sgt v42 c4_i32
  let v44 : BitVec 32 := Scalar.extui v43
  let v415 : BitVec 32 := Scalar.subi v44 c0_i32_210
  let c1_i32_211 : BitVec 32 := 1#32
  let v417 : BitVec 32 := Scalar.divsi v415 c1_i32_211
  let v418 : BitVec 32 := Scalar.muli v417 c1_i32_211
  let v419 : BitVec 32 := Scalar.addi c0_i32_210 v418
  let c1_i32_212 : BitVec 32 := 1#32
  ⟨c0_i32_210, v419, c1_i32_212⟩
def k0_off68 (i : grid0.Coords) (c0_i32_225 : BitVec 32) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_209 : BitVec 32 := 2048#32
  let v413 : BitVec 32 := Scalar.muli v21 c2048_i32_209
  let v414 : BitVec 32 := v413
  let c0_i32_219 : BitVec 32 := 0#32
  let v430 : BitVec 1 := Scalar.cmpi .sgt v414 c0_i32_219
  let v431 : BitVec 32 := Scalar.extui v430
  let c0_i32_220 : BitVec 32 := 0#32
  let v432 : BitVec 1 := Scalar.cmpi .slt v414 c0_i32_220
  let v433 : BitVec 32 := Scalar.extui v432
  let v434 : BitVec 32 := Scalar.subi v431 v433
  let c256_i32_218 : BitVec 32 := 256#32
  let c0_i32_221 : BitVec 32 := 0#32
  let v435 : BitVec 1 := Scalar.cmpi .sgt c256_i32_218 c0_i32_221
  let v436 : BitVec 32 := Scalar.extui v435
  let c0_i32_222 : BitVec 32 := 0#32
  let v437 : BitVec 1 := Scalar.cmpi .slt c256_i32_218 c0_i32_222
  let v438 : BitVec 32 := Scalar.extui v437
  let v439 : BitVec 32 := Scalar.subi v436 v438
  let v440 : BitVec 1 := Scalar.cmpi .ne v434 v439
  let v441 : BitVec 32 := Scalar.remsi v414 c256_i32_218
  let c0_i32_223 : BitVec 32 := 0#32
  let v442 : BitVec 1 := Scalar.cmpi .ne v441 c0_i32_223
  let v443 : BitVec 1 := Scalar.andi v440 v442
  let v429 : BitVec 32 := Scalar.divsi v414 c256_i32_218
  let c1_i32_224 : BitVec 32 := 1#32
  let v444 : BitVec 32 := Scalar.subi v429 c1_i32_224
  let v445 : BitVec 32 := Scalar.select v443 v444 v429
  let v446 : BitVec 32 := Scalar.addi v445 c0_i32_225
  let v447 : Index := Scalar.indexCast v446
  let c0_226 : Index := 0#32
  let c0_227 : Index := 0#32
  ![v447.toNat, 0, 0]
def k0_off69 (i : grid0.Coords) : Fin 2 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_209 : BitVec 32 := 2048#32
  let v413 : BitVec 32 := Scalar.muli v21 c2048_i32_209
  let v414 : BitVec 32 := v413
  let v2764 : Index := Scalar.indexCast v414
  let c0_1334 : Index := 0#32
  ![v2764.toNat, 0]
def k0_off70 (i : grid0.Coords) (c0_i32_1342 : BitVec 32) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_209 : BitVec 32 := 2048#32
  let v413 : BitVec 32 := Scalar.muli v21 c2048_i32_209
  let v414 : BitVec 32 := v413
  let c0_i32_1336 : BitVec 32 := 0#32
  let v2767 : BitVec 1 := Scalar.cmpi .sgt v414 c0_i32_1336
  let v2768 : BitVec 32 := Scalar.extui v2767
  let c0_i32_1337 : BitVec 32 := 0#32
  let v2769 : BitVec 1 := Scalar.cmpi .slt v414 c0_i32_1337
  let v2770 : BitVec 32 := Scalar.extui v2769
  let v2771 : BitVec 32 := Scalar.subi v2768 v2770
  let c256_i32_1335 : BitVec 32 := 256#32
  let c0_i32_1338 : BitVec 32 := 0#32
  let v2772 : BitVec 1 := Scalar.cmpi .sgt c256_i32_1335 c0_i32_1338
  let v2773 : BitVec 32 := Scalar.extui v2772
  let c0_i32_1339 : BitVec 32 := 0#32
  let v2774 : BitVec 1 := Scalar.cmpi .slt c256_i32_1335 c0_i32_1339
  let v2775 : BitVec 32 := Scalar.extui v2774
  let v2776 : BitVec 32 := Scalar.subi v2773 v2775
  let v2777 : BitVec 1 := Scalar.cmpi .ne v2771 v2776
  let v2778 : BitVec 32 := Scalar.remsi v414 c256_i32_1335
  let c0_i32_1340 : BitVec 32 := 0#32
  let v2779 : BitVec 1 := Scalar.cmpi .ne v2778 c0_i32_1340
  let v2780 : BitVec 1 := Scalar.andi v2777 v2779
  let v2766 : BitVec 32 := Scalar.divsi v414 c256_i32_1335
  let c1_i32_1341 : BitVec 32 := 1#32
  let v2781 : BitVec 32 := Scalar.subi v2766 c1_i32_1341
  let v2782 : BitVec 32 := Scalar.select v2780 v2781 v2766
  let v2783 : BitVec 32 := Scalar.addi v2782 c0_i32_1342
  let v2784 : Index := Scalar.indexCast v2783
  let c0_1343 : Index := 0#32
  let c0_1344 : Index := 0#32
  ![v2784.toNat, 0, 0]
@[reducible] def k0_t36_loop (i : grid0.Coords) : Scf.Loop 32 :=
  let c0_i32_210 : BitVec 32 := 0#32
  let arg0 : BitVec 32 := BitVec.ofNat 32 (i 0).val
  let c1_i32_5 : BitVec 32 := 1#32
  let v22 : BitVec 32 := Scalar.addi arg0 c1_i32_5
  let c256_i32_6 : BitVec 32 := 256#32
  let v23 : BitVec 32 := Scalar.muli v22 c256_i32_6
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c4_i32 : BitVec 32 := 4#32
  let v43 : BitVec 1 := Scalar.cmpi .sgt v42 c4_i32
  let v44 : BitVec 32 := Scalar.extui v43
  let v415 : BitVec 32 := Scalar.subi v44 c0_i32_210
  let c1_i32_211 : BitVec 32 := 1#32
  let v417 : BitVec 32 := Scalar.divsi v415 c1_i32_211
  let v418 : BitVec 32 := Scalar.muli v417 c1_i32_211
  let v419 : BitVec 32 := Scalar.addi c0_i32_210 v418
  let v416 : BitVec 32 := Scalar.addi c0_i32_210 v415
  let c1_i32_213 : BitVec 32 := 1#32
  ⟨v419, v416, c1_i32_213⟩
def k0_off71 (i : grid0.Coords) (c0_i32_225 : BitVec 32) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_209 : BitVec 32 := 2048#32
  let v413 : BitVec 32 := Scalar.muli v21 c2048_i32_209
  let v414 : BitVec 32 := v413
  let c0_i32_219 : BitVec 32 := 0#32
  let v430 : BitVec 1 := Scalar.cmpi .sgt v414 c0_i32_219
  let v431 : BitVec 32 := Scalar.extui v430
  let c0_i32_220 : BitVec 32 := 0#32
  let v432 : BitVec 1 := Scalar.cmpi .slt v414 c0_i32_220
  let v433 : BitVec 32 := Scalar.extui v432
  let v434 : BitVec 32 := Scalar.subi v431 v433
  let c256_i32_218 : BitVec 32 := 256#32
  let c0_i32_221 : BitVec 32 := 0#32
  let v435 : BitVec 1 := Scalar.cmpi .sgt c256_i32_218 c0_i32_221
  let v436 : BitVec 32 := Scalar.extui v435
  let c0_i32_222 : BitVec 32 := 0#32
  let v437 : BitVec 1 := Scalar.cmpi .slt c256_i32_218 c0_i32_222
  let v438 : BitVec 32 := Scalar.extui v437
  let v439 : BitVec 32 := Scalar.subi v436 v438
  let v440 : BitVec 1 := Scalar.cmpi .ne v434 v439
  let v441 : BitVec 32 := Scalar.remsi v414 c256_i32_218
  let c0_i32_223 : BitVec 32 := 0#32
  let v442 : BitVec 1 := Scalar.cmpi .ne v441 c0_i32_223
  let v443 : BitVec 1 := Scalar.andi v440 v442
  let v429 : BitVec 32 := Scalar.divsi v414 c256_i32_218
  let c1_i32_224 : BitVec 32 := 1#32
  let v444 : BitVec 32 := Scalar.subi v429 c1_i32_224
  let v445 : BitVec 32 := Scalar.select v443 v444 v429
  let v446 : BitVec 32 := Scalar.addi v445 c0_i32_225
  let v447 : Index := Scalar.indexCast v446
  let c0_226 : Index := 0#32
  let c0_227 : Index := 0#32
  ![v447.toNat, 0, 0]
def k0_off72 (i : grid0.Coords) : Fin 2 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_209 : BitVec 32 := 2048#32
  let v413 : BitVec 32 := Scalar.muli v21 c2048_i32_209
  let v414 : BitVec 32 := v413
  let v2764 : Index := Scalar.indexCast v414
  let c0_1334 : Index := 0#32
  ![v2764.toNat, 0]
def k0_off73 (i : grid0.Coords) (c0_i32_1342 : BitVec 32) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_209 : BitVec 32 := 2048#32
  let v413 : BitVec 32 := Scalar.muli v21 c2048_i32_209
  let v414 : BitVec 32 := v413
  let c0_i32_1336 : BitVec 32 := 0#32
  let v2767 : BitVec 1 := Scalar.cmpi .sgt v414 c0_i32_1336
  let v2768 : BitVec 32 := Scalar.extui v2767
  let c0_i32_1337 : BitVec 32 := 0#32
  let v2769 : BitVec 1 := Scalar.cmpi .slt v414 c0_i32_1337
  let v2770 : BitVec 32 := Scalar.extui v2769
  let v2771 : BitVec 32 := Scalar.subi v2768 v2770
  let c256_i32_1335 : BitVec 32 := 256#32
  let c0_i32_1338 : BitVec 32 := 0#32
  let v2772 : BitVec 1 := Scalar.cmpi .sgt c256_i32_1335 c0_i32_1338
  let v2773 : BitVec 32 := Scalar.extui v2772
  let c0_i32_1339 : BitVec 32 := 0#32
  let v2774 : BitVec 1 := Scalar.cmpi .slt c256_i32_1335 c0_i32_1339
  let v2775 : BitVec 32 := Scalar.extui v2774
  let v2776 : BitVec 32 := Scalar.subi v2773 v2775
  let v2777 : BitVec 1 := Scalar.cmpi .ne v2771 v2776
  let v2778 : BitVec 32 := Scalar.remsi v414 c256_i32_1335
  let c0_i32_1340 : BitVec 32 := 0#32
  let v2779 : BitVec 1 := Scalar.cmpi .ne v2778 c0_i32_1340
  let v2780 : BitVec 1 := Scalar.andi v2777 v2779
  let v2766 : BitVec 32 := Scalar.divsi v414 c256_i32_1335
  let c1_i32_1341 : BitVec 32 := 1#32
  let v2781 : BitVec 32 := Scalar.subi v2766 c1_i32_1341
  let v2782 : BitVec 32 := Scalar.select v2780 v2781 v2766
  let v2783 : BitVec 32 := Scalar.addi v2782 c0_i32_1342
  let v2784 : Index := Scalar.indexCast v2783
  let c0_1343 : Index := 0#32
  let c0_1344 : Index := 0#32
  ![v2784.toNat, 0, 0]
@[reducible] def k0_t37_loop (i : grid0.Coords) : Scf.Loop 32 :=
  let c0_i32_214 : BitVec 32 := 0#32
  let arg0 : BitVec 32 := BitVec.ofNat 32 (i 0).val
  let c1_i32_5 : BitVec 32 := 1#32
  let v22 : BitVec 32 := Scalar.addi arg0 c1_i32_5
  let c256_i32_6 : BitVec 32 := 256#32
  let v23 : BitVec 32 := Scalar.muli v22 c256_i32_6
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v422 : BitVec 32 := Scalar.subi v46 c0_i32_214
  let c1_i32_215 : BitVec 32 := 1#32
  let v424 : BitVec 32 := Scalar.divsi v422 c1_i32_215
  let v425 : BitVec 32 := Scalar.muli v424 c1_i32_215
  let v426 : BitVec 32 := Scalar.addi c0_i32_214 v425
  let c1_i32_216 : BitVec 32 := 1#32
  ⟨c0_i32_214, v426, c1_i32_216⟩
def k0_mult15 (i : grid0.Coords) (k0_t37 : Fin (k0_t37_loop i).trips) : BitVec 32 :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_209 : BitVec 32 := 2048#32
  let v413 : BitVec 32 := Scalar.muli v21 c2048_i32_209
  let v414 : BitVec 32 := v413
  let c0_i32_214 : BitVec 32 := 0#32
  let c1_i32_216 : BitVec 32 := 1#32
  let arg16 : BitVec 32 := Scf.iv c0_i32_214 c1_i32_216 k0_t37
  let c256_i32_218 : BitVec 32 := 256#32
  let v429 : BitVec 32 := Scalar.muli arg16 c256_i32_218
  let v430 : BitVec 32 := Scalar.addi v414 v429
  v430
def k0_off74 (i : grid0.Coords) (k0_t37 : Fin (k0_t37_loop i).trips) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_209 : BitVec 32 := 2048#32
  let v413 : BitVec 32 := Scalar.muli v21 c2048_i32_209
  let v414 : BitVec 32 := v413
  let c0_i32_214 : BitVec 32 := 0#32
  let c1_i32_216 : BitVec 32 := 1#32
  let arg16 : BitVec 32 := Scf.iv c0_i32_214 c1_i32_216 k0_t37
  let c256_i32_218 : BitVec 32 := 256#32
  let v429 : BitVec 32 := Scalar.muli arg16 c256_i32_218
  let v430 : BitVec 32 := Scalar.addi v414 v429
  let v431 : BitVec 32 := v430
  let c0_i32_220 : BitVec 32 := 0#32
  let v433 : BitVec 1 := Scalar.cmpi .sgt v431 c0_i32_220
  let v434 : BitVec 32 := Scalar.extui v433
  let c0_i32_221 : BitVec 32 := 0#32
  let v435 : BitVec 1 := Scalar.cmpi .slt v431 c0_i32_221
  let v436 : BitVec 32 := Scalar.extui v435
  let v437 : BitVec 32 := Scalar.subi v434 v436
  let c256_i32_219 : BitVec 32 := 256#32
  let c0_i32_222 : BitVec 32 := 0#32
  let v438 : BitVec 1 := Scalar.cmpi .sgt c256_i32_219 c0_i32_222
  let v439 : BitVec 32 := Scalar.extui v438
  let c0_i32_223 : BitVec 32 := 0#32
  let v440 : BitVec 1 := Scalar.cmpi .slt c256_i32_219 c0_i32_223
  let v441 : BitVec 32 := Scalar.extui v440
  let v442 : BitVec 32 := Scalar.subi v439 v441
  let v443 : BitVec 1 := Scalar.cmpi .ne v437 v442
  let v444 : BitVec 32 := Scalar.remsi v431 c256_i32_219
  let c0_i32_224 : BitVec 32 := 0#32
  let v445 : BitVec 1 := Scalar.cmpi .ne v444 c0_i32_224
  let v446 : BitVec 1 := Scalar.andi v443 v445
  let v432 : BitVec 32 := Scalar.divsi v431 c256_i32_219
  let c1_i32_225 : BitVec 32 := 1#32
  let v447 : BitVec 32 := Scalar.subi v432 c1_i32_225
  let v448 : BitVec 32 := Scalar.select v446 v447 v432
  let c0_i32_226 : BitVec 32 := 0#32
  let v449 : BitVec 32 := Scalar.addi v448 c0_i32_226
  let v450 : Index := Scalar.indexCast v449
  let c0_227 : Index := 0#32
  let c0_228 : Index := 0#32
  ![v450.toNat, 0, 0]
def k0_off75 (i : grid0.Coords) (k0_t37 : Fin (k0_t37_loop i).trips) : Fin 2 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_209 : BitVec 32 := 2048#32
  let v413 : BitVec 32 := Scalar.muli v21 c2048_i32_209
  let v414 : BitVec 32 := v413
  let c0_i32_214 : BitVec 32 := 0#32
  let c1_i32_216 : BitVec 32 := 1#32
  let arg16 : BitVec 32 := Scf.iv c0_i32_214 c1_i32_216 k0_t37
  let c256_i32_218 : BitVec 32 := 256#32
  let v429 : BitVec 32 := Scalar.muli arg16 c256_i32_218
  let v430 : BitVec 32 := Scalar.addi v414 v429
  let v431 : BitVec 32 := v430
  let v749 : Index := Scalar.indexCast v431
  let c0_341 : Index := 0#32
  ![v749.toNat, 0]
def k0_off76 (i : grid0.Coords) (k0_t37 : Fin (k0_t37_loop i).trips) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_209 : BitVec 32 := 2048#32
  let v413 : BitVec 32 := Scalar.muli v21 c2048_i32_209
  let v414 : BitVec 32 := v413
  let c0_i32_214 : BitVec 32 := 0#32
  let c1_i32_216 : BitVec 32 := 1#32
  let arg16 : BitVec 32 := Scf.iv c0_i32_214 c1_i32_216 k0_t37
  let c256_i32_218 : BitVec 32 := 256#32
  let v429 : BitVec 32 := Scalar.muli arg16 c256_i32_218
  let v430 : BitVec 32 := Scalar.addi v414 v429
  let v431 : BitVec 32 := v430
  let c0_i32_343 : BitVec 32 := 0#32
  let v752 : BitVec 1 := Scalar.cmpi .sgt v431 c0_i32_343
  let v753 : BitVec 32 := Scalar.extui v752
  let c0_i32_344 : BitVec 32 := 0#32
  let v754 : BitVec 1 := Scalar.cmpi .slt v431 c0_i32_344
  let v755 : BitVec 32 := Scalar.extui v754
  let v756 : BitVec 32 := Scalar.subi v753 v755
  let c256_i32_342 : BitVec 32 := 256#32
  let c0_i32_345 : BitVec 32 := 0#32
  let v757 : BitVec 1 := Scalar.cmpi .sgt c256_i32_342 c0_i32_345
  let v758 : BitVec 32 := Scalar.extui v757
  let c0_i32_346 : BitVec 32 := 0#32
  let v759 : BitVec 1 := Scalar.cmpi .slt c256_i32_342 c0_i32_346
  let v760 : BitVec 32 := Scalar.extui v759
  let v761 : BitVec 32 := Scalar.subi v758 v760
  let v762 : BitVec 1 := Scalar.cmpi .ne v756 v761
  let v763 : BitVec 32 := Scalar.remsi v431 c256_i32_342
  let c0_i32_347 : BitVec 32 := 0#32
  let v764 : BitVec 1 := Scalar.cmpi .ne v763 c0_i32_347
  let v765 : BitVec 1 := Scalar.andi v762 v764
  let v751 : BitVec 32 := Scalar.divsi v431 c256_i32_342
  let c1_i32_348 : BitVec 32 := 1#32
  let v766 : BitVec 32 := Scalar.subi v751 c1_i32_348
  let v767 : BitVec 32 := Scalar.select v765 v766 v751
  let c0_i32_349 : BitVec 32 := 0#32
  let v768 : BitVec 32 := Scalar.addi v767 c0_i32_349
  let v769 : Index := Scalar.indexCast v768
  let c0_350 : Index := 0#32
  let c0_351 : Index := 0#32
  ![v769.toNat, 0, 0]
@[reducible] def k0_t38_loop (i : grid0.Coords) : Scf.Loop 32 :=
  let c0_i32_214 : BitVec 32 := 0#32
  let arg0 : BitVec 32 := BitVec.ofNat 32 (i 0).val
  let c1_i32_5 : BitVec 32 := 1#32
  let v22 : BitVec 32 := Scalar.addi arg0 c1_i32_5
  let c256_i32_6 : BitVec 32 := 256#32
  let v23 : BitVec 32 := Scalar.muli v22 c256_i32_6
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v422 : BitVec 32 := Scalar.subi v46 c0_i32_214
  let c1_i32_215 : BitVec 32 := 1#32
  let v424 : BitVec 32 := Scalar.divsi v422 c1_i32_215
  let v425 : BitVec 32 := Scalar.muli v424 c1_i32_215
  let v426 : BitVec 32 := Scalar.addi c0_i32_214 v425
  let v423 : BitVec 32 := Scalar.addi c0_i32_214 v422
  let c1_i32_217 : BitVec 32 := 1#32
  ⟨v426, v423, c1_i32_217⟩
def k0_mult16 (i : grid0.Coords) (k0_t38 : Fin (k0_t38_loop i).trips) : BitVec 32 :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_209 : BitVec 32 := 2048#32
  let v413 : BitVec 32 := Scalar.muli v21 c2048_i32_209
  let v414 : BitVec 32 := v413
  let c0_i32_214 : BitVec 32 := 0#32
  let c1_i32_5 : BitVec 32 := 1#32
  let v22 : BitVec 32 := Scalar.addi arg0 c1_i32_5
  let c256_i32_6 : BitVec 32 := 256#32
  let v23 : BitVec 32 := Scalar.muli v22 c256_i32_6
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v422 : BitVec 32 := Scalar.subi v46 c0_i32_214
  let c1_i32_215 : BitVec 32 := 1#32
  let v424 : BitVec 32 := Scalar.divsi v422 c1_i32_215
  let v425 : BitVec 32 := Scalar.muli v424 c1_i32_215
  let v426 : BitVec 32 := Scalar.addi c0_i32_214 v425
  let c1_i32_217 : BitVec 32 := 1#32
  let arg16 : BitVec 32 := Scf.iv v426 c1_i32_217 k0_t38
  let c256_i32_218 : BitVec 32 := 256#32
  let v429 : BitVec 32 := Scalar.muli arg16 c256_i32_218
  let v430 : BitVec 32 := Scalar.addi v414 v429
  v430
def k0_off77 (i : grid0.Coords) (k0_t38 : Fin (k0_t38_loop i).trips) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_209 : BitVec 32 := 2048#32
  let v413 : BitVec 32 := Scalar.muli v21 c2048_i32_209
  let v414 : BitVec 32 := v413
  let c0_i32_214 : BitVec 32 := 0#32
  let c1_i32_5 : BitVec 32 := 1#32
  let v22 : BitVec 32 := Scalar.addi arg0 c1_i32_5
  let c256_i32_6 : BitVec 32 := 256#32
  let v23 : BitVec 32 := Scalar.muli v22 c256_i32_6
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v422 : BitVec 32 := Scalar.subi v46 c0_i32_214
  let c1_i32_215 : BitVec 32 := 1#32
  let v424 : BitVec 32 := Scalar.divsi v422 c1_i32_215
  let v425 : BitVec 32 := Scalar.muli v424 c1_i32_215
  let v426 : BitVec 32 := Scalar.addi c0_i32_214 v425
  let c1_i32_217 : BitVec 32 := 1#32
  let arg16 : BitVec 32 := Scf.iv v426 c1_i32_217 k0_t38
  let c256_i32_218 : BitVec 32 := 256#32
  let v429 : BitVec 32 := Scalar.muli arg16 c256_i32_218
  let v430 : BitVec 32 := Scalar.addi v414 v429
  let v431 : BitVec 32 := v430
  let c0_i32_220 : BitVec 32 := 0#32
  let v433 : BitVec 1 := Scalar.cmpi .sgt v431 c0_i32_220
  let v434 : BitVec 32 := Scalar.extui v433
  let c0_i32_221 : BitVec 32 := 0#32
  let v435 : BitVec 1 := Scalar.cmpi .slt v431 c0_i32_221
  let v436 : BitVec 32 := Scalar.extui v435
  let v437 : BitVec 32 := Scalar.subi v434 v436
  let c256_i32_219 : BitVec 32 := 256#32
  let c0_i32_222 : BitVec 32 := 0#32
  let v438 : BitVec 1 := Scalar.cmpi .sgt c256_i32_219 c0_i32_222
  let v439 : BitVec 32 := Scalar.extui v438
  let c0_i32_223 : BitVec 32 := 0#32
  let v440 : BitVec 1 := Scalar.cmpi .slt c256_i32_219 c0_i32_223
  let v441 : BitVec 32 := Scalar.extui v440
  let v442 : BitVec 32 := Scalar.subi v439 v441
  let v443 : BitVec 1 := Scalar.cmpi .ne v437 v442
  let v444 : BitVec 32 := Scalar.remsi v431 c256_i32_219
  let c0_i32_224 : BitVec 32 := 0#32
  let v445 : BitVec 1 := Scalar.cmpi .ne v444 c0_i32_224
  let v446 : BitVec 1 := Scalar.andi v443 v445
  let v432 : BitVec 32 := Scalar.divsi v431 c256_i32_219
  let c1_i32_225 : BitVec 32 := 1#32
  let v447 : BitVec 32 := Scalar.subi v432 c1_i32_225
  let v448 : BitVec 32 := Scalar.select v446 v447 v432
  let c0_i32_226 : BitVec 32 := 0#32
  let v449 : BitVec 32 := Scalar.addi v448 c0_i32_226
  let v450 : Index := Scalar.indexCast v449
  let c0_227 : Index := 0#32
  let c0_228 : Index := 0#32
  ![v450.toNat, 0, 0]
def k0_off78 (i : grid0.Coords) (k0_t38 : Fin (k0_t38_loop i).trips) : Fin 2 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_209 : BitVec 32 := 2048#32
  let v413 : BitVec 32 := Scalar.muli v21 c2048_i32_209
  let v414 : BitVec 32 := v413
  let c0_i32_214 : BitVec 32 := 0#32
  let c1_i32_5 : BitVec 32 := 1#32
  let v22 : BitVec 32 := Scalar.addi arg0 c1_i32_5
  let c256_i32_6 : BitVec 32 := 256#32
  let v23 : BitVec 32 := Scalar.muli v22 c256_i32_6
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v422 : BitVec 32 := Scalar.subi v46 c0_i32_214
  let c1_i32_215 : BitVec 32 := 1#32
  let v424 : BitVec 32 := Scalar.divsi v422 c1_i32_215
  let v425 : BitVec 32 := Scalar.muli v424 c1_i32_215
  let v426 : BitVec 32 := Scalar.addi c0_i32_214 v425
  let c1_i32_217 : BitVec 32 := 1#32
  let arg16 : BitVec 32 := Scf.iv v426 c1_i32_217 k0_t38
  let c256_i32_218 : BitVec 32 := 256#32
  let v429 : BitVec 32 := Scalar.muli arg16 c256_i32_218
  let v430 : BitVec 32 := Scalar.addi v414 v429
  let v431 : BitVec 32 := v430
  let v749 : Index := Scalar.indexCast v431
  let c0_341 : Index := 0#32
  ![v749.toNat, 0]
def k0_off79 (i : grid0.Coords) (k0_t38 : Fin (k0_t38_loop i).trips) : Fin 3 → Nat :=
  let arg0 : BitVec 32 := BitVec.ofNat 32 (i 0).val
  let c256_i32_0 : BitVec 32 := 256#32
  let v4 : BitVec 32 := Scalar.muli arg0 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c2048_i32 : BitVec 32 := 2048#32
  let c0_i32_2 : BitVec 32 := 0#32
  let v11 : BitVec 1 := Scalar.cmpi .sgt c2048_i32 c0_i32_2
  let v12 : BitVec 32 := Scalar.extui v11
  let c0_i32_3 : BitVec 32 := 0#32
  let v13 : BitVec 1 := Scalar.cmpi .slt c2048_i32 c0_i32_3
  let v14 : BitVec 32 := Scalar.extui v13
  let v15 : BitVec 32 := Scalar.subi v12 v14
  let v16 : BitVec 1 := Scalar.cmpi .ne v10 v15
  let v17 : BitVec 32 := Scalar.remsi v4 c2048_i32
  let c0_i32_4 : BitVec 32 := 0#32
  let v18 : BitVec 1 := Scalar.cmpi .ne v17 c0_i32_4
  let v19 : BitVec 1 := Scalar.andi v16 v18
  let v5 : BitVec 32 := Scalar.divsi v4 c2048_i32
  let c1_i32 : BitVec 32 := 1#32
  let v20 : BitVec 32 := Scalar.subi v5 c1_i32
  let v21 : BitVec 32 := Scalar.select v19 v20 v5
  let c2048_i32_209 : BitVec 32 := 2048#32
  let v413 : BitVec 32 := Scalar.muli v21 c2048_i32_209
  let v414 : BitVec 32 := v413
  let c0_i32_214 : BitVec 32 := 0#32
  let c1_i32_5 : BitVec 32 := 1#32
  let v22 : BitVec 32 := Scalar.addi arg0 c1_i32_5
  let c256_i32_6 : BitVec 32 := 256#32
  let v23 : BitVec 32 := Scalar.muli v22 c256_i32_6
  let c2048_i32_7 : BitVec 32 := 2048#32
  let v24 : BitVec 32 := Scalar.muli v21 c2048_i32_7
  let v25 : BitVec 32 := Scalar.subi v23 v24
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c256_i32_8 : BitVec 32 := 256#32
  let c0_i32_11 : BitVec 32 := 0#32
  let v32 : BitVec 1 := Scalar.cmpi .sgt c256_i32_8 c0_i32_11
  let v33 : BitVec 32 := Scalar.extui v32
  let c0_i32_12 : BitVec 32 := 0#32
  let v34 : BitVec 1 := Scalar.cmpi .slt c256_i32_8 c0_i32_12
  let v35 : BitVec 32 := Scalar.extui v34
  let v36 : BitVec 32 := Scalar.subi v33 v35
  let v37 : BitVec 1 := Scalar.cmpi .ne v31 v36
  let v38 : BitVec 32 := Scalar.remsi v25 c256_i32_8
  let c0_i32_13 : BitVec 32 := 0#32
  let v39 : BitVec 1 := Scalar.cmpi .ne v38 c0_i32_13
  let v40 : BitVec 1 := Scalar.andi v37 v39
  let v26 : BitVec 32 := Scalar.divsi v25 c256_i32_8
  let c1_i32_14 : BitVec 32 := 1#32
  let v41 : BitVec 32 := Scalar.subi v26 c1_i32_14
  let v42 : BitVec 32 := Scalar.select v40 v41 v26
  let c1_i32_15 : BitVec 32 := 1#32
  let c4_i32 : BitVec 32 := 4#32
  let v43 : BitVec 1 := Scalar.cmpi .sgt v42 c4_i32
  let v44 : BitVec 32 := Scalar.extui v43
  let v45 : BitVec 32 := Scalar.subi c1_i32_15 v44
  let v46 : BitVec 32 := Scalar.muli v42 v45
  let v422 : BitVec 32 := Scalar.subi v46 c0_i32_214
  let c1_i32_215 : BitVec 32 := 1#32
  let v424 : BitVec 32 := Scalar.divsi v422 c1_i32_215
  let v425 : BitVec 32 := Scalar.muli v424 c1_i32_215
  let v426 : BitVec 32 := Scalar.addi c0_i32_214 v425
  let c1_i32_217 : BitVec 32 := 1#32
  let arg16 : BitVec 32 := Scf.iv v426 c1_i32_217 k0_t38
  let c256_i32_218 : BitVec 32 := 256#32
  let v429 : BitVec 32 := Scalar.muli arg16 c256_i32_218
  let v430 : BitVec 32 := Scalar.addi v414 v429
  let v431 : BitVec 32 := v430
  let c0_i32_343 : BitVec 32 := 0#32
  let v752 : BitVec 1 := Scalar.cmpi .sgt v431 c0_i32_343
  let v753 : BitVec 32 := Scalar.extui v752
  let c0_i32_344 : BitVec 32 := 0#32
  let v754 : BitVec 1 := Scalar.cmpi .slt v431 c0_i32_344
  let v755 : BitVec 32 := Scalar.extui v754
  let v756 : BitVec 32 := Scalar.subi v753 v755
  let c256_i32_342 : BitVec 32 := 256#32
  let c0_i32_345 : BitVec 32 := 0#32
  let v757 : BitVec 1 := Scalar.cmpi .sgt c256_i32_342 c0_i32_345
  let v758 : BitVec 32 := Scalar.extui v757
  let c0_i32_346 : BitVec 32 := 0#32
  let v759 : BitVec 1 := Scalar.cmpi .slt c256_i32_342 c0_i32_346
  let v760 : BitVec 32 := Scalar.extui v759
  let v761 : BitVec 32 := Scalar.subi v758 v760
  let v762 : BitVec 1 := Scalar.cmpi .ne v756 v761
  let v763 : BitVec 32 := Scalar.remsi v431 c256_i32_342
  let c0_i32_347 : BitVec 32 := 0#32
  let v764 : BitVec 1 := Scalar.cmpi .ne v763 c0_i32_347
  let v765 : BitVec 1 := Scalar.andi v762 v764
  let v751 : BitVec 32 := Scalar.divsi v431 c256_i32_342
  let c1_i32_348 : BitVec 32 := 1#32
  let v766 : BitVec 32 := Scalar.subi v751 c1_i32_348
  let v767 : BitVec 32 := Scalar.select v765 v766 v751
  let c0_i32_349 : BitVec 32 := 0#32
  let v768 : BitVec 32 := Scalar.addi v767 c0_i32_349
  let v769 : Index := Scalar.indexCast v768
  let c0_350 : Index := 0#32
  let c0_351 : Index := 0#32
  ![v769.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16384x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16384x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Merge.lean ====
abbrev S16384x1024 : Shape := ⟨2, ![16384, 1024]⟩
abbrev S16384x256 : Shape := ⟨2, ![16384, 256]⟩
abbrev S1024 : Shape := ⟨1, ![1024]⟩
abbrev S1024x8100 : Shape := ⟨2, ![1024, 8100]⟩
abbrev S4096 : Shape := ⟨1, ![4096]⟩
abbrev S4x256x1024 : Shape := ⟨3, ![4, 256, 1024]⟩
abbrev S1024x1024 : Shape := ⟨2, ![1024, 1024]⟩
abbrev S256x1024 : Shape := ⟨2, ![256, 1024]⟩
abbrev S1024x256 : Shape := ⟨2, ![1024, 256]⟩
abbrev S1024x512 : Shape := ⟨2, ![1024, 512]⟩
abbrev S1024x4096 : Shape := ⟨2, ![1024, 4096]⟩
abbrev S1x4096 : Shape := ⟨2, ![1, 4096]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩
abbrev S256x512 : Shape := ⟨2, ![256, 512]⟩
abbrev S1x256x1024 : Shape := ⟨3, ![1, 256, 1024]⟩

abbrev nBuf : Space → Nat
  | .hbm => 28
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .bf16⟩
  | .hbm, ⟨4, _⟩ => ⟨S16384x256, .bf16⟩
  | .hbm, ⟨5, _⟩ => ⟨S16384x256, .f32⟩
  | .hbm, ⟨6, _⟩ => ⟨S1024, .f32⟩
  | .hbm, ⟨7, _⟩ => ⟨S1024x8100, .f32⟩
  | .hbm, ⟨8, _⟩ => ⟨S4096, .f32⟩
  | .hbm, ⟨9, _⟩ => ⟨S4x256x1024, .f32⟩
  | .hbm, ⟨10, _⟩ => ⟨S1024x1024, .f32⟩
  | .hbm, ⟨11, _⟩ => ⟨S1024, .f32⟩
  | .hbm, ⟨12, _⟩ => ⟨S256x1024, .f32⟩
  | .hbm, ⟨13, _⟩ => ⟨S1024x1024, .f32⟩
  | .hbm, ⟨14, _⟩ => ⟨S1024x256, .f32⟩
  | .hbm, ⟨15, _⟩ => ⟨S1024x256, .f32⟩
  | .hbm, ⟨16, _⟩ => ⟨S1024x512, .f32⟩
  | .hbm, ⟨17, _⟩ => ⟨S1024x512, .bf16⟩
  | .hbm, ⟨18, _⟩ => ⟨S1024x4096, .f32⟩
  | .hbm, ⟨19, _⟩ => ⟨S1024x4096, .bf16⟩
  | .hbm, ⟨20, _⟩ => ⟨S1x4096, .f32⟩
  | .hbm, ⟨21, _⟩ => ⟨S4x256x1024, .bf16⟩
  | .hbm, ⟨22, _⟩ => ⟨S1024x1024, .bf16⟩
  | .hbm, ⟨23, _⟩ => ⟨S1x1024, .f32⟩
  | .hbm, ⟨24, _⟩ => ⟨S256x1024, .bf16⟩
  | .hbm, ⟨25, _⟩ => ⟨S1024x1024, .bf16⟩
  | .hbm, ⟨26, _⟩ => ⟨S1x1024, .f32⟩
  | .hbm, ⟨27, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .f32⟩
  | .local _ .vmem, ⟨11, _⟩ => ⟨S256x256, .f32⟩
  | .local _ .vmem, ⟨12, _⟩ => ⟨S1x1024, .f32⟩
  | .local _ .vmem, ⟨13, _⟩ => ⟨S1024x512, .bf16⟩
  | .local _ .vmem, ⟨14, _⟩ => ⟨S1024x4096, .bf16⟩
  | .local _ .vmem, ⟨15, _⟩ => ⟨S1x4096, .f32⟩
  | .local _ .vmem, ⟨16, _⟩ => ⟨S4x256x1024, .bf16⟩
  | .local _ .vmem, ⟨17, _⟩ => ⟨S1024x1024, .bf16⟩
  | .local _ .vmem, ⟨18, _⟩ => ⟨S1x1024, .f32⟩
  | .local _ .vmem, ⟨19, _⟩ => ⟨S256x1024, .bf16⟩
  | .local _ .vmem, ⟨20, _⟩ => ⟨S1024x1024, .bf16⟩
  | .local _ .vmem, ⟨21, _⟩ => ⟨S256x1024, .f32⟩
  | .local _ .vmem, ⟨22, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeRefIdeal.lean ====
abbrev S16384x1024 : Shape := ⟨2, ![16384, 1024]⟩
abbrev S16384x256 : Shape := ⟨2, ![16384, 256]⟩
abbrev S1024 : Shape := ⟨1, ![1024]⟩
abbrev S1024x8100 : Shape := ⟨2, ![1024, 8100]⟩
abbrev S4096 : Shape := ⟨1, ![4096]⟩
abbrev S4x256x1024 : Shape := ⟨3, ![4, 256, 1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8100 : Shape := ⟨2, ![16384, 8100]⟩
abbrev S16384x4096 : Shape := ⟨2, ![16384, 4096]⟩
abbrev S16384x1x256 : Shape := ⟨3, ![16384, 1, 256]⟩
abbrev S16384x4x256 : Shape := ⟨3, ![16384, 4, 256]⟩
abbrev S4x1024x16384 : Shape := ⟨3, ![4, 1024, 16384]⟩
abbrev S16384x4x1024 : Shape := ⟨3, ![16384, 4, 1024]⟩
abbrev S1x4096 : Shape := ⟨2, ![1, 4096]⟩

abbrev nBuf : Space → Nat
  | .hbm => 108
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .bf16⟩
  | .hbm, ⟨4, _⟩ => ⟨S16384x256, .bf16⟩
  | .hbm, ⟨5, _⟩ => ⟨S16384x256, .f32⟩
  | .hbm, ⟨6, _⟩ => ⟨S1024, .f32⟩
  | .hbm, ⟨7, _⟩ => ⟨S1024x8100, .f32⟩
  | .hbm, ⟨8, _⟩ => ⟨S4096, .f32⟩
  | .hbm, ⟨9, _⟩ => ⟨S4x256x1024, .f32⟩
  | .hbm, ⟨10, _⟩ => ⟨S1024x1024, .f32⟩
  | .hbm, ⟨11, _⟩ => ⟨S1024, .f32⟩
  | .hbm, ⟨12, _⟩ => ⟨S256x1024, .f32⟩
  | .hbm, ⟨13, _⟩ => ⟨S1024x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x8100, .f32⟩
  | .hbm, ⟨31, _⟩ => ⟨S16384x256, .f32⟩
  | .hbm, ⟨32, _⟩ => ⟨S16384x256, .f32⟩
  | .hbm, ⟨33, _⟩ => ⟨S16384x4096, .f32⟩
  | .hbm, ⟨34, _⟩ => ⟨S16384x256, .f32⟩
  | .hbm, ⟨35, _⟩ => ⟨S16384x256, .f32⟩
  | .hbm, ⟨36, _⟩ => ⟨S_, .f32⟩
  | .hbm, ⟨37, _⟩ => ⟨S16384x256, .f32⟩
  | .hbm, ⟨38, _⟩ => ⟨S16384x256, .f32⟩
  | .hbm, ⟨39, _⟩ => ⟨S_, .f32⟩
  | .hbm, ⟨40, _⟩ => ⟨S16384x256, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S_, .f32⟩
  | .hbm, ⟨48, _⟩ => ⟨S16384x256, .f32⟩
  | .hbm, ⟨49, _⟩ => ⟨S16384x256, .f32⟩
  | .hbm, ⟨50, _⟩ => ⟨S_, .f32⟩
  | .hbm, ⟨51, _⟩ => ⟨S16384x256, .f32⟩
  | .hbm, ⟨52, _⟩ => ⟨S16384x256, .f32⟩
  | .hbm, ⟨53, _⟩ => ⟨S16384x256, .f32⟩
  | .hbm, ⟨54, _⟩ => ⟨S16384x256, .f32⟩
  | .hbm, ⟨55, _⟩ => ⟨S16384x256, .f32⟩
  | .hbm, ⟨56, _⟩ => ⟨S16384x1x256, .f32⟩
  | .hbm, ⟨57, _⟩ => ⟨S16384x1x256, .f32⟩
  | .hbm, ⟨58, _⟩ => ⟨S16384x1x256, .f32⟩
  | .hbm, ⟨59, _⟩ => ⟨S16384x1x256, .f32⟩
  | .hbm, ⟨60, _⟩ => ⟨S16384x4x256, .f32⟩
  | .hbm, ⟨61, _⟩ => ⟨S4x1024x16384, .f32⟩
  | .hbm, ⟨62, _⟩ => ⟨S16384x4x1024, .f32⟩
  | .hbm, ⟨63, _⟩ => ⟨S1x4096, .f32⟩
  | .hbm, ⟨64, _⟩ => ⟨S16384x4096, .f32⟩
  | .hbm, ⟨65, _⟩ => ⟨S16384x4096, .f32⟩
  | .hbm, ⟨66, _⟩ => ⟨S16384x4x1024, .f32⟩
  | .hbm, ⟨67, _⟩ => ⟨S16384x4x1024, .f32⟩
  | .hbm, ⟨68, _⟩ => ⟨S16384x4x1024, .f32⟩
  | .hbm, ⟨69, _⟩ => ⟨S_, .f32⟩
  | .hbm, ⟨70, _⟩ => ⟨S16384x4x1024, .f32⟩
  | .hbm, ⟨71, _⟩ => ⟨S16384x4x1024, .f32⟩
  | .hbm, ⟨72, _⟩ => ⟨S_, .f32⟩
  | .hbm, ⟨73, _⟩ => ⟨S16384x4x1024, .f32⟩
  | .hbm, ⟨74, _⟩ => ⟨S16384x4x1024, .f32⟩
  | .hbm, ⟨75, _⟩ => ⟨S16384x4x1024, .f32⟩
  | .hbm, ⟨76, _⟩ => ⟨S_, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S16384x1, .f32⟩
  | .hbm, ⟨90, _⟩ => ⟨S16384x1024, .f32⟩
  | .hbm, ⟨91, _⟩ => ⟨S16384x1024, .f32⟩
  | .hbm, ⟨92, _⟩ => ⟨S1x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S_, .f32⟩
  | .hbm, ⟨101, _⟩ => ⟨S16384x1024, .f32⟩
  | .hbm, ⟨102, _⟩ => ⟨S16384x1024, .f32⟩
  | .hbm, ⟨103, _⟩ => ⟨S_, .f32⟩
  | .hbm, ⟨104, _⟩ => ⟨S16384x1024, .f32⟩
  | .hbm, ⟨105, _⟩ => ⟨S16384x1024, .f32⟩
  | .hbm, ⟨106, _⟩ => ⟨S16384x1024, .f32⟩
  | .hbm, ⟨107, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_2 : Ref sig .tc := ⟨.hbm, 69, rfl⟩
abbrev main_v36 : Ref sig .tc := ⟨.hbm, 70, rfl⟩
abbrev main_v37 : Ref sig .tc := ⟨.hbm, 71, rfl⟩
abbrev main_cst_3 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_4 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_5 : Ref sig .tc := ⟨.hbm, 80, rfl⟩
abbrev main_v44 : Ref sig .tc := ⟨.hbm, 81, rfl⟩
abbrev main_v45 : Ref sig .tc := ⟨.hbm, 82, rfl⟩
abbrev main_cst_6 : Ref sig .tc := ⟨.hbm, 83, rfl⟩
abbrev main_v46 : Ref sig .tc := ⟨.hbm, 84, rfl⟩
abbrev main_v47 : Ref sig .tc := ⟨.hbm, 85, rfl⟩
abbrev main_cst_7 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_8 : Ref sig .tc := ⟨.hbm, 100, rfl⟩
abbrev main_v61 : Ref sig .tc := ⟨.hbm, 101, rfl⟩
abbrev main_v62 : Ref sig .tc := ⟨.hbm, 102, rfl⟩
abbrev main_cst_9 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩

abbrev nD : Nat := 1
abbrev τ : Topo := Topo.v7x

variable {F : FTy → Type} [FloatOps F]
-- ==== PreMix.lean ====
abbrev S16384x1024 : Shape := ⟨2, ![16384, 1024]⟩
abbrev S1024 : Shape := ⟨1, ![1024]⟩
abbrev S1024x8100 : Shape := ⟨2, ![1024, 8100]⟩
abbrev S16384x32 : Shape := ⟨2, ![16384, 32]⟩
abbrev S16384x16 : Shape := ⟨2, ![16384, 16]⟩
abbrev S3x256 : Shape := ⟨2, ![3, 256]⟩
abbrev S256 : Shape := ⟨1, ![256]⟩
abbrev S4x128x128 : Shape := ⟨3, ![4, 128, 128]⟩
abbrev S4x128 : Shape := ⟨2, ![4, 128]⟩
abbrev S1024x768 : Shape := ⟨2, ![1024, 768]⟩
abbrev S1024x160 : Shape := ⟨2, ![1024, 160]⟩
abbrev S_ : Shape := ⟨0, ![]⟩
abbrev S1024x96 : Shape := ⟨2, ![1024, 96]⟩
abbrev S1024x4 : Shape := ⟨2, ![1024, 4]⟩
abbrev S1024x124 : Shape := ⟨2, ![1024, 124]⟩
abbrev S1024x384 : Shape := ⟨2, ![1024, 384]⟩
abbrev S1024x512 : Shape := ⟨2, ![1024, 512]⟩
abbrev S1024x256 : Shape := ⟨2, ![1024, 256]⟩
abbrev S1024x1792 : Shape := ⟨2, ![1024, 1792]⟩
abbrev S8x256 : Shape := ⟨2, ![8, 256]⟩
abbrev S1x256 : Shape := ⟨2, ![1, 256]⟩
abbrev S128x4 : Shape := ⟨2, ![128, 4]⟩
abbrev S128x4x64 : Shape := ⟨3, ![128, 4, 64]⟩
abbrev S128x256 : Shape := ⟨2, ![128, 256]⟩
abbrev S16384x256 : Shape := ⟨2, ![16384, 256]⟩
abbrev S16384x64 : Shape := ⟨2, ![16384, 64]⟩
abbrev S16384x128 : Shape := ⟨2, ![16384, 128]⟩
abbrev S1x1024 : Shape := ⟨2, ![1, 1024]⟩
abbrev S64x256x256 : Shape := ⟨3, ![64, 256, 256]⟩
abbrev S8x16384 : Shape := ⟨2, ![8, 16384]⟩
abbrev S256x1024 : Shape := ⟨2, ![256, 1024]⟩
abbrev S256x256 : Shape := ⟨2, ![256, 256]⟩
abbrev S256x128 : Shape := ⟨2, ![256, 128]⟩
abbrev S1x256x256 : Shape := ⟨3, ![1, 256, 256]⟩
abbrev S256x32 : Shape := ⟨2, ![256, 32]⟩
abbrev S264x256 : Shape := ⟨2, ![264, 256]⟩
abbrev S256x1 : Shape := ⟨2, ![256, 1]⟩
abbrev S256x768 : Shape := ⟨2, ![256, 768]⟩
abbrev S256x384 : Shape := ⟨2, ![256, 384]⟩
abbrev S1x128 : Shape := ⟨2, ![1, 128]⟩
abbrev S256x1792 : Shape := ⟨2, ![256, 1792]⟩
abbrev S128x128 : Shape := ⟨2, ![128, 128]⟩
abbrev S1x128x128 : Shape := ⟨3, ![1, 128, 128]⟩

abbrev nBuf : Space → Nat
  | .hbm => 60
  | .vmem => 44
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8100, .f32⟩
  | .hbm, ⟨3, _⟩ => ⟨S16384x32, .f32⟩
  | .hbm, ⟨4, _⟩ => ⟨S16384x32, .f32⟩
  | .hbm, ⟨5, _⟩ => ⟨S16384x16, .f32⟩
  | .hbm, ⟨6, _⟩ => ⟨S16384x16, .f32⟩
  | .hbm, ⟨7, _⟩ => ⟨S3x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S4x128x128, .f32⟩
  | .hbm, ⟨12, _⟩ => ⟨S4x128, .f32⟩
  | .hbm, ⟨13, _⟩ => ⟨S1024x768, .f32⟩
  | .hbm, ⟨14, _⟩ => ⟨S1024x768, .bf16⟩
  | .hbm, ⟨15, _⟩ => ⟨S1024x160, .f32⟩
  | .hbm, ⟨16, _⟩ => ⟨S_, .f32⟩
  | .hbm, ⟨17, _⟩ => ⟨S1024x96, .f32⟩
  | .hbm, ⟨18, _⟩ => ⟨S1024x4, .f32⟩
  | .hbm, ⟨19, _⟩ => ⟨S_, .f32⟩
  | .hbm, ⟨20, _⟩ => ⟨S1024x124, .f32⟩
  | .hbm, ⟨21, _⟩ => ⟨S1024x384, .f32⟩
  | .hbm, ⟨22, _⟩ => ⟨S1024x384, .bf16⟩
  | .hbm, ⟨23, _⟩ => ⟨S1024x768, .f32⟩
  | .hbm, ⟨24, _⟩ => ⟨S1024x768, .bf16⟩
  | .hbm, ⟨25, _⟩ => ⟨S1024x768, .f32⟩
  | .hbm, ⟨26, _⟩ => ⟨S1024x512, .f32⟩
  | .hbm, ⟨27, _⟩ => ⟨S1024x256, .f32⟩
  | .hbm, ⟨28, _⟩ => ⟨S1024x256, .f32⟩
  | .hbm, ⟨29, _⟩ => ⟨S1024x1792, .f32⟩
  | .hbm, ⟨30, _⟩ => ⟨S1024x1792, .bf16⟩
  | .hbm, ⟨31, _⟩ => ⟨S_, .i32⟩
  | .hbm, ⟨32, _⟩ => ⟨S_, .f32⟩
  | .hbm, ⟨33, _⟩ => ⟨S8x256, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S128x4, .f32⟩
  | .hbm, ⟨38, _⟩ => ⟨S128x4x64, .f32⟩
  | .hbm, ⟨39, _⟩ => ⟨S128x256, .f32⟩
  | .hbm, ⟨40, _⟩ => ⟨S16384x256, .f32⟩
  | .hbm, ⟨41, _⟩ => ⟨S16384x32, .f32⟩
  | .hbm, ⟨42, _⟩ => ⟨S16384x64, .f32⟩
  | .hbm, ⟨43, _⟩ => ⟨S16384x256, .f32⟩
  | .hbm, ⟨44, _⟩ => ⟨S16384x128, .f32⟩
  | .hbm, ⟨45, _⟩ => ⟨S16384x16, .f32⟩
  | .hbm, ⟨46, _⟩ => ⟨S16384x32, .f32⟩
  | .hbm, ⟨47, _⟩ => ⟨S16384x128, .f32⟩
  | .hbm, ⟨48, _⟩ => ⟨S1x1024, .f32⟩
  | .hbm, ⟨49, _⟩ => ⟨S16384x256, .f32⟩
  | .hbm, ⟨50, _⟩ => ⟨S16384x256, .bf16⟩
  | .hbm, ⟨51, _⟩ => ⟨S64x256x256, .bf16⟩
  | .hbm, ⟨52, _⟩ => ⟨S16384x128, .f32⟩
  | .hbm, ⟨53, _⟩ => ⟨S16384x32, .bf16⟩
  | .hbm, ⟨54, _⟩ => ⟨S8x16384, .f32⟩
  | .hbm, ⟨55, _⟩ => ⟨S16384x256, .bf16⟩
  | .hbm, ⟨56, _⟩ => ⟨S16384x256, .bf16⟩
  | .hbm, ⟨57, _⟩ => ⟨S16384x256, .bf16⟩
  | .hbm, ⟨58, _⟩ => ⟨S16384x256, .bf16⟩
  | .hbm, ⟨59, _⟩ => ⟨S16384x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x768, .bf16⟩
  | .local _ .vmem, ⟨4, _⟩ => ⟨S1024x384, .bf16⟩
  | .local _ .vmem, ⟨5, _⟩ => ⟨S1024x768, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1024x1792, .bf16⟩
  | .local _ .vmem, ⟨15, _⟩ => ⟨S8x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S4x128x128, .f32⟩
  | .local _ .vmem, ⟨20, _⟩ => ⟨S128x256, .f32⟩
  | .local _ .vmem, ⟨21, _⟩ => ⟨S256x256, .f32⟩
  | .local _ .vmem, ⟨22, _⟩ => ⟨S256x256, .f32⟩
  | .local _ .vmem, ⟨23, _⟩ => ⟨S256x256, .bf16⟩
  | .local _ .vmem, ⟨24, _⟩ => ⟨S256x256, .bf16⟩
  | .local _ .vmem, ⟨25, _⟩ => ⟨S1x256x256, .bf16⟩
  | .local _ .vmem, ⟨26, _⟩ => ⟨S1x256x256, .bf16⟩
  | .local _ .vmem, ⟨27, _⟩ => ⟨S256x128, .f32⟩
  | .local _ .vmem, ⟨28, _⟩ => ⟨S256x128, .f32⟩
  | .local _ .vmem, ⟨29, _⟩ => ⟨S256x32, .bf16⟩
  | .local _ .vmem, ⟨30, _⟩ => ⟨S256x32, .bf16⟩
  | .local _ .vmem, ⟨31, _⟩ => ⟨S8x256, .f32⟩
  | .local _ .vmem, ⟨32, _⟩ => ⟨S8x256, .f32⟩
  | .local _ .vmem, ⟨33, _⟩ => ⟨S256x256, .bf16⟩
  | .local _ .vmem, ⟨34, _⟩ => ⟨S256x256, .bf16⟩
  | .local _ .vmem, ⟨35, _⟩ => ⟨S256x256, .bf16⟩
  | .local _ .vmem, ⟨36, _⟩ => ⟨S256x256, .bf16⟩
  | .local _ .vmem, ⟨37, _⟩ => ⟨S256x256, .bf16⟩
  | .local _ .vmem, ⟨38, _⟩ => ⟨S256x256, .bf16⟩
  | .local _ .vmem, ⟨39, _⟩ => ⟨S256x256, .bf16⟩
  | .local _ .vmem, ⟨40, _⟩ => ⟨S256x256, .bf16⟩
  | .local _ .vmem, ⟨41, _⟩ => ⟨S256x256, .bf16⟩
  | .local _ .vmem, ⟨42, _⟩ => ⟨S256x256, .bf16⟩
  | .local _ .vmem, ⟨43, _⟩ => ⟨S264x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32_0 : Ref sig .tc := ⟨.hbm, 49, rfl⟩
abbrev main_v32_1 : Ref sig .tc := ⟨.hbm, 50, rfl⟩
abbrev main_v32_2 : Ref sig .tc := ⟨.hbm, 51, rfl⟩
abbrev main_v32_3 : Ref sig .tc := ⟨.hbm, 52, rfl⟩
abbrev main_v32_4 : Ref sig .tc := ⟨.hbm, 53, rfl⟩
abbrev main_v32_5 : Ref sig .tc := ⟨.hbm, 54, rfl⟩
abbrev main_v32_6 : Ref sig .tc := ⟨.hbm, 55, rfl⟩
abbrev main_v32_7 : Ref sig .tc := ⟨.hbm, 56, rfl⟩
abbrev main_v32_8 : Ref sig .tc := ⟨.hbm, 57, rfl⟩
abbrev main_v32_9 : Ref sig .tc := ⟨.hbm, 58, rfl⟩
abbrev main_v32_10 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_stg25_1 : Ref sig .tc := ⟨.vmem, 40, rfl⟩
abbrev cc0_stg26_0 : Ref sig .tc := ⟨.vmem, 41, rfl⟩
abbrev cc0_stg26_1 : Ref sig .tc := ⟨.vmem, 42, rfl⟩
abbrev cc0_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39
abbrev cc0_sem25_1 : DmaSem sig := 40
abbrev cc0_sem26_0 : DmaSem sig := 41
abbrev cc0_sem26_1 : DmaSem sig := 42

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1792 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x32 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== PreMixRefIdeal.lean ====
abbrev S16384x1024 : Shape := ⟨2, ![16384, 1024]⟩
abbrev S1024 : Shape := ⟨1, ![1024]⟩
abbrev S1024x8100 : Shape := ⟨2, ![1024, 8100]⟩
abbrev S16384x32 : Shape := ⟨2, ![16384, 32]⟩
abbrev S16384x16 : Shape := ⟨2, ![16384, 16]⟩
abbrev S3x256 : Shape := ⟨2, ![3, 256]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8100 : Shape := ⟨2, ![16384, 8100]⟩
abbrev S16384x256 : Shape := ⟨2, ![16384, 256]⟩
abbrev S16384x4x64 : Shape := ⟨3, ![16384, 4, 64]⟩
abbrev S16384x4x32 : Shape := ⟨3, ![16384, 4, 32]⟩
abbrev S16384x1x32 : Shape := ⟨3, ![16384, 1, 32]⟩
abbrev S16384x128 : Shape := ⟨2, ![16384, 128]⟩
abbrev S16384x4x16 : Shape := ⟨3, ![16384, 4, 16]⟩
abbrev S16384x1x16 : Shape := ⟨3, ![16384, 1, 16]⟩
abbrev S16384x4 : Shape := ⟨2, ![16384, 4]⟩
abbrev S16386x256 : Shape := ⟨2, ![16386, 256]⟩
abbrev S1x256 : Shape := ⟨2, ![1, 256]⟩
abbrev S128x128x4x64 : Shape := ⟨4, ![128, 128, 4, 64]⟩
abbrev S128x128 : Shape := ⟨2, ![128, 128]⟩
abbrev S1x128x128 : Shape := ⟨3, ![1, 128, 128]⟩
abbrev S4x128x64x128 : Shape := ⟨4, ![4, 128, 64, 128]⟩
abbrev S128x4 : Shape := ⟨2, ![128, 4]⟩
abbrev S1x128x4x1 : Shape := ⟨4, ![1, 128, 4, 1]⟩
abbrev S64x256x256 : Shape := ⟨3, ![64, 256, 256]⟩
abbrev S16384x8 : Shape := ⟨2, ![16384, 8]⟩
abbrev S8x16384 : Shape := ⟨2, ![8, 16384]⟩

abbrev nBuf : Space → Nat
  | .hbm => 232
  | .vmem => 0
  | .smem => 0
  | _ => 0

abbrev hbmTy0_0 (i : Nat) : BufTy := match i % 128 with
  | 0 => ⟨S16384x1024, .f32⟩
  | 1 => ⟨S1024, .f32⟩
  | 2 => ⟨S1024x8100, .f32⟩
  | 3 => ⟨S16384x32, .f32⟩
  | 4 => ⟨S16384x32, .f32⟩
  | 5 => ⟨S16384x16, .f32⟩
  | 6 => ⟨S16384x16, .f32⟩
  | 7 => ⟨S3x256, .f32⟩
  | 8 => ⟨S256, .f32⟩
  | 9 => ⟨S256, .f32⟩
  | 10 => ⟨S256, .f32⟩
  | 11 => ⟨S4x128x128, .f32⟩
  | 12 => ⟨S4x128, .f32⟩
  | 13 => ⟨S16384x1024, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S_, .f32⟩
  | 21 => ⟨S16384x1, .f32⟩
  | 22 => ⟨S16384x1, .f32⟩
  | 23 => ⟨S16384x1, .f32⟩
  | 24 => ⟨S16384x1024, .f32⟩
  | 25 => ⟨S16384x1024, .f32⟩
  | 26 => ⟨S1x1024, .f32⟩
  | 27 => ⟨S16384x1024, .f32⟩
  | 28 => ⟨S16384x1024, .f32⟩
  | 29 => ⟨S16384x8100, .f32⟩
  | 30 => ⟨S16384x256, .f32⟩
  | 31 => ⟨S16384x4x64, .f32⟩
  | 32 => ⟨S16384x4x32, .f32⟩
  | 33 => ⟨S16384x4x32, .f32⟩
  | 34 => ⟨S16384x1x32, .f32⟩
  | 35 => ⟨S16384x1x32, .f32⟩
  | 36 => ⟨S16384x4x32, .f32⟩
  | 37 => ⟨S16384x4x32, .f32⟩
  | 38 => ⟨S16384x4x32, .f32⟩
  | 39 => ⟨S16384x4x32, .f32⟩
  | 40 => ⟨S16384x4x32, .f32⟩
  | 41 => ⟨S16384x4x32, .f32⟩
  | 42 => ⟨S16384x4x32, .f32⟩
  | 43 => ⟨S16384x4x32, .f32⟩
  | 44 => ⟨S16384x4x32, .f32⟩
  | 45 => ⟨S16384x4x32, .f32⟩
  | 46 => ⟨S16384x4x64, .f32⟩
  | 47 => ⟨S16384x256, .f32⟩
  | 48 => ⟨S16384x256, .f32⟩
  | 49 => ⟨S16384x4x64, .f32⟩
  | 50 => ⟨S16384x4x32, .f32⟩
  | 51 => ⟨S16384x4x32, .f32⟩
  | 52 => ⟨S16384x1x32, .f32⟩
  | 53 => ⟨S16384x1x32, .f32⟩
  | 54 => ⟨S16384x4x32, .f32⟩
  | 55 => ⟨S16384x4x32, .f32⟩
  | 56 => ⟨S16384x4x32, .f32⟩
  | 57 => ⟨S16384x4x32, .f32⟩
  | 58 => ⟨S16384x4x32, .f32⟩
  | 59 => ⟨S16384x4x32, .f32⟩
  | 60 => ⟨S16384x4x32, .f32⟩
  | 61 => ⟨S16384x4x32, .f32⟩
  | 62 => ⟨S16384x4x32, .f32⟩
  | 63 => ⟨S16384x4x32, .f32⟩
  | 64 => ⟨S16384x4x64, .f32⟩
  | 65 => ⟨S16384x256, .f32⟩
  | 66 => ⟨S16384x256, .f32⟩
  | 67 => ⟨S16384x128, .f32⟩
  | 68 => ⟨S16384x4x32, .f32⟩
  | 69 => ⟨S16384x4x16, .f32⟩
  | 70 => ⟨S16384x4x16, .f32⟩
  | 71 => ⟨S16384x1x16, .f32⟩
  | 72 => ⟨S16384x1x16, .f32⟩
  | 73 => ⟨S16384x4x16, .f32⟩
  | 74 => ⟨S16384x4x16, .f32⟩
  | 75 => ⟨S16384x4x16, .f32⟩
  | 76 => ⟨S16384x4x16, .f32⟩
  | 77 => ⟨S16384x4x16, .f32⟩
  | 78 => ⟨S16384x4x16, .f32⟩
  | 79 => ⟨S16384x4x16, .f32⟩
  | 80 => ⟨S16384x4x16, .f32⟩
  | 81 => ⟨S16384x4x16, .f32⟩
  | 82 => ⟨S16384x4x16, .f32⟩
  | 83 => ⟨S16384x4x32, .f32⟩
  | 84 => ⟨S16384x128, .f32⟩
  | 85 => ⟨S16384x32, .f32⟩
  | 86 => ⟨S16384x1x32, .f32⟩
  | 87 => ⟨S16384x1x16, .f32⟩
  | 88 => ⟨S16384x1x16, .f32⟩
  | 89 => ⟨S16384x1x16, .f32⟩
  | 90 => ⟨S16384x1x16, .f32⟩
  | 91 => ⟨S16384x1x16, .f32⟩
  | 92 => ⟨S16384x1x16, .f32⟩
  | 93 => ⟨S16384x1x16, .f32⟩
  | 94 => ⟨S16384x1x16, .f32⟩
  | 95 => ⟨S16384x1x16, .f32⟩
  | 96 => ⟨S16384x1x16, .f32⟩
  | 97 => ⟨S16384x1x32, .f32⟩
  | 98 => ⟨S16384x32, .f32⟩
  | 99 => ⟨S16384x4, .f32⟩
  | 100 => ⟨S16384x256, .f32⟩
  | 101 => ⟨S16384x256, .f32⟩
  | 102 => ⟨S16384x256, .f32⟩
  | 103 => ⟨S16384x256, .f32⟩
  | 104 => ⟨S16384x256, .f32⟩
  | 105 => ⟨S16384x256, .f32⟩
  | 106 => ⟨S16384x256, .f32⟩
  | 107 => ⟨S16384x256, .f32⟩
  | 108 => ⟨S16384x256, .f32⟩
  | 109 => ⟨S16384x256, .f32⟩
  | 110 => ⟨S16384x256, .f32⟩
  | 111 => ⟨S_, .i32⟩
  | 112 => ⟨S_, .f32⟩
  | 113 => ⟨S16386x256, .f32⟩
  | 114 => ⟨S1x256, .f32⟩
  | 115 => ⟨S256, .f32⟩
  | 116 => ⟨S16384x256, .f32⟩
  | 117 => ⟨S1x256, .f32⟩
  | 118 => ⟨S16384x256, .f32⟩
  | 119 => ⟨S16384x256, .f32⟩
  | 120 => ⟨S1x256, .f32⟩
  | 121 => ⟨S256, .f32⟩
  | 122 => ⟨S16384x256, .f32⟩
  | 123 => ⟨S1x256, .f32⟩
  | 124 => ⟨S16384x256, .f32⟩
  | 125 => ⟨S16384x256, .f32⟩
  | 126 => ⟨S16384x256, .f32⟩
  | 127 => ⟨S1x256, .f32⟩
  | _ => ⟨S16384x1024, .f32⟩

abbrev hbmTy0_1 (i : Nat) : BufTy := match i % 128 with
  | 0 => ⟨S256, .f32⟩
  | 1 => ⟨S1x256, .f32⟩
  | 2 => ⟨S16384x256, .f32⟩
  | 3 => ⟨S16384x256, .f32⟩
  | 4 => ⟨S16384x256, .f32⟩
  | 5 => ⟨S1x256, .f32⟩
  | 6 => ⟨S16384x256, .f32⟩
  | 7 => ⟨S16384x256, .f32⟩
  | 8 => ⟨S16384x256, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S16384x256, .f32⟩
  | 16 => ⟨S16384x256, .f32⟩
  | 17 => ⟨S16384x256, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S16384x256, .f32⟩
  | 25 => ⟨S16384x256, .f32⟩
  | 26 => ⟨S_, .f32⟩
  | 27 => ⟨S16384x1, .f32⟩
  | 28 => ⟨S16384x1, .f32⟩
  | 29 => ⟨S16384x1, .f32⟩
  | 30 => ⟨S16384x256, .f32⟩
  | 31 => ⟨S16384x256, .f32⟩
  | 32 => ⟨S1x256, .f32⟩
  | 33 => ⟨S16384x256, .f32⟩
  | 34 => ⟨S16384x256, .f32⟩
  | 35 => ⟨S1x256, .f32⟩
  | 36 => ⟨S16384x256, .f32⟩
  | 37 => ⟨S16384x256, .f32⟩
  | 38 => ⟨S128x128x4x64, .f32⟩
  | 39 => ⟨S_, .f32⟩
  | 40 => ⟨S128x128, .f32⟩
  | 41 => ⟨S128x128, .i32⟩
  | 42 => ⟨S_, .i32⟩
  | 43 => ⟨S128x128, .i32⟩
  | 44 => ⟨S128x128, .i32⟩
  | 45 => ⟨S128x128, .i32⟩
  | 46 => ⟨S128x128, .i1⟩
  | 47 => ⟨S_, .f32⟩
  | 48 => ⟨S128x128, .f32⟩
  | 49 => ⟨S128x128, .f32⟩
  | 50 => ⟨S1x128x128, .f32⟩
  | 51 => ⟨S4x128x128, .f32⟩
  | 52 => ⟨S4x128x128, .f32⟩
  | 53 => ⟨S4x128x64x128, .f32⟩
  | 54 => ⟨S128x128x4x64, .f32⟩
  | 55 => ⟨S128x4, .f32⟩
  | 56 => ⟨S1x128x4x1, .f32⟩
  | 57 => ⟨S128x128x4x64, .f32⟩
  | 58 => ⟨S128x128x4x64, .f32⟩
  | 59 => ⟨S16384x256, .f32⟩
  | 60 => ⟨S16384x256, .f32⟩
  | 61 => ⟨S_, .f32⟩
  | 62 => ⟨S16384x256, .f32⟩
  | 63 => ⟨S16384x256, .f32⟩
  | 64 => ⟨S16384x256, .bf16⟩
  | 65 => ⟨S64x256x256, .f32⟩
  | 66 => ⟨S64x256x256, .f32⟩
  | 67 => ⟨S64x256x256, .bf16⟩
  | 68 => ⟨S16384x32, .bf16⟩
  | 69 => ⟨S_, .f32⟩
  | 70 => ⟨S16384x4, .f32⟩
  | 71 => ⟨S16384x4, .f32⟩
  | 72 => ⟨S_, .i32⟩
  | 73 => ⟨S_, .f32⟩
  | 74 => ⟨S16384x8, .f32⟩
  | 75 => ⟨S8x16384, .f32⟩
  | 76 => ⟨S_, .f32⟩
  | 77 => ⟨S16384x256, .f32⟩
  | 78 => ⟨S16384x256, .f32⟩
  | 79 => ⟨S16384x256, .bf16⟩
  | 80 => ⟨S16384x256, .bf16⟩
  | 81 => ⟨S16384x256, .bf16⟩
  | 82 => ⟨S16384x256, .f32⟩
  | 83 => ⟨S16384x256, .f32⟩
  | 84 => ⟨S_, .f32⟩
  | 85 => ⟨S16384x256, .f32⟩
  | 86 => ⟨S16384x256, .f32⟩
  | 87 => ⟨S_, .f32⟩
  | 88 => ⟨S16384x256, .f32⟩
  | 89 => ⟨S16384x256, .f32⟩
  | 90 => ⟨S16384x256, .f32⟩
  | 91 => ⟨S16384x256, .f32⟩
  | 92 => ⟨S16384x256, .bf16⟩
  | 93 => ⟨S16384x256, .f32⟩
  | 94 => ⟨S16384x256, .f32⟩
  | 95 => ⟨S_, .f32⟩
  | 96 => ⟨S16384x256, .f32⟩
  | 97 => ⟨S16384x256, .f32⟩
  | 98 => ⟨S_, .f32⟩
  | 99 => ⟨S16384x256, .f32⟩
  | 100 => ⟨S16384x256, .f32⟩
  | 101 => ⟨S16384x256, .f32⟩
  | 102 => ⟨S16384x256, .f32⟩
  | 103 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_c : Ref sig .tc := ⟨.hbm, 111, rfl⟩
abbrev main_call0_v0 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_cst_2 : Ref sig .tc := ⟨.hbm, 137, rfl⟩
abbrev main_v119 : Ref sig .tc := ⟨.hbm, 138, rfl⟩
abbrev main_v120 : Ref sig .tc := ⟨.hbm, 139, rfl⟩
abbrev main_cst_3 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_cst_4 : Ref sig .tc := ⟨.hbm, 146, rfl⟩
abbrev main_v126 : Ref sig .tc := ⟨.hbm, 147, rfl⟩
abbrev main_v127 : Ref sig .tc := ⟨.hbm, 148, rfl⟩
abbrev main_cst_5 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst_6 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_cst_7 : Ref sig .tc := ⟨.hbm, 167, rfl⟩
abbrev main_v144 : Ref sig .tc := ⟨.hbm, 168, rfl⟩
abbrev main_call1_v0 : Ref sig .tc := ⟨.hbm, 169, rfl⟩
abbrev main_call1_c : Ref sig .tc := ⟨.hbm, 170, rfl⟩
abbrev main_call1_v1 : Ref sig .tc := ⟨.hbm, 171, rfl⟩
abbrev main_call1_v2 : Ref sig .tc := ⟨.hbm, 172, rfl⟩
abbrev main_call1_v3 : Ref sig .tc := ⟨.hbm, 173, rfl⟩
abbrev main_call1_v4 : Ref sig .tc := ⟨.hbm, 174, rfl⟩
abbrev main_call1_cst : Ref sig .tc := ⟨.hbm, 175, rfl⟩
abbrev main_call1_v5 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_cst_8 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_cst_9 : Ref sig .tc := ⟨.hbm, 197, rfl⟩
abbrev main_v164 : Ref sig .tc := ⟨.hbm, 198, rfl⟩
abbrev main_v165 : Ref sig .tc := ⟨.hbm, 199, rfl⟩
abbrev main_c_10 : Ref sig .tc := ⟨.hbm, 200, rfl⟩
abbrev main_call2_v0 : Ref sig .tc := ⟨.hbm, 201, rfl⟩
abbrev main_v166 : Ref sig .tc := ⟨.hbm, 202, rfl⟩
abbrev main_v167 : Ref sig .tc := ⟨.hbm, 203, rfl⟩
abbrev main_cst_11 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_call3_v0 : Ref sig .tc := ⟨.hbm, 210, rfl⟩
abbrev main_call3_v1 : Ref sig .tc := ⟨.hbm, 211, rfl⟩
abbrev main_call3_cst : Ref sig .tc := ⟨.hbm, 212, rfl⟩
abbrev main_call3_v2 : Ref sig .tc := ⟨.hbm, 213, rfl⟩
abbrev main_call3_v3 : Ref sig .tc := ⟨.hbm, 214, rfl⟩
abbrev main_call3_cst_0 : Ref sig .tc := ⟨.hbm, 215, rfl⟩
abbrev main_call3_v4 : Ref sig .tc := ⟨.hbm, 216, rfl⟩
abbrev main_call3_v5 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_call4_v0 : Ref sig .tc := ⟨.hbm, 221, rfl⟩
abbrev main_call4_v1 : Ref sig .tc := ⟨.hbm, 222, rfl⟩
abbrev main_call4_cst : Ref sig .tc := ⟨.hbm, 223, rfl⟩
abbrev main_call4_v2 : Ref sig .tc := ⟨.hbm, 224, rfl⟩
abbrev main_call4_v3 : Ref sig .tc := ⟨.hbm, 225, rfl⟩
abbrev main_call4_cst_0 : Ref sig .tc := ⟨.hbm, 226, rfl⟩
abbrev main_call4_v4 : Ref sig .tc := ⟨.hbm, 227, rfl⟩
abbrev main_call4_v5 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩

abbrev nD : Nat := 1
abbrev τ : Topo := Topo.v7x

variable {F : FTy → Type} [FloatOps F]
-- ==== Proof.Keeps.lean ====
/-
  A program that only loads from and stores to buffers it owns KEEPS them: owned at some contents before it,
  owned at some contents after it. Stated once as a property of a program (`Keeps`), closed under sequencing,
  branching and counted loops; each load and each store has it when the buffer is among those owned (`Held`).
  Nothing is said of what the buffers hold, so a proof of it never looks at the values a program computes.
-/
module

public import Idealize.ShloMosaic.Rules.Step
public import Idealize.ShloMosaic.Lib.Memref
public import Idealize.ShloMosaic.Lib.Scf
public import Idealize.ShloMosaic.Lib.Tactic

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type}
  {Name : Type} [DecidableEq Name] {U : Type} [URA U] {Lvl : Type} [Preorder Lvl] {Λ : Labels}

local notation "𝕄" => MT nD τ sig Ix Val Name U Lvl

/-- What a core holds and works under while a kernel runs on it: the body table, the variants, the core and
    the assertion kept. -/
structure Keeper (nD : Nat) (τ : Topo) (sig : RefSig) (Ix : Type) [DecidableEq Ix] (Val : EltTy → Type)
    (Name : Type) [DecidableEq Name] (U : Type) [URA U] (Lvl : Type) [Preorder Lvl] (Λ : Labels) where
  defs : Defs nD τ sig Val Λ
  vars : Variants
  core : Dev nD
  kept : sProp (MT nD τ sig Ix Val Name U Lvl)

variable (K : Keeper nD τ sig Ix Val Name U Lvl Λ)

/-- From what is kept, the program runs to its end and what is kept is back, whatever it returns. -/
structure Keeps {α : Type} (p : Prog (TpuEff nD τ sig Val Λ .tc) α) : Prop where
  run : K.kept ⊢ wp frame (wpE K.defs K.vars (K.core : Thread nD τ) none) Set.univ p fun _ => K.kept

/-- The buffer of `M`, owned whole at some contents. -/
def Own (c : Dev nD) {sp : Space} {s : Shape} {e : EltTy} (M : Memref sig .tc sp s e) : sProp 𝕄 :=
  iprop(∃ f, M.view.loc (c : Thread nD τ) ↦[M.view.set]{fullShare} f)

/-- `M`'s buffer is among what is kept: it can be taken out and put back. -/
structure Held {sp : Space} {s : Shape} {e : EltTy} (M : Memref sig .tc sp s e) : Prop where
  take : K.kept ⊢ iprop(Own K.core M ∗ (Own K.core M -∗ K.kept))

variable {K}

theorem Keeps.ret {α : Type} (a : α) : Keeps K (pure a) := by
  constructor
  iintro H
  sl_step
  iexact H

theorem Keeps.bind {α β : Type} {p : Prog (TpuEff nD τ sig Val Λ .tc) α} {k : α → Prog (TpuEff nD τ sig Val Λ .tc) β}
    (hp : Keeps K p) (hk : ∀ a, Keeps K (k a)) : Keeps K (p >>= k) := by
  constructor
  rw [wp_bind]
  exact hp.run.trans (wp_mono frame _ _ fun a => (hk a).run)

theorem Keeps.load {sp : CoreSpace} {s : Shape} {e : EltTy} {M : Memref sig .tc sp s e} (h : Held K M) (r : LoadRect s) (hl : M.view.LoadsAt r) :
    Keeps K (Prog.lift (.load M r hl)) := by
  constructor
  refine h.take.trans ?_
  unfold Own
  iintro ⟨⟨%f, H⟩, Hk⟩
  iapply (wp_load K.vars (K.core : Thread nD τ) none Set.univ (M.view.setOn_subset_set r.set)) $$ H
  iintro H
  sl_step
  iapply Hk
  iexists f
  iexact H

theorem Keeps.store {sp : CoreSpace} {s : Shape} {e : EltTy} {M : Memref sig .tc sp s e} (h : Held K M) (r : Rect s) (w : r.shape.Idx → Val e)
    (Mk : Finset r.shape.Idx) (hx : (M.access r).Stores Mk) (hm : Mk = Finset.univ ∨ ∀ a, r.stride a = 1) :
    Keeps K (Prog.lift (.store M r w Mk hx hm)) := by
  constructor
  refine h.take.trans ?_
  unfold Own
  iintro ⟨⟨%f, H⟩, Hk⟩
  iapply (wp_store K.vars (K.core : Thread nD τ) none Set.univ ((View.setOn_subset_set _ Mk).trans (M.view.set_slice_subset r))) $$ H
  iintro H
  sl_step
  iapply Hk
  iexists _
  iexact H

theorem Keeps.loop {σ : Type} {w : Nat} (l : Scf.Loop w) (hok : l.OK) (init : σ) {body : Fin l.trips → σ → Prog (TpuEff nD τ sig Val Λ .tc) σ}
    (hb : ∀ k a, Keeps K (body k a)) : Keeps K (Scf.Loop.for l hok init body) := by
  constructor
  refine .trans ?_ (Scf.wp_for frame _ _ l.lb l.ub l.st hok init body (fun _ _ => K.kept) fun k a => (hb k a).run)
  iintro H
  isplitl [H]
  · iexact H
  · iintro %a H
    iexact H

theorem Keeps.cond {α : Type} {b : Prop} [Decidable b] {p q : Prog (TpuEff nD τ sig Val Λ .tc) α} (hp : Keeps K p) (hq : Keeps K q) :
    Keeps K (if b then p else q) := by
  split <;> assumption

theorem Keeps.branch {α : Type} {b : Prop} [Decidable b] {p : b → Prog (TpuEff nD τ sig Val Λ .tc) α}
    {q : ¬ b → Prog (TpuEff nD τ sig Val Λ .tc) α} (hp : ∀ h, Keeps K (p h)) (hq : ∀ h, Keeps K (q h)) :
    Keeps K (if h : b then p h else q h) := by
  split
  · exact hp _
  · exact hq _

end Cert.Proof

end
-- ==== Proof.Dsa.Setup.lean ====
/-
  The kernel's parts before the score tiles keep the buffers they are handed (Keeps.lean).
-/
module

public import proofs.«01_k».proof.Kernel
public import proofs.«01_k».proof.Proof.Keeps
public import Idealize.ShloMosaic.Lib.Pipeline.Kit

@[expose] public section

noncomputable section

namespace Cert.Proof.Dsa

open Cert.Kernel Cert.Proof
open Idealize.ShloMosaic Idealize.ShloMosaic.TcCoe
open Idealize.SL Idealize.SL.RA

variable {F : FTy → Type} [BitOps F] [Cert.Kernel.Facts]

variable {K : Keeper nD τ sig Unit (Elt F) ℕ (UR sig nD τ) ℕ Λ₀} {i : grid0.Coords}
  {arg1 : Memref sig .tc .vmem S256x256 .f32} {h1 : arg1.IsWhole} (H1 : Held K arg1)
  {arg2 : Memref sig .tc .vmem S256x128 .f32} {h2 : arg2.IsWhole} (H2 : Held K arg2)
  {arg3 : Memref sig .tc .vmem S8x256 .f32} {h3 : arg3.IsWhole} (H3 : Held K arg3)
  {arg4 : Memref sig .tc .vmem S16384x256 .bf16} {h4 : arg4.IsWhole} (H4 : Held K arg4)
  {arg5 : Memref sig .tc .vmem S64x256x256 .bf16} {h5 : arg5.IsWhole} (H5 : Held K arg5)
  {arg6 : Memref sig .tc .vmem S16384x32 .bf16} {h6 : arg6.IsWhole} (H6 : Held K arg6)
  {arg7 : Memref sig .tc .vmem S256x256 .f32} {h7 : arg7.IsWhole} (H7 : Held K arg7)
  {arg8 : Memref sig .tc .vmem S2048x8x256 .i32} {h8 : arg8.IsWhole} (H8 : Held K arg8)
  {arg9 : Memref sig .tc .vmem S64x8x256 .i32} {h9 : arg9.IsWhole} (H9 : Held K arg9)
  {arg10 : Memref sig .tc .vmem S64x8x256 .i32} {h10 : arg10.IsWhole} (H10 : Held K arg10)
  {arg11 : Memref sig .tc .vmem S4x256x256 .bf16} {h11 : arg11.IsWhole} (H11 : Held K arg11)
  {arg12 : Memref sig .tc .vmem S128x256 .bf16} {h12 : arg12.IsWhole} (H12 : Held K arg12)
  {arg13 : Memref sig .tc .vmem S320x256 .f32} {h13 : arg13.IsWhole} (H13 : Held K arg13)
  {arg14 : Memref sig .tc .vmem S8x256 .f32} {h14 : arg14.IsWhole} (H14 : Held K arg14)
  {arg15 : Memref sig .tc .vmem S8x128 .f32} {h15 : arg15.IsWhole} (H15 : Held K arg15)

include H1 H2 H3 H4 H5 H6 H7 H8 H9 H10 H11 H12 H13 H14 H15

/-- Statements 1–60 of the body. -/
theorem keeps_part1376 :
    Keeps K (k0_part1376 i arg1 h1 arg2 h2 arg3 h3 arg4 h4 arg5 h5 arg6 h6 arg7 h7 arg8 h8 arg9 h9 arg10 h10 arg11 h11 arg12 h12 arg13 h13 arg14 h14 arg15 h15
      ) := by
  repeat' first
    | assumption
    | intro _
    | refine Keeps.bind ?_ ?_
    | refine Keeps.load ?_ _ _
    | refine Keeps.store ?_ _ _ _ _ _
    | refine Keeps.loop _ _ _ ?_
    | refine Keeps.cond ?_ ?_
    | refine Keeps.branch (fun _ => ?_) (fun _ => ?_)
    | exact Keeps.ret _

/-- Statements 61–120 of the body. -/
theorem keeps_part1377 (v26 v40) :
    Keeps K (k0_part1377 i arg1 h1 arg2 h2 arg3 h3 arg4 h4 arg5 h5 arg6 h6 arg7 h7 arg8 h8 arg9 h9 arg10 h10 arg11 h11 arg12 h12 arg13 h13 arg14 h14 arg15 h15
      v26 v40) := by
  repeat' first
    | assumption
    | intro _
    | refine Keeps.bind ?_ ?_
    | refine Keeps.load ?_ _ _
    | refine Keeps.store ?_ _ _ _ _ _
    | refine Keeps.loop _ _ _ ?_
    | refine Keeps.cond ?_ ?_
    | refine Keeps.branch (fun _ => ?_) (fun _ => ?_)
    | exact Keeps.ret _

/-- Statements 121–180 of the body. -/
theorem keeps_part1378 (v48 v73 v83) :
    Keeps K (k0_part1378 i arg1 h1 arg2 h2 arg3 h3 arg4 h4 arg5 h5 arg6 h6 arg7 h7 arg8 h8 arg9 h9 arg10 h10 arg11 h11 arg12 h12 arg13 h13 arg14 h14 arg15 h15
      v48 v73 v83) := by
  repeat' first
    | assumption
    | intro _
    | refine Keeps.bind ?_ ?_
    | refine Keeps.load ?_ _ _
    | refine Keeps.store ?_ _ _ _ _ _
    | refine Keeps.loop _ _ _ ?_
    | refine Keeps.cond ?_ ?_
    | refine Keeps.branch (fun _ => ?_) (fun _ => ?_)
    | exact Keeps.ret _

/-- Statements 181–240 of the body, with its loop `k0_t1`. -/
theorem keeps_part1379 (arg0 v48) :
    Keeps K (k0_part1379 i arg1 h1 arg2 h2 arg3 h3 arg4 h4 arg5 h5 arg6 h6 arg7 h7 arg8 h8 arg9 h9 arg10 h10 arg11 h11 arg12 h12 arg13 h13 arg14 h14 arg15 h15
      arg0 v48) := by
  repeat' first
    | assumption
    | intro _
    | refine Keeps.bind ?_ ?_
    | refine Keeps.load ?_ _ _
    | refine Keeps.store ?_ _ _ _ _ _
    | refine Keeps.loop _ _ _ ?_
    | refine Keeps.cond ?_ ?_
    | refine Keeps.branch (fun _ => ?_) (fun _ => ?_)
    | exact Keeps.ret _

end Cert.Proof.Dsa

end
-- ==== Proof.Dsa.ScoreTiles.lean ====
/-
  The kernel's part holding the first four loops over score tiles keeps the buffers it is handed.
-/
module

public import proofs.«01_k».proof.Kernel
public import proofs.«01_k».proof.Proof.Keeps
public import Idealize.ShloMosaic.Lib.Pipeline.Kit

@[expose] public section

noncomputable section

namespace Cert.Proof.Dsa

open Cert.Kernel Cert.Proof
open Idealize.ShloMosaic Idealize.ShloMosaic.TcCoe
open Idealize.SL Idealize.SL.RA

variable {F : FTy → Type} [BitOps F] [Cert.Kernel.Facts]

variable {K : Keeper nD τ sig Unit (Elt F) ℕ (UR sig nD τ) ℕ Λ₀} {i : grid0.Coords}
  {arg1 : Memref sig .tc .vmem S256x256 .f32} {h1 : arg1.IsWhole} (H1 : Held K arg1)
  {arg2 : Memref sig .tc .vmem S256x128 .f32} {h2 : arg2.IsWhole} (H2 : Held K arg2)
  {arg3 : Memref sig .tc .vmem S8x256 .f32} {h3 : arg3.IsWhole} (H3 : Held K arg3)
  {arg4 : Memref sig .tc .vmem S16384x256 .bf16} {h4 : arg4.IsWhole} (H4 : Held K arg4)
  {arg5 : Memref sig .tc .vmem S64x256x256 .bf16} {h5 : arg5.IsWhole} (H5 : Held K arg5)
  {arg6 : Memref sig .tc .vmem S16384x32 .bf16} {h6 : arg6.IsWhole} (H6 : Held K arg6)
  {arg7 : Memref sig .tc .vmem S256x256 .f32} {h7 : arg7.IsWhole} (H7 : Held K arg7)
  {arg8 : Memref sig .tc .vmem S2048x8x256 .i32} {h8 : arg8.IsWhole} (H8 : Held K arg8)
  {arg9 : Memref sig .tc .vmem S64x8x256 .i32} {h9 : arg9.IsWhole} (H9 : Held K arg9)
  {arg10 : Memref sig .tc .vmem S64x8x256 .i32} {h10 : arg10.IsWhole} (H10 : Held K arg10)
  {arg11 : Memref sig .tc .vmem S4x256x256 .bf16} {h11 : arg11.IsWhole} (H11 : Held K arg11)
  {arg12 : Memref sig .tc .vmem S128x256 .bf16} {h12 : arg12.IsWhole} (H12 : Held K arg12)
  {arg13 : Memref sig .tc .vmem S320x256 .f32} {h13 : arg13.IsWhole} (H13 : Held K arg13)
  {arg14 : Memref sig .tc .vmem S8x256 .f32} {h14 : arg14.IsWhole} (H14 : Held K arg14)
  {arg15 : Memref sig .tc .vmem S8x128 .f32} {h15 : arg15.IsWhole} (H15 : Held K arg15)

include H1 H2 H3 H4 H5 H6 H7 H8 H9 H10 H11 H12 H13 H14 H15

set_option maxHeartbeats 0 in
/-- Statements 241–300 of the body, with its loops `k0_t2` to `k0_t5`. -/
theorem keeps_part1380 (v3 v21 v44 v46 v124 v160) :
    Keeps K (k0_part1380 i arg1 h1 arg2 h2 arg3 h3 arg4 h4 arg5 h5 arg6 h6 arg7 h7 arg8 h8 arg9 h9 arg10 h10 arg11 h11 arg12 h12 arg13 h13 arg14 h14 arg15 h15
      v3 v21 v44 v46 v124 v160) := by
  repeat' first
    | assumption
    | intro _
    | refine Keeps.bind ?_ ?_
    | refine Keeps.load ?_ _ _
    | refine Keeps.store ?_ _ _ _ _ _
    | refine Keeps.loop _ _ _ ?_
    | refine Keeps.cond ?_ ?_
    | refine Keeps.branch (fun _ => ?_) (fun _ => ?_)
    | exact Keeps.ret _

end Cert.Proof.Dsa

end
-- ==== Proof.Dsa.LastTiles.lean ====
/-
  The kernel's part holding the last two loops over score tiles keeps the buffers it is handed.
-/
module

public import proofs.«01_k».proof.Kernel
public import proofs.«01_k».proof.Proof.Keeps
public import Idealize.ShloMosaic.Lib.Pipeline.Kit

@[expose] public section

noncomputable section

namespace Cert.Proof.Dsa

open Cert.Kernel Cert.Proof
open Idealize.ShloMosaic Idealize.ShloMosaic.TcCoe
open Idealize.SL Idealize.SL.RA

variable {F : FTy → Type} [BitOps F] [Cert.Kernel.Facts]

variable {K : Keeper nD τ sig Unit (Elt F) ℕ (UR sig nD τ) ℕ Λ₀} {i : grid0.Coords}
  {arg1 : Memref sig .tc .vmem S256x256 .f32} {h1 : arg1.IsWhole} (H1 : Held K arg1)
  {arg2 : Memref sig .tc .vmem S256x128 .f32} {h2 : arg2.IsWhole} (H2 : Held K arg2)
  {arg3 : Memref sig .tc .vmem S8x256 .f32} {h3 : arg3.IsWhole} (H3 : Held K arg3)
  {arg4 : Memref sig .tc .vmem S16384x256 .bf16} {h4 : arg4.IsWhole} (H4 : Held K arg4)
  {arg5 : Memref sig .tc .vmem S64x256x256 .bf16} {h5 : arg5.IsWhole} (H5 : Held K arg5)
  {arg6 : Memref sig .tc .vmem S16384x32 .bf16} {h6 : arg6.IsWhole} (H6 : Held K arg6)
  {arg7 : Memref sig .tc .vmem S256x256 .f32} {h7 : arg7.IsWhole} (H7 : Held K arg7)
  {arg8 : Memref sig .tc .vmem S2048x8x256 .i32} {h8 : arg8.IsWhole} (H8 : Held K arg8)
  {arg9 : Memref sig .tc .vmem S64x8x256 .i32} {h9 : arg9.IsWhole} (H9 : Held K arg9)
  {arg10 : Memref sig .tc .vmem S64x8x256 .i32} {h10 : arg10.IsWhole} (H10 : Held K arg10)
  {arg11 : Memref sig .tc .vmem S4x256x256 .bf16} {h11 : arg11.IsWhole} (H11 : Held K arg11)
  {arg12 : Memref sig .tc .vmem S128x256 .bf16} {h12 : arg12.IsWhole} (H12 : Held K arg12)
  {arg13 : Memref sig .tc .vmem S320x256 .f32} {h13 : arg13.IsWhole} (H13 : Held K arg13)
  {arg14 : Memref sig .tc .vmem S8x256 .f32} {h14 : arg14.IsWhole} (H14 : Held K arg14)
  {arg15 : Memref sig .tc .vmem S8x128 .f32} {h15 : arg15.IsWhole} (H15 : Held K arg15)

include H1 H2 H3 H4 H5 H6 H7 H8 H9 H10 H11 H12 H13 H14 H15

set_option maxHeartbeats 0 in
/-- Statements 301–360 of the body, with its loops `k0_t6` to `k0_t7`. -/
theorem keeps_part1381 (arg0 v3 v173 v174 v175 v176 v183 c0_i32_84 v189) :
    Keeps K (k0_part1381 i arg1 h1 arg2 h2 arg3 h3 arg4 h4 arg5 h5 arg6 h6 arg7 h7 arg8 h8 arg9 h9 arg10 h10 arg11 h11 arg12 h12 arg13 h13 arg14 h14 arg15 h15
      arg0 v3 v173 v174 v175 v176 v183 c0_i32_84 v189) := by
  repeat' first
    | assumption
    | intro _
    | refine Keeps.bind ?_ ?_
    | refine Keeps.load ?_ _ _
    | refine Keeps.store ?_ _ _ _ _ _
    | refine Keeps.loop _ _ _ ?_
    | refine Keeps.cond ?_ ?_
    | refine Keeps.branch (fun _ => ?_) (fun _ => ?_)
    | exact Keeps.ret _

end Cert.Proof.Dsa

end
-- ==== Proof.Dsa.Planes.lean ====
/-
  The kernel's part that walks the bit planes before the selection keeps the buffers it is handed.
-/
module

public import proofs.«01_k».proof.Kernel
public import proofs.«01_k».proof.Proof.Keeps
public import Idealize.ShloMosaic.Lib.Pipeline.Kit

@[expose] public section

noncomputable section

namespace Cert.Proof.Dsa

open Cert.Kernel Cert.Proof
open Idealize.ShloMosaic Idealize.ShloMosaic.TcCoe
open Idealize.SL Idealize.SL.RA

variable {F : FTy → Type} [BitOps F] [Cert.Kernel.Facts]

variable {K : Keeper nD τ sig Unit (Elt F) ℕ (UR sig nD τ) ℕ Λ₀} {i : grid0.Coords}
  {arg1 : Memref sig .tc .vmem S256x256 .f32} {h1 : arg1.IsWhole} (H1 : Held K arg1)
  {arg2 : Memref sig .tc .vmem S256x128 .f32} {h2 : arg2.IsWhole} (H2 : Held K arg2)
  {arg3 : Memref sig .tc .vmem S8x256 .f32} {h3 : arg3.IsWhole} (H3 : Held K arg3)
  {arg4 : Memref sig .tc .vmem S16384x256 .bf16} {h4 : arg4.IsWhole} (H4 : Held K arg4)
  {arg5 : Memref sig .tc .vmem S64x256x256 .bf16} {h5 : arg5.IsWhole} (H5 : Held K arg5)
  {arg6 : Memref sig .tc .vmem S16384x32 .bf16} {h6 : arg6.IsWhole} (H6 : Held K arg6)
  {arg7 : Memref sig .tc .vmem S256x256 .f32} {h7 : arg7.IsWhole} (H7 : Held K arg7)
  {arg8 : Memref sig .tc .vmem S2048x8x256 .i32} {h8 : arg8.IsWhole} (H8 : Held K arg8)
  {arg9 : Memref sig .tc .vmem S64x8x256 .i32} {h9 : arg9.IsWhole} (H9 : Held K arg9)
  {arg10 : Memref sig .tc .vmem S64x8x256 .i32} {h10 : arg10.IsWhole} (H10 : Held K arg10)
  {arg11 : Memref sig .tc .vmem S4x256x256 .bf16} {h11 : arg11.IsWhole} (H11 : Held K arg11)
  {arg12 : Memref sig .tc .vmem S128x256 .bf16} {h12 : arg12.IsWhole} (H12 : Held K arg12)
  {arg13 : Memref sig .tc .vmem S320x256 .f32} {h13 : arg13.IsWhole} (H13 : Held K arg13)
  {arg14 : Memref sig .tc .vmem S8x256 .f32} {h14 : arg14.IsWhole} (H14 : Held K arg14)
  {arg15 : Memref sig .tc .vmem S8x128 .f32} {h15 : arg15.IsWhole} (H15 : Held K arg15)

include H1 H2 H3 H4 H5 H6 H7 H8 H9 H10 H11 H12 H13 H14 H15

set_option maxHeartbeats 0 in
/-- Statements 361–420 of the body, with its loops `k0_t8` to `k0_t13`. -/
theorem keeps_part1382 (v21 v44 v46 v212 v213 v214 v215 v226 v228) :
    Keeps K (k0_part1382 i arg1 h1 arg2 h2 arg3 h3 arg4 h4 arg5 h5 arg6 h6 arg7 h7 arg8 h8 arg9 h9 arg10 h10 arg11 h11 arg12 h12 arg13 h13 arg14 h14 arg15 h15
      v21 v44 v46 v212 v213 v214 v215 v226 v228) := by
  repeat' first
    | assumption
    | intro _
    | refine Keeps.bind ?_ ?_
    | refine Keeps.load ?_ _ _
    | refine Keeps.store ?_ _ _ _ _ _
    | refine Keeps.loop _ _ _ ?_
    | refine Keeps.cond ?_ ?_
    | refine Keeps.branch (fun _ => ?_) (fun _ => ?_)
    | exact Keeps.ret _

end Cert.Proof.Dsa

end
-- ==== Proof.Dsa.Selection.lean ====
/-
  The kernel's parts that select each query's keys keep the buffers they are handed.
-/
module

public import proofs.«01_k».proof.Kernel
public import proofs.«01_k».proof.Proof.Keeps
public import Idealize.ShloMosaic.Lib.Pipeline.Kit

@[expose] public section

noncomputable section

namespace Cert.Proof.Dsa

open Cert.Kernel Cert.Proof
open Idealize.ShloMosaic Idealize.ShloMosaic.TcCoe
open Idealize.SL Idealize.SL.RA

variable {F : FTy → Type} [BitOps F] [Cert.Kernel.Facts]

variable {K : Keeper nD τ sig Unit (Elt F) ℕ (UR sig nD τ) ℕ Λ₀} {i : grid0.Coords}
  {arg1 : Memref sig .tc .vmem S256x256 .f32} {h1 : arg1.IsWhole} (H1 : Held K arg1)
  {arg2 : Memref sig .tc .vmem S256x128 .f32} {h2 : arg2.IsWhole} (H2 : Held K arg2)
  {arg3 : Memref sig .tc .vmem S8x256 .f32} {h3 : arg3.IsWhole} (H3 : Held K arg3)
  {arg4 : Memref sig .tc .vmem S16384x256 .bf16} {h4 : arg4.IsWhole} (H4 : Held K arg4)
  {arg5 : Memref sig .tc .vmem S64x256x256 .bf16} {h5 : arg5.IsWhole} (H5 : Held K arg5)
  {arg6 : Memref sig .tc .vmem S16384x32 .bf16} {h6 : arg6.IsWhole} (H6 : Held K arg6)
  {arg7 : Memref sig .tc .vmem S256x256 .f32} {h7 : arg7.IsWhole} (H7 : Held K arg7)
  {arg8 : Memref sig .tc .vmem S2048x8x256 .i32} {h8 : arg8.IsWhole} (H8 : Held K arg8)
  {arg9 : Memref sig .tc .vmem S64x8x256 .i32} {h9 : arg9.IsWhole} (H9 : Held K arg9)
  {arg10 : Memref sig .tc .vmem S64x8x256 .i32} {h10 : arg10.IsWhole} (H10 : Held K arg10)
  {arg11 : Memref sig .tc .vmem S4x256x256 .bf16} {h11 : arg11.IsWhole} (H11 : Held K arg11)
  {arg12 : Memref sig .tc .vmem S128x256 .bf16} {h12 : arg12.IsWhole} (H12 : Held K arg12)
  {arg13 : Memref sig .tc .vmem S320x256 .f32} {h13 : arg13.IsWhole} (H13 : Held K arg13)
  {arg14 : Memref sig .tc .vmem S8x256 .f32} {h14 : arg14.IsWhole} (H14 : Held K arg14)
  {arg15 : Memref sig .tc .vmem S8x128 .f32} {h15 : arg15.IsWhole} (H15 : Held K arg15)

include H1 H2 H3 H4 H5 H6 H7 H8 H9 H10 H11 H12 H13 H14 H15

set_option maxHeartbeats 0 in
/-- Statements 421–480 of the body, with its loops `k0_t14` to `k0_t22`. -/
theorem keeps_part1383 (v212 v214 c8_i32_120 v252 v257 v259 v260) :
    Keeps K (k0_part1383 i arg1 h1 arg2 h2 arg3 h3 arg4 h4 arg5 h5 arg6 h6 arg7 h7 arg8 h8 arg9 h9 arg10 h10 arg11 h11 arg12 h12 arg13 h13 arg14 h14 arg15 h15
      v212 v214 c8_i32_120 v252 v257 v259 v260) := by
  repeat' first
    | assumption
    | intro _
    | refine Keeps.bind ?_ ?_
    | refine Keeps.load ?_ _ _
    | refine Keeps.store ?_ _ _ _ _ _
    | refine Keeps.loop _ _ _ ?_
    | refine Keeps.cond ?_ ?_
    | refine Keeps.branch (fun _ => ?_) (fun _ => ?_)
    | exact Keeps.ret _

set_option maxHeartbeats 0 in
/-- Statements 481–540 of the body, with its loops `k0_t23` to `k0_t26`. -/
theorem keeps_part1384 (v3 v212 v214 v286 v300) :
    Keeps K (k0_part1384 i arg1 h1 arg2 h2 arg3 h3 arg4 h4 arg5 h5 arg6 h6 arg7 h7 arg8 h8 arg9 h9 arg10 h10 arg11 h11 arg12 h12 arg13 h13 arg14 h14 arg15 h15
      v3 v212 v214 v286 v300) := by
  repeat' first
    | assumption
    | intro _
    | refine Keeps.bind ?_ ?_
    | refine Keeps.load ?_ _ _
    | refine Keeps.store ?_ _ _ _ _ _
    | refine Keeps.loop _ _ _ ?_
    | refine Keeps.cond ?_ ?_
    | refine Keeps.branch (fun _ => ?_) (fun _ => ?_)
    | exact Keeps.ret _

end Cert.Proof.Dsa

end
-- ==== Proof.Dsa.Maxima.lean ====
/-
  The kernel's part from the running maximum to the first accumulations keeps the buffers it is handed.
-/
module

public import proofs.«01_k».proof.Kernel
public import proofs.«01_k».proof.Proof.Keeps
public import Idealize.ShloMosaic.Lib.Pipeline.Kit

@[expose] public section

noncomputable section

namespace Cert.Proof.Dsa

open Cert.Kernel Cert.Proof
open Idealize.ShloMosaic Idealize.ShloMosaic.TcCoe
open Idealize.SL Idealize.SL.RA

variable {F : FTy → Type} [BitOps F] [Cert.Kernel.Facts]

variable {K : Keeper nD τ sig Unit (Elt F) ℕ (UR sig nD τ) ℕ Λ₀} {i : grid0.Coords}
  {arg1 : Memref sig .tc .vmem S256x256 .f32} {h1 : arg1.IsWhole} (H1 : Held K arg1)
  {arg2 : Memref sig .tc .vmem S256x128 .f32} {h2 : arg2.IsWhole} (H2 : Held K arg2)
  {arg3 : Memref sig .tc .vmem S8x256 .f32} {h3 : arg3.IsWhole} (H3 : Held K arg3)
  {arg4 : Memref sig .tc .vmem S16384x256 .bf16} {h4 : arg4.IsWhole} (H4 : Held K arg4)
  {arg5 : Memref sig .tc .vmem S64x256x256 .bf16} {h5 : arg5.IsWhole} (H5 : Held K arg5)
  {arg6 : Memref sig .tc .vmem S16384x32 .bf16} {h6 : arg6.IsWhole} (H6 : Held K arg6)
  {arg7 : Memref sig .tc .vmem S256x256 .f32} {h7 : arg7.IsWhole} (H7 : Held K arg7)
  {arg8 : Memref sig .tc .vmem S2048x8x256 .i32} {h8 : arg8.IsWhole} (H8 : Held K arg8)
  {arg9 : Memref sig .tc .vmem S64x8x256 .i32} {h9 : arg9.IsWhole} (H9 : Held K arg9)
  {arg10 : Memref sig .tc .vmem S64x8x256 .i32} {h10 : arg10.IsWhole} (H10 : Held K arg10)
  {arg11 : Memref sig .tc .vmem S4x256x256 .bf16} {h11 : arg11.IsWhole} (H11 : Held K arg11)
  {arg12 : Memref sig .tc .vmem S128x256 .bf16} {h12 : arg12.IsWhole} (H12 : Held K arg12)
  {arg13 : Memref sig .tc .vmem S320x256 .f32} {h13 : arg13.IsWhole} (H13 : Held K arg13)
  {arg14 : Memref sig .tc .vmem S8x256 .f32} {h14 : arg14.IsWhole} (H14 : Held K arg14)
  {arg15 : Memref sig .tc .vmem S8x128 .f32} {h15 : arg15.IsWhole} (H15 : Held K arg15)

include H1 H2 H3 H4 H5 H6 H7 H8 H9 H10 H11 H12 H13 H14 H15

set_option maxHeartbeats 0 in
/-- Statements 541–600 of the body, with its loops `k0_t27` to `k0_t32`. -/
theorem keeps_part1385 (v3 v21 v44 v46 v172 v322 v329 v335 v340 c0_i32_162) :
    Keeps K (k0_part1385 i arg1 h1 arg2 h2 arg3 h3 arg4 h4 arg5 h5 arg6 h6 arg7 h7 arg8 h8 arg9 h9 arg10 h10 arg11 h11 arg12 h12 arg13 h13 arg14 h14 arg15 h15
      v3 v21 v44 v46 v172 v322 v329 v335 v340 c0_i32_162) := by
  repeat' first
    | assumption
    | intro _
    | refine Keeps.bind ?_ ?_
    | refine Keeps.load ?_ _ _
    | refine Keeps.store ?_ _ _ _ _ _
    | refine Keeps.loop _ _ _ ?_
    | refine Keeps.cond ?_ ?_
    | refine Keeps.branch (fun _ => ?_) (fun _ => ?_)
    | exact Keeps.ret _

end Cert.Proof.Dsa

end
-- ==== Proof.Dsa.Body.lean ====
/-
  The whole kernel body keeps the fifteen buffers it is handed: its ten parts one after the other, then the
  statements after them (the remaining accumulations and the block's result), gone through here.
-/
module

public import proofs.«01_k».proof.Kernel
public import proofs.«01_k».proof.Proof.Dsa.Setup
public import proofs.«01_k».proof.Proof.Dsa.ScoreTiles
public import proofs.«01_k».proof.Proof.Dsa.LastTiles
public import proofs.«01_k».proof.Proof.Dsa.Planes
public import proofs.«01_k».proof.Proof.Dsa.Selection
public import proofs.«01_k».proof.Proof.Dsa.Maxima
public import proofs.«01_k».proof.Proof.Keeps
public import Idealize.ShloMosaic.Lib.Pipeline.Kit

@[expose] public section

noncomputable section

namespace Cert.Proof.Dsa

open Cert.Kernel Cert.Proof
open Idealize.ShloMosaic Idealize.ShloMosaic.TcCoe
open Idealize.SL Idealize.SL.RA

variable {F : FTy → Type} [BitOps F] [Cert.Kernel.Facts]

variable {K : Keeper nD τ sig Unit (Elt F) ℕ (UR sig nD τ) ℕ Λ₀} {i : grid0.Coords}
  {arg1 : Memref sig .tc .vmem S256x256 .f32} {h1 : arg1.IsWhole} (H1 : Held K arg1)
  {arg2 : Memref sig .tc .vmem S256x128 .f32} {h2 : arg2.IsWhole} (H2 : Held K arg2)
  {arg3 : Memref sig .tc .vmem S8x256 .f32} {h3 : arg3.IsWhole} (H3 : Held K arg3)
  {arg4 : Memref sig .tc .vmem S16384x256 .bf16} {h4 : arg4.IsWhole} (H4 : Held K arg4)
  {arg5 : Memref sig .tc .vmem S64x256x256 .bf16} {h5 : arg5.IsWhole} (H5 : Held K arg5)
  {arg6 : Memref sig .tc .vmem S16384x32 .bf16} {h6 : arg6.IsWhole} (H6 : Held K arg6)
  {arg7 : Memref sig .tc .vmem S256x256 .f32} {h7 : arg7.IsWhole} (H7 : Held K arg7)
  {arg8 : Memref sig .tc .vmem S2048x8x256 .i32} {h8 : arg8.IsWhole} (H8 : Held K arg8)
  {arg9 : Memref sig .tc .vmem S64x8x256 .i32} {h9 : arg9.IsWhole} (H9 : Held K arg9)
  {arg10 : Memref sig .tc .vmem S64x8x256 .i32} {h10 : arg10.IsWhole} (H10 : Held K arg10)
  {arg11 : Memref sig .tc .vmem S4x256x256 .bf16} {h11 : arg11.IsWhole} (H11 : Held K arg11)
  {arg12 : Memref sig .tc .vmem S128x256 .bf16} {h12 : arg12.IsWhole} (H12 : Held K arg12)
  {arg13 : Memref sig .tc .vmem S320x256 .f32} {h13 : arg13.IsWhole} (H13 : Held K arg13)
  {arg14 : Memref sig .tc .vmem S8x256 .f32} {h14 : arg14.IsWhole} (H14 : Held K arg14)
  {arg15 : Memref sig .tc .vmem S8x128 .f32} {h15 : arg15.IsWhole} (H15 : Held K arg15)

include H1 H2 H3 H4 H5 H6 H7 H8 H9 H10 H11 H12 H13 H14 H15

set_option maxHeartbeats 0 in
/-- The body keeps what it is handed. -/
theorem keeps_body : Keeps K (cc0_dsa_attn i arg1 h1 arg2 h2 arg3 h3 arg4 h4 arg5 h5 arg6 h6 arg7 h7 arg8 h8 arg9 h9 arg10 h10 arg11 h11 arg12 h12 arg13 h13 arg14 h14 arg15 h15) := by
  refine Keeps.bind (keeps_part1376 H1 H2 H3 H4 H5 H6 H7 H8 H9 H10 H11 H12 H13 H14 H15) fun _ => ?_
  refine Keeps.bind (keeps_part1377 H1 H2 H3 H4 H5 H6 H7 H8 H9 H10 H11 H12 H13 H14 H15 _ _) fun _ => ?_
  refine Keeps.bind (keeps_part1378 H1 H2 H3 H4 H5 H6 H7 H8 H9 H10 H11 H12 H13 H14 H15 _ _ _) fun _ => ?_
  refine Keeps.bind (keeps_part1379 H1 H2 H3 H4 H5 H6 H7 H8 H9 H10 H11 H12 H13 H14 H15 _ _) fun _ => ?_
  refine Keeps.bind (keeps_part1380 H1 H2 H3 H4 H5 H6 H7 H8 H9 H10 H11 H12 H13 H14 H15 _ _ _ _ _ _) fun _ => ?_
  refine Keeps.bind (keeps_part1381 H1 H2 H3 H4 H5 H6 H7 H8 H9 H10 H11 H12 H13 H14 H15 _ _ _ _ _ _ _ _ _) fun _ => ?_
  refine Keeps.bind (keeps_part1382 H1 H2 H3 H4 H5 H6 H7 H8 H9 H10 H11 H12 H13 H14 H15 _ _ _ _ _ _ _ _ _) fun _ => ?_
  refine Keeps.bind (keeps_part1383 H1 H2 H3 H4 H5 H6 H7 H8 H9 H10 H11 H12 H13 H14 H15 _ _ _ _ _ _ _) fun _ => ?_
  refine Keeps.bind (keeps_part1384 H1 H2 H3 H4 H5 H6 H7 H8 H9 H10 H11 H12 H13 H14 H15 _ _ _ _ _) fun _ => ?_
  refine Keeps.bind (keeps_part1385 H1 H2 H3 H4 H5 H6 H7 H8 H9 H10 H11 H12 H13 H14 H15 _ _ _ _ _ _ _ _ _ _) fun _ => ?_
  repeat' first
    | assumption
    | intro _
    | refine Keeps.bind ?_ ?_
    | refine Keeps.load ?_ _ _
    | refine Keeps.store ?_ _ _ _ _ _
    | refine Keeps.loop _ _ _ ?_
    | refine Keeps.cond ?_ ?_
    | refine Keeps.branch (fun _ => ?_) (fun _ => ?_)
    | exact Keeps.ret _

end Cert.Proof.Dsa

end
-- ==== Proof.DsaFrame.lean ====
/-
  The frame of `Kernel`. At every grid point the body keeps the fifteen buffers it is handed — the six inputs'
  staging buffers, the result's and the eight scratch buffers (Dsa/Body.lean) —, so it runs to its end from any
  contents of them. Nothing is said of what it leaves: every window is forgotten at the body, and the inputs' arrays
  are unchanged because no input window is ever written back.
-/
module

public import proofs.«01_k».proof.Proof.Gen.Kernel.Frame
public import proofs.«01_k».proof.Proof.Dsa.Body
public import Idealize.ShloMosaic.Lib.Pipeline.Frame
public import Idealize.ShloMosaic.Lib.Tactic

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

section Taking

variable {M : Type} [URA M]

/-- The first of two assertions can be taken out and put back. -/
theorem take_head (A R : sProp M) : iprop(A ∗ R) ⊢ iprop(A ∗ (A -∗ iprop(A ∗ R))) := by
  iintro ⟨HA, HR⟩
  isplitl [HA]
  · iexact HA
  · iintro HA
    isplitl [HA]
    · iexact HA
    · iexact HR

/-- An assertion alone can be taken out and put back. -/
theorem take_last (A : sProp M) : A ⊢ iprop(A ∗ (A -∗ A)) := by
  iintro HA
  isplitl [HA]
  · iexact HA
  · iintro HA
    iexact HA

/-- What can be taken out of the second of two assertions and put back can be taken out of both. -/
theorem take_tail {X R : sProp M} (A : sProp M) (h : R ⊢ iprop(X ∗ (X -∗ R))) :
    iprop(A ∗ R) ⊢ iprop(X ∗ (X -∗ iprop(A ∗ R))) := by
  refine (sep_mono .rfl h).trans ?_
  iintro ⟨HA, HX, HR⟩
  isplitl [HX]
  · iexact HX
  · iintro HX
    isplitl [HA]
    · iexact HA
    · iapply HR
      iexact HX

end Taking

namespace Dsa

open Cert.Kernel Cert.Kernel.Gen

variable {F : FTy → Type} [BitOps F] [∀ e, Nonempty (Elt F e)]

local notation "𝕄" => MT nD τ sig Unit (Elt F) ℕ (UR sig nD τ) ℕ

/-! ## The body at any fifteen buffers -/

/-- From the fifteen buffers owned at some contents the body runs to its end and they are owned at some contents. -/
theorem body_run (c : Dev nD) (i : grid0.Coords)
    (arg1 : Memref sig .tc .vmem S256x256 .f32) (h1 : arg1.IsWhole) (arg2 : Memref sig .tc .vmem S256x128 .f32) (h2 : arg2.IsWhole)
    (arg3 : Memref sig .tc .vmem S8x256 .f32) (h3 : arg3.IsWhole) (arg4 : Memref sig .tc .vmem S16384x256 .bf16) (h4 : arg4.IsWhole)
    (arg5 : Memref sig .tc .vmem S64x256x256 .bf16) (h5 : arg5.IsWhole) (arg6 : Memref sig .tc .vmem S16384x32 .bf16) (h6 : arg6.IsWhole)
    (arg7 : Memref sig .tc .vmem S256x256 .f32) (h7 : arg7.IsWhole) (arg8 : Memref sig .tc .vmem S2048x8x256 .i32) (h8 : arg8.IsWhole)
    (arg9 : Memref sig .tc .vmem S64x8x256 .i32) (h9 : arg9.IsWhole) (arg10 : Memref sig .tc .vmem S64x8x256 .i32) (h10 : arg10.IsWhole)
    (arg11 : Memref sig .tc .vmem S4x256x256 .bf16) (h11 : arg11.IsWhole) (arg12 : Memref sig .tc .vmem S128x256 .bf16) (h12 : arg12.IsWhole)
    (arg13 : Memref sig .tc .vmem S320x256 .f32) (h13 : arg13.IsWhole) (arg14 : Memref sig .tc .vmem S8x256 .f32) (h14 : arg14.IsWhole)
    (arg15 : Memref sig .tc .vmem S8x128 .f32) (h15 : arg15.IsWhole) (R : sProp 𝕄)
    (hR : R = iprop(Own c arg1 ∗ Own c arg2 ∗ Own c arg3 ∗ Own c arg4 ∗ Own c arg5 ∗ Own c arg6 ∗ Own c arg7 ∗ Own c arg8 ∗ Own c arg9
      ∗ Own c arg10 ∗ Own c arg11 ∗ Own c arg12 ∗ Own c arg13 ∗ Own c arg14 ∗ Own c arg15)) :
    R ⊢ wp frame (wpE (defs₀ (F := F)) Variants.none (c : Thread nD τ) none) Set.univ
        (cc0_dsa_attn i arg1 h1 arg2 h2 arg3 h3 arg4 h4 arg5 h5 arg6 h6 arg7 h7 arg8 h8 arg9 h9 arg10 h10 arg11 h11 arg12 h12 arg13 h13
          arg14 h14 arg15 h15) fun _ => R := by
  let K : Keeper nD τ sig Unit (Elt F) ℕ (UR sig nD τ) ℕ Λ₀ := ⟨defs₀, Variants.none, c, R⟩
  refine (keeps_body (K := K) ?_ ?_ ?_ ?_ ?_ ?_ ?_ ?_ ?_ ?_ ?_ ?_ ?_ ?_ ?_).run
  all_goals
    constructor
    show R ⊢ _
    rw [show K.kept = R from rfl, hR]
    repeat' first
      | exact take_head _ _
      | exact take_last _
      | refine take_tail _ ?_

/-! ## The proof data and the body obligation -/

variable (m : (ℓ : Loc nD τ sig) → Buf (Elt F) ℓ) (ρ : Dev nD → PrngReg)

/-- Every window is forgotten: nothing here reads what the body leaves in a staging buffer. -/
def forgets (_ : Fin 7) : Bool := true

/-- The proof data on core `c`: the arrays as the region finds them; what the body leaves unnamed; the scratch at some
    contents and the generator register at some state between points; full shares; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- A memref owned at some contents, as the pipeline says it, is its buffer owned at some contents. -/
theorem owns_own (c : Dev nD) {sp : Space} {s : Shape} {e : EltTy} (M : Memref sig .tc sp s e) :
    (iprop(∃ d, owns (c : Thread nD τ) M fullShare d) : sProp 𝕄) ⊢ Own c M := by
  unfold owns Own
  iintro ⟨%d, %f, -, H⟩
  iexists f
  iexact H

theorem own_owns (c : Dev nD) {sp : Space} {s : Shape} {e : EltTy} (M : Memref sig .tc sp s e) :
    (Own c M : sProp 𝕄) ⊢ iprop(∃ d, owns (c : Thread nD τ) M fullShare d) := by
  unfold owns Own
  iintro ⟨%f, H⟩
  iexists _, f
  isplitr
  · ipureintro; rfl
  · iexact H

/-- The invariant between points, the scratch buffers one by one. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d)
          ∗ (∃ d, owns (c : Thread nD τ) (Memref.whole cc0_scratch6) fullShare d) ∗ (∃ d, owns (c : Thread nD τ) (Memref.whole cc0_scratch7) fullShare d))
        ∗ ∃ r, prngReg c r) := by
  unfold Pipeline.ΦA
  rw [scopedRest0_eq]
  simp only [owns_whole]

/-- The seven staging buffers owned at some contents, conjoined. -/
def windows (c : Dev nD) (t : Fin cfg0.N) : sProp 𝕄 :=
  iprop((∃ d, owns (c : Thread nD τ) (win0_0.stage (cfg0.slots t 0)) fullShare d) ∗ (∃ d, owns (c : Thread nD τ) (win0_1.stage (cfg0.slots t 1)) fullShare d)
    ∗ (∃ d, owns (c : Thread nD τ) (win0_2.stage (cfg0.slots t 2)) fullShare d) ∗ (∃ d, owns (c : Thread nD τ) (win0_3.stage (cfg0.slots t 3)) fullShare d)
    ∗ (∃ d, owns (c : Thread nD τ) (win0_4.stage (cfg0.slots t 4)) fullShare d) ∗ (∃ d, owns (c : Thread nD τ) (win0_5.stage (cfg0.slots t 5)) fullShare d)
    ∗ (∃ d, owns (c : Thread nD τ) (win0_6.stage (cfg0.slots t 6)) fullShare d))

/-- The body at a point: its buffers gathered, `body_run`, and its buffers given back. -/
theorem sound_body (c : Dev nD) (t : Fin cfg0.N) :
    iprop((dats m 0 c).Φ t.castSucc ∗ (dats m 0 c).owesAt () t.castSucc ∗ windows (F := F) c t)
      ⊢ wp frame (wpE (defs₀ (F := F)) Variants.none c none) Set.univ (bodyAt0 t)
          (fun _ => iprop((dats m 0 c).Φ t.succ ∗ (dats m 0 c).owesAt () t.succ ∗ windows (F := F) c t)) := by
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  unfold windows
  iintro ⟨⟨⟨S0, S1, S2, S3, S4, S5, S6, S7⟩, Hg⟩, HO, W0, W1, W2, W3, W4, W5, W6⟩
  iapply wp_wand_r
  isplitl [S0 S1 S2 S3 S4 S5 S6 S7 W0 W1 W2 W3 W4 W5 W6]
  · iapply (body_run c (grid0.coords t) _ _ _ _ _ _ _ _ _ _ _ _ _ _ _ _ _ _ _ _ _ _ _ _ _ _ _ _ _ _ _ rfl)
    isplitl [W0]; · iapply owns_own; iexact W0
    isplitl [W1]; · iapply owns_own; iexact W1
    isplitl [W2]; · iapply owns_own; iexact W2
    isplitl [W3]; · iapply owns_own; iexact W3
    isplitl [W4]; · iapply owns_own; iexact W4
    isplitl [W5]; · iapply owns_own; iexact W5
    isplitl [W6]; · iapply owns_own; iexact W6
    isplitl [S0]; · iapply owns_own; iexact S0
    isplitl [S1]; · iapply owns_own; iexact S1
    isplitl [S2]; · iapply owns_own; iexact S2
    isplitl [S3]; · iapply owns_own; iexact S3
    isplitl [S4]; · iapply owns_own; iexact S4
    isplitl [S5]; · iapply owns_own; iexact S5
    isplitl [S6]; · iapply owns_own; iexact S6
    iapply owns_own; iexact S7
  · iintro %a ⟨W0, W1, W2, W3, W4, W5, W6, S0, S1, S2, S3, S4, S5, S6, S7⟩
    isplitl [S0 S1 S2 S3 S4 S5 S6 S7 Hg]
    · isplitr [Hg]
      · isplitl [S0]; · iapply own_owns; iexact S0
        isplitl [S1]; · iapply own_owns; iexact S1
        isplitl [S2]; · iapply own_owns; iexact S2
        isplitl [S3]; · iapply own_owns; iexact S3
        isplitl [S4]; · iapply own_owns; iexact S4
        isplitl [S5]; · iapply own_owns; iexact S5
        isplitl [S6]; · iapply own_owns; iexact S6
        iapply own_owns; iexact S7
      · iexact Hg
    isplitl [HO]; · iexact HO
    isplitl [W0]; · iapply own_owns; iexact W0
    isplitl [W1]; · iapply own_owns; iexact W1
    isplitl [W2]; · iapply own_owns; iexact W2
    isplitl [W3]; · iapply own_owns; iexact W3
    isplitl [W4]; · iapply own_owns; iexact W4
    isplitl [W5]; · iapply own_owns; iexact W5
    iapply own_owns; iexact W6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with every window forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The launch -/

set_option backward.isDefEq.respectTransparency.types false in
/-- Every weakly fair execution of @main terminates without a fault, and every final state has every unscoped buffer
    that is no window's array at its launch contents, the windows' arrays at contents the pipeline allows, and
    every semaphore counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame: the six argument arrays end as they were, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl).trans (A_eq m c 0), (h.1.arr_in c 1 rfl).trans (A_eq m c 1),
    (h.1.arr_in c 2 rfl).trans (A_eq m c 2), (h.1.arr_in c 3 rfl).trans (A_eq m c 3), (h.1.arr_in c 4 rfl).trans (A_eq m c 4),
    (h.1.arr_in c 5 rfl).trans (A_eq m c 5)⟩, h.2⟩) (run_main m ρ)

end Dsa

end Cert.Proof

end
-- ==== Proof.Merge.Spec.lean ====
/-
  THE LAYER'S LAST STEP AT ONE TOKEN, as plain formulas over the extended reals: normalise the token's row, gate two of
  the branch outputs, project each of the four branches, weigh them by their merge gates, project the sum, add it
  (normalised) to the row, and add the gated per-layer embedding. Both programs' results are read as `out` of one row.
-/
module

public import Idealize.ShloMosaic.Lib.Pointwise
public import Idealize.ShloMosaic.Lib.IdealHost

@[expose] public section

noncomputable section

namespace Cert.Proof.Merge

open Idealize.ShloMosaic

/-- The sum of the products of two vectors. -/
def dot {n : Nat} (a b : Fin n → EReal) : EReal := ∑ k : Fin n, a k * b k

/-- The logistic function, written with one exponential. -/
def sigm (x : EReal) : EReal := Ideal.div 1 (1 + Ideal.exp (-x))

/-- `x · sigm x`. -/
def silu (x : EReal) : EReal := x * sigm x

/-- A row divided by the root of its mean square (the mean over 1024 entries, the layer's small constant added) and scaled
    entry by entry. -/
def rms (x g : Fin 1024 → EReal) (k : Fin 1024) : EReal :=
  x k * Ideal.rsqrt (Ideal.div (dot x x) (Ideal.ofBits .f32 0x44800000#32) + Ideal.ofBits .f32 0x358637BD#32) * g k

/-- One branch's share of the merged row: its merge gate times its projection. -/
def share (h : Fin 1024 → EReal) (wm : Fin 1024 → EReal) (bm : EReal) (o wb : Fin 256 → EReal) : EReal :=
  sigm (dot h wm + bm) * dot o wb

/-- A branch output gated by the activation of a projection of the normalised row. -/
def gated (h : Fin 1024 → EReal) (o : Fin 256 → EReal) (w : Fin 1024 → Fin 256 → EReal) (j : Fin 256) : EReal :=
  o j * silu (dot h fun k => w k j)

/-- The merged row: the four branches' shares, summed. -/
def merged (h : Fin 1024 → EReal) (o : Fin 4 → Fin 256 → EReal) (wm : Fin 4 → Fin 1024 → Fin 1024 → EReal)
    (bm : Fin 4 → Fin 1024 → EReal) (wb : Fin 4 → Fin 256 → Fin 1024 → EReal) (l : Fin 1024) : EReal :=
  ∑ n : Fin 4, share h (fun k => wm n k l) (bm n l) (o n) (fun j => wb n j l)

/-- The row with the normalised projection of the merged row added. -/
def mixed (x y g : Fin 1024 → EReal) (w : Fin 1024 → Fin 1024 → EReal) (l : Fin 1024) : EReal :=
  x l + rms (fun e => dot y fun k => w k e) g l

/-- The row with the gated per-layer embedding added. -/
def embedded (x : Fin 1024 → EReal) (p : Fin 256 → EReal) (wp : Fin 256 → Fin 1024 → EReal)
    (wg : Fin 1024 → Fin 1024 → EReal) (l : Fin 1024) : EReal :=
  x l + (dot p fun k => wp k l) * sigm (dot x fun k => wg k l)

/-- The weights that every token shares. -/
structure Weights where
  /-- the scale of the first normalisation -/
  g : Fin 1024 → EReal
  /-- the first gated branch's gate projection -/
  wa : Fin 1024 → Fin 256 → EReal
  /-- the third branch's gate projection -/
  wc : Fin 1024 → Fin 256 → EReal
  /-- the merge gates' projections -/
  wm : Fin 4 → Fin 1024 → Fin 1024 → EReal
  /-- the merge gates' biases -/
  bm : Fin 4 → Fin 1024 → EReal
  /-- the branches' projections -/
  wb : Fin 4 → Fin 256 → Fin 1024 → EReal
  /-- the output projection -/
  wo : Fin 1024 → Fin 1024 → EReal
  /-- the scale of the second normalisation -/
  gp : Fin 1024 → EReal
  /-- the embedding's projection -/
  wp : Fin 256 → Fin 1024 → EReal
  /-- the embedding gate's projection -/
  wg : Fin 1024 → Fin 1024 → EReal

/-- The four branches as they enter the merge: the first and third gated here, the other two as they come. -/
def branches (w : Weights) (x : Fin 1024 → EReal) (oa oc ob od : Fin 256 → EReal) : Fin 4 → Fin 256 → EReal :=
  ![gated (rms x w.g) oa w.wa, ob, gated (rms x w.g) oc w.wc, od]

/-- The layer's result at one token. -/
def out (w : Weights) (x : Fin 1024 → EReal) (oa oc ob od p : Fin 256 → EReal) : Fin 1024 → EReal :=
  embedded (mixed x (merged (rms x w.g) (branches w x oa oc ob od) w.wm w.bm w.wb) w.gp w.wo) p w.wp w.wg

end Cert.Proof.Merge

end
-- ==== Proof.Merge.Payloads.lean ====
/-
  The kernel's vector operations at one row and one column, each as the formula of Spec.lean that it computes.
-/
module

public import proofs.«01_k».proof.Proof.Gen.MergeIdeal.Frame
public import proofs.«01_k».proof.Proof.Merge.Spec

@[expose] public section

set_option maxRecDepth 16384

noncomputable section

namespace Cert.Proof.Merge

open Idealize.ShloMosaic Cert.MergeIdeal Cert.MergeIdeal.Gen

theorem pay2_apply (v0 : Vec Ideal S256x1024 .f32) (v1 : Vec Ideal S1x1024 .f32) (r : Fin 256) (k : Fin 1024) :
    k0_pay2 v0 v1 (ix2 r k) = rms (fun a => v0 (ix2 r a)) (fun a => v1 (ix2 0 a)) k := by
  pointwise [k0_pay2, rms, dot]

theorem pay3_apply (v0 : Vec Ideal S256x1024 .f32) (v1 : Vec Ideal S1x1024 .f32) (v16 : Vec Ideal S1024x512 .bf16)
    (r : Fin 256) (j : Fin 512) :
    k0_pay3 v0 v1 v16 (ix2 r j) = silu (dot (fun k => k0_pay2 v0 v1 (ix2 r k)) fun k => v16 (ix2 k j)) := by
  pointwise [k0_pay3, silu, sigm, dot, zero_sub]

theorem pay4_apply (v0 : Vec Ideal S256x1024 .f32) (v1 : Vec Ideal S1x1024 .f32) (v16 : Vec Ideal S1024x512 .bf16)
    (v27 : Vec Ideal S256x256 .f32) (r : Fin 256) (j : Fin 256) :
    k0_pay4 v0 v1 v16 v27 (ix2 r j) = v27 (ix2 r j) * k0_pay3 v0 v1 v16 (ix2 r ⟨j, by omega⟩) := by
  pointwise [k0_pay4]

theorem pay5_apply (v0 : Vec Ideal S256x1024 .f32) (v1 : Vec Ideal S1x1024 .f32) (v16 : Vec Ideal S1024x512 .bf16)
    (v27 : Vec Ideal S256x256 .f32) (r : Fin 256) (j : Fin 256) :
    k0_pay5 v0 v1 v16 v27 (ix2 r j) = v27 (ix2 r j) * k0_pay3 v0 v1 v16 (ix2 r ⟨256 + j, by omega⟩) := by
  pointwise [k0_pay5]

/-- The merge gate's and the projection's payload, for the first branch. -/
theorem pay6_apply (h : FVec Ideal S256x1024 .bf16) (o : FVec Ideal S256x256 .bf16) (w : Vec Ideal S1024x1024 .bf16)
    (b : Vec Ideal S1x1024 .f32) (p : Vec Ideal S1x256x1024 .bf16) (r : Fin 256) (l : Fin 1024) :
    k0_pay6 h o (Scalar.ofBits .f32 0x00000000#32) w b p (ix2 r l)
      = share (fun k => h (ix2 r k)) (fun k => w (ix2 k l)) (b (ix2 0 l)) (fun j => o (ix2 r j)) (fun j => p (ix3 0 j l)) := by
  pointwise [k0_pay6, share, sigm, dot, zero_sub]

theorem pay7_apply (h : FVec Ideal S256x1024 .bf16) (w : Vec Ideal S1024x1024 .bf16)
    (b : Vec Ideal S1x1024 .f32) (r : Fin 256) (l : Fin 1024) :
    k0_pay7 h w b (ix2 r l) = sigm (dot (fun k => h (ix2 r k)) (fun k => w (ix2 k l)) + b (ix2 0 l)) := by
  pointwise [k0_pay7, sigm, dot, zero_sub]

theorem pay8_apply (p : Vec Ideal S1x256x1024 .bf16) (j : Fin 256) (l : Fin 1024) :
    k0_pay8 p (ix2 j l) = p (ix3 0 j l) := by
  pointwise [k0_pay8]

theorem pay9_apply (h : FVec Ideal S256x1024 .bf16) (o o' : FVec Ideal S256x256 .bf16) (s g : FVec Ideal S256x1024 .f32)
    (q : FVec Ideal S256x1024 .bf16) (w : Vec Ideal S1024x1024 .bf16)
    (b : Vec Ideal S1x1024 .f32) (p : Vec Ideal S1x256x1024 .bf16) (r : Fin 256) (l : Fin 1024) :
    k0_pay9 h o o' s g q (constant S256x1024 .f32 0x00000000#32) w b p (ix2 r l)
      = s (ix2 r l) + g (ix2 r l) * dot (fun j => o (ix2 r j)) (fun j => q (ix2 j l))
        + share (fun k => h (ix2 r k)) (fun k => w (ix2 k l)) (b (ix2 0 l)) (fun j => o' (ix2 r j)) (fun j => p (ix3 0 j l)) := by
  pointwise [k0_pay9, share, sigm, dot, zero_sub]

theorem pay10_apply (h : FVec Ideal S256x1024 .bf16) (w : Vec Ideal S1024x1024 .bf16)
    (b : Vec Ideal S1x1024 .f32) (r : Fin 256) (l : Fin 1024) :
    k0_pay10 h w b (ix2 r l) = sigm (dot (fun k => h (ix2 r k)) (fun k => w (ix2 k l)) + b (ix2 0 l)) := by
  pointwise [k0_pay10, sigm, dot, zero_sub]

theorem pay11_apply (x : Vec Ideal S256x1024 .f32) (o : Vec Ideal S256x256 .bf16) (s g : FVec Ideal S256x1024 .f32)
    (p : Vec Ideal S1x256x1024 .bf16) (w : Vec Ideal S1024x1024 .bf16) (gp : Vec Ideal S1x1024 .f32) (r : Fin 256) (l : Fin 1024) :
    k0_pay11 x o s g p w gp (ix2 r l)
      = mixed (fun a => x (ix2 r a))
          (fun k => s (ix2 r k) + g (ix2 r k) * dot (fun j => o (ix2 r j)) (fun j => p (ix3 0 j k)))
          (fun a => gp (ix2 0 a)) (fun k e => w (ix2 k e)) l := by
  pointwise [k0_pay11, mixed, rms, dot]

theorem pay12_apply (x : Vec Ideal S256x1024 .f32) (o : Vec Ideal S256x256 .bf16) (s g : FVec Ideal S256x1024 .f32)
    (p : Vec Ideal S1x256x1024 .bf16) (w : Vec Ideal S1024x1024 .bf16) (gp : Vec Ideal S1x1024 .f32)
    (e : Vec Ideal S256x256 .f32) (we : Vec Ideal S256x1024 .bf16) (wg : Vec Ideal S1024x1024 .bf16) (r : Fin 256) (l : Fin 1024) :
    k0_pay12 x o s g p w gp e we wg (ix2 r l)
      = (dot (fun j => e (ix2 r j)) fun j => we (ix2 j l))
        * sigm (dot (fun k => k0_pay11 x o s g p w gp (ix2 r k)) fun k => wg (ix2 k l)) := by
  pointwise [k0_pay12, sigm, dot, zero_sub]

/-- The weights as the windows of one grid point hold them. -/
def blockWeights (x6 : Vec Ideal S1x1024 .f32) (x7 : Vec Ideal S1024x512 .bf16) (x8 : Vec Ideal S1024x4096 .bf16)
    (x9 : Vec Ideal S1x4096 .f32) (x10 : Vec Ideal S4x256x1024 .bf16) (x11 : Vec Ideal S1024x1024 .bf16)
    (x12 : Vec Ideal S1x1024 .f32) (x13 : Vec Ideal S256x1024 .bf16) (x14 : Vec Ideal S1024x1024 .bf16) : Weights where
  g a := x6 (ix2 0 a)
  wa k j := x7 (ix2 k ⟨j, by omega⟩)
  wc k j := x7 (ix2 k ⟨256 + j, by omega⟩)
  wm n k l := x8 (ix2 k ⟨1024 * n + l, by omega⟩)
  bm n l := x9 (ix2 0 ⟨1024 * n + l, by omega⟩)
  wb n j l := x10 (ix3 n j l)
  wo k e := x11 (ix2 k e)
  gp a := x12 (ix2 0 a)
  wp j l := x13 (ix2 j l)
  wg k l := x14 (ix2 k l)

/-- What one grid point writes back, at one row and one column: the layer's result at that row. -/
theorem block_apply (x0 : Vec Ideal S256x1024 .f32) (x1 : Vec Ideal S256x256 .f32) (x2 : Vec Ideal S256x256 .f32)
    (x3 : Vec Ideal S256x256 .bf16) (x4 : Vec Ideal S256x256 .bf16) (x5 : Vec Ideal S256x256 .f32)
    (x6 : Vec Ideal S1x1024 .f32) (x7 : Vec Ideal S1024x512 .bf16) (x8 : Vec Ideal S1024x4096 .bf16)
    (x9 : Vec Ideal S1x4096 .f32) (x10 : Vec Ideal S4x256x1024 .bf16) (x11 : Vec Ideal S1024x1024 .bf16)
    (x12 : Vec Ideal S1x1024 .f32) (x13 : Vec Ideal S256x1024 .bf16) (x14 : Vec Ideal S1024x1024 .bf16)
    (r : Fin 256) (l : Fin 1024) :
    out0_15 x0 x1 x2 x3 x4 x5 x6 x7 x8 x9 x10 x11 x12 x13 x14 (ix2 r l)
      = out (blockWeights x6 x7 x8 x9 x10 x11 x12 x13 x14) (fun a => x0 (ix2 r a)) (fun a => x1 (ix2 r a)) (fun a => x2 (ix2 r a))
          (fun a => x3 (ix2 r a)) (fun a => x4 (ix2 r a)) (fun a => x5 (ix2 r a)) l := by
  have z0 : (![0, 0] : Fin S256x1024.rank → Nat) = fun _ => 0 := funext fun a => by fin_cases a <;> rfl
  have e0 : ∀ {e : EltTy} (X : Vec Ideal S256x1024 e), View.ld X r0_0 = X := fun X => View.ld_unit_zero z0 _ X
  have e1 : ∀ {e : EltTy} (X : Vec Ideal S1x1024 e), View.ld X r0_1 = X := fun X =>
    View.ld_unit_zero (funext fun a => by fin_cases a <;> rfl) _ X
  have e2 : ∀ {e : EltTy} (X : Vec Ideal S1024x512 e), View.ld X r0_2 = X := fun X =>
    View.ld_unit_zero (funext fun a => by fin_cases a <;> rfl) _ X
  have e3 : ∀ {e : EltTy} (X : Vec Ideal S256x256 e), View.ld X r0_3 = X := fun X =>
    View.ld_unit_zero (funext fun a => by fin_cases a <;> rfl) _ X
  have e16 : ∀ {e : EltTy} (X : Vec Ideal S1024x1024 e), View.ld X r0_16 = X := fun X =>
    View.ld_unit_zero (funext fun a => by fin_cases a <;> rfl) _ X
  unfold_out out0_15
  rw [View.canon_unit_zero z0]
  simp only [e0, e1, e2, e3, e16]
  rw [show ∀ a b : FVec Ideal S256x1024 .f32, k0_pay1 a b (ix2 r l) = a (ix2 r l) + b (ix2 r l) from fun a b => rfl]
  simp only [pay11_apply, pay12_apply, pay10_apply, pay9_apply, pay8_apply, pay7_apply, pay6_apply, pay5_apply, pay4_apply,
    pay3_apply, pay2_apply]
  pointwise [out, embedded, mixed, merged, share, gated, branches, blockWeights, dot, Fin.sum_univ_four]

end Cert.Proof.Merge

end
-- ==== Proof.Merge.RefSide.lean ====
/-
  The reference's result at one token and one column, as the formula of Spec.lean: its operations in stages, each stage read at
  an index.
-/
module

public import proofs.«01_k».proof.Proof.Gen.MergeRefIdeal.Run
public import proofs.«01_k».proof.Proof.Merge.Spec

@[expose] public section

set_option maxRecDepth 16384

noncomputable section

namespace Cert.Proof.Merge

open Idealize.ShloMosaic Idealize.ShloMosaic.TcCoe Idealize.SL.Sem Cert.MergeRefIdeal
open Cert.MergeRefIdeal.Facts₀ Cert.MergeRefIdeal.Facts

/-! ## The stages -/

/-- Every row normalised and scaled. -/
def normR (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf
    (Host.divf (broadcastInDim S16384x1 ![0] bcast_S16384_S16384x1_0
      (Host.reduceAdd (mulf x x) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The projection of the normalised rows by the layer's first weight matrix. -/
def projR (h : FVec Ideal S16384x1024 .f32) (w : FVec Ideal S1024x8100 .f32) : FVec Ideal S16384x8100 .f32 :=
  Host.dotGeneral dot_S16384x1024_S1024x8100_S16384x8100_1_0_0_1_n_n none h w

/-- The activation of a branch gate. -/
def siluR (v : FVec Ideal S16384x256 .f32) : FVec Ideal S16384x256 .f32 :=
  mulf v (Host.divf (broadcastInDim S16384x256 ![] bcast_S_S16384x256 (constant S_ .f32 0x3F800000#32))
    (addf (broadcastInDim S16384x256 ![] bcast_S_S16384x256 (constant S_ .f32 0x3F800000#32)) (Host.exp (Host.negf v))))

/-- The four branches side by side. -/
def stackR (a b c d : FVec Ideal S16384x256 .f32) : FVec Ideal S16384x4x256 .f32 :=
  concatenate S16384x4x256 1
    [⟨S16384x1x256, broadcastInDim S16384x1x256 ![0, 2] bcast_S16384x256_S16384x1x256_0_2 a⟩,
     ⟨S16384x1x256, broadcastInDim S16384x1x256 ![0, 2] bcast_S16384x256_S16384x1x256_0_2 b⟩,
     ⟨S16384x1x256, broadcastInDim S16384x1x256 ![0, 2] bcast_S16384x256_S16384x1x256_0_2 c⟩,
     ⟨S16384x1x256, broadcastInDim S16384x1x256 ![0, 2] bcast_S16384x256_S16384x1x256_0_2 d⟩]
    concatenates_S16384x1x256_S16384x1x256_S16384x1x256_S16384x1x256_S16384x4x256_d1

/-- Every branch's projection. -/
def branchR (o : FVec Ideal S16384x4x256 .f32) (w : FVec Ideal S4x256x1024 .f32) : FVec Ideal S16384x4x1024 .f32 :=
  transpose S16384x4x1024 [2, 0, 1] (Host.dotGeneral dot_S4x256x1024_S16384x4x256_S4x1024x16384_1_2_2_0_0_1 none w o)
    transposes_S4x1024x16384_S16384x4x1024_2_0_1

/-- The merge gates. -/
def gateR (v : FVec Ideal S16384x4096 .f32) (b : FVec Ideal S4096 .f32) : FVec Ideal S16384x4x1024 .f32 :=
  Host.divf (broadcastInDim S16384x4x1024 ![] bcast_S_S16384x4x1024 (constant S_ .f32 0x3F800000#32))
    (addf (broadcastInDim S16384x4x1024 ![] bcast_S_S16384x4x1024 (constant S_ .f32 0x3F800000#32))
      (Host.exp (Host.negf (shapeCast S16384x4x1024 (addf v (broadcastInDim S16384x4096 ![0, 1] bcast_S1x4096_S16384x4096_0_1
        (broadcastInDim S1x4096 ![1] bcast_S4096_S1x4096_1 b))) shapeCasts_S16384x4096_S16384x4x1024))))

/-- The merged rows. -/
def mergedR (g z : FVec Ideal S16384x4x1024 .f32) : FVec Ideal S16384x1024 .f32 :=
  Host.reduceAdd (mulf g z) (constant S_ .f32 0x00000000#32) reducesTo_S16384x4x1024_S16384x1024_d1 h_S_

/-- A projection of rows of 1024 entries. -/
def squareR (a : FVec Ideal S16384x1024 .f32) (w : FVec Ideal S1024x1024 .f32) : FVec Ideal S16384x1024 .f32 :=
  Host.dotGeneral dot_S16384x1024_S1024x1024_S16384x1024_1_0_0_1_n_n none a w

/-- The gated per-layer embedding added. -/
def embedR (x : FVec Ideal S16384x1024 .f32) (p : FVec Ideal S16384x256 .f32) (wp : FVec Ideal S256x1024 .f32)
    (wg : FVec Ideal S1024x1024 .f32) : FVec Ideal S16384x1024 .f32 :=
  addf x (mulf (Host.dotGeneral dot_S16384x256_S256x1024_S16384x1024_1_0_0_1_n_n none p wp)
    (Host.divf (broadcastInDim S16384x1024 ![] bcast_S_S16384x1024 (constant S_ .f32 0x3F800000#32))
      (addf (broadcastInDim S16384x1024 ![] bcast_S_S16384x1024 (constant S_ .f32 0x3F800000#32))
        (Host.exp (Host.negf (squareR x wg))))))

/-- The merged rows from the arguments. -/
def mergeR (x : FVec Ideal S16384x1024 .f32) (oa oc : FVec Ideal S16384x256 .f32) (ob od : FVec Ideal S16384x256 .bf16)
    (g : FVec Ideal S1024 .f32) (w : FVec Ideal S1024x8100 .f32) (b : FVec Ideal S4096 .f32)
    (wb : FVec Ideal S4x256x1024 .f32) : FVec Ideal S16384x1024 .f32 :=
  mergedR (gateR (extractStridedSlice S16384x4096 ![0, 4004] (projR (normR x g) w) slices_S16384x8100_S16384x4096_0_4004) b)
    (branchR (stackR
      (mulf oa (siluR (extractStridedSlice S16384x256 ![0, 2980] (projR (normR x g) w) slices_S16384x8100_S16384x256_0_2980)))
      (extf .f32 ob bitsLt_bf16_f32)
      (mulf oc (siluR (extractStridedSlice S16384x256 ![0, 3492] (projR (normR x g) w) slices_S16384x8100_S16384x256_0_3492)))
      (extf .f32 od bitsLt_bf16_f32)) wb)

/-- The rows with the normalised projection of the merged rows added. -/
def mixedR (x y : FVec Ideal S16384x1024 .f32) (w : FVec Ideal S1024x1024 .f32) (g : FVec Ideal S1024 .f32) :
    FVec Ideal S16384x1024 .f32 :=
  addf x (normR (squareR y w) g)

/-! ## The stages at an index -/

theorem normR_apply (x : FVec Ideal S16384x1024 .f32) (g : FVec Ideal S1024 .f32) (r : Fin 16384) (k : Fin 1024) :
    normR x g (ix2 r k) = rms (fun a => x (ix2 r a)) (fun a => g (ix1 a)) k := by
  pointwise [normR, rms, dot]

theorem projR_apply (h : FVec Ideal S16384x1024 .f32) (w : FVec Ideal S1024x8100 .f32) (r : Fin 16384) (j : Fin 8100) :
    projR h w (ix2 r j) = dot (fun k => h (ix2 r k)) fun k => w (ix2 k j) := by
  pointwise [projR, dot]

theorem siluR_apply (v : FVec Ideal S16384x256 .f32) (r : Fin 16384) (j : Fin 256) :
    siluR v (ix2 r j) = silu (v (ix2 r j)) := by
  pointwise [siluR, silu, sigm]

theorem stackR_apply (a b c d : FVec Ideal S16384x256 .f32) (r : Fin 16384) (n : Fin 4) (j : Fin 256) :
    stackR a b c d (ix3 r n j)
      = (![fun i => a (ix2 r i), fun i => b (ix2 r i), fun i => c (ix2 r i), fun i => d (ix2 r i)] : Fin 4 → Fin 256 → EReal) n j := by
  fin_cases n <;> pointwise [stackR]

theorem branchR_apply (o : FVec Ideal S16384x4x256 .f32) (w : FVec Ideal S4x256x1024 .f32) (r : Fin 16384) (n : Fin 4)
    (l : Fin 1024) :
    branchR o w (ix3 r n l) = dot (fun j => o (ix3 r n j)) fun j => w (ix3 n j l) := by
  pointwise [branchR, dot]
  exact Finset.sum_congr rfl fun _ _ => mul_comm _ _

theorem gateR_apply (v : FVec Ideal S16384x4096 .f32) (b : FVec Ideal S4096 .f32) (r : Fin 16384) (n : Fin 4) (l : Fin 1024) :
    gateR v b (ix3 r n l) = sigm (v (ix2 r ⟨1024 * n + l, by omega⟩) + b (ix1 ⟨1024 * n + l, by omega⟩)) := by
  pointwise [gateR, sigm, Nat.mul_comm 1024]

theorem mergedR_apply (g z : FVec Ideal S16384x4x1024 .f32) (r : Fin 16384) (l : Fin 1024) :
    mergedR g z (ix2 r l) = ∑ n : Fin 4, g (ix3 r n l) * z (ix3 r n l) := by
  pointwise [mergedR]

theorem squareR_apply (a : FVec Ideal S16384x1024 .f32) (w : FVec Ideal S1024x1024 .f32) (r : Fin 16384) (l : Fin 1024) :
    squareR a w (ix2 r l) = dot (fun k => a (ix2 r k)) fun k => w (ix2 k l) := by
  pointwise [squareR, dot]

theorem embedR_apply (x : FVec Ideal S16384x1024 .f32) (p : FVec Ideal S16384x256 .f32) (wp : FVec Ideal S256x1024 .f32)
    (wg : FVec Ideal S1024x1024 .f32) (r : Fin 16384) (l : Fin 1024) :
    embedR x p wp wg (ix2 r l)
      = embedded (fun k => x (ix2 r k)) (fun j => p (ix2 r j)) (fun j k => wp (ix2 j k)) (fun k e => wg (ix2 k e)) l := by
  pointwise [embedR, embedded, squareR_apply, sigm, dot]

/-! ## The whole result -/

variable (m : (ℓ : Loc nD τ sig) → Buf (Elt Ideal) ℓ) (c : Dev nD)

/-- The weights as the argument arrays hold them. -/
def argWeights (g : FVec Ideal S1024 .f32) (w : FVec Ideal S1024x8100 .f32) (b : FVec Ideal S4096 .f32)
    (wb : FVec Ideal S4x256x1024 .f32) (wo : FVec Ideal S1024x1024 .f32) (gp : FVec Ideal S1024 .f32)
    (wp : FVec Ideal S256x1024 .f32) (wg : FVec Ideal S1024x1024 .f32) : Weights where
  g a := g (ix1 a)
  wa k j := w (ix2 k ⟨2980 + j, by omega⟩)
  wc k j := w (ix2 k ⟨3492 + j, by omega⟩)
  wm n k l := w (ix2 k ⟨4004 + (1024 * n + l), by omega⟩)
  bm n l := b (ix1 ⟨1024 * n + l, by omega⟩)
  wb n j l := wb (ix3 n j l)
  wo k e := wo (ix2 k e)
  gp a := gp (ix1 a)
  wp j l := wp (ix2 j l)
  wg k l := wg (ix2 k l)

/-- The layer's result at one token, from the argument arrays. -/
def layerAt (x : FVec Ideal S16384x1024 .f32) (oa oc : FVec Ideal S16384x256 .f32) (ob od : FVec Ideal S16384x256 .bf16)
    (p : FVec Ideal S16384x256 .f32) (w : Weights) (r : Fin 16384) : Fin 1024 → EReal :=
  out w (fun a => x (ix2 r a)) (fun a => oa (ix2 r a)) (fun a => oc (ix2 r a)) (fun a => ob (ix2 r a)) (fun a => od (ix2 r a))
    (fun a => p (ix2 r a))

/-- The stages composed are the layer's result at every token and column. -/
theorem stages_apply (x : FVec Ideal S16384x1024 .f32) (oa oc : FVec Ideal S16384x256 .f32) (ob od : FVec Ideal S16384x256 .bf16)
    (p : FVec Ideal S16384x256 .f32) (g : FVec Ideal S1024 .f32) (w : FVec Ideal S1024x8100 .f32) (b : FVec Ideal S4096 .f32)
    (wb : FVec Ideal S4x256x1024 .f32) (wo : FVec Ideal S1024x1024 .f32) (gp : FVec Ideal S1024 .f32)
    (wp : FVec Ideal S256x1024 .f32) (wg : FVec Ideal S1024x1024 .f32) (r : Fin 16384) (l : Fin 1024) :
    embedR (mixedR x (mergeR x oa oc ob od g w b wb) wo gp) p wp wg (ix2 r l)
      = layerAt x oa oc ob od p (argWeights g w b wb wo gp wp wg) r l := by
  have hm : ∀ k, mergeR x oa oc ob od g w b wb (ix2 r k)
      = merged (rms (fun a => x (ix2 r a)) fun a => g (ix1 a))
          (branches (argWeights g w b wb wo gp wp wg) (fun a => x (ix2 r a)) (fun a => oa (ix2 r a)) (fun a => oc (ix2 r a))
            (fun a => ob (ix2 r a)) (fun a => od (ix2 r a)))
          (argWeights g w b wb wo gp wp wg).wm (argWeights g w b wb wo gp wp wg).bm (argWeights g w b wb wo gp wp wg).wb k := by
    intro k
    unfold mergeR merged
    rw [mergedR_apply]
    refine Finset.sum_congr rfl fun n _ => ?_
    rw [gateR_apply, branchR_apply]
    pointwise [projR_apply, normR_apply, share, argWeights]
    congr 2
    funext j
    rw [stackR_apply]
    fin_cases n <;> pointwise [siluR_apply, projR_apply, normR_apply, branches, gated, argWeights]
  rw [embedR_apply]
  unfold layerAt out mixed
  pointwise [mixedR, normR_apply, squareR_apply, hm, argWeights]

set_option maxHeartbeats 4000000 in
/-- The reference's result is the stages composed. -/
theorem res_eq_stages :
    Cert.MergeRefIdeal.Value.res_main_v66 m c
      = embedR (mixedR (m ((c.tc : Thread nD τ).loc main_arg0)) (mergeR (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg6)) (m ((c.tc : Thread nD τ).loc main_arg7))
          (m ((c.tc : Thread nD τ).loc main_arg8)) (m ((c.tc : Thread nD τ).loc main_arg9)))
          (m ((c.tc : Thread nD τ).loc main_arg10)) (m ((c.tc : Thread nD τ).loc main_arg11)))
        (m ((c.tc : Thread nD τ).loc main_arg5)) (m ((c.tc : Thread nD τ).loc main_arg12)) (m ((c.tc : Thread nD τ).loc main_arg13)) :=
  rfl

end Cert.Proof.Merge

end
-- ==== Proof.Merge.Blocks.lean ====
/-
  The kernel's result array: a grid point's blocks are 256 rows of the argument arrays and the weights the host has laid out, so
  what the point writes back is the layer's result at its rows, and the 64 points' blocks fill the array.
-/
module

public import proofs.«01_k».proof.Proof.Gen.MergeIdeal.Value
public import proofs.«01_k».proof.Proof.Merge.Payloads
public import proofs.«01_k».proof.Proof.Merge.RefSide
public import Idealize.ShloMosaic.Lib.Pipeline.ValueKit
public import Idealize.ShloMosaic.Lib.Pipeline.ValueKit.Point

@[expose] public section

set_option maxRecDepth 16384

noncomputable section

namespace Cert.Proof.Merge

open Idealize.ShloMosaic Idealize.ShloMosaic.TcCoe Idealize.SL.Sem Cert.MergeIdeal Cert.MergeIdeal.Gen

variable (m : (ℓ : Loc nD τ sig) → Buf (Elt Ideal) ℓ) (c : Dev nD)

/-- Which block of its array each window stages: its own 256 rows for the first six and the result, the whole array else. -/
theorem idx : ∀ t : Fin cfg0.N,
    (win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_15.index t = ![t.val, 0])
    ∧ win0_6.index t = ![0, 0] ∧ win0_7.index t = ![0, 0] ∧ win0_8.index t = ![0, 0] ∧ win0_9.index t = ![0, 0]
      ∧ win0_10.index t = ![0, 0, 0] ∧ win0_11.index t = ![0, 0] ∧ win0_12.index t = ![0, 0] ∧ win0_13.index t = ![0, 0]
      ∧ win0_14.index t = ![0, 0] :=
  (by decide +kernel : ∀ t : Fin grid0.N, _)

/-- Row `r` of grid point `t`, in the whole array. -/
def row (t : Fin cfg0.N) (r : Fin 256) : Fin 16384 := ⟨t.val * 256 + r.val, by
  have : t.val < 64 := t.isLt
  omega⟩

theorem rows0 (t : Fin cfg0.N) (r : Fin 256) (k : Fin 1024) :
    iblk m c 0 t (ix2 r k) = m ((c.tc : Thread nD τ).loc main_arg0) (ix2 (row t r) k) := by
  blk_ext! [iblk, V, idx t, row]

theorem rows1 (t : Fin cfg0.N) (r : Fin 256) (k : Fin 256) :
    iblk m c 1 t (ix2 r k) = m ((c.tc : Thread nD τ).loc main_arg1) (ix2 (row t r) k) := by
  blk_ext! [iblk, V, idx t, row]

theorem rows2 (t : Fin cfg0.N) (r : Fin 256) (k : Fin 256) :
    iblk m c 2 t (ix2 r k) = m ((c.tc : Thread nD τ).loc main_arg2) (ix2 (row t r) k) := by
  blk_ext! [iblk, V, idx t, row]

theorem rows3 (t : Fin cfg0.N) (r : Fin 256) (k : Fin 256) :
    iblk m c 3 t (ix2 r k) = m ((c.tc : Thread nD τ).loc main_arg3) (ix2 (row t r) k) := by
  blk_ext! [iblk, V, idx t, row]

theorem rows4 (t : Fin cfg0.N) (r : Fin 256) (k : Fin 256) :
    iblk m c 4 t (ix2 r k) = m ((c.tc : Thread nD τ).loc main_arg4) (ix2 (row t r) k) := by
  blk_ext! [iblk, V, idx t, row]

theorem rows5 (t : Fin cfg0.N) (r : Fin 256) (k : Fin 256) :
    iblk m c 5 t (ix2 r k) = m ((c.tc : Thread nD τ).loc main_arg5) (ix2 (row t r) k) := by
  blk_ext! [iblk, V, idx t, row]

theorem whole6 (t : Fin cfg0.N) (k : Fin 1024) :
    iblk m c 6 t (ix2 0 k) = m ((c.tc : Thread nD τ).loc main_arg6) (ix1 k) := by
  blk_ext! [iblk, V, idx t]

/-- The gate weights' window is the whole array the host lays out. -/
theorem block7 (t : Fin cfg0.N) (y : S1024x512.Idx) : iblk m c 7 t y = V m c main_v3 y := by
  blk_simp [iblk]
  exact congrArg (V m c main_v3) (by blk_ext [idx t])

theorem whole7a (t : Fin cfg0.N) (k : Fin 1024) (j : Fin 256) :
    iblk m c 7 t (ix2 k ⟨j, by omega⟩) = m ((c.tc : Thread nD τ).loc main_arg7) (ix2 k ⟨2980 + j, by omega⟩) := by
  refine (block7 m c t _).trans ?_
  entry_read
  pointwise

theorem whole7c (t : Fin cfg0.N) (k : Fin 1024) (j : Fin 256) :
    iblk m c 7 t (ix2 k ⟨256 + j, by omega⟩) = m ((c.tc : Thread nD τ).loc main_arg7) (ix2 k ⟨3492 + j, by omega⟩) := by
  refine (block7 m c t _).trans ?_
  entry_read
  pointwise

theorem whole8 (t : Fin cfg0.N) (k : Fin 1024) (j : Fin 4096) :
    iblk m c 8 t (ix2 k j) = m ((c.tc : Thread nD τ).loc main_arg7) (ix2 k ⟨4004 + j, by omega⟩) := by
  blk_ext! [iblk, V, idx t]

theorem whole9 (t : Fin cfg0.N) (k : Fin 4096) :
    iblk m c 9 t (ix2 0 k) = m ((c.tc : Thread nD τ).loc main_arg8) (ix1 k) := by
  blk_ext! [iblk, V, idx t]

theorem whole10 (t : Fin cfg0.N) (n : Fin 4) (j : Fin 256) (l : Fin 1024) :
    iblk m c 10 t (ix3 n j l) = m ((c.tc : Thread nD τ).loc main_arg9) (ix3 n j l) := by
  blk_ext! [iblk, V, idx t]

theorem whole11 (t : Fin cfg0.N) (k l : Fin 1024) :
    iblk m c 11 t (ix2 k l) = m ((c.tc : Thread nD τ).loc main_arg10) (ix2 k l) := by
  blk_ext! [iblk, V, idx t]

theorem whole12 (t : Fin cfg0.N) (k : Fin 1024) :
    iblk m c 12 t (ix2 0 k) = m ((c.tc : Thread nD τ).loc main_arg11) (ix1 k) := by
  blk_ext! [iblk, V, idx t]

theorem whole13 (t : Fin cfg0.N) (k : Fin 256) (l : Fin 1024) :
    iblk m c 13 t (ix2 k l) = m ((c.tc : Thread nD τ).loc main_arg12) (ix2 k l) := by
  blk_ext! [iblk, V, idx t]

theorem whole14 (t : Fin cfg0.N) (k l : Fin 1024) :
    iblk m c 14 t (ix2 k l) = m ((c.tc : Thread nD τ).loc main_arg13) (ix2 k l) := by
  blk_ext! [iblk, V, idx t]

/-- The weights a grid point sees are the argument arrays' weights. -/
theorem weights_eq (t : Fin cfg0.N) :
    blockWeights (iblk m c 6 t) (iblk m c 7 t) (iblk m c 8 t) (iblk m c 9 t) (iblk m c 10 t) (iblk m c 11 t) (iblk m c 12 t)
        (iblk m c 13 t) (iblk m c 14 t)
      = argWeights (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) := by
  unfold blockWeights argWeights
  congr 1
  · exact funext fun a => whole6 m c t a
  · exact funext fun k => funext fun j => whole7a m c t k j
  · exact funext fun k => funext fun j => whole7c m c t k j
  · exact funext fun n => funext fun k => funext fun l => whole8 m c t k _
  · exact funext fun n => funext fun l => whole9 m c t _
  · exact funext fun n => funext fun j => funext fun l => whole10 m c t n j l
  · exact funext fun k => funext fun e => whole11 m c t k e
  · exact funext fun a => whole12 m c t a
  · exact funext fun j => funext fun l => whole13 m c t j l
  · exact funext fun k => funext fun l => whole14 m c t k l

/-- The layer's result as one array. -/
def layer : FVec Ideal S16384x1024 .f32 := fun i =>
  layerAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (argWeights (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11))
      (m ((c.tc : Thread nD τ).loc main_arg12)) (m ((c.tc : Thread nD τ).loc main_arg13))) (i 0) (i 1)

/-- What grid point `t` computes, at one row and one column. -/
theorem point (t : Fin cfg0.N) (r : Fin 256) (l : Fin 1024) :
    out0_15 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) (ix2 r l)
      = layer m c (ix2 (row t r) l) := by
  refine (block_apply _ _ _ _ _ _ _ _ _ _ _ _ _ _ _ r l).trans ?_
  rw [weights_eq m c t]
  unfold layer layerAt
  rw [show (fun a => iblk m c 0 t (ix2 r a)) = _ from funext fun a => rows0 m c t r a,
    show (fun a => iblk m c 1 t (ix2 r a)) = _ from funext fun a => rows1 m c t r a,
    show (fun a => iblk m c 2 t (ix2 r a)) = _ from funext fun a => rows2 m c t r a,
    show (fun a => iblk m c 3 t (ix2 r a)) = _ from funext fun a => rows3 m c t r a,
    show (fun a => iblk m c 4 t (ix2 r a)) = _ from funext fun a => rows4 m c t r a,
    show (fun a => iblk m c 5 t (ix2 r a)) = _ from funext fun a => rows5 m c t r a]
  rfl

/-- The kernel's result array is the layer's result. -/
theorem final : (dats m 0 c).arrAt 15 cfg0.N = layer m c := by
  refine (dats m 0 c).arrAt_eq_of_covers 15 _ (by decide +kernel) fun t hf y => ?_
  blk_simp
  rw [after0_15]
  have hy : y = ix2 (y 0) (y 1) := by
    funext a
    fin_cases a <;> rfl
  rw [hy]
  refine (point m c t (y 0) (y 1)).trans (congrArg (layer m c) ?_)
  blk_ext [idx t, row]

end Cert.Proof.Merge

end
-- ==== Proof.Merge.Algebraic.lean ====
/-
  The claims about the layer's last step: the kernel's and the reference's results are the same array over the reals.
-/
module

public import proofs.«01_k».proof.Defs
public import proofs.«01_k».proof.Proof.Gen.Merge.Frame
public import proofs.«01_k».proof.Proof.Merge.Blocks

@[expose] public section

set_option maxRecDepth 16384

noncomputable section

namespace Cert.Proof.Merge

open Idealize.ShloMosaic Idealize.ShloMosaic.TcCoe Idealize.SL.Sem

/-- The reference ends with its arguments unchanged; it declares no semaphore. -/
theorem ref_frame : Cert.quiescent_MergeRefIdeal (hMergeRefIdeal := Cert.MergeRefIdeal.Gen.facts) := fun m g _ =>
  (θ_run (Cert.MergeRefIdeal.defs (F := Ideal)) _ _).mono
    (fun r h => ⟨fun c => (h c).2, sem_eq_zero_of_no_sems (by decide) r.2⟩) (Cert.MergeRefIdeal.Value.run m g)

theorem algebraic : Cert.algebraic_MergeIdeal_MergeRefIdeal (hMergeIdeal := Cert.MergeIdeal.Gen.facts)
    (hMergeRefIdeal := Cert.MergeRefIdeal.Gen.facts) := by
  intro m g m' g' _ hargs
  refine ⟨fun c => layer m c, ?_, ?_⟩
  · refine (θ_run (Cert.MergeIdeal.defs (F := Ideal)) _ _).mono (fun r h c => ?_) (Cert.MergeIdeal.Value.run_blocks m g)
    exact ⟨(h c).1.trans (final m c), (h c).2⟩
  · refine (θ_run (Cert.MergeRefIdeal.defs (F := Ideal)) _ _).mono (fun r h c => ?_) (Cert.MergeRefIdeal.Value.run m' g')
    refine ⟨(h c).1.trans ?_, (h c).2⟩
    rw [res_eq_stages]
    obtain ⟨h0, h1, h2, h3, h4, h5, h6, h7, h8, h9, h10, h11, h12, h13⟩ := hargs c
    rw [h0, h1, h2, h3, h4, h5, h6, h7, h8, h9, h10, h11, h12, h13]
    funext i
    rw [eq_ix2 i]
    exact stages_apply _ _ _ _ _ _ _ _ _ _ _ _ _ _ (i 0) (i 1)

end Cert.Proof.Merge

end
-- ==== Proof.PreMix.RunA.lean ====
module

public import proofs.«01_k».proof.Proof.Gen.PreMixIdeal.Frame.Runs

@[expose] public section

set_option maxRecDepth 16384

noncomputable section

namespace Cert.PreMixIdeal.Run

open Cert.PreMixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The kernel body run on whole staging buffers, at the first point, where the carried rows start at zero: what each output and the
    carried scratch end with, as the pieces stored, and the proof that the run ends with them. -/
noncomputable def kernelRun0_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x768 .bf16) (harg3 : arg3.IsWhole) (arg4 : Memref sig .tc .vmem S1024x384 .bf16) (harg4 : arg4.IsWhole) (arg5 : Memref sig .tc .vmem S1024x768 .bf16) (harg5 : arg5.IsWhole) (arg6 : Memref sig .tc .vmem S256x256 .f32) (harg6 : arg6.IsWhole) (arg7 : Memref sig .tc .vmem S256x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1024x1792 .bf16) (harg10 : arg10.IsWhole) (arg11 : Memref sig .tc .vmem S8x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S4x128x128 .f32) (harg15 : arg15.IsWhole) (arg16 : Memref sig .tc .vmem S128x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S1x256x256 .bf16) (harg19 : arg19.IsWhole) (arg20 : Memref sig .tc .vmem S256x128 .f32) (harg20 : arg20.IsWhole) (arg21 : Memref sig .tc .vmem S256x32 .bf16) (harg21 : arg21.IsWhole) (arg22 : Memref sig .tc .vmem S8x256 .f32) (harg22 : arg22.IsWhole) (arg23 : Memref sig .tc .vmem S256x256 .bf16) (harg23 : arg23.IsWhole) (arg24 : Memref sig .tc .vmem S256x256 .bf16) (harg24 : arg24.IsWhole) (arg25 : Memref sig .tc .vmem S256x256 .bf16) (harg25 : arg25.IsWhole) (arg26 : Memref sig .tc .vmem S256x256 .bf16) (harg26 : arg26.IsWhole) (arg27 : Memref sig .tc .vmem S256x256 .bf16) (harg27 : arg27.IsWhole) (arg28 : Memref sig .tc .vmem S264x256 .f32) (harg28 : arg28.IsWhole) (hc0 : cond0_0 i)
    (x0 : Vec F S256x1024 .f32) (x1 : Vec F S1x1024 .f32) (x2 : Vec F S1024x768 .bf16) (x3 : Vec F S1024x384 .bf16) (x4 : Vec F S1024x768 .bf16) (x5 : Vec F S256x256 .f32) (x6 : Vec F S256x256 .f32) (x7 : Vec F S256x128 .f32) (x8 : Vec F S256x128 .f32) (x9 : Vec F S1024x1792 .bf16) (x10 : Vec F S8x256 .f32) (x11 : Vec F S1x256 .f32) (x12 : Vec F S1x256 .f32) (x13 : Vec F S1x256 .f32) (x14 : Vec F S4x128x128 .f32) (x15 : Vec F S128x256 .f32) :
    Σ' (L16 : List (View.Piece (Elt F) S256x256 .f32)), Σ' (L17 : List (View.Piece (Elt F) S256x256 .bf16)), Σ' (L18 : List (View.Piece (Elt F) S1x256x256 .bf16)), Σ' (L19 : List (View.Piece (Elt F) S256x128 .f32)), Σ' (L20 : List (View.Piece (Elt F) S256x32 .bf16)), Σ' (L21 : List (View.Piece (Elt F) S8x256 .f32)), Σ' (L22 : List (View.Piece (Elt F) S256x256 .bf16)), Σ' (L23 : List (View.Piece (Elt F) S256x256 .bf16)), Σ' (L24 : List (View.Piece (Elt F) S256x256 .bf16)), Σ' (L25 : List (View.Piece (Elt F) S256x256 .bf16)), Σ' (L26 : List (View.Piece (Elt F) S256x256 .bf16)), { LS0 : List (View.Piece (Elt F) S264x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f LS0)) -∗ K ⟨⟩))
          ⊢ wp frame (wpE (defs₀ (F := F)) Variants.none c none) E (cc0_pre_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, ?_, ?_, ?_, fun E K => ?run⟩
  case run =>
    simp only [cc0_pre_mix_eq_skeleton]; unfold cc0_pre_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iexists _; iexact HS0

end Cert.PreMixIdeal.Run

end
-- ==== Proof.PreMix.RunB.lean ====
module

public import proofs.«01_k».proof.Proof.PreMix.RunA

@[expose] public section

set_option maxRecDepth 16384

noncomputable section

namespace Cert.PreMixIdeal.Run

open Cert.PreMixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The kernel body run on whole staging buffers, at every later point, where they come from the point before: what each output and the
    carried scratch end with, as the pieces stored, and the proof that the run ends with them. -/
noncomputable def kernelRun0_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x768 .bf16) (harg3 : arg3.IsWhole) (arg4 : Memref sig .tc .vmem S1024x384 .bf16) (harg4 : arg4.IsWhole) (arg5 : Memref sig .tc .vmem S1024x768 .bf16) (harg5 : arg5.IsWhole) (arg6 : Memref sig .tc .vmem S256x256 .f32) (harg6 : arg6.IsWhole) (arg7 : Memref sig .tc .vmem S256x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1024x1792 .bf16) (harg10 : arg10.IsWhole) (arg11 : Memref sig .tc .vmem S8x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S4x128x128 .f32) (harg15 : arg15.IsWhole) (arg16 : Memref sig .tc .vmem S128x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S1x256x256 .bf16) (harg19 : arg19.IsWhole) (arg20 : Memref sig .tc .vmem S256x128 .f32) (harg20 : arg20.IsWhole) (arg21 : Memref sig .tc .vmem S256x32 .bf16) (harg21 : arg21.IsWhole) (arg22 : Memref sig .tc .vmem S8x256 .f32) (harg22 : arg22.IsWhole) (arg23 : Memref sig .tc .vmem S256x256 .bf16) (harg23 : arg23.IsWhole) (arg24 : Memref sig .tc .vmem S256x256 .bf16) (harg24 : arg24.IsWhole) (arg25 : Memref sig .tc .vmem S256x256 .bf16) (harg25 : arg25.IsWhole) (arg26 : Memref sig .tc .vmem S256x256 .bf16) (harg26 : arg26.IsWhole) (arg27 : Memref sig .tc .vmem S256x256 .bf16) (harg27 : arg27.IsWhole) (arg28 : Memref sig .tc .vmem S264x256 .f32) (harg28 : arg28.IsWhole) (hc0 : ¬cond0_0 i)
    (x0 : Vec F S256x1024 .f32) (x1 : Vec F S1x1024 .f32) (x2 : Vec F S1024x768 .bf16) (x3 : Vec F S1024x384 .bf16) (x4 : Vec F S1024x768 .bf16) (x5 : Vec F S256x256 .f32) (x6 : Vec F S256x256 .f32) (x7 : Vec F S256x128 .f32) (x8 : Vec F S256x128 .f32) (x9 : Vec F S1024x1792 .bf16) (x10 : Vec F S8x256 .f32) (x11 : Vec F S1x256 .f32) (x12 : Vec F S1x256 .f32) (x13 : Vec F S1x256 .f32) (x14 : Vec F S4x128x128 .f32) (x15 : Vec F S128x256 .f32) (xs0 : Vec F S264x256 .f32) :
    Σ' (L16 : List (View.Piece (Elt F) S256x256 .f32)), Σ' (L17 : List (View.Piece (Elt F) S256x256 .bf16)), Σ' (L18 : List (View.Piece (Elt F) S1x256x256 .bf16)), Σ' (L19 : List (View.Piece (Elt F) S256x128 .f32)), Σ' (L20 : List (View.Piece (Elt F) S256x32 .bf16)), Σ' (L21 : List (View.Piece (Elt F) S8x256 .f32)), Σ' (L22 : List (View.Piece (Elt F) S256x256 .bf16)), Σ' (L23 : List (View.Piece (Elt F) S256x256 .bf16)), Σ' (L24 : List (View.Piece (Elt F) S256x256 .bf16)), Σ' (L25 : List (View.Piece (Elt F) S256x256 .bf16)), Σ' (L26 : List (View.Piece (Elt F) S256x256 .bf16)), { LS0 : List (View.Piece (Elt F) S264x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ owns (c : Thread nD τ) arg28 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f LS0)) -∗ K ⟨⟩))
          ⊢ wp frame (wpE (defs₀ (F := F)) Variants.none c none) E (cc0_pre_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, ?_, ?_, ?_, fun E K => ?run⟩
  case run =>
    simp only [cc0_pre_mix_eq_skeleton]; unfold cc0_pre_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg28.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iexists _; iexact HS0

end Cert.PreMixIdeal.Run

end
-- ==== Proof.PreMix.Data.lean ====
module

public import proofs.«01_k».proof.Proof.PreMix.RunB

@[expose] public section

/-! What its outputs and the carried scratch hold after each grid point (the first point
    starts the carried rows at zero, every later one continues from the point before). -/

set_option maxRecDepth 16384

noncomputable section

namespace Cert.PreMixIdeal.Run

open Cert.PreMixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's run at a grid point -/

/-- The run at the first point, on its staging buffers and input blocks. -/
def runA (c : Dev nD) (t : Fin cfg0.N) (h : cond0_0 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The run at a later point, whose carried scratch holds `s`. -/
def runB (c : Dev nD) (t : Fin cfg0.N) (h : ¬cond0_0 (grid0.coords t)) (s : Vec F S264x256 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) s

theorem cover0_A_16 (c : Dev nD) (t : Fin cfg0.N) (h : cond0_0 (grid0.coords t)) (y : S256x256.Idx) : ∃ pc ∈ (runA m c t h).1, y ∈ pc.1.set :=
  View.cover_of_tiledL (runA m c t h).1 S256x256.size (by sl_kernel_rfl) y
def out0_A_16 (c : Dev nD) (t : Fin cfg0.N) (h : cond0_0 (grid0.coords t)) : Vec F S256x256 .f32 :=
  VO0_16.read (Elt F) (VO0_16.writes (Elt F) VO0_16.junk (runA m c t h).1)

theorem cover0_A_17 (c : Dev nD) (t : Fin cfg0.N) (h : cond0_0 (grid0.coords t)) (y : S256x256.Idx) : ∃ pc ∈ (runA m c t h).2.1, y ∈ pc.1.set :=
  View.cover_of_tiledL (runA m c t h).2.1 S256x256.size (by sl_kernel_rfl) y
def out0_A_17 (c : Dev nD) (t : Fin cfg0.N) (h : cond0_0 (grid0.coords t)) : Vec F S256x256 .bf16 :=
  VO0_17.read (Elt F) (VO0_17.writes (Elt F) VO0_17.junk (runA m c t h).2.1)

theorem cover0_A_18 (c : Dev nD) (t : Fin cfg0.N) (h : cond0_0 (grid0.coords t)) (y : S1x256x256.Idx) : ∃ pc ∈ (runA m c t h).2.2.1, y ∈ pc.1.set :=
  View.cover_of_tiledL (runA m c t h).2.2.1 S1x256x256.size (by sl_kernel_rfl) y
def out0_A_18 (c : Dev nD) (t : Fin cfg0.N) (h : cond0_0 (grid0.coords t)) : Vec F S1x256x256 .bf16 :=
  VO0_18.read (Elt F) (VO0_18.writes (Elt F) VO0_18.junk (runA m c t h).2.2.1)

theorem cover0_A_19 (c : Dev nD) (t : Fin cfg0.N) (h : cond0_0 (grid0.coords t)) (y : S256x128.Idx) : ∃ pc ∈ (runA m c t h).2.2.2.1, y ∈ pc.1.set :=
  View.cover_of_tiledL (runA m c t h).2.2.2.1 S256x128.size (by sl_kernel_rfl) y
def out0_A_19 (c : Dev nD) (t : Fin cfg0.N) (h : cond0_0 (grid0.coords t)) : Vec F S256x128 .f32 :=
  VO0_19.read (Elt F) (VO0_19.writes (Elt F) VO0_19.junk (runA m c t h).2.2.2.1)

theorem cover0_A_20 (c : Dev nD) (t : Fin cfg0.N) (h : cond0_0 (grid0.coords t)) (y : S256x32.Idx) : ∃ pc ∈ (runA m c t h).2.2.2.2.1, y ∈ pc.1.set :=
  View.cover_of_tiledL (runA m c t h).2.2.2.2.1 S256x32.size (by sl_kernel_rfl) y
def out0_A_20 (c : Dev nD) (t : Fin cfg0.N) (h : cond0_0 (grid0.coords t)) : Vec F S256x32 .bf16 :=
  VO0_20.read (Elt F) (VO0_20.writes (Elt F) VO0_20.junk (runA m c t h).2.2.2.2.1)

theorem cover0_A_21 (c : Dev nD) (t : Fin cfg0.N) (h : cond0_0 (grid0.coords t)) (y : S8x256.Idx) : ∃ pc ∈ (runA m c t h).2.2.2.2.2.1, y ∈ pc.1.set :=
  View.cover_of_tiledL (runA m c t h).2.2.2.2.2.1 S8x256.size (by sl_kernel_rfl) y
def out0_A_21 (c : Dev nD) (t : Fin cfg0.N) (h : cond0_0 (grid0.coords t)) : Vec F S8x256 .f32 :=
  VO0_21.read (Elt F) (VO0_21.writes (Elt F) VO0_21.junk (runA m c t h).2.2.2.2.2.1)

theorem cover0_A_22 (c : Dev nD) (t : Fin cfg0.N) (h : cond0_0 (grid0.coords t)) (y : S256x256.Idx) : ∃ pc ∈ (runA m c t h).2.2.2.2.2.2.1, y ∈ pc.1.set :=
  View.cover_of_tiledL (runA m c t h).2.2.2.2.2.2.1 S256x256.size (by sl_kernel_rfl) y
def out0_A_22 (c : Dev nD) (t : Fin cfg0.N) (h : cond0_0 (grid0.coords t)) : Vec F S256x256 .bf16 :=
  VO0_22.read (Elt F) (VO0_22.writes (Elt F) VO0_22.junk (runA m c t h).2.2.2.2.2.2.1)

theorem cover0_A_23 (c : Dev nD) (t : Fin cfg0.N) (h : cond0_0 (grid0.coords t)) (y : S256x256.Idx) : ∃ pc ∈ (runA m c t h).2.2.2.2.2.2.2.1, y ∈ pc.1.set :=
  View.cover_of_tiledL (runA m c t h).2.2.2.2.2.2.2.1 S256x256.size (by sl_kernel_rfl) y
def out0_A_23 (c : Dev nD) (t : Fin cfg0.N) (h : cond0_0 (grid0.coords t)) : Vec F S256x256 .bf16 :=
  VO0_23.read (Elt F) (VO0_23.writes (Elt F) VO0_23.junk (runA m c t h).2.2.2.2.2.2.2.1)

theorem cover0_A_24 (c : Dev nD) (t : Fin cfg0.N) (h : cond0_0 (grid0.coords t)) (y : S256x256.Idx) : ∃ pc ∈ (runA m c t h).2.2.2.2.2.2.2.2.1, y ∈ pc.1.set :=
  View.cover_of_tiledL (runA m c t h).2.2.2.2.2.2.2.2.1 S256x256.size (by sl_kernel_rfl) y
def out0_A_24 (c : Dev nD) (t : Fin cfg0.N) (h : cond0_0 (grid0.coords t)) : Vec F S256x256 .bf16 :=
  VO0_24.read (Elt F) (VO0_24.writes (Elt F) VO0_24.junk (runA m c t h).2.2.2.2.2.2.2.2.1)

theorem cover0_A_25 (c : Dev nD) (t : Fin cfg0.N) (h : cond0_0 (grid0.coords t)) (y : S256x256.Idx) : ∃ pc ∈ (runA m c t h).2.2.2.2.2.2.2.2.2.1, y ∈ pc.1.set :=
  View.cover_of_tiledL (runA m c t h).2.2.2.2.2.2.2.2.2.1 S256x256.size (by sl_kernel_rfl) y
def out0_A_25 (c : Dev nD) (t : Fin cfg0.N) (h : cond0_0 (grid0.coords t)) : Vec F S256x256 .bf16 :=
  VO0_25.read (Elt F) (VO0_25.writes (Elt F) VO0_25.junk (runA m c t h).2.2.2.2.2.2.2.2.2.1)

theorem cover0_A_26 (c : Dev nD) (t : Fin cfg0.N) (h : cond0_0 (grid0.coords t)) (y : S256x256.Idx) : ∃ pc ∈ (runA m c t h).2.2.2.2.2.2.2.2.2.2.1, y ∈ pc.1.set :=
  View.cover_of_tiledL (runA m c t h).2.2.2.2.2.2.2.2.2.2.1 S256x256.size (by sl_kernel_rfl) y
def out0_A_26 (c : Dev nD) (t : Fin cfg0.N) (h : cond0_0 (grid0.coords t)) : Vec F S256x256 .bf16 :=
  VO0_26.read (Elt F) (VO0_26.writes (Elt F) VO0_26.junk (runA m c t h).2.2.2.2.2.2.2.2.2.2.1)

theorem scover0_A_0 (c : Dev nD) (t : Fin cfg0.N) (h : cond0_0 (grid0.coords t)) (y : S264x256.Idx) : ∃ pc ∈ (runA m c t h).2.2.2.2.2.2.2.2.2.2.2.1, y ∈ pc.1.set :=
  View.cover_of_tiledBy (runA m c t h).2.2.2.2.2.2.2.2.2.2.2.1 ![8, 256] (by sl_kernel_rfl) y
def sout0_A_0 (c : Dev nD) (t : Fin cfg0.N) (h : cond0_0 (grid0.coords t)) : Vec F S264x256 .f32 :=
  VS0_0.read (Elt F) (VS0_0.writes (Elt F) VS0_0.junk (runA m c t h).2.2.2.2.2.2.2.2.2.2.2.1)

theorem cover0_B_16 (c : Dev nD) (t : Fin cfg0.N) (h : ¬cond0_0 (grid0.coords t)) (s : Vec F S264x256 .f32) (y : S256x256.Idx) : ∃ pc ∈ (runB m c t h s).1, y ∈ pc.1.set :=
  View.cover_of_tiledL (runB m c t h s).1 S256x256.size (by sl_kernel_rfl) y
def out0_B_16 (c : Dev nD) (t : Fin cfg0.N) (h : ¬cond0_0 (grid0.coords t)) (s : Vec F S264x256 .f32) : Vec F S256x256 .f32 :=
  VO0_16.read (Elt F) (VO0_16.writes (Elt F) VO0_16.junk (runB m c t h s).1)

theorem cover0_B_17 (c : Dev nD) (t : Fin cfg0.N) (h : ¬cond0_0 (grid0.coords t)) (s : Vec F S264x256 .f32) (y : S256x256.Idx) : ∃ pc ∈ (runB m c t h s).2.1, y ∈ pc.1.set :=
  View.cover_of_tiledL (runB m c t h s).2.1 S256x256.size (by sl_kernel_rfl) y
def out0_B_17 (c : Dev nD) (t : Fin cfg0.N) (h : ¬cond0_0 (grid0.coords t)) (s : Vec F S264x256 .f32) : Vec F S256x256 .bf16 :=
  VO0_17.read (Elt F) (VO0_17.writes (Elt F) VO0_17.junk (runB m c t h s).2.1)

theorem cover0_B_18 (c : Dev nD) (t : Fin cfg0.N) (h : ¬cond0_0 (grid0.coords t)) (s : Vec F S264x256 .f32) (y : S1x256x256.Idx) : ∃ pc ∈ (runB m c t h s).2.2.1, y ∈ pc.1.set :=
  View.cover_of_tiledL (runB m c t h s).2.2.1 S1x256x256.size (by sl_kernel_rfl) y
def out0_B_18 (c : Dev nD) (t : Fin cfg0.N) (h : ¬cond0_0 (grid0.coords t)) (s : Vec F S264x256 .f32) : Vec F S1x256x256 .bf16 :=
  VO0_18.read (Elt F) (VO0_18.writes (Elt F) VO0_18.junk (runB m c t h s).2.2.1)

theorem cover0_B_19 (c : Dev nD) (t : Fin cfg0.N) (h : ¬cond0_0 (grid0.coords t)) (s : Vec F S264x256 .f32) (y : S256x128.Idx) : ∃ pc ∈ (runB m c t h s).2.2.2.1, y ∈ pc.1.set :=
  View.cover_of_tiledL (runB m c t h s).2.2.2.1 S256x128.size (by sl_kernel_rfl) y
def out0_B_19 (c : Dev nD) (t : Fin cfg0.N) (h : ¬cond0_0 (grid0.coords t)) (s : Vec F S264x256 .f32) : Vec F S256x128 .f32 :=
  VO0_19.read (Elt F) (VO0_19.writes (Elt F) VO0_19.junk (runB m c t h s).2.2.2.1)

theorem cover0_B_20 (c : Dev nD) (t : Fin cfg0.N) (h : ¬cond0_0 (grid0.coords t)) (s : Vec F S264x256 .f32) (y : S256x32.Idx) : ∃ pc ∈ (runB m c t h s).2.2.2.2.1, y ∈ pc.1.set :=
  View.cover_of_tiledL (runB m c t h s).2.2.2.2.1 S256x32.size (by sl_kernel_rfl) y
def out0_B_20 (c : Dev nD) (t : Fin cfg0.N) (h : ¬cond0_0 (grid0.coords t)) (s : Vec F S264x256 .f32) : Vec F S256x32 .bf16 :=
  VO0_20.read (Elt F) (VO0_20.writes (Elt F) VO0_20.junk (runB m c t h s).2.2.2.2.1)

theorem cover0_B_21 (c : Dev nD) (t : Fin cfg0.N) (h : ¬cond0_0 (grid0.coords t)) (s : Vec F S264x256 .f32) (y : S8x256.Idx) : ∃ pc ∈ (runB m c t h s).2.2.2.2.2.1, y ∈ pc.1.set :=
  View.cover_of_tiledL (runB m c t h s).2.2.2.2.2.1 S8x256.size (by sl_kernel_rfl) y
def out0_B_21 (c : Dev nD) (t : Fin cfg0.N) (h : ¬cond0_0 (grid0.coords t)) (s : Vec F S264x256 .f32) : Vec F S8x256 .f32 :=
  VO0_21.read (Elt F) (VO0_21.writes (Elt F) VO0_21.junk (runB m c t h s).2.2.2.2.2.1)

theorem cover0_B_22 (c : Dev nD) (t : Fin cfg0.N) (h : ¬cond0_0 (grid0.coords t)) (s : Vec F S264x256 .f32) (y : S256x256.Idx) : ∃ pc ∈ (runB m c t h s).2.2.2.2.2.2.1, y ∈ pc.1.set :=
  View.cover_of_tiledL (runB m c t h s).2.2.2.2.2.2.1 S256x256.size (by sl_kernel_rfl) y
def out0_B_22 (c : Dev nD) (t : Fin cfg0.N) (h : ¬cond0_0 (grid0.coords t)) (s : Vec F S264x256 .f32) : Vec F S256x256 .bf16 :=
  VO0_22.read (Elt F) (VO0_22.writes (Elt F) VO0_22.junk (runB m c t h s).2.2.2.2.2.2.1)

theorem cover0_B_23 (c : Dev nD) (t : Fin cfg0.N) (h : ¬cond0_0 (grid0.coords t)) (s : Vec F S264x256 .f32) (y : S256x256.Idx) : ∃ pc ∈ (runB m c t h s).2.2.2.2.2.2.2.1, y ∈ pc.1.set :=
  View.cover_of_tiledL (runB m c t h s).2.2.2.2.2.2.2.1 S256x256.size (by sl_kernel_rfl) y
def out0_B_23 (c : Dev nD) (t : Fin cfg0.N) (h : ¬cond0_0 (grid0.coords t)) (s : Vec F S264x256 .f32) : Vec F S256x256 .bf16 :=
  VO0_23.read (Elt F) (VO0_23.writes (Elt F) VO0_23.junk (runB m c t h s).2.2.2.2.2.2.2.1)

theorem cover0_B_24 (c : Dev nD) (t : Fin cfg0.N) (h : ¬cond0_0 (grid0.coords t)) (s : Vec F S264x256 .f32) (y : S256x256.Idx) : ∃ pc ∈ (runB m c t h s).2.2.2.2.2.2.2.2.1, y ∈ pc.1.set :=
  View.cover_of_tiledL (runB m c t h s).2.2.2.2.2.2.2.2.1 S256x256.size (by sl_kernel_rfl) y
def out0_B_24 (c : Dev nD) (t : Fin cfg0.N) (h : ¬cond0_0 (grid0.coords t)) (s : Vec F S264x256 .f32) : Vec F S256x256 .bf16 :=
  VO0_24.read (Elt F) (VO0_24.writes (Elt F) VO0_24.junk (runB m c t h s).2.2.2.2.2.2.2.2.1)

theorem cover0_B_25 (c : Dev nD) (t : Fin cfg0.N) (h : ¬cond0_0 (grid0.coords t)) (s : Vec F S264x256 .f32) (y : S256x256.Idx) : ∃ pc ∈ (runB m c t h s).2.2.2.2.2.2.2.2.2.1, y ∈ pc.1.set :=
  View.cover_of_tiledL (runB m c t h s).2.2.2.2.2.2.2.2.2.1 S256x256.size (by sl_kernel_rfl) y
def out0_B_25 (c : Dev nD) (t : Fin cfg0.N) (h : ¬cond0_0 (grid0.coords t)) (s : Vec F S264x256 .f32) : Vec F S256x256 .bf16 :=
  VO0_25.read (Elt F) (VO0_25.writes (Elt F) VO0_25.junk (runB m c t h s).2.2.2.2.2.2.2.2.2.1)

theorem cover0_B_26 (c : Dev nD) (t : Fin cfg0.N) (h : ¬cond0_0 (grid0.coords t)) (s : Vec F S264x256 .f32) (y : S256x256.Idx) : ∃ pc ∈ (runB m c t h s).2.2.2.2.2.2.2.2.2.2.1, y ∈ pc.1.set :=
  View.cover_of_tiledL (runB m c t h s).2.2.2.2.2.2.2.2.2.2.1 S256x256.size (by sl_kernel_rfl) y
def out0_B_26 (c : Dev nD) (t : Fin cfg0.N) (h : ¬cond0_0 (grid0.coords t)) (s : Vec F S264x256 .f32) : Vec F S256x256 .bf16 :=
  VO0_26.read (Elt F) (VO0_26.writes (Elt F) VO0_26.junk (runB m c t h s).2.2.2.2.2.2.2.2.2.2.1)

theorem scover0_B_0 (c : Dev nD) (t : Fin cfg0.N) (h : ¬cond0_0 (grid0.coords t)) (s : Vec F S264x256 .f32) (y : S264x256.Idx) : ∃ pc ∈ (runB m c t h s).2.2.2.2.2.2.2.2.2.2.2.1, y ∈ pc.1.set :=
  View.cover_of_tiledBy (runB m c t h s).2.2.2.2.2.2.2.2.2.2.2.1 ![8, 256] (by sl_kernel_rfl) y
def sout0_B_0 (c : Dev nD) (t : Fin cfg0.N) (h : ¬cond0_0 (grid0.coords t)) (s : Vec F S264x256 .f32) : Vec F S264x256 .f32 :=
  VS0_0.read (Elt F) (VS0_0.writes (Elt F) VS0_0.junk (runB m c t h s).2.2.2.2.2.2.2.2.2.2.2.1)

/-! ## What the outputs hold after each point -/

/-- What the outputs and the carried scratch hold after the body at position `n`: the outputs in order, then the scratch. -/
def outsAt0 (c : Dev nD) : (n : ℕ) → n < cfg0.N → Vec F S256x256 .f32 × Vec F S256x256 .bf16 × Vec F S1x256x256 .bf16 × Vec F S256x128 .f32 × Vec F S256x32 .bf16 × Vec F S8x256 .f32 × Vec F S256x256 .bf16 × Vec F S256x256 .bf16 × Vec F S256x256 .bf16 × Vec F S256x256 .bf16 × Vec F S256x256 .bf16 × Vec F S264x256 .f32
  | 0, hn => (out0_A_16 m c ⟨0, hn⟩ ((hcond0_0 ⟨0, hn⟩).mpr (Nat.zero_mod _)), out0_A_17 m c ⟨0, hn⟩ ((hcond0_0 ⟨0, hn⟩).mpr (Nat.zero_mod _)), out0_A_18 m c ⟨0, hn⟩ ((hcond0_0 ⟨0, hn⟩).mpr (Nat.zero_mod _)), out0_A_19 m c ⟨0, hn⟩ ((hcond0_0 ⟨0, hn⟩).mpr (Nat.zero_mod _)), out0_A_20 m c ⟨0, hn⟩ ((hcond0_0 ⟨0, hn⟩).mpr (Nat.zero_mod _)), out0_A_21 m c ⟨0, hn⟩ ((hcond0_0 ⟨0, hn⟩).mpr (Nat.zero_mod _)), out0_A_22 m c ⟨0, hn⟩ ((hcond0_0 ⟨0, hn⟩).mpr (Nat.zero_mod _)), out0_A_23 m c ⟨0, hn⟩ ((hcond0_0 ⟨0, hn⟩).mpr (Nat.zero_mod _)), out0_A_24 m c ⟨0, hn⟩ ((hcond0_0 ⟨0, hn⟩).mpr (Nat.zero_mod _)), out0_A_25 m c ⟨0, hn⟩ ((hcond0_0 ⟨0, hn⟩).mpr (Nat.zero_mod _)), out0_A_26 m c ⟨0, hn⟩ ((hcond0_0 ⟨0, hn⟩).mpr (Nat.zero_mod _)), sout0_A_0 m c ⟨0, hn⟩ ((hcond0_0 ⟨0, hn⟩).mpr (Nat.zero_mod _)))
  | n + 1, hn =>
    if h0 : (n + 1) % 64 = 0 then
      (out0_A_16 m c ⟨n + 1, hn⟩ ((hcond0_0 ⟨n + 1, hn⟩).mpr h0), out0_A_17 m c ⟨n + 1, hn⟩ ((hcond0_0 ⟨n + 1, hn⟩).mpr h0), out0_A_18 m c ⟨n + 1, hn⟩ ((hcond0_0 ⟨n + 1, hn⟩).mpr h0), out0_A_19 m c ⟨n + 1, hn⟩ ((hcond0_0 ⟨n + 1, hn⟩).mpr h0), out0_A_20 m c ⟨n + 1, hn⟩ ((hcond0_0 ⟨n + 1, hn⟩).mpr h0), out0_A_21 m c ⟨n + 1, hn⟩ ((hcond0_0 ⟨n + 1, hn⟩).mpr h0), out0_A_22 m c ⟨n + 1, hn⟩ ((hcond0_0 ⟨n + 1, hn⟩).mpr h0), out0_A_23 m c ⟨n + 1, hn⟩ ((hcond0_0 ⟨n + 1, hn⟩).mpr h0), out0_A_24 m c ⟨n + 1, hn⟩ ((hcond0_0 ⟨n + 1, hn⟩).mpr h0), out0_A_25 m c ⟨n + 1, hn⟩ ((hcond0_0 ⟨n + 1, hn⟩).mpr h0), out0_A_26 m c ⟨n + 1, hn⟩ ((hcond0_0 ⟨n + 1, hn⟩).mpr h0), sout0_A_0 m c ⟨n + 1, hn⟩ ((hcond0_0 ⟨n + 1, hn⟩).mpr h0))
    else
      (out0_B_16 m c ⟨n + 1, hn⟩ (fun h => h0 ((hcond0_0 ⟨n + 1, hn⟩).mp h)) (outsAt0 c n (Nat.lt_of_succ_lt hn)).2.2.2.2.2.2.2.2.2.2.2, out0_B_17 m c ⟨n + 1, hn⟩ (fun h => h0 ((hcond0_0 ⟨n + 1, hn⟩).mp h)) (outsAt0 c n (Nat.lt_of_succ_lt hn)).2.2.2.2.2.2.2.2.2.2.2, out0_B_18 m c ⟨n + 1, hn⟩ (fun h => h0 ((hcond0_0 ⟨n + 1, hn⟩).mp h)) (outsAt0 c n (Nat.lt_of_succ_lt hn)).2.2.2.2.2.2.2.2.2.2.2, out0_B_19 m c ⟨n + 1, hn⟩ (fun h => h0 ((hcond0_0 ⟨n + 1, hn⟩).mp h)) (outsAt0 c n (Nat.lt_of_succ_lt hn)).2.2.2.2.2.2.2.2.2.2.2, out0_B_20 m c ⟨n + 1, hn⟩ (fun h => h0 ((hcond0_0 ⟨n + 1, hn⟩).mp h)) (outsAt0 c n (Nat.lt_of_succ_lt hn)).2.2.2.2.2.2.2.2.2.2.2, out0_B_21 m c ⟨n + 1, hn⟩ (fun h => h0 ((hcond0_0 ⟨n + 1, hn⟩).mp h)) (outsAt0 c n (Nat.lt_of_succ_lt hn)).2.2.2.2.2.2.2.2.2.2.2, out0_B_22 m c ⟨n + 1, hn⟩ (fun h => h0 ((hcond0_0 ⟨n + 1, hn⟩).mp h)) (outsAt0 c n (Nat.lt_of_succ_lt hn)).2.2.2.2.2.2.2.2.2.2.2, out0_B_23 m c ⟨n + 1, hn⟩ (fun h => h0 ((hcond0_0 ⟨n + 1, hn⟩).mp h)) (outsAt0 c n (Nat.lt_of_succ_lt hn)).2.2.2.2.2.2.2.2.2.2.2, out0_B_24 m c ⟨n + 1, hn⟩ (fun h => h0 ((hcond0_0 ⟨n + 1, hn⟩).mp h)) (outsAt0 c n (Nat.lt_of_succ_lt hn)).2.2.2.2.2.2.2.2.2.2.2, out0_B_25 m c ⟨n + 1, hn⟩ (fun h => h0 ((hcond0_0 ⟨n + 1, hn⟩).mp h)) (outsAt0 c n (Nat.lt_of_succ_lt hn)).2.2.2.2.2.2.2.2.2.2.2, out0_B_26 m c ⟨n + 1, hn⟩ (fun h => h0 ((hcond0_0 ⟨n + 1, hn⟩).mp h)) (outsAt0 c n (Nat.lt_of_succ_lt hn)).2.2.2.2.2.2.2.2.2.2.2, sout0_B_0 m c ⟨n + 1, hn⟩ (fun h => h0 ((hcond0_0 ⟨n + 1, hn⟩).mp h)) (outsAt0 c n (Nat.lt_of_succ_lt hn)).2.2.2.2.2.2.2.2.2.2.2)

/-- `outsAt0` at a point of case A: that case's contents. -/
theorem outsAt0_A (c : Dev nD) (t : Fin cfg0.N) (h0 : t.val % 64 = 0) :
    outsAt0 m c t.val t.isLt = (out0_A_16 m c t ((hcond0_0 t).mpr h0), out0_A_17 m c t ((hcond0_0 t).mpr h0), out0_A_18 m c t ((hcond0_0 t).mpr h0), out0_A_19 m c t ((hcond0_0 t).mpr h0), out0_A_20 m c t ((hcond0_0 t).mpr h0), out0_A_21 m c t ((hcond0_0 t).mpr h0), out0_A_22 m c t ((hcond0_0 t).mpr h0), out0_A_23 m c t ((hcond0_0 t).mpr h0), out0_A_24 m c t ((hcond0_0 t).mpr h0), out0_A_25 m c t ((hcond0_0 t).mpr h0), out0_A_26 m c t ((hcond0_0 t).mpr h0), sout0_A_0 m c t ((hcond0_0 t).mpr h0)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 m c t.val t.isLt = (out0_B_16 m c t (fun h => h0 ((hcond0_0 t).mp h)) (outsAt0 m c (t.val - 1) (Nat.lt_of_le_of_lt (Nat.sub_le _ _) t.isLt)).2.2.2.2.2.2.2.2.2.2.2, out0_B_17 m c t (fun h => h0 ((hcond0_0 t).mp h)) (outsAt0 m c (t.val - 1) (Nat.lt_of_le_of_lt (Nat.sub_le _ _) t.isLt)).2.2.2.2.2.2.2.2.2.2.2, out0_B_18 m c t (fun h => h0 ((hcond0_0 t).mp h)) (outsAt0 m c (t.val - 1) (Nat.lt_of_le_of_lt (Nat.sub_le _ _) t.isLt)).2.2.2.2.2.2.2.2.2.2.2, out0_B_19 m c t (fun h => h0 ((hcond0_0 t).mp h)) (outsAt0 m c (t.val - 1) (Nat.lt_of_le_of_lt (Nat.sub_le _ _) t.isLt)).2.2.2.2.2.2.2.2.2.2.2, out0_B_20 m c t (fun h => h0 ((hcond0_0 t).mp h)) (outsAt0 m c (t.val - 1) (Nat.lt_of_le_of_lt (Nat.sub_le _ _) t.isLt)).2.2.2.2.2.2.2.2.2.2.2, out0_B_21 m c t (fun h => h0 ((hcond0_0 t).mp h)) (outsAt0 m c (t.val - 1) (Nat.lt_of_le_of_lt (Nat.sub_le _ _) t.isLt)).2.2.2.2.2.2.2.2.2.2.2, out0_B_22 m c t (fun h => h0 ((hcond0_0 t).mp h)) (outsAt0 m c (t.val - 1) (Nat.lt_of_le_of_lt (Nat.sub_le _ _) t.isLt)).2.2.2.2.2.2.2.2.2.2.2, out0_B_23 m c t (fun h => h0 ((hcond0_0 t).mp h)) (outsAt0 m c (t.val - 1) (Nat.lt_of_le_of_lt (Nat.sub_le _ _) t.isLt)).2.2.2.2.2.2.2.2.2.2.2, out0_B_24 m c t (fun h => h0 ((hcond0_0 t).mp h)) (outsAt0 m c (t.val - 1) (Nat.lt_of_le_of_lt (Nat.sub_le _ _) t.isLt)).2.2.2.2.2.2.2.2.2.2.2, out0_B_25 m c t (fun h => h0 ((hcond0_0 t).mp h)) (outsAt0 m c (t.val - 1) (Nat.lt_of_le_of_lt (Nat.sub_le _ _) t.isLt)).2.2.2.2.2.2.2.2.2.2.2, out0_B_26 m c t (fun h => h0 ((hcond0_0 t).mp h)) (outsAt0 m c (t.val - 1) (Nat.lt_of_le_of_lt (Nat.sub_le _ _) t.isLt)).2.2.2.2.2.2.2.2.2.2.2, sout0_B_0 m c t (fun h => h0 ((hcond0_0 t).mp h)) (outsAt0 m c (t.val - 1) (Nat.lt_of_le_of_lt (Nat.sub_le _ _) t.isLt)).2.2.2.2.2.2.2.2.2.2.2) := by
  obtain ⟨n, hn⟩ := t
  cases n with
  | zero => exact (by exfalso; (try dsimp only at h0); exact absurd (Nat.zero_mod _) h0)
  | succ n => exact (dif_neg h0).trans rfl

/-- Before the first point the carried scratch holds anything; afterwards what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.2)) ∗ (∃ r, prngReg c r)) := by
  cases n with
  | zero => exact absurd rfl hz
  | succ n => rfl

/-! ## The pipeline's proof data -/

/-- What the pipeline keeps: its arrays, what each staging buffer holds after each point, the carried scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨18, _⟩ => (outsAt0 m c t.val t.isLt).2.2.1
    | ⟨19, _⟩ => (outsAt0 m c t.val t.isLt).2.2.2.1
    | ⟨20, _⟩ => (outsAt0 m c t.val t.isLt).2.2.2.2.1
    | ⟨21, _⟩ => (outsAt0 m c t.val t.isLt).2.2.2.2.2.1
    | ⟨22, _⟩ => (outsAt0 m c t.val t.isLt).2.2.2.2.2.2.1
    | ⟨23, _⟩ => (outsAt0 m c t.val t.isLt).2.2.2.2.2.2.2.1
    | ⟨24, _⟩ => (outsAt0 m c t.val t.isLt).2.2.2.2.2.2.2.2.1
    | ⟨25, _⟩ => (outsAt0 m c t.val t.isLt).2.2.2.2.2.2.2.2.2.1
    | ⟨26, _⟩ => (outsAt0 m c t.val t.isLt).2.2.2.2.2.2.2.2.2.2.1
    | ⟨_ + 27, h⟩ => absurd h (Nat.not_lt.2 (Nat.le_add_left _ _))
  Φ t := PhiS m c t.val (Nat.le_of_lt_succ t.isLt)
  q _ := fullShare
  owed _ := 0

/-- The arrays are what the region finds. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2.1 := by dsimp only [dats]
theorem after0_18 (c : Dev nD) (t : Fin cfg0.N) : (dats m 0 c).after 18 t = (outsAt0 m c t.val t.isLt).2.2.1 := by dsimp only [dats]
theorem after0_19 (c : Dev nD) (t : Fin cfg0.N) : (dats m 0 c).after 19 t = (outsAt0 m c t.val t.isLt).2.2.2.1 := by dsimp only [dats]
theorem after0_20 (c : Dev nD) (t : Fin cfg0.N) : (dats m 0 c).after 20 t = (outsAt0 m c t.val t.isLt).2.2.2.2.1 := by dsimp only [dats]
theorem after0_21 (c : Dev nD) (t : Fin cfg0.N) : (dats m 0 c).after 21 t = (outsAt0 m c t.val t.isLt).2.2.2.2.2.1 := by dsimp only [dats]
theorem after0_22 (c : Dev nD) (t : Fin cfg0.N) : (dats m 0 c).after 22 t = (outsAt0 m c t.val t.isLt).2.2.2.2.2.2.1 := by dsimp only [dats]
theorem after0_23 (c : Dev nD) (t : Fin cfg0.N) : (dats m 0 c).after 23 t = (outsAt0 m c t.val t.isLt).2.2.2.2.2.2.2.1 := by dsimp only [dats]
theorem after0_24 (c : Dev nD) (t : Fin cfg0.N) : (dats m 0 c).after 24 t = (outsAt0 m c t.val t.isLt).2.2.2.2.2.2.2.2.1 := by dsimp only [dats]
theorem after0_25 (c : Dev nD) (t : Fin cfg0.N) : (dats m 0 c).after 25 t = (outsAt0 m c t.val t.isLt).2.2.2.2.2.2.2.2.2.1 := by dsimp only [dats]
theorem after0_26 (c : Dev nD) (t : Fin cfg0.N) : (dats m 0 c).after 26 t = (outsAt0 m c t.val t.isLt).2.2.2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

end Cert.PreMixIdeal.Run

end
-- ==== Proof.PreMix.Frame.lean ====
module

public import proofs.«01_k».proof.Proof.PreMix.Data
public import Idealize.ShloMosaic.Lib.Claim

@[expose] public section

/-! The frame of the pre-mix call: the body at every grid point leaves what Data.lean names, and the whole launch ends with the
    arguments unchanged. -/

set_option maxRecDepth 16384

noncomputable section

namespace Cert.PreMixIdeal.Run

open Cert.PreMixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 22400000 in
/-- The body at any point: the case the point is in, that case's run, and what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold out0_A_16 out0_A_17 out0_A_18 out0_A_19 out0_A_20 out0_A_21 out0_A_22 out0_A_23 out0_A_24 out0_A_25 out0_A_26 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
      iapply ((runA m c t ((hcond0_0 t).mpr h0)).2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [HS0]; · iexact HS0
      iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%es0, HS0⟩⟩
      isplitl [HS0 Hg]
      · isplitl [HS0]
        · unfold owns; iexists _; isplitr
          swap; · iexact HS0
          ipureintro; exact View.read_writes_of_cover _ _ _ _ _ (scover0_A_0 m c t _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_A_16 m c t _)
      isplitl [H17]
      · unfold owns; iexists _; isplitr
        swap; · iexact H17
        ipureintro; exact View.read_writes_of_cover _ _ _ _ _ (cover0_A_17 m c t _)
      isplitl [H18]
      · unfold owns; iexists _; isplitr
        swap; · iexact H18
        ipureintro; exact View.read_writes_of_cover _ _ _ _ _ (cover0_A_18 m c t _)
      isplitl [H19]
      · unfold owns; iexists _; isplitr
        swap; · iexact H19
        ipureintro; exact View.read_writes_of_cover _ _ _ _ _ (cover0_A_19 m c t _)
      isplitl [H20]
      · unfold owns; iexists _; isplitr
        swap; · iexact H20
        ipureintro; exact View.read_writes_of_cover _ _ _ _ _ (cover0_A_20 m c t _)
      isplitl [H21]
      · unfold owns; iexists _; isplitr
        swap; · iexact H21
        ipureintro; exact View.read_writes_of_cover _ _ _ _ _ (cover0_A_21 m c t _)
      isplitl [H22]
      · unfold owns; iexists _; isplitr
        swap; · iexact H22
        ipureintro; exact View.read_writes_of_cover _ _ _ _ _ (cover0_A_22 m c t _)
      isplitl [H23]
      · unfold owns; iexists _; isplitr
        swap; · iexact H23
        ipureintro; exact View.read_writes_of_cover _ _ _ _ _ (cover0_A_23 m c t _)
      isplitl [H24]
      · unfold owns; iexists _; isplitr
        swap; · iexact H24
        ipureintro; exact View.read_writes_of_cover _ _ _ _ _ (cover0_A_24 m c t _)
      isplitl [H25]
      · unfold owns; iexists _; isplitr
        swap; · iexact H25
        ipureintro; exact View.read_writes_of_cover _ _ _ _ _ (cover0_A_25 m c t _)
      unfold owns; iexists _; isplitr
      swap; · iexact H26
      ipureintro; exact View.read_writes_of_cover _ _ _ _ _ (cover0_A_26 m c t _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_16 out0_B_17 out0_B_18 out0_B_19 out0_B_20 out0_B_21 out0_B_22 out0_B_23 out0_B_24 out0_B_25 out0_B_26 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
      iapply ((runB m c t (fun h => h0 ((hcond0_0 t).mp h)) _).2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [HS0]; · iexact HS0
      iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%es0, HS0⟩⟩
      isplitl [HS0 Hg]
      · isplitl [HS0]
        · unfold owns; iexists _; isplitr
          swap; · iexact HS0
          ipureintro; exact View.read_writes_of_cover _ _ _ _ _ (scover0_B_0 m c t _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_B_16 m c t _ _)
      isplitl [H17]
      · unfold owns; iexists _; isplitr
        swap; · iexact H17
        ipureintro; exact View.read_writes_of_cover _ _ _ _ _ (cover0_B_17 m c t _ _)
      isplitl [H18]
      · unfold owns; iexists _; isplitr
        swap; · iexact H18
        ipureintro; exact View.read_writes_of_cover _ _ _ _ _ (cover0_B_18 m c t _ _)
      isplitl [H19]
      · unfold owns; iexists _; isplitr
        swap; · iexact H19
        ipureintro; exact View.read_writes_of_cover _ _ _ _ _ (cover0_B_19 m c t _ _)
      isplitl [H20]
      · unfold owns; iexists _; isplitr
        swap; · iexact H20
        ipureintro; exact View.read_writes_of_cover _ _ _ _ _ (cover0_B_20 m c t _ _)
      isplitl [H21]
      · unfold owns; iexists _; isplitr
        swap; · iexact H21
        ipureintro; exact View.read_writes_of_cover _ _ _ _ _ (cover0_B_21 m c t _ _)
      isplitl [H22]
      · unfold owns; iexists _; isplitr
        swap; · iexact H22
        ipureintro; exact View.read_writes_of_cover _ _ _ _ _ (cover0_B_22 m c t _ _)
      isplitl [H23]
      · unfold owns; iexists _; isplitr
        swap; · iexact H23
        ipureintro; exact View.read_writes_of_cover _ _ _ _ _ (cover0_B_23 m c t _ _)
      isplitl [H24]
      · unfold owns; iexists _; isplitr
        swap; · iexact H24
        ipureintro; exact View.read_writes_of_cover _ _ _ _ _ (cover0_B_24 m c t _ _)
      isplitl [H25]
      · unfold owns; iexists _; isplitr
        swap; · iexact H25
        ipureintro; exact View.read_writes_of_cover _ _ _ _ _ (cover0_B_25 m c t _ _)
      unfold owns; iexists _; isplitr
      swap; · iexact H26
      ipureintro; exact View.read_writes_of_cover _ _ _ _ _ (cover0_B_26 m c t _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 0 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The frame: the arguments end unchanged, with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.PreMixIdeal.Run

end
-- ==== Proof.PreMix.Spec.lean ====
/-
  THE LAYER'S FIRST STEP, as plain formulas over the extended reals: the centred and scaled row of the gated mixing branch,
  the causal mixing of a block of tokens, and the short convolution along the tokens. The row normalisation, the products and
  the activations are those of Merge/Spec.lean.
-/
module

public import proofs.«01_k».proof.Proof.Merge.Spec

@[expose] public section

noncomputable section

namespace Cert.Proof.PreMix

open Idealize.ShloMosaic Merge

/-- The mean of 256 entries. -/
def mean (d : Fin 256 → EReal) : EReal := Ideal.div (∑ k : Fin 256, d k) (Ideal.ofBits .f32 0x43800000#32)

/-- A row of 256 entries less its mean. -/
def centred (d : Fin 256 → EReal) (k : Fin 256) : EReal := d k - mean d

/-- A row centred, divided by the root of its variance (the layer's small constant added), scaled and shifted. -/
def lnorm (d g b : Fin 256 → EReal) (k : Fin 256) : EReal :=
  centred d k * Ideal.rsqrt (mean (fun a => centred d a * centred d a) + Ideal.ofBits .f32 0x358637BD#32) * g k + b k

/-- One entry of the causal mixing: the block's tokens up to `t`, weighed. -/
def causal (t : Fin 128) (w v : Fin 128 → EReal) : EReal := ∑ s : Fin 128, if s ≤ t then w s * v s else 0

/-- The entry `k` tokens before token `r`, zero before the first. -/
def before (y : Fin 16384 → EReal) (r : Fin 16384) (k : Nat) : EReal :=
  if r.val < k then 0 else y ⟨r.val - k, by omega⟩

/-- The convolution over the last three tokens, its bias added. -/
def conv (w0 w1 w2 b : EReal) (y : Fin 16384 → EReal) (r : Fin 16384) : EReal :=
  w0 * before y r 2 + w1 * before y r 1 + w2 * y r + b

end Cert.Proof.PreMix

end
-- ==== Proof.PreMix.Payloads.lean ====
/-
  The kernel's vector operations at one row and one column, each as the formula of Spec.lean that it computes.
-/
module

public import proofs.«01_k».proof.Proof.Gen.PreMixIdeal.Skeleton
public import proofs.«01_k».proof.Proof.PreMix.Spec
public import Idealize.ShloMosaic.Lib.WordCmp

@[expose] public section

set_option maxRecDepth 16384

noncomputable section

namespace Cert.Proof.PreMix

open Idealize.ShloMosaic Cert.PreMixIdeal Cert.PreMixIdeal.Gen Merge

/-! ## The normalised rows and their products with the weights -/

theorem pay1_apply (x : Vec Ideal S256x1024 .f32) (g : Vec Ideal S1x1024 .f32) (r : Fin 256) (k : Fin 1024) :
    k0_pay1 x g (ix2 r k) = rms (fun a => x (ix2 r a)) (fun a => g (ix2 0 a)) k := by
  pointwise [k0_pay1, rms, dot]

theorem pay32_apply (x : Vec Ideal S256x1024 .f32) (g : Vec Ideal S1x1024 .f32) (r : Fin 256) (k : Fin 1024) :
    k0_pay32 x g (ix2 r k) = rms (fun a => x (ix2 r a)) (fun a => g (ix2 0 a)) k := by
  pointwise [k0_pay32, rms, dot]

/-- The token's entry of a projection: its normalised row times one column of the weights. -/
def proj {n : Nat} (x : Vec Ideal S256x1024 .f32) (g : Vec Ideal S1x1024 .f32) (w : Vec Ideal (⟨2, ![1024, n]⟩ : Shape) .bf16)
    (r : Fin 256) (j : Fin n) : EReal :=
  dot (rms (fun a => x (ix2 r a)) fun a => g (ix2 0 a)) fun k => w (ix2 k j)

section
variable (x : Vec Ideal S256x1024 .f32) (g : Vec Ideal S1x1024 .f32) (r : Fin 256)

theorem pay6_apply (w : Vec Ideal S1024x768 .bf16) (j : Fin 768) : k0_pay6 x g w (ix2 r j) = proj x g w r j := by
  pointwise [k0_pay6, dot, proj, pay1_apply]

theorem pay18_apply (w : Vec Ideal S1024x384 .bf16) (j : Fin 384) : k0_pay18 (k0_pay1 x g) w (ix2 r j) = proj x g w r j := by
  pointwise [k0_pay18, dot, proj, pay1_apply]

theorem pay27_apply (w : Vec Ideal S1024x768 .bf16) (j : Fin 768) : k0_pay27 (k0_pay1 x g) w (ix2 r j) = proj x g w r j := by
  pointwise [k0_pay27, dot, proj, pay1_apply]

theorem pay33_apply (w : Vec Ideal S1024x1792 .bf16) (j : Fin 1792) : k0_pay33 (k0_pay32 x g) w (ix2 r j) = proj x g w r j := by
  pointwise [k0_pay33, dot, proj, pay32_apply]

theorem pay7_apply (w : Vec Ideal S1024x768 .bf16) (j : Fin 256) : k0_pay7 x g w (ix2 r j) = proj x g w r ⟨j, by omega⟩ := by
  pointwise [k0_pay7, pay6_apply]

theorem pay8_apply (w : Vec Ideal S1024x768 .bf16) (j : Fin 256) : k0_pay8 x g w (ix2 r j) = proj x g w r ⟨256 + j, by omega⟩ := by
  pointwise [k0_pay8, pay6_apply]

theorem pay19_apply (w : Vec Ideal S1024x384 .bf16) (j : Fin 128) :
    k0_pay19 (k0_pay1 x g) w (ix2 r j) = proj x g w r ⟨j, by omega⟩ := by
  pointwise [k0_pay19, pay18_apply]

theorem pay20_apply (w : Vec Ideal S1024x384 .bf16) (j : Fin 128) :
    k0_pay20 (k0_pay1 x g) w (ix2 r j) = proj x g w r ⟨128 + j, by omega⟩ := by
  pointwise [k0_pay20, pay18_apply]

theorem pay34_apply (w : Vec Ideal S1024x1792 .bf16) (j : Fin 256) :
    k0_pay34 (k0_pay32 x g) w (ix2 r j) = proj x g w r ⟨768 + j, by omega⟩ := by
  pointwise [k0_pay34, pay33_apply]

theorem pay35_apply (w : Vec Ideal S1024x1792 .bf16) (j : Fin 256) :
    k0_pay35 (k0_pay32 x g) w (ix2 r j) = proj x g w r ⟨1024 + j, by omega⟩ := by
  pointwise [k0_pay35, pay33_apply]

theorem pay36_apply (w : Vec Ideal S1024x1792 .bf16) (j : Fin 256) :
    k0_pay36 (k0_pay32 x g) w (ix2 r j) = proj x g w r ⟨1280 + j, by omega⟩ := by
  pointwise [k0_pay36, pay33_apply]

theorem pay37_apply (w : Vec Ideal S1024x1792 .bf16) (j : Fin 256) :
    k0_pay37 (k0_pay32 x g) w (ix2 r j) = proj x g w r ⟨1536 + j, by omega⟩ := by
  pointwise [k0_pay37, pay33_apply]

theorem pay38_apply (w : Vec Ideal S1024x1792 .bf16) (j : Fin 256) :
    k0_pay38 (k0_pay32 x g) w (ix2 r j) = proj x g w r ⟨256 + j, by omega⟩ * proj x g w r ⟨512 + j, by omega⟩ := by
  pointwise [k0_pay38, pay33_apply]

theorem pay39_apply (w : Vec Ideal S1024x1792 .bf16) (j : Fin 256) :
    k0_pay39 (k0_pay32 x g) w (ix2 r j) = proj x g w r ⟨256 + j, by omega⟩ * proj x g w r ⟨512 + j, by omega⟩ := by
  pointwise [k0_pay39, pay38_apply]

theorem pay40_apply (w : Vec Ideal S1024x1792 .bf16) (i : Fin 8) (j : Fin 256) :
    k0_pay40 (k0_pay32 x g) w (ix2 i j)
      = proj x g w ⟨248 + i, by omega⟩ ⟨256 + j, by omega⟩ * proj x g w ⟨248 + i, by omega⟩ ⟨512 + j, by omega⟩ := by
  pointwise [k0_pay40, pay38_apply]

/-! ## The results that are a projection, scaled, transposed or cast -/

theorem pay17_apply (w : Vec Ideal S1024x768 .bf16) (j : Fin 256) :
    k0_pay17 (k0_pay6 x g w) (ix3 0 j r) = proj x g w r ⟨512 + j, by omega⟩ := by
  pointwise [k0_pay17, pay6_apply]

theorem pay26_apply (w : Vec Ideal S1024x384 .bf16) (i : Fin 8) :
    k0_pay26 (k0_pay18 (k0_pay1 x g) w) (ix2 i r) = proj x g w r ⟨256 + i, by omega⟩ * Ideal.ofBits .f32 0x3DB504F3#32 := by
  pointwise [k0_pay26, pay18_apply]

theorem pay28_apply (w : Vec Ideal S1024x768 .bf16) (j : Fin 256) :
    k0_pay28 (k0_pay1 x g) w (ix2 r j) = proj x g w r ⟨j, by omega⟩ * Ideal.ofBits .f32 0x3E38AA3B#32 := by
  pointwise [k0_pay28, pay27_apply]

theorem pay29_apply (w : Vec Ideal S1024x768 .bf16) (j : Fin 256) :
    k0_pay29 (k0_pay1 x g) w (ix2 r j) = proj x g w r ⟨256 + j, by omega⟩ := by
  pointwise [k0_pay29, pay27_apply]

theorem pay30_apply (w : Vec Ideal S1024x768 .bf16) (j : Fin 256) :
    k0_pay30 (k0_pay1 x g) w (ix2 r j) = proj x g w r ⟨512 + j, by omega⟩ := by
  pointwise [k0_pay30, pay27_apply]

end

/-! ## The rotations: the kernel picks between two rotated copies by the column's place in its head -/

/-- The kernel's test of the column `w`: whether it lies in the first half of its head of 64. -/
abbrev low64 (w : BitVec 32) : BitVec 1 :=
  IntOp.cmpi CmpIPredicate.slt (Scalar.select (IntOp.andi (IntOp.xori
      (IntOp.cmpi CmpIPredicate.slt (IntOp.remsi ArithUnit.vector w (Scalar.select (Scalar.cmpi .eq 64#32 0#32) 1#32 64#32)) 0#32)
      (Scalar.cmpi .slt (Scalar.select (Scalar.cmpi .eq 64#32 0#32) 1#32 64#32) 0#32))
      (IntOp.cmpi CmpIPredicate.ne (IntOp.remsi ArithUnit.vector w (Scalar.select (Scalar.cmpi .eq 64#32 0#32) 1#32 64#32)) 0#32))
    (IntOp.addi (IntOp.remsi ArithUnit.vector w (Scalar.select (Scalar.cmpi .eq 64#32 0#32) 1#32 64#32)) (Scalar.select (Scalar.cmpi .eq 64#32 0#32) 1#32 64#32))
    (IntOp.remsi ArithUnit.vector w (Scalar.select (Scalar.cmpi .eq 64#32 0#32) 1#32 64#32))) 32#32

theorem low64_lo : ∀ (h : Fin 4) (d : Fin 32), low64 (BitVec.ofNat 32 (64 * h.val + d.val)) = 1#1 := by decide +kernel

theorem low64_hi : ∀ (h : Fin 4) (d : Fin 32), low64 (BitVec.ofNat 32 (64 * h.val + (32 + d.val))) = 0#1 := by decide +kernel

/-- The kernel's test of the column `w`: whether it lies in the first half of its head of 32. -/
abbrev low32 (w : BitVec 32) : BitVec 1 :=
  IntOp.cmpi CmpIPredicate.slt (Scalar.select (IntOp.andi (IntOp.xori
      (IntOp.cmpi CmpIPredicate.slt (IntOp.remsi ArithUnit.vector w (Scalar.select (Scalar.cmpi .eq 32#32 0#32) 1#32 32#32)) 0#32)
      (Scalar.cmpi .slt (Scalar.select (Scalar.cmpi .eq 32#32 0#32) 1#32 32#32) 0#32))
      (IntOp.cmpi CmpIPredicate.ne (IntOp.remsi ArithUnit.vector w (Scalar.select (Scalar.cmpi .eq 32#32 0#32) 1#32 32#32)) 0#32))
    (IntOp.addi (IntOp.remsi ArithUnit.vector w (Scalar.select (Scalar.cmpi .eq 32#32 0#32) 1#32 32#32)) (Scalar.select (Scalar.cmpi .eq 32#32 0#32) 1#32 32#32))
    (IntOp.remsi ArithUnit.vector w (Scalar.select (Scalar.cmpi .eq 32#32 0#32) 1#32 32#32))) 16#32

theorem low32_lo : ∀ (h : Fin 4) (d : Fin 16), low32 (BitVec.ofNat 32 (32 * h.val + d.val)) = 1#1 := by decide +kernel

theorem low32_hi : ∀ (h : Fin 4) (d : Fin 16), low32 (BitVec.ofNat 32 (32 * h.val + (16 + d.val))) = 0#1 := by decide +kernel

theorem pay12_lo (s q c : FVec Ideal S256x256 .f32) (r : Fin 256) (h : Fin 4) (d : Fin 32) :
    k0_pay12 s q c (Scalar.select (Scalar.cmpi .eq 64#32 0#32) 1#32 64#32) k0_pay10 k0_pay11 (ix2 r ⟨64 * h + d, by omega⟩)
      = (c (ix2 r ⟨64 * h + d, by omega⟩) + q (ix2 r ⟨64 * h + (32 + d), by omega⟩) * s (ix2 r ⟨64 * h + d, by omega⟩)) * Ideal.ofBits .f32 0x3E38AA3B#32 := by
  have e : (64 * h.val + d.val + 256 - 224) % 256 = 64 * h.val + (32 + d.val) := by omega
  have l := low64_lo h d
  pointwise [k0_pay12, k0_pay11, k0_pay10]
  unfold low64 at l
  rw [l]
  simp only [e]
  rfl

theorem pay12_hi (s q c : FVec Ideal S256x256 .f32) (r : Fin 256) (h : Fin 4) (d : Fin 32) :
    k0_pay12 s q c (Scalar.select (Scalar.cmpi .eq 64#32 0#32) 1#32 64#32) k0_pay10 k0_pay11 (ix2 r ⟨64 * h + (32 + d), by omega⟩)
      = (c (ix2 r ⟨64 * h + (32 + d), by omega⟩) + q (ix2 r ⟨64 * h + d, by omega⟩) * s (ix2 r ⟨64 * h + (32 + d), by omega⟩)) * Ideal.ofBits .f32 0x3E38AA3B#32 := by
  have e : (64 * h.val + (32 + d.val) + 256 - 32) % 256 = 64 * h.val + d.val := by omega
  have l := low64_hi h d
  pointwise [k0_pay12, k0_pay11, k0_pay10]
  unfold low64 at l
  rw [l]
  simp only [e]
  rfl

theorem pay16_lo (s q c : FVec Ideal S256x256 .f32) (r : Fin 256) (h : Fin 4) (d : Fin 32) :
    k0_pay16 s q (k0_pay13 c q) k0_pay14 (k0_pay15 q) (ix2 r ⟨64 * h + d, by omega⟩)
      = q (ix2 r ⟨64 * h + d, by omega⟩) * c (ix2 r ⟨64 * h + d, by omega⟩) + q (ix2 r ⟨64 * h + (32 + d), by omega⟩) * s (ix2 r ⟨64 * h + d, by omega⟩) := by
  have e : (64 * h.val + d.val + 256 - 224) % 256 = 64 * h.val + (32 + d.val) := by omega
  have l := low64_lo h d
  pointwise [k0_pay16, k0_pay13, k0_pay14, k0_pay15]
  unfold low64 at l
  rw [l]
  simp only [e]
  rfl

theorem pay16_hi (s q c : FVec Ideal S256x256 .f32) (r : Fin 256) (h : Fin 4) (d : Fin 32) :
    k0_pay16 s q (k0_pay13 c q) k0_pay14 (k0_pay15 q) (ix2 r ⟨64 * h + (32 + d), by omega⟩)
      = q (ix2 r ⟨64 * h + (32 + d), by omega⟩) * c (ix2 r ⟨64 * h + (32 + d), by omega⟩) + q (ix2 r ⟨64 * h + d, by omega⟩) * s (ix2 r ⟨64 * h + (32 + d), by omega⟩) := by
  have e : (64 * h.val + (32 + d.val) + 256 - 32) % 256 = 64 * h.val + d.val := by omega
  have l := low64_hi h d
  pointwise [k0_pay16, k0_pay13, k0_pay14, k0_pay15]
  unfold low64 at l
  rw [l]
  simp only [e]
  rfl

theorem rot32_lo (s c q : FVec Ideal S256x128 .f32) (r : Fin 256) (h : Fin 4) (d : Fin 16) :
    k0_pay24 s q (mulf q c) k0_pay22 (dynamicRotate 1 112#32 none q Facts₀.rotates_S256x128_d1) 16#32 (ix2 r ⟨32 * h + d, by omega⟩)
      = q (ix2 r ⟨32 * h + d, by omega⟩) * c (ix2 r ⟨32 * h + d, by omega⟩) + q (ix2 r ⟨32 * h + (16 + d), by omega⟩) * s (ix2 r ⟨32 * h + d, by omega⟩) := by
  have e : (32 * h.val + d.val + 128 - 112) % 128 = 32 * h.val + (16 + d.val) := by omega
  have l := low32_lo h d
  pointwise [k0_pay24, k0_pay22]
  unfold low32 at l
  rw [l]
  simp only [e]
  rfl

theorem rot32_hi (s c q : FVec Ideal S256x128 .f32) (r : Fin 256) (h : Fin 4) (d : Fin 16) :
    k0_pay24 s q (mulf q c) k0_pay22 (dynamicRotate 1 112#32 none q Facts₀.rotates_S256x128_d1) 16#32 (ix2 r ⟨32 * h + (16 + d), by omega⟩)
      = q (ix2 r ⟨32 * h + (16 + d), by omega⟩) * c (ix2 r ⟨32 * h + (16 + d), by omega⟩) + q (ix2 r ⟨32 * h + d, by omega⟩) * s (ix2 r ⟨32 * h + (16 + d), by omega⟩) := by
  have e : (32 * h.val + (16 + d.val) + 128 - 16) % 128 = 32 * h.val + d.val := by omega
  have l := low32_hi h d
  pointwise [k0_pay24, k0_pay22]
  unfold low32 at l
  rw [l]
  simp only [e]
  rfl

theorem pay25_lo (c s q : FVec Ideal S256x128 .f32) (r : Fin 256) (d : Fin 16) :
    k0_pay25 c s q (ix2 r ⟨d, by omega⟩)
      = q (ix2 r ⟨d, by omega⟩) * c (ix2 r ⟨d, by omega⟩) + q (ix2 r ⟨16 + d, by omega⟩) * s (ix2 r ⟨d, by omega⟩) := by
  refine (congrArg (k0_pay24 s q (mulf q c) k0_pay22 (dynamicRotate 1 112#32 none q Facts₀.rotates_S256x128_d1) 16#32)
    (?_ : _ = ix2 r ⟨32 * (0 : Fin 4) + d, by simp; omega⟩)).trans
    ((rot32_lo s c q r 0 d).trans ?_)
  · funext a
    fin_cases a <;> exact Fin.ext (by simp)
  · simp only [Fin.val_zero, Nat.mul_zero, Nat.zero_add]

theorem pay25_hi (c s q : FVec Ideal S256x128 .f32) (r : Fin 256) (d : Fin 16) :
    k0_pay25 c s q (ix2 r ⟨16 + d, by omega⟩)
      = q (ix2 r ⟨16 + d, by omega⟩) * c (ix2 r ⟨16 + d, by omega⟩) + q (ix2 r ⟨d, by omega⟩) * s (ix2 r ⟨16 + d, by omega⟩) := by
  refine (congrArg (k0_pay24 s q (mulf q c) k0_pay22 (dynamicRotate 1 112#32 none q Facts₀.rotates_S256x128_d1) 16#32)
    (?_ : _ = ix2 r ⟨32 * (0 : Fin 4) + (16 + d), by simp; omega⟩)).trans
    ((rot32_hi s c q r 0 d).trans ?_)
  · funext a
    fin_cases a <;> exact Fin.ext (by simp)
  · simp only [Fin.val_zero, Nat.mul_zero, Nat.zero_add]

/-! ## The short convolution and the causal mixing -/

theorem pay41_apply (x : FVec Ideal S256x1024 .bf16) (w : Vec Ideal S1024x1792 .bf16) (y1 y2 : Vec Ideal S256x256 .f32)
    (c2 c1 c0 b : Vec Ideal S1x256 .f32) (r j : Fin 256) :
    k0_pay41 x w y1 y2 c2 c1 c0 b (ix2 r j)
      = k0_pay33 x w (ix2 r ⟨j, by omega⟩) * (c2 (ix2 0 j) * k0_pay38 x w (ix2 r j) + c1 (ix2 0 j) * y1 (ix2 r j)
          + c0 (ix2 0 j) * y2 (ix2 r j) + b (ix2 0 j)) := by
  pointwise [k0_pay41]

theorem pay43_apply (p o : FVec Ideal S256x256 .f32) (r j : Fin 256) :
    k0_pay43 p o k0_pay42 (ix2 r j) = o (ix2 r j) * silu (p (ix2 r j)) := by
  pointwise [k0_pay43, k0_pay42, silu, sigm, zero_sub]

theorem pay44_apply (d : FVec Ideal S256x256 .f32) (g b : Vec Ideal S1x256 .f32) (r j : Fin 256) :
    k0_pay44 d g b (ix2 r j) = lnorm (fun a => d (ix2 r a)) (fun a => g (ix2 0 a)) (fun a => b (ix2 0 a)) j := by
  pointwise [k0_pay44, lnorm, centred, mean]

/-- The group of 64 columns that each column belongs to, as the kernel computes it. -/
abbrev groups : IVec S1x256 32 := k0_pay48 (iota .tc S1x256 32 [1] iota_S1x256_d1_w32) 64#32 k0_pay45 k0_pay46 k0_pay47

theorem groups_apply (j : Fin 256) : groups (ix2 0 j) = BitVec.ofNat 32 (j.val / 64) := by
  revert j
  decide +kernel

theorem group_eq : ∀ g n : Fin 4, IntOp.cmpi .eq (BitVec.ofNat 32 g.val) (BitVec.ofNat 32 n.val) = BitVec.ofBool (decide (g = n)) := by
  decide +kernel

/-- The mixing weights with the later tokens' struck out. -/
def lower (w : Vec Ideal S1x128x128 .f32) (r s : Fin 128) : EReal := if s ≤ r then w (ix3 0 r s) else 0

theorem later (r s : Fin 128) : IntOp.cmpi .sge (BitVec.ofNat 32 r.val) (BitVec.ofNat 32 s.val) = BitVec.ofBool (decide (s ≤ r)) := by
  rw [WordCmp.cmpi_sge_ofNat (by omega) (by omega)]
  rfl

theorem pay50_apply (w : Vec Ideal S1x128x128 .f32) (r s : Fin 128) : k0_pay50 w (ix2 r s) = lower w r s := by
  pointwise [k0_pay50, k0_pay49, later, lower]

theorem pay51_apply (w : Vec Ideal S1x128x128 .f32) (r s : Fin 128) : k0_pay51 w (ix2 r s) = lower w r s := by
  pointwise [k0_pay51, k0_pay49, later, lower]

theorem pay52_apply (w : Vec Ideal S1x128x128 .f32) (r s : Fin 128) : k0_pay52 w (ix2 r s) = lower w r s := by
  pointwise [k0_pay52, k0_pay49, later, lower]

theorem pay53_apply (w : Vec Ideal S1x128x128 .f32) (r s : Fin 128) : k0_pay53 w (ix2 r s) = lower w r s := by
  pointwise [k0_pay53, k0_pay49, later, lower]

/-- The weights of group `n`. -/
def pick {α : Type} (a0 a1 a2 a3 : α) (n : Fin 4) : α := ![a0, a1, a2, a3] n

/-- Summing the four groups' contributions, all but one of them struck out, leaves that one's. -/
theorem pick_sum (a0 a1 a2 a3 : FVec Ideal S128x128 .bf16) (z : EReal) (f : Fin 128 → EReal) (r : Fin 128) (g : Fin 4) :
    z + (∑ x : Fin 128, Scalar.select (IntOp.cmpi .eq (BitVec.ofNat 32 g.val) 0#32) (a0 (ix2 r x) * f x) 0)
        + (∑ x : Fin 128, Scalar.select (IntOp.cmpi .eq (BitVec.ofNat 32 g.val) 1#32) (a1 (ix2 r x) * f x) 0)
        + (∑ x : Fin 128, Scalar.select (IntOp.cmpi .eq (BitVec.ofNat 32 g.val) 2#32) (a2 (ix2 r x) * f x) 0)
        + (∑ x : Fin 128, Scalar.select (IntOp.cmpi .eq (BitVec.ofNat 32 g.val) 3#32) (a3 (ix2 r x) * f x) 0)
      = z + ∑ s : Fin 128, pick a0 a1 a2 a3 g (ix2 r s) * f s := by
  rw [show IntOp.cmpi .eq (BitVec.ofNat 32 g.val) 0#32 = _ from group_eq g 0,
    show IntOp.cmpi .eq (BitVec.ofNat 32 g.val) 1#32 = _ from group_eq g 1,
    show IntOp.cmpi .eq (BitVec.ofNat 32 g.val) 2#32 = _ from group_eq g 2,
    show IntOp.cmpi .eq (BitVec.ofNat 32 g.val) 3#32 = _ from group_eq g 3]
  simp only [Scalar.select_ofBool, decide_eq_true_eq]
  fin_cases g <;> simp [pick]

theorem pay55_apply (a0 a1 a2 a3 : FVec Ideal S128x128 .bf16) (v b : FVec Ideal S128x256 .f32) (r : Fin 128) (g : Fin 4) (d : Fin 64) :
    k0_pay55 groups a0 a1 a2 a3 v b (ix2 r ⟨64 * g + d, by omega⟩)
      = b (ix2 r ⟨64 * g + d, by omega⟩)
        + ∑ s : Fin 128, pick a0 a1 a2 a3 g (ix2 r s) * v (ix2 s ⟨64 * g + d, by omega⟩) := by
  have e : (64 * g.val + d.val) / 64 = g.val := by omega
  pointwise [k0_pay55]
  simp only [groups_apply, e]
  exact pick_sum a0 a1 a2 a3 _ (fun s => v (ix2 s ⟨64 * g + d, by omega⟩)) r g

/-- The mixed branch's result: the two halves' mixed rows, times their inputs and their path's activation. -/
theorem pay59_eq (u p : FVec Ideal S256x256 .f32) (a0 a1 a2 a3 : FVec Ideal S128x128 .bf16) (m v b : FVec Ideal S128x256 .f32) :
    k0_pay59 u p groups a0 a1 a2 a3 m v (k0_pay57 b) (k0_pay58 groups)
      = k0_pay43 p (mulf u (concatenate S256x256 0 [⟨S128x256, m⟩, ⟨S128x256, k0_pay55 groups a0 a1 a2 a3 v b⟩]
          Facts₀.concatenates_S128x256_S128x256_S256x256_d0)) k0_pay42 := rfl

theorem pay59_lo (u p : FVec Ideal S256x256 .f32) (a0 a1 a2 a3 : FVec Ideal S128x128 .bf16) (m v b : FVec Ideal S128x256 .f32)
    (r : Fin 128) (j : Fin 256) :
    k0_pay59 u p groups a0 a1 a2 a3 m v (k0_pay57 b) (k0_pay58 groups) (ix2 ⟨r, by omega⟩ j)
      = u (ix2 ⟨r, by omega⟩ j) * m (ix2 r j) * silu (p (ix2 ⟨r, by omega⟩ j)) := by
  rw [pay59_eq, pay43_apply]
  pointwise

theorem pay59_hi (u p : FVec Ideal S256x256 .f32) (a0 a1 a2 a3 : FVec Ideal S128x128 .bf16) (m v b : FVec Ideal S128x256 .f32)
    (r : Fin 128) (j : Fin 256) :
    k0_pay59 u p groups a0 a1 a2 a3 m v (k0_pay57 b) (k0_pay58 groups) (ix2 ⟨128 + r, by omega⟩ j)
      = u (ix2 ⟨128 + r, by omega⟩ j) * k0_pay55 groups a0 a1 a2 a3 v b (ix2 r j) * silu (p (ix2 ⟨128 + r, by omega⟩ j)) := by
  rw [pay59_eq, pay43_apply]
  pointwise

end Cert.Proof.PreMix

end
-- ==== Proof.PreMix.Stored.lean ====
/-
  What a grid point's body stores, as the kernel's own vector operations of that point's blocks; and what its scratch, which
  carries the last eight rows to the next point, then holds.
-/
module

public import proofs.«01_k».proof.Proof.PreMix.Data
public import proofs.«01_k».proof.Proof.PreMix.Payloads
public import Idealize.ShloMosaic.Lib.WholeRead
public import Idealize.ShloMosaic.Lib.WritesUnit
public import Idealize.ShloMosaic.Lib.Pipeline.ValueKit

@[expose] public section

set_option maxRecDepth 16384

noncomputable section

namespace Cert.Proof.PreMix

open Idealize.ShloMosaic Idealize.ShloMosaic.TcCoe Idealize.SL.Sem Cert.PreMixIdeal Cert.PreMixIdeal.Gen Cert.PreMixIdeal.Run

/-! ## Loads -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- A load of a whole staging buffer reads what it holds. -/
theorem load2 {d : Fin 2 → Nat} {e : EltTy} {m : Memref sig .tc .vmem ⟨2, d⟩ e} (h : m.IsWhole) (X : Vec Ideal ⟨2, d⟩ e)
    (inb : ∀ a : Fin 2, (![0, 0] : Fin 2 → Nat) a + d a ≤ d a) :
    View.readAt (Elt Ideal) m.view (Rect.unit (s := ⟨2, d⟩) ![0, 0] d inb).toLoadRect (h.unread X) = X := by
  rw [View.readAt_eq_ld, h.read_unread]
  exact View.ld_unit_zero zeros2 inb X

/-- One matrix of the four. -/
def plane (X : Vec Ideal S4x128x128 .f32) (g : Fin 4) : Vec Ideal S1x128x128 .f32 := fun i => X (ix3 g (i 1) (i 2))

/-- One row of the eight. -/
def line (X : Vec Ideal S8x256 .f32) (k : Fin 8) : Vec Ideal S1x256 .f32 := fun i => X (ix2 k (i 1))

theorem load_plane {m : Memref sig .tc .vmem S4x128x128 .f32} (h : m.IsWhole) (X : Vec Ideal S4x128x128 .f32) (n : Nat) (g : Fin 4) (hn : n = g.val)
    (inb : ∀ a : Fin 3, (![n, 0, 0] : Fin 3 → Nat) a + (![1, 128, 128] : Fin 3 → Nat) a ≤ S4x128x128.size a) :
    View.readAt (Elt Ideal) m.view (Rect.unit (s := S4x128x128) ![n, 0, 0] ![1, 128, 128] inb).toLoadRect (h.unread X) = plane X g := by
  rw [View.readAt_eq_ld, h.read_unread]
  funext x
  refine View.ld_unit_apply_of X _ _ inb x _ fun a => ?_
  have h0 : (x 0).val < 1 := (x 0).isLt
  fin_cases a
  · show g.val = n + (x 0).val
    omega
  · exact (Nat.zero_add _).symm
  · exact (Nat.zero_add _).symm

theorem load_line {m : Memref sig .tc .vmem S8x256 .f32} (h : m.IsWhole) (X : Vec Ideal S8x256 .f32) (n : Nat) (k : Fin 8) (hn : n = k.val)
    (inb : ∀ a : Fin 2, (![n, 0] : Fin 2 → Nat) a + (![1, 256] : Fin 2 → Nat) a ≤ S8x256.size a) :
    View.readAt (Elt Ideal) m.view (Rect.unit (s := S8x256) ![n, 0] ![1, 256] inb).toLoadRect (h.unread X) = line X k := by
  rw [View.readAt_eq_ld, h.read_unread]
  funext x
  refine View.ld_unit_apply_of X _ _ inb x _ fun a => ?_
  have h0 : (x 0).val < 1 := (x 0).isLt
  fin_cases a
  · show k.val = n + (x 0).val
    omega
  · exact (Nat.zero_add _).symm

variable (m : (ℓ : Loc nD τ sig) → Buf (Elt Ideal) ℓ) (c : Dev nD)

/-- The point's rows of the mixing branch, normalised. -/
abbrev normed (t : Fin cfg0.N) : FVec Ideal S256x256 .f32 :=
  k0_pay44 (k0_pay35 (k0_pay32 (iblk m c 0 t) (iblk m c 1 t)) (iblk m c 9 t)) (iblk m c 12 t) (iblk m c 13 t)

/-! ## The stored results -/

theorem stored16 (t : Fin cfg0.N) : (outsAt0 m c t.val t.isLt).1 = k0_pay12 (k0_pay3 (iblk m c 6 t)) (k0_pay7 (iblk m c 0 t) (iblk m c 1 t) (iblk m c 2 t)) (k0_pay9 (iblk m c 0 t) (iblk m c 1 t) (iblk m c 5 t) (iblk m c 2 t)) 64#32 k0_pay10 k0_pay11 := by
  by_cases h0 : t.val % 64 = 0
  · rw [outsAt0_A m c t h0]
    dsimp only
    unfold out0_A_16
    rw [View.read_writes_junk_eq_canon]
    refine (View.canon_unit_zero zeros2 _ _).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15,
    kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23,
    kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31,
    kernelRun0_A.sl.r_32, kernelRun0_A.sl.r_33]
    simp only [load2]
  · rw [outsAt0_B m c t h0]
    dsimp only
    unfold out0_B_16
    rw [View.read_writes_junk_eq_canon]
    refine (View.canon_unit_zero zeros2 _ _).trans ?_
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
    kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15,
    kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23,
    kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31,
    kernelRun0_B.sl.r_32, kernelRun0_B.sl.r_33]
    simp only [load2]

theorem stored17 (t : Fin cfg0.N) : (outsAt0 m c t.val t.isLt).2.1 = k0_pay16 (k0_pay3 (iblk m c 6 t)) (k0_pay8 (iblk m c 0 t) (iblk m c 1 t) (iblk m c 2 t)) (k0_pay13 (k0_pay2 (iblk m c 5 t)) (k0_pay8 (iblk m c 0 t) (iblk m c 1 t) (iblk m c 2 t))) k0_pay14 (k0_pay15 (k0_pay8 (iblk m c 0 t) (iblk m c 1 t) (iblk m c 2 t))) := by
  by_cases h0 : t.val % 64 = 0
  · rw [outsAt0_A m c t h0]
    dsimp only
    unfold out0_A_17
    rw [View.read_writes_junk_eq_canon]
    refine (View.canon_unit_zero zeros2 _ _).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15,
    kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23,
    kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31,
    kernelRun0_A.sl.r_32, kernelRun0_A.sl.r_33]
    simp only [load2]
  · rw [outsAt0_B m c t h0]
    dsimp only
    unfold out0_B_17
    rw [View.read_writes_junk_eq_canon]
    refine (View.canon_unit_zero zeros2 _ _).trans ?_
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
    kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15,
    kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23,
    kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31,
    kernelRun0_B.sl.r_32, kernelRun0_B.sl.r_33]
    simp only [load2]

theorem stored18 (t : Fin cfg0.N) : (outsAt0 m c t.val t.isLt).2.2.1 = k0_pay17 (k0_pay6 (iblk m c 0 t) (iblk m c 1 t) (iblk m c 2 t)) := by
  by_cases h0 : t.val % 64 = 0
  · rw [outsAt0_A m c t h0]
    dsimp only
    unfold out0_A_18
    rw [View.read_writes_junk_eq_canon]
    refine (View.canon_unit_zero zeros3 _ _).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15,
    kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23,
    kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31,
    kernelRun0_A.sl.r_32, kernelRun0_A.sl.r_33]
    simp only [load2]
  · rw [outsAt0_B m c t h0]
    dsimp only
    unfold out0_B_18
    rw [View.read_writes_junk_eq_canon]
    refine (View.canon_unit_zero zeros3 _ _).trans ?_
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
    kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15,
    kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23,
    kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31,
    kernelRun0_B.sl.r_32, kernelRun0_B.sl.r_33]
    simp only [load2]

theorem stored19 (t : Fin cfg0.N) : (outsAt0 m c t.val t.isLt).2.2.2.1 = k0_pay24 (k0_pay5 (iblk m c 8 t)) (k0_pay19 (k0_pay1 (iblk m c 0 t) (iblk m c 1 t)) (iblk m c 3 t)) (k0_pay21 (k0_pay1 (iblk m c 0 t) (iblk m c 1 t)) (k0_pay4 (iblk m c 7 t)) (iblk m c 3 t)) k0_pay22 (k0_pay23 (k0_pay1 (iblk m c 0 t) (iblk m c 1 t)) (iblk m c 3 t)) 16#32 := by
  by_cases h0 : t.val % 64 = 0
  · rw [outsAt0_A m c t h0]
    dsimp only
    unfold out0_A_19
    rw [View.read_writes_junk_eq_canon]
    refine (View.canon_unit_zero zeros2 _ _).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15,
    kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23,
    kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31,
    kernelRun0_A.sl.r_32, kernelRun0_A.sl.r_33]
    simp only [load2]
  · rw [outsAt0_B m c t h0]
    dsimp only
    unfold out0_B_19
    rw [View.read_writes_junk_eq_canon]
    refine (View.canon_unit_zero zeros2 _ _).trans ?_
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
    kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15,
    kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23,
    kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31,
    kernelRun0_B.sl.r_32, kernelRun0_B.sl.r_33]
    simp only [load2]

theorem stored20 (t : Fin cfg0.N) : (outsAt0 m c t.val t.isLt).2.2.2.2.1 = k0_pay25 (k0_pay4 (iblk m c 7 t)) (k0_pay5 (iblk m c 8 t)) (k0_pay20 (k0_pay1 (iblk m c 0 t) (iblk m c 1 t)) (iblk m c 3 t)) := by
  by_cases h0 : t.val % 64 = 0
  · rw [outsAt0_A m c t h0]
    dsimp only
    unfold out0_A_20
    rw [View.read_writes_junk_eq_canon]
    refine (View.canon_unit_zero zeros2 _ _).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15,
    kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23,
    kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31,
    kernelRun0_A.sl.r_32, kernelRun0_A.sl.r_33]
    simp only [load2]
  · rw [outsAt0_B m c t h0]
    dsimp only
    unfold out0_B_20
    rw [View.read_writes_junk_eq_canon]
    refine (View.canon_unit_zero zeros2 _ _).trans ?_
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
    kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15,
    kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23,
    kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31,
    kernelRun0_B.sl.r_32, kernelRun0_B.sl.r_33]
    simp only [load2]

theorem stored21 (t : Fin cfg0.N) : (outsAt0 m c t.val t.isLt).2.2.2.2.2.1 = k0_pay26 (k0_pay18 (k0_pay1 (iblk m c 0 t) (iblk m c 1 t)) (iblk m c 3 t)) := by
  by_cases h0 : t.val % 64 = 0
  · rw [outsAt0_A m c t h0]
    dsimp only
    unfold out0_A_21
    rw [View.read_writes_junk_eq_canon]
    refine (View.canon_unit_zero zeros2 _ _).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15,
    kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23,
    kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31,
    kernelRun0_A.sl.r_32, kernelRun0_A.sl.r_33]
    simp only [load2]
  · rw [outsAt0_B m c t h0]
    dsimp only
    unfold out0_B_21
    rw [View.read_writes_junk_eq_canon]
    refine (View.canon_unit_zero zeros2 _ _).trans ?_
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
    kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15,
    kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23,
    kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31,
    kernelRun0_B.sl.r_32, kernelRun0_B.sl.r_33]
    simp only [load2]

theorem stored22 (t : Fin cfg0.N) : (outsAt0 m c t.val t.isLt).2.2.2.2.2.2.1 = k0_pay28 (k0_pay1 (iblk m c 0 t) (iblk m c 1 t)) (iblk m c 4 t) := by
  by_cases h0 : t.val % 64 = 0
  · rw [outsAt0_A m c t h0]
    dsimp only
    unfold out0_A_22
    rw [View.read_writes_junk_eq_canon]
    refine (View.canon_unit_zero zeros2 _ _).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15,
    kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23,
    kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31,
    kernelRun0_A.sl.r_32, kernelRun0_A.sl.r_33]
    simp only [load2]
  · rw [outsAt0_B m c t h0]
    dsimp only
    unfold out0_B_22
    rw [View.read_writes_junk_eq_canon]
    refine (View.canon_unit_zero zeros2 _ _).trans ?_
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
    kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15,
    kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23,
    kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31,
    kernelRun0_B.sl.r_32, kernelRun0_B.sl.r_33]
    simp only [load2]

theorem stored23 (t : Fin cfg0.N) : (outsAt0 m c t.val t.isLt).2.2.2.2.2.2.2.1 = k0_pay29 (k0_pay1 (iblk m c 0 t) (iblk m c 1 t)) (iblk m c 4 t) := by
  by_cases h0 : t.val % 64 = 0
  · rw [outsAt0_A m c t h0]
    dsimp only
    unfold out0_A_23
    rw [View.read_writes_junk_eq_canon]
    refine (View.canon_unit_zero zeros2 _ _).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15,
    kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23,
    kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31,
    kernelRun0_A.sl.r_32, kernelRun0_A.sl.r_33]
    simp only [load2]
  · rw [outsAt0_B m c t h0]
    dsimp only
    unfold out0_B_23
    rw [View.read_writes_junk_eq_canon]
    refine (View.canon_unit_zero zeros2 _ _).trans ?_
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
    kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15,
    kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23,
    kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31,
    kernelRun0_B.sl.r_32, kernelRun0_B.sl.r_33]
    simp only [load2]

theorem stored24 (t : Fin cfg0.N) : (outsAt0 m c t.val t.isLt).2.2.2.2.2.2.2.2.1 = k0_pay30 (k0_pay1 (iblk m c 0 t) (iblk m c 1 t)) (iblk m c 4 t) := by
  by_cases h0 : t.val % 64 = 0
  · rw [outsAt0_A m c t h0]
    dsimp only
    unfold out0_A_24
    rw [View.read_writes_junk_eq_canon]
    refine (View.canon_unit_zero zeros2 _ _).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15,
    kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23,
    kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31,
    kernelRun0_A.sl.r_32, kernelRun0_A.sl.r_33]
    simp only [load2]
  · rw [outsAt0_B m c t h0]
    dsimp only
    unfold out0_B_24
    rw [View.read_writes_junk_eq_canon]
    refine (View.canon_unit_zero zeros2 _ _).trans ?_
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
    kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15,
    kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23,
    kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31,
    kernelRun0_B.sl.r_32, kernelRun0_B.sl.r_33]
    simp only [load2]

theorem stored26 (t : Fin cfg0.N) : (outsAt0 m c t.val t.isLt).2.2.2.2.2.2.2.2.2.2.1 = k0_pay59 (k0_pay34 (k0_pay32 (iblk m c 0 t) (iblk m c 1 t)) (iblk m c 9 t)) (k0_pay37 (k0_pay32 (iblk m c 0 t) (iblk m c 1 t)) (iblk m c 9 t)) groups
      (k0_pay50 (plane (iblk m c 14 t) 0)) (k0_pay51 (plane (iblk m c 14 t) 1)) (k0_pay52 (plane (iblk m c 14 t) 2)) (k0_pay53 (plane (iblk m c 14 t) 3))
      (k0_pay55 groups (k0_pay50 (plane (iblk m c 14 t) 0)) (k0_pay51 (plane (iblk m c 14 t) 1)) (k0_pay52 (plane (iblk m c 14 t) 2)) (k0_pay53 (plane (iblk m c 14 t) 3)) (k0_pay54 (normed m c t)) (iblk m c 15 t)) (k0_pay56 (normed m c t)) (k0_pay57 (iblk m c 15 t)) (k0_pay58 groups) := by
  by_cases h0 : t.val % 64 = 0
  · rw [outsAt0_A m c t h0]
    dsimp only
    unfold out0_A_26
    rw [View.read_writes_junk_eq_canon]
    refine (View.canon_unit_zero zeros2 _ _).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15,
    kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23,
    kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31,
    kernelRun0_A.sl.r_32, kernelRun0_A.sl.r_33]
    simp only [load2]
    rw [load_plane _ _ 0 0 rfl, load_plane _ _ 1 1 rfl, load_plane _ _ 2 2 rfl, load_plane _ _ 3 3 rfl]
    rfl
  · rw [outsAt0_B m c t h0]
    dsimp only
    unfold out0_B_26
    rw [View.read_writes_junk_eq_canon]
    refine (View.canon_unit_zero zeros2 _ _).trans ?_
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
    kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15,
    kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23,
    kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31,
    kernelRun0_B.sl.r_32, kernelRun0_B.sl.r_33]
    simp only [load2]
    rw [load_plane _ _ 0 0 rfl, load_plane _ _ 1 1 rfl, load_plane _ _ 2 2 rfl, load_plane _ _ 3 3 rfl]
    rfl

/-! ## The carried rows -/

/-- The load that starts `k` rows into a buffer whose rows from the eighth on were just stored. -/
theorem shifted {sp : Space} (v : View sig .tc sp S264x256 .f32) (f : v.ty.Contents (Elt Ideal)) (a : Vec Ideal S256x256 .f32)
    (L : List (View.Piece (Elt Ideal) S264x256 .f32)) (k : Nat) (hk : k ≤ 8)
    (inb : ∀ i : Fin 2, (![8, 0] : Fin 2 → Nat) i + (![256, 256] : Fin 2 → Nat) i ≤ S264x256.size i)
    (inbk : ∀ i : Fin 2, (![k, 0] : Fin 2 → Nat) i + (![256, 256] : Fin 2 → Nat) i ≤ S264x256.size i) (r j : Fin 256) :
    v.readAt (Elt Ideal) (Rect.unit (s := S264x256) ![k, 0] ![256, 256] inbk).toLoadRect
        (v.writes (Elt Ideal) f (⟨Rect.unit (s := S264x256) ![8, 0] ![256, 256] inb, a⟩ :: L)) (ix2 r j)
      = if h : k + r.val < 8 then v.read (Elt Ideal) (v.writes (Elt Ideal) f L) (ix2 ⟨k + r.val, by omega⟩ j)
        else a (ix2 ⟨k + r.val - 8, by omega⟩ j) := by
  have e : v.readAt (Elt Ideal) (Rect.unit (s := S264x256) ![k, 0] ![256, 256] inbk).toLoadRect
        (v.writes (Elt Ideal) f (⟨Rect.unit (s := S264x256) ![8, 0] ![256, 256] inb, a⟩ :: L)) (ix2 r j)
      = v.read (Elt Ideal) (v.writes (Elt Ideal) f (⟨Rect.unit (s := S264x256) ![8, 0] ![256, 256] inb, a⟩ :: L))
          (ix2 ⟨k + r.val, by omega⟩ j) :=
    View.ld_unit_apply_of _ _ _ inbk _ _ (Fin.forall_fin_two.mpr ⟨rfl, (Nat.zero_add _).symm⟩)
  rw [e]
  split_ifs with h
  · exact View.read_writes_cons_rows_of_not_mem v f inb a L _ rfl rfl (Or.inl h)
  · exact View.read_writes_cons_rows_of_mem v f inb a L _ (ix2 ⟨k + r.val - 8, by omega⟩ j) rfl (by show k + r.val = 8 + (k + r.val - 8); omega) rfl

theorem scratch_A (t : Fin cfg0.N) (h : cond0_0 (grid0.coords t)) (i : Fin 8) (j : Fin 256) :
    sout0_A_0 m c t h (ix2 ⟨i, by omega⟩ j) = k0_pay40 (k0_pay32 (iblk m c 0 t) (iblk m c 1 t)) (iblk m c 9 t) (ix2 i j) := by
  unfold sout0_A_0
  refine (View.read_writes_cons_rows_of_mem VS0_0 _ _ _ _ _ (ix2 i j) rfl (Nat.zero_add _).symm rfl).trans ?_
  simp only [kernelRun0_A.sl.r_17]
  simp only [load2]

theorem scratch_B (t : Fin cfg0.N) (h : ¬ cond0_0 (grid0.coords t)) (s : Vec Ideal S264x256 .f32) (i : Fin 8) (j : Fin 256) :
    sout0_B_0 m c t h s (ix2 ⟨i, by omega⟩ j) = k0_pay40 (k0_pay32 (iblk m c 0 t) (iblk m c 1 t)) (iblk m c 9 t) (ix2 i j) := by
  unfold sout0_B_0
  refine (View.read_writes_cons_rows_of_mem VS0_0 _ _ _ _ _ (ix2 i j) rfl (Nat.zero_add _).symm rfl).trans ?_
  simp only [kernelRun0_B.sl.r_17]
  simp only [load2]

/-- After any point the scratch's first eight rows are that point's last eight products. -/
theorem scratch_after (t : Fin cfg0.N) (i : Fin 8) (j : Fin 256) :
    (outsAt0 m c t.val t.isLt).2.2.2.2.2.2.2.2.2.2.2 (ix2 ⟨i, by omega⟩ j)
      = k0_pay40 (k0_pay32 (iblk m c 0 t) (iblk m c 1 t)) (iblk m c 9 t) (ix2 i j) := by
  by_cases h0 : t.val % 64 = 0
  · rw [outsAt0_A m c t h0]
    dsimp only
    exact scratch_A m c t ((hcond0_0 t).mpr h0) i j
  · rw [outsAt0_B m c t h0]
    dsimp only
    exact scratch_B m c t (fun h => h0 ((hcond0_0 t).mp h)) _ i j

/-- The point before (the point itself at the first). -/
def prior (t : Fin cfg0.N) : Fin cfg0.N := ⟨t.val - 1, Nat.lt_of_le_of_lt (Nat.sub_le _ _) t.isLt⟩

/-- The eight rows that point `t` finds: zeros at the first, else the last eight of the point before. -/
def carried (t : Fin cfg0.N) : FVec Ideal S8x256 .f32 :=
  if t.val % 64 = 0 then k0_pay31 else k0_pay40 (k0_pay32 (iblk m c 0 (prior t)) (iblk m c 1 (prior t))) (iblk m c 9 (prior t))

/-- The point's products, `8 - k` tokens before. -/
def back (t : Fin cfg0.N) (k : Nat) (hk : k ≤ 8) : FVec Ideal S256x256 .f32 := fun i =>
  if h : k + (i 0).val < 8 then carried m c t (ix2 ⟨k + (i 0).val, h⟩ (i 1))
  else k0_pay39 (k0_pay32 (iblk m c 0 t) (iblk m c 1 t)) (iblk m c 9 t) (ix2 ⟨k + (i 0).val - 8, by
    have : (i 0).val < 256 := (i 0).isLt
    omega⟩ (i 1))

theorem back_A (t : Fin cfg0.N) (h0 : t.val % 64 = 0) (k : Nat) (hk : k ≤ 8)
    (inb : ∀ i : Fin 2, (![8, 0] : Fin 2 → Nat) i + (![256, 256] : Fin 2 → Nat) i ≤ S264x256.size i)
    (inb0 : ∀ i : Fin 2, (![0, 0] : Fin 2 → Nat) i + (![8, 256] : Fin 2 → Nat) i ≤ S264x256.size i)
    (inbk : ∀ i : Fin 2, (![k, 0] : Fin 2 → Nat) i + (![256, 256] : Fin 2 → Nat) i ≤ S264x256.size i) :
    (View.whole cc0_scratch0).readCov (Val := Elt Ideal)
      [⟨Rect.unit (s := S264x256) ![8, 0] ![256, 256] inb, k0_pay39 (k0_pay32 (iblk m c 0 t) (iblk m c 1 t)) (iblk m c 9 t)⟩,
       ⟨Rect.unit (s := S264x256) ![0, 0] ![8, 256] inb0, k0_pay31 (F := Ideal)⟩]
      (Rect.unit (s := S264x256) ![k, 0] ![256, 256] inbk).toLoadRect = back m c t k hk := by
  refine funext fun (y : S256x256.Idx) => ?_
  obtain ⟨r, j, rfl⟩ : ∃ r j : Fin 256, y = ix2 r j := ⟨y 0, y 1, eq_ix2 y⟩
  refine (shifted _ _ _ _ k hk inb inbk r j).trans ?_
  unfold back carried
  rw [if_pos h0]
  refine dite_congr rfl (fun h => ?_) fun h => rfl
  exact View.read_writes_cons_rows_of_mem _ _ inb0 _ _ _ (ix2 ⟨k + r.val, h⟩ j) rfl (Nat.zero_add _).symm rfl

theorem back_B (t : Fin cfg0.N) (h0 : ¬ t.val % 64 = 0) (k : Nat) (hk : k ≤ 8) (hs : (scM0_0).IsWhole)
    (inb : ∀ i : Fin 2, (![8, 0] : Fin 2 → Nat) i + (![256, 256] : Fin 2 → Nat) i ≤ S264x256.size i)
    (inbk : ∀ i : Fin 2, (![k, 0] : Fin 2 → Nat) i + (![256, 256] : Fin 2 → Nat) i ≤ S264x256.size i) :
    (View.whole cc0_scratch0).readAt (Elt Ideal) (Rect.unit (s := S264x256) ![k, 0] ![256, 256] inbk).toLoadRect
      ((View.whole cc0_scratch0).writes (Elt Ideal)
        (hs.unread (outsAt0 m c (t.val - 1) (Nat.lt_of_le_of_lt (Nat.sub_le _ _) t.isLt)).2.2.2.2.2.2.2.2.2.2.2)
        [⟨Rect.unit (s := S264x256) ![8, 0] ![256, 256] inb, k0_pay39 (k0_pay32 (iblk m c 0 t) (iblk m c 1 t)) (iblk m c 9 t)⟩])
      = back m c t k hk := by
  refine funext fun (y : S256x256.Idx) => ?_
  obtain ⟨r, j, rfl⟩ : ∃ r j : Fin 256, y = ix2 r j := ⟨y 0, y 1, eq_ix2 y⟩
  refine (shifted _ _ _ _ k hk inb inbk r j).trans ?_
  unfold back carried
  rw [if_neg h0]
  refine dite_congr rfl (fun h => ?_) fun h => rfl
  refine (congrFun (hs.read_unread _) _).trans ?_
  exact scratch_after m c (prior t) ⟨k + r.val, h⟩ j

theorem stored25 (t : Fin cfg0.N) : (outsAt0 m c t.val t.isLt).2.2.2.2.2.2.2.2.2.1 = k0_pay43 (k0_pay36 (k0_pay32 (iblk m c 0 t) (iblk m c 1 t)) (iblk m c 9 t))
      (k0_pay41 (k0_pay32 (iblk m c 0 t) (iblk m c 1 t)) (iblk m c 9 t) (back m c t 7 (by omega)) (back m c t 6 (by omega))
        (line (iblk m c 10 t) 2) (line (iblk m c 10 t) 1) (line (iblk m c 10 t) 0) (iblk m c 11 t)) k0_pay42 := by
  by_cases h0 : t.val % 64 = 0
  · rw [outsAt0_A m c t h0]
    dsimp only
    unfold out0_A_25
    rw [View.read_writes_junk_eq_canon]
    refine (View.canon_unit_zero zeros2 _ _).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
      kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15,
      kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23,
      kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31,
      kernelRun0_A.sl.r_32, kernelRun0_A.sl.r_33, kernelRun0_A.sl.v210, kernelRun0_A.sl.v211, kernelRun0_A.sl.HS0_2]
    simp only [load2]
    rw [load_line _ _ 0 0 rfl, load_line _ _ 1 1 rfl, load_line _ _ 2 2 rfl]
    rw [back_A m c t h0 7 (by omega), back_A m c t h0 6 (by omega)]
  · rw [outsAt0_B m c t h0]
    dsimp only
    unfold out0_B_25
    rw [View.read_writes_junk_eq_canon]
    refine (View.canon_unit_zero zeros2 _ _).trans ?_
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7,
      kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15,
      kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23,
      kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31,
      kernelRun0_B.sl.r_32, kernelRun0_B.sl.r_33, kernelRun0_B.sl.HS0_1]
    simp only [load2]
    rw [load_line _ _ 0 0 rfl, load_line _ _ 1 1 rfl, load_line _ _ 2 2 rfl]
    rw [back_B m c t h0 7 (by omega), back_B m c t h0 6 (by omega)]

end Cert.Proof.PreMix

end
-- ==== Proof.PreMix.Blocks.lean ====
/-
  What a grid point's input blocks hold: 256 rows of the token arrays, and the weights and tables as the host lays them out.
-/
module

public import proofs.«01_k».proof.Proof.Gen.PreMixIdeal.Frame.Runs
public import proofs.«01_k».proof.Proof.PreMix.Spec
public import Idealize.ShloMosaic.Lib.Pipeline.ValueKit
public import Idealize.ShloMosaic.Lib.Pipeline.ValueKit.Point

@[expose] public section

set_option maxRecDepth 16384

noncomputable section

namespace Cert.Proof.PreMix

open Idealize.ShloMosaic Idealize.ShloMosaic.TcCoe Idealize.SL.Sem Cert.PreMixIdeal Cert.PreMixIdeal.Gen

/-! ## The weights and the tables, as the host lays them out -/

/-- The index branch's weights: heads, key and head weights, filled up with zeros. -/
def wiArr (w : FVec Ideal S1024x8100 .f32) : FVec Ideal S1024x384 .bf16 :=
  truncf .bf16 (concatenate S1024x384 1
    [⟨S1024x160, extractStridedSlice S1024x160 ![0, 768] w slices_S1024x8100_S1024x160_0_768⟩,
     ⟨S1024x96, broadcastInDim S1024x96 ![] bcast_S_S1024x96 (constant S_ .f32 0x00000000#32)⟩,
     ⟨S1024x4, extractStridedSlice S1024x4 ![0, 928] w slices_S1024x8100_S1024x4_0_928⟩,
     ⟨S1024x124, broadcastInDim S1024x124 ![] bcast_S_S1024x124 (constant S_ .f32 0x00000000#32)⟩]
    concatenates_S1024x160_S1024x96_S1024x4_S1024x124_S1024x384_d1) bitsLt_bf16_f32

theorem wiArr_q (w : FVec Ideal S1024x8100 .f32) (k : Fin 1024) (j : Fin 160) :
    wiArr w (ix2 k ⟨j, by omega⟩) = w (ix2 k ⟨768 + j, by omega⟩) := by
  pointwise [wiArr]
  all_goals (split_ifs <;> first | (exfalso; omega) | rfl | exact congrArg (fun q => w (ix2 k q)) (Fin.ext (by first | rfl | (dsimp only; omega))))

theorem wiArr_w (w : FVec Ideal S1024x8100 .f32) (k : Fin 1024) (j : Fin 4) :
    wiArr w (ix2 k ⟨256 + j, by omega⟩) = w (ix2 k ⟨928 + j, by omega⟩) := by
  pointwise [wiArr]
  all_goals (split_ifs <;> first | (exfalso; omega) | rfl | exact congrArg (fun q => w (ix2 k q)) (Fin.ext (by first | rfl | (dsimp only; omega))))

theorem wiArr_z (w : FVec Ideal S1024x8100 .f32) (k : Fin 1024) (j : Fin 4) :
    wiArr w (ix2 k ⟨256 + (4 + j), by omega⟩) = 0 := by
  pointwise [wiArr]
  all_goals (split_ifs <;> first | (exfalso; omega) | rfl | exact congrArg (fun q => w (ix2 k q)) (Fin.ext (by first | rfl | (dsimp only; omega))))

/-- The weights of the convolution branch and of the mixing branch. -/
def w2Arr (w : FVec Ideal S1024x8100 .f32) : FVec Ideal S1024x1792 .bf16 :=
  truncf .bf16 (concatenate S1024x1792 1
    [⟨S1024x768, extractStridedSlice S1024x768 ![0, 932] w slices_S1024x8100_S1024x768_0_932⟩,
     ⟨S1024x512, extractStridedSlice S1024x512 ![0, 2468] w slices_S1024x8100_S1024x512_0_2468⟩,
     ⟨S1024x256, extractStridedSlice S1024x256 ![0, 3236] w slices_S1024x8100_S1024x256_0_3236⟩,
     ⟨S1024x256, extractStridedSlice S1024x256 ![0, 3748] w slices_S1024x8100_S1024x256_0_3748⟩]
    concatenates_S1024x768_S1024x512_S1024x256_S1024x256_S1024x1792_d1) bitsLt_bf16_f32

theorem w2Arr_b (w : FVec Ideal S1024x8100 .f32) (k : Fin 1024) (j : Fin 256) :
    w2Arr w (ix2 k ⟨j, by omega⟩) = w (ix2 k ⟨932 + j, by omega⟩) := by
  pointwise [w2Arr]
  all_goals (split_ifs <;> first | (exfalso; omega) | rfl | exact congrArg (fun q => w (ix2 k q)) (Fin.ext (by first | rfl | (dsimp only; omega))))

theorem w2Arr_c (w : FVec Ideal S1024x8100 .f32) (k : Fin 1024) (j : Fin 256) :
    w2Arr w (ix2 k ⟨256 + j, by omega⟩) = w (ix2 k ⟨1188 + j, by omega⟩) := by
  pointwise [w2Arr]
  all_goals (split_ifs <;> first | (exfalso; omega) | rfl | exact congrArg (fun q => w (ix2 k q)) (Fin.ext (by first | rfl | (dsimp only; omega))))

theorem w2Arr_x (w : FVec Ideal S1024x8100 .f32) (k : Fin 1024) (j : Fin 256) :
    w2Arr w (ix2 k ⟨512 + j, by omega⟩) = w (ix2 k ⟨1444 + j, by omega⟩) := by
  pointwise [w2Arr]
  all_goals (split_ifs <;> first | (exfalso; omega) | rfl | exact congrArg (fun q => w (ix2 k q)) (Fin.ext (by first | rfl | (dsimp only; omega))))

theorem w2Arr_u (w : FVec Ideal S1024x8100 .f32) (k : Fin 1024) (j : Fin 256) :
    w2Arr w (ix2 k ⟨768 + j, by omega⟩) = w (ix2 k ⟨2468 + j, by omega⟩) := by
  pointwise [w2Arr]
  all_goals (split_ifs <;> first | (exfalso; omega) | rfl | exact congrArg (fun q => w (ix2 k q)) (Fin.ext (by first | rfl | (dsimp only; omega))))

theorem w2Arr_d (w : FVec Ideal S1024x8100 .f32) (k : Fin 1024) (j : Fin 256) :
    w2Arr w (ix2 k ⟨1024 + j, by omega⟩) = w (ix2 k ⟨2724 + j, by omega⟩) := by
  pointwise [w2Arr]
  all_goals (split_ifs <;> first | (exfalso; omega) | rfl | exact congrArg (fun q => w (ix2 k q)) (Fin.ext (by first | rfl | (dsimp only; omega))))

theorem w2Arr_p (w : FVec Ideal S1024x8100 .f32) (k : Fin 1024) (j : Fin 256) :
    w2Arr w (ix2 k ⟨1280 + j, by omega⟩) = w (ix2 k ⟨3236 + j, by omega⟩) := by
  pointwise [w2Arr]
  all_goals (split_ifs <;> first | (exfalso; omega) | rfl | exact congrArg (fun q => w (ix2 k q)) (Fin.ext (by first | rfl | (dsimp only; omega))))

theorem w2Arr_q (w : FVec Ideal S1024x8100 .f32) (k : Fin 1024) (j : Fin 256) :
    w2Arr w (ix2 k ⟨1536 + j, by omega⟩) = w (ix2 k ⟨3748 + j, by omega⟩) := by
  pointwise [w2Arr]
  all_goals (split_ifs <;> first | (exfalso; omega) | rfl | exact congrArg (fun q => w (ix2 k q)) (Fin.ext (by first | rfl | (dsimp only; omega))))

/-- The convolution's three rows, filled up to eight. -/
def padArr (w : FVec Ideal S3x256 .f32) : FVec Ideal S8x256 .f32 :=
  pad S8x256 ![0, 0] ![5, 0] ![0, 0] w (sitofp .f32 (constantI S_ 32 0#32)) pads_S3x256_S8x256_050_000 h_S_

theorem padArr_apply (w : FVec Ideal S3x256 .f32) (k : Fin 3) (j : Fin 256) :
    padArr w (ix2 ⟨k, by omega⟩ j) = w (ix2 k j) := by
  pointwise [padArr]

/-- The mixing's bias, one column per group repeated over the group's 64 columns. -/
def biasArr (b : FVec Ideal S4x128 .f32) : FVec Ideal S128x256 .f32 :=
  shapeCast _ (broadcastInDim S128x4x64 ![0, 1] bcast_S128x4_S128x4x64_0_1 (transpose S128x4 [1, 0] b transposes_S4x128_S128x4_1_0)) shapeCasts_S128x4x64_S128x256

theorem biasArr_apply (b : FVec Ideal S4x128 .f32) (r : Fin 128) (g : Fin 4) (d : Fin 64) :
    biasArr b (ix2 r ⟨64 * g + d, by omega⟩) = b (ix2 g r) := by
  pointwise [biasArr, Nat.mul_comm 64]

/-- The first attention branch's weights. -/
def waArr (w : FVec Ideal S1024x8100 .f32) : FVec Ideal S1024x768 .bf16 :=
  truncf .bf16 (extractStridedSlice S1024x768 ![0, 0] w slices_S1024x8100_S1024x768_0_0) bitsLt_bf16_f32

/-- The second attention branch's weights. -/
def wcArr (w : FVec Ideal S1024x8100 .f32) : FVec Ideal S1024x768 .bf16 :=
  truncf .bf16 (extractStridedSlice S1024x768 ![0, 1700] w slices_S1024x8100_S1024x768_0_1700) bitsLt_bf16_f32

/-- A vector of 256 entries as one row. -/
def rowArr (v : FVec Ideal S256 .f32) : FVec Ideal S1x256 .f32 :=
  broadcastInDim S1x256 ![1] bcast_S256_S1x256_1 v

/-- The normalisation's scale as one row. -/
def scaleArr (v : FVec Ideal S1024 .f32) : FVec Ideal S1x1024 .f32 :=
  broadcastInDim S1x1024 ![1] bcast_S1024_S1x1024_1 v

/-- The cosines, repeated for both halves of all four heads. -/
def cosArr64 (t : FVec Ideal S16384x32 .f32) : FVec Ideal S16384x256 .f32 :=
  concatenate S16384x256 1 [⟨S16384x32, t⟩, ⟨S16384x32, t⟩, ⟨S16384x32, t⟩, ⟨S16384x32, t⟩, ⟨S16384x32, t⟩, ⟨S16384x32, t⟩, ⟨S16384x32, t⟩, ⟨S16384x32, t⟩]
    concatenates_S16384x32_S16384x32_S16384x32_S16384x32_S16384x32_S16384x32_S16384x32_S16384x32_S16384x256_d1

/-- The sines, negated for the first half of a head. -/
def pairArr64 (t : FVec Ideal S16384x32 .f32) : FVec Ideal S16384x64 .f32 :=
  concatenate S16384x64 1 [⟨S16384x32, Host.negf t⟩, ⟨S16384x32, t⟩] concatenates_S16384x32_S16384x32_S16384x64_d1

/-- The same for all four heads. -/
def sinArr64 (t : FVec Ideal S16384x32 .f32) : FVec Ideal S16384x256 .f32 :=
  concatenate S16384x256 1 [⟨S16384x64, pairArr64 t⟩, ⟨S16384x64, pairArr64 t⟩, ⟨S16384x64, pairArr64 t⟩, ⟨S16384x64, pairArr64 t⟩]
    concatenates_S16384x64_S16384x64_S16384x64_S16384x64_S16384x256_d1

theorem cosArr64_lo (t : FVec Ideal S16384x32 .f32) (r : Fin 16384) (h : Fin 4) (d : Fin 32) :
    cosArr64 t (ix2 r ⟨64 * h + d, by omega⟩) = t (ix2 r d) := by
  fin_cases h <;> pointwise [cosArr64]
  all_goals (split_ifs <;> first | (exfalso; omega) | rfl | exact congrArg (fun q => t (ix2 r q)) (Fin.ext (by first | rfl | (dsimp only; omega))))

theorem sinArr64_lo (t : FVec Ideal S16384x32 .f32) (r : Fin 16384) (h : Fin 4) (d : Fin 32) :
    sinArr64 t (ix2 r ⟨64 * h + d, by omega⟩) = -t (ix2 r d) := by
  fin_cases h <;> pointwise [sinArr64, pairArr64]
  all_goals (split_ifs <;> first | (exfalso; omega) | rfl | exact congrArg (fun q => -t (ix2 r q)) (Fin.ext (by first | rfl | (dsimp only; omega))))

theorem cosArr64_hi (t : FVec Ideal S16384x32 .f32) (r : Fin 16384) (h : Fin 4) (d : Fin 32) :
    cosArr64 t (ix2 r ⟨64 * h + (32 + d), by omega⟩) = t (ix2 r d) := by
  fin_cases h <;> pointwise [cosArr64]
  all_goals (split_ifs <;> first | (exfalso; omega) | rfl | exact congrArg (fun q => t (ix2 r q)) (Fin.ext (by first | rfl | (dsimp only; omega))))

theorem sinArr64_hi (t : FVec Ideal S16384x32 .f32) (r : Fin 16384) (h : Fin 4) (d : Fin 32) :
    sinArr64 t (ix2 r ⟨64 * h + (32 + d), by omega⟩) = t (ix2 r d) := by
  fin_cases h <;> pointwise [sinArr64, pairArr64]
  all_goals (split_ifs <;> first | (exfalso; omega) | rfl | exact congrArg (fun q => t (ix2 r q)) (Fin.ext (by first | rfl | (dsimp only; omega))))

/-- The cosines, repeated for both halves of all four heads. -/
def cosArr32 (t : FVec Ideal S16384x16 .f32) : FVec Ideal S16384x128 .f32 :=
  concatenate S16384x128 1 [⟨S16384x16, t⟩, ⟨S16384x16, t⟩, ⟨S16384x16, t⟩, ⟨S16384x16, t⟩, ⟨S16384x16, t⟩, ⟨S16384x16, t⟩, ⟨S16384x16, t⟩, ⟨S16384x16, t⟩]
    concatenates_S16384x16_S16384x16_S16384x16_S16384x16_S16384x16_S16384x16_S16384x16_S16384x16_S16384x128_d1

/-- The sines, negated for the first half of a head. -/
def pairArr32 (t : FVec Ideal S16384x16 .f32) : FVec Ideal S16384x32 .f32 :=
  concatenate S16384x32 1 [⟨S16384x16, Host.negf t⟩, ⟨S16384x16, t⟩] concatenates_S16384x16_S16384x16_S16384x32_d1

/-- The same for all four heads. -/
def sinArr32 (t : FVec Ideal S16384x16 .f32) : FVec Ideal S16384x128 .f32 :=
  concatenate S16384x128 1 [⟨S16384x32, pairArr32 t⟩, ⟨S16384x32, pairArr32 t⟩, ⟨S16384x32, pairArr32 t⟩, ⟨S16384x32, pairArr32 t⟩]
    concatenates_S16384x32_S16384x32_S16384x32_S16384x32_S16384x128_d1

theorem cosArr32_lo (t : FVec Ideal S16384x16 .f32) (r : Fin 16384) (h : Fin 4) (d : Fin 16) :
    cosArr32 t (ix2 r ⟨32 * h + d, by omega⟩) = t (ix2 r d) := by
  fin_cases h <;> pointwise [cosArr32]
  all_goals (split_ifs <;> first | (exfalso; omega) | rfl | exact congrArg (fun q => t (ix2 r q)) (Fin.ext (by first | rfl | (dsimp only; omega))))

theorem sinArr32_lo (t : FVec Ideal S16384x16 .f32) (r : Fin 16384) (h : Fin 4) (d : Fin 16) :
    sinArr32 t (ix2 r ⟨32 * h + d, by omega⟩) = -t (ix2 r d) := by
  fin_cases h <;> pointwise [sinArr32, pairArr32]
  all_goals (split_ifs <;> first | (exfalso; omega) | rfl | exact congrArg (fun q => -t (ix2 r q)) (Fin.ext (by first | rfl | (dsimp only; omega))))

theorem cosArr32_hi (t : FVec Ideal S16384x16 .f32) (r : Fin 16384) (h : Fin 4) (d : Fin 16) :
    cosArr32 t (ix2 r ⟨32 * h + (16 + d), by omega⟩) = t (ix2 r d) := by
  fin_cases h <;> pointwise [cosArr32]
  all_goals (split_ifs <;> first | (exfalso; omega) | rfl | exact congrArg (fun q => t (ix2 r q)) (Fin.ext (by first | rfl | (dsimp only; omega))))

theorem sinArr32_hi (t : FVec Ideal S16384x16 .f32) (r : Fin 16384) (h : Fin 4) (d : Fin 16) :
    sinArr32 t (ix2 r ⟨32 * h + (16 + d), by omega⟩) = t (ix2 r d) := by
  fin_cases h <;> pointwise [sinArr32, pairArr32]
  all_goals (split_ifs <;> first | (exfalso; omega) | rfl | exact congrArg (fun q => t (ix2 r q)) (Fin.ext (by first | rfl | (dsimp only; omega))))

/-! ## The blocks -/

variable (m : (ℓ : Loc nD τ sig) → Buf (Elt Ideal) ℓ) (c : Dev nD)

/-- Which block of its array each input window stages: its own 256 rows for the tokens and the tables, the whole array else. -/
theorem idx : ∀ t : Fin cfg0.N,
    (win0_0.index t = ![t.val, 0] ∧ win0_5.index t = ![t.val, 0] ∧ win0_6.index t = ![t.val, 0] ∧ win0_7.index t = ![t.val, 0]
      ∧ win0_8.index t = ![t.val, 0])
    ∧ win0_1.index t = ![0, 0] ∧ win0_2.index t = ![0, 0] ∧ win0_3.index t = ![0, 0] ∧ win0_4.index t = ![0, 0]
      ∧ win0_9.index t = ![0, 0] ∧ win0_10.index t = ![0, 0] ∧ win0_11.index t = ![0, 0] ∧ win0_12.index t = ![0, 0]
      ∧ win0_13.index t = ![0, 0] ∧ win0_14.index t = ![0, 0, 0] ∧ win0_15.index t = ![0, 0] :=
  (by decide +kernel : ∀ t : Fin grid0.N, _)

/-- Which block each result's window writes: its own 256 rows (its own matrix; its own 256 columns). -/
theorem idxOut : ∀ t : Fin cfg0.N,
    win0_16.index t = ![t.val, 0] ∧ win0_17.index t = ![t.val, 0] ∧ win0_18.index t = ![t.val, 0, 0] ∧ win0_19.index t = ![t.val, 0]
      ∧ win0_20.index t = ![t.val, 0] ∧ win0_21.index t = ![0, t.val] ∧ win0_22.index t = ![t.val, 0] ∧ win0_23.index t = ![t.val, 0]
      ∧ win0_24.index t = ![t.val, 0] ∧ win0_25.index t = ![t.val, 0] ∧ win0_26.index t = ![t.val, 0] :=
  (by decide +kernel : ∀ t : Fin grid0.N, _)

/-- Row `r` of grid point `t`, in the whole array. -/
def row (t : Fin cfg0.N) (r : Fin 256) : Fin 16384 := ⟨t.val * 256 + r.val, by
  have : t.val < 64 := t.isLt
  omega⟩

theorem V_v1 : V m c main_v1 = waArr (m ((c.tc : Thread nD τ).loc main_arg2)) := by
  simp only [V, hostOps0, hostOps0_1, hostOps0_2, List.flatten_cons, List.flatten_nil, List.append_nil, List.cons_append, List.nil_append]
  after_results
  rfl

theorem V_v7 : V m c main_v7 = wiArr (m ((c.tc : Thread nD τ).loc main_arg2)) := by
  simp only [V, hostOps0, hostOps0_1, hostOps0_2, List.flatten_cons, List.flatten_nil, List.append_nil, List.cons_append, List.nil_append]
  after_results
  rfl

theorem V_v9 : V m c main_v9 = wcArr (m ((c.tc : Thread nD τ).loc main_arg2)) := by
  simp only [V, hostOps0, hostOps0_1, hostOps0_2, List.flatten_cons, List.flatten_nil, List.append_nil, List.cons_append, List.nil_append]
  after_results
  rfl

theorem V_v15 : V m c main_v15 = w2Arr (m ((c.tc : Thread nD τ).loc main_arg2)) := by
  simp only [V, hostOps0, hostOps0_1, hostOps0_2, List.flatten_cons, List.flatten_nil, List.append_nil, List.cons_append, List.nil_append]
  after_results
  rfl

theorem V_v16 : V m c main_v16 = padArr (m ((c.tc : Thread nD τ).loc main_arg7)) := by
  simp only [V, hostOps0, hostOps0_1, hostOps0_2, List.flatten_cons, List.flatten_nil, List.append_nil, List.cons_append, List.nil_append]
  after_results
  rfl

theorem V_v22 : V m c main_v22 = biasArr (m ((c.tc : Thread nD τ).loc main_arg12)) := by
  simp only [V, hostOps0, hostOps0_1, hostOps0_2, List.flatten_cons, List.flatten_nil, List.append_nil, List.cons_append, List.nil_append]
  after_results
  rfl

theorem V_v17 : V m c main_v17 = rowArr (m ((c.tc : Thread nD τ).loc main_arg8)) := by
  simp only [V, hostOps0, hostOps0_1, hostOps0_2, List.flatten_cons, List.flatten_nil, List.append_nil, List.cons_append, List.nil_append]
  after_results
  rfl

theorem V_v18 : V m c main_v18 = rowArr (m ((c.tc : Thread nD τ).loc main_arg9)) := by
  simp only [V, hostOps0, hostOps0_1, hostOps0_2, List.flatten_cons, List.flatten_nil, List.append_nil, List.cons_append, List.nil_append]
  after_results
  rfl

theorem V_v19 : V m c main_v19 = rowArr (m ((c.tc : Thread nD τ).loc main_arg10)) := by
  simp only [V, hostOps0, hostOps0_1, hostOps0_2, List.flatten_cons, List.flatten_nil, List.append_nil, List.cons_append, List.nil_append]
  after_results
  rfl

theorem V_v31 : V m c main_v31 = scaleArr (m ((c.tc : Thread nD τ).loc main_arg1)) := by
  simp only [V, hostOps0, hostOps0_1, hostOps0_2, List.flatten_cons, List.flatten_nil, List.append_nil, List.cons_append, List.nil_append]
  after_results
  rfl

theorem V_v23 : V m c main_v23 = cosArr64 (m ((c.tc : Thread nD τ).loc main_arg3)) := by
  simp only [V, hostOps0, hostOps0_1, hostOps0_2, List.flatten_cons, List.flatten_nil, List.append_nil, List.cons_append, List.nil_append]
  after_results
  rfl

theorem V_v26 : V m c main_v26 = sinArr64 (m ((c.tc : Thread nD τ).loc main_arg4)) := by
  simp only [V, hostOps0, hostOps0_1, hostOps0_2, List.flatten_cons, List.flatten_nil, List.append_nil, List.cons_append, List.nil_append]
  after_results
  rfl

theorem V_v27 : V m c main_v27 = cosArr32 (m ((c.tc : Thread nD τ).loc main_arg5)) := by
  simp only [V, hostOps0, hostOps0_1, hostOps0_2, List.flatten_cons, List.flatten_nil, List.append_nil, List.cons_append, List.nil_append]
  after_results
  rfl

theorem V_v30 : V m c main_v30 = sinArr32 (m ((c.tc : Thread nD τ).loc main_arg6)) := by
  simp only [V, hostOps0, hostOps0_1, hostOps0_2, List.flatten_cons, List.flatten_nil, List.append_nil, List.cons_append, List.nil_append]
  after_results
  rfl

theorem rows0 (t : Fin cfg0.N) (r : Fin 256) (k : Fin 1024) :
    iblk m c 0 t (ix2 r k) = m ((c.tc : Thread nD τ).loc main_arg0) (ix2 (row t r) k) := by
  blk_ext! [iblk, V_main_arg0, idx t, row]

theorem block1 (t : Fin cfg0.N) (y : S1x1024.Idx) : iblk m c 1 t y = scaleArr (m ((c.tc : Thread nD τ).loc main_arg1)) y := by
  blk_simp [iblk]
  refine (congrFun (V_v31 m c) _).trans ?_
  exact congrArg (scaleArr (m ((c.tc : Thread nD τ).loc main_arg1))) (by blk_ext [idx t])

theorem block2 (t : Fin cfg0.N) (y : S1024x768.Idx) : iblk m c 2 t y = waArr (m ((c.tc : Thread nD τ).loc main_arg2)) y := by
  blk_simp [iblk]
  refine (congrFun (V_v1 m c) _).trans ?_
  exact congrArg (waArr (m ((c.tc : Thread nD τ).loc main_arg2))) (by blk_ext [idx t])

theorem block3 (t : Fin cfg0.N) (y : S1024x384.Idx) : iblk m c 3 t y = wiArr (m ((c.tc : Thread nD τ).loc main_arg2)) y := by
  blk_simp [iblk]
  refine (congrFun (V_v7 m c) _).trans ?_
  exact congrArg (wiArr (m ((c.tc : Thread nD τ).loc main_arg2))) (by blk_ext [idx t])

theorem block4 (t : Fin cfg0.N) (y : S1024x768.Idx) : iblk m c 4 t y = wcArr (m ((c.tc : Thread nD τ).loc main_arg2)) y := by
  blk_simp [iblk]
  refine (congrFun (V_v9 m c) _).trans ?_
  exact congrArg (wcArr (m ((c.tc : Thread nD τ).loc main_arg2))) (by blk_ext [idx t])

theorem block5 (t : Fin cfg0.N) (r : Fin 256) (k : Fin 256) :
    iblk m c 5 t (ix2 r k) = cosArr64 (m ((c.tc : Thread nD τ).loc main_arg3)) (ix2 (row t r) k) := by
  blk_simp [iblk]
  refine (congrFun (V_v23 m c) _).trans ?_
  exact congrArg (cosArr64 (m ((c.tc : Thread nD τ).loc main_arg3))) (by blk_ext [idx t, row])

theorem block6 (t : Fin cfg0.N) (r : Fin 256) (k : Fin 256) :
    iblk m c 6 t (ix2 r k) = sinArr64 (m ((c.tc : Thread nD τ).loc main_arg4)) (ix2 (row t r) k) := by
  blk_simp [iblk]
  refine (congrFun (V_v26 m c) _).trans ?_
  exact congrArg (sinArr64 (m ((c.tc : Thread nD τ).loc main_arg4))) (by blk_ext [idx t, row])

theorem block7 (t : Fin cfg0.N) (r : Fin 256) (k : Fin 128) :
    iblk m c 7 t (ix2 r k) = cosArr32 (m ((c.tc : Thread nD τ).loc main_arg5)) (ix2 (row t r) k) := by
  blk_simp [iblk]
  refine (congrFun (V_v27 m c) _).trans ?_
  exact congrArg (cosArr32 (m ((c.tc : Thread nD τ).loc main_arg5))) (by blk_ext [idx t, row])

theorem block8 (t : Fin cfg0.N) (r : Fin 256) (k : Fin 128) :
    iblk m c 8 t (ix2 r k) = sinArr32 (m ((c.tc : Thread nD τ).loc main_arg6)) (ix2 (row t r) k) := by
  blk_simp [iblk]
  refine (congrFun (V_v30 m c) _).trans ?_
  exact congrArg (sinArr32 (m ((c.tc : Thread nD τ).loc main_arg6))) (by blk_ext [idx t, row])

theorem block9 (t : Fin cfg0.N) (y : S1024x1792.Idx) : iblk m c 9 t y = w2Arr (m ((c.tc : Thread nD τ).loc main_arg2)) y := by
  blk_simp [iblk]
  refine (congrFun (V_v15 m c) _).trans ?_
  exact congrArg (w2Arr (m ((c.tc : Thread nD τ).loc main_arg2))) (by blk_ext [idx t])

theorem block10 (t : Fin cfg0.N) (y : S8x256.Idx) : iblk m c 10 t y = padArr (m ((c.tc : Thread nD τ).loc main_arg7)) y := by
  blk_simp [iblk]
  refine (congrFun (V_v16 m c) _).trans ?_
  exact congrArg (padArr (m ((c.tc : Thread nD τ).loc main_arg7))) (by blk_ext [idx t])

theorem block11 (t : Fin cfg0.N) (y : S1x256.Idx) : iblk m c 11 t y = rowArr (m ((c.tc : Thread nD τ).loc main_arg8)) y := by
  blk_simp [iblk]
  refine (congrFun (V_v17 m c) _).trans ?_
  exact congrArg (rowArr (m ((c.tc : Thread nD τ).loc main_arg8))) (by blk_ext [idx t])

theorem block12 (t : Fin cfg0.N) (y : S1x256.Idx) : iblk m c 12 t y = rowArr (m ((c.tc : Thread nD τ).loc main_arg9)) y := by
  blk_simp [iblk]
  refine (congrFun (V_v18 m c) _).trans ?_
  exact congrArg (rowArr (m ((c.tc : Thread nD τ).loc main_arg9))) (by blk_ext [idx t])

theorem block13 (t : Fin cfg0.N) (y : S1x256.Idx) : iblk m c 13 t y = rowArr (m ((c.tc : Thread nD τ).loc main_arg10)) y := by
  blk_simp [iblk]
  refine (congrFun (V_v19 m c) _).trans ?_
  exact congrArg (rowArr (m ((c.tc : Thread nD τ).loc main_arg10))) (by blk_ext [idx t])

theorem whole14 (t : Fin cfg0.N) (g : Fin 4) (r s : Fin 128) :
    iblk m c 14 t (ix3 g r s) = m ((c.tc : Thread nD τ).loc main_arg11) (ix3 g r s) := by
  blk_ext! [iblk, V_main_arg11, idx t]

theorem block15 (t : Fin cfg0.N) (y : S128x256.Idx) : iblk m c 15 t y = biasArr (m ((c.tc : Thread nD τ).loc main_arg12)) y := by
  blk_simp [iblk]
  refine (congrFun (V_v22 m c) _).trans ?_
  exact congrArg (biasArr (m ((c.tc : Thread nD τ).loc main_arg12))) (by blk_ext [idx t])

theorem whole1 (t : Fin cfg0.N) (k : Fin 1024) : iblk m c 1 t (ix2 0 k) = m ((c.tc : Thread nD τ).loc main_arg1) (ix1 k) := by
  rw [block1]
  pointwise [scaleArr]

theorem whole2 (t : Fin cfg0.N) (k : Fin 1024) (j : Fin 768) :
    iblk m c 2 t (ix2 k j) = m ((c.tc : Thread nD τ).loc main_arg2) (ix2 k ⟨j, by omega⟩) := by
  rw [block2]
  pointwise [waArr]

theorem whole4 (t : Fin cfg0.N) (k : Fin 1024) (j : Fin 768) :
    iblk m c 4 t (ix2 k j) = m ((c.tc : Thread nD τ).loc main_arg2) (ix2 k ⟨1700 + j, by omega⟩) := by
  rw [block4]
  pointwise [wcArr]

theorem whole11 (t : Fin cfg0.N) (k : Fin 256) : iblk m c 11 t (ix2 0 k) = m ((c.tc : Thread nD τ).loc main_arg8) (ix1 k) := by
  rw [block11]
  pointwise [rowArr]

theorem whole12 (t : Fin cfg0.N) (k : Fin 256) : iblk m c 12 t (ix2 0 k) = m ((c.tc : Thread nD τ).loc main_arg9) (ix1 k) := by
  rw [block12]
  pointwise [rowArr]

theorem whole13 (t : Fin cfg0.N) (k : Fin 256) : iblk m c 13 t (ix2 0 k) = m ((c.tc : Thread nD τ).loc main_arg10) (ix1 k) := by
  rw [block13]
  pointwise [rowArr]

end Cert.Proof.PreMix

end
-- ==== Proof.PreMix.RefSide.lean ====
/-
  The reference's results at one token and one column, as the formulas of Spec.lean: its operations in stages, each stage read at
  an index.
-/
module

public import proofs.«01_k».proof.Proof.Gen.PreMixRefIdeal.Run
public import proofs.«01_k».proof.Proof.PreMix.Spec
public import Idealize.ShloMosaic.Lib.WordCmp

@[expose] public section

set_option maxRecDepth 16384

noncomputable section

namespace Cert.Proof.PreMix

open Idealize.ShloMosaic Idealize.ShloMosaic.TcCoe Idealize.SL.Sem Cert.PreMixRefIdeal Merge
/-- The integer zero converted is the zero. -/
theorem sitofp_zero : (FloatOps.sitofp FTy.f32 0#32 : Ideal FTy.f32) = 0 := by
  show ((((0#32 : BitVec 32).toInt : ℤ) : ℝ) : EReal) = 0
  simp

open Cert.PreMixRefIdeal.Facts₀ Cert.PreMixRefIdeal.Facts

/-! ## The stages -/

/-- The projection of every normalised row by the layer's first weight matrix. -/
def projR (x : FVec Ideal S16384x1024 .f32) (g : FVec Ideal S1024 .f32) (w : FVec Ideal S1024x8100 .f32) :
    FVec Ideal S16384x8100 .f32 :=
  Host.dotGeneral dot_S16384x1024_S1024x8100_S16384x8100_1_0_0_1_n_n none
    (mulf (mulf x (broadcastInDim S16384x1024 ![0, 1] bcast_S16384x1_S16384x1024_0_1 (Host.rsqrt (addf
      (Host.divf (broadcastInDim S16384x1 ![0] bcast_S16384_S16384x1_0
        (Host.reduceAdd (mulf x x) (constant S_ .f32 0x00000000#32) reducesTo_S16384x1024_S16384_d1 h_S_))
        (broadcastInDim S16384x1 ![] bcast_S_S16384x1 (constant S_ .f32 0x44800000#32)))
      (broadcastInDim S16384x1 ![] bcast_S_S16384x1 (constant S_ .f32 0x358637BD#32))))))
      (broadcastInDim S16384x1024 ![0, 1] bcast_S1x1024_S16384x1024_0_1 (broadcastInDim S1x1024 ![1] bcast_S1024_S1x1024_1 g))) w

/-- The rotation of pairs of entries 32 apart in every head of 64. -/
def ropeR (p : FVec Ideal S16384x256 .f32) (cos sin : FVec Ideal S16384x32 .f32) : FVec Ideal S16384x256 .f32 :=
  shapeCast _ (concatenate S16384x4x64 2 [⟨S16384x4x32, (subf
      (mulf (extractStridedSlice S16384x4x32 ![0, 0, 0] (shapeCast _ p shapeCasts_S16384x256_S16384x4x64) slices_S16384x4x64_S16384x4x32_0_0_0) (broadcastInDim S16384x4x32 ![0, 1, 2] bcast_S16384x1x32_S16384x4x32_0_1_2 (broadcastInDim S16384x1x32 ![0, 2] bcast_S16384x32_S16384x1x32_0_2 cos)))
      (mulf (extractStridedSlice S16384x4x32 ![0, 0, 32] (shapeCast _ p shapeCasts_S16384x256_S16384x4x64) slices_S16384x4x64_S16384x4x32_0_0_32) (broadcastInDim S16384x4x32 ![0, 1, 2] bcast_S16384x1x32_S16384x4x32_0_1_2 (broadcastInDim S16384x1x32 ![0, 2] bcast_S16384x32_S16384x1x32_0_2 sin))))⟩,
    ⟨S16384x4x32, (addf
      (mulf (extractStridedSlice S16384x4x32 ![0, 0, 32] (shapeCast _ p shapeCasts_S16384x256_S16384x4x64) slices_S16384x4x64_S16384x4x32_0_0_32) (broadcastInDim S16384x4x32 ![0, 1, 2] bcast_S16384x1x32_S16384x4x32_0_1_2 (broadcastInDim S16384x1x32 ![0, 2] bcast_S16384x32_S16384x1x32_0_2 cos)))
      (mulf (extractStridedSlice S16384x4x32 ![0, 0, 0] (shapeCast _ p shapeCasts_S16384x256_S16384x4x64) slices_S16384x4x64_S16384x4x32_0_0_0) (broadcastInDim S16384x4x32 ![0, 1, 2] bcast_S16384x1x32_S16384x4x32_0_1_2 (broadcastInDim S16384x1x32 ![0, 2] bcast_S16384x32_S16384x1x32_0_2 sin))))⟩]
    concatenates_S16384x4x32_S16384x4x32_S16384x4x64_d2) shapeCasts_S16384x4x64_S16384x256

/-- The rotation of pairs of entries 16 apart in every index head of 32. -/
def ropeIR (p : FVec Ideal S16384x128 .f32) (cos sin : FVec Ideal S16384x16 .f32) : FVec Ideal S16384x128 .f32 :=
  shapeCast _ (concatenate S16384x4x32 2 [⟨S16384x4x16, (subf
      (mulf (extractStridedSlice S16384x4x16 ![0, 0, 0] (shapeCast _ p shapeCasts_S16384x128_S16384x4x32) slices_S16384x4x32_S16384x4x16_0_0_0) (broadcastInDim S16384x4x16 ![0, 1, 2] bcast_S16384x1x16_S16384x4x16_0_1_2 (broadcastInDim S16384x1x16 ![0, 2] bcast_S16384x16_S16384x1x16_0_2 cos)))
      (mulf (extractStridedSlice S16384x4x16 ![0, 0, 16] (shapeCast _ p shapeCasts_S16384x128_S16384x4x32) slices_S16384x4x32_S16384x4x16_0_0_16) (broadcastInDim S16384x4x16 ![0, 1, 2] bcast_S16384x1x16_S16384x4x16_0_1_2 (broadcastInDim S16384x1x16 ![0, 2] bcast_S16384x16_S16384x1x16_0_2 sin))))⟩,
    ⟨S16384x4x16, (addf
      (mulf (extractStridedSlice S16384x4x16 ![0, 0, 16] (shapeCast _ p shapeCasts_S16384x128_S16384x4x32) slices_S16384x4x32_S16384x4x16_0_0_16) (broadcastInDim S16384x4x16 ![0, 1, 2] bcast_S16384x1x16_S16384x4x16_0_1_2 (broadcastInDim S16384x1x16 ![0, 2] bcast_S16384x16_S16384x1x16_0_2 cos)))
      (mulf (extractStridedSlice S16384x4x16 ![0, 0, 0] (shapeCast _ p shapeCasts_S16384x128_S16384x4x32) slices_S16384x4x32_S16384x4x16_0_0_0) (broadcastInDim S16384x4x16 ![0, 1, 2] bcast_S16384x1x16_S16384x4x16_0_1_2 (broadcastInDim S16384x1x16 ![0, 2] bcast_S16384x16_S16384x1x16_0_2 sin))))⟩]
    concatenates_S16384x4x16_S16384x4x16_S16384x4x32_d2) shapeCasts_S16384x4x32_S16384x128

/-- The same rotation of the one index key. -/
def ropeKR (p : FVec Ideal S16384x32 .f32) (cos sin : FVec Ideal S16384x16 .f32) : FVec Ideal S16384x32 .f32 :=
  shapeCast _ (concatenate S16384x1x32 2 [⟨S16384x1x16, (subf
      (mulf (extractStridedSlice S16384x1x16 ![0, 0, 0] (broadcastInDim S16384x1x32 ![0, 2] bcast_S16384x32_S16384x1x32_0_2 p) slices_S16384x1x32_S16384x1x16_0_0_0) (broadcastInDim S16384x1x16 ![0, 2] bcast_S16384x16_S16384x1x16_0_2 cos))
      (mulf (extractStridedSlice S16384x1x16 ![0, 0, 16] (broadcastInDim S16384x1x32 ![0, 2] bcast_S16384x32_S16384x1x32_0_2 p) slices_S16384x1x32_S16384x1x16_0_0_16) (broadcastInDim S16384x1x16 ![0, 2] bcast_S16384x16_S16384x1x16_0_2 sin)))⟩,
    ⟨S16384x1x16, (addf
      (mulf (extractStridedSlice S16384x1x16 ![0, 0, 16] (broadcastInDim S16384x1x32 ![0, 2] bcast_S16384x32_S16384x1x32_0_2 p) slices_S16384x1x32_S16384x1x16_0_0_16) (broadcastInDim S16384x1x16 ![0, 2] bcast_S16384x16_S16384x1x16_0_2 cos))
      (mulf (extractStridedSlice S16384x1x16 ![0, 0, 0] (broadcastInDim S16384x1x32 ![0, 2] bcast_S16384x32_S16384x1x32_0_2 p) slices_S16384x1x32_S16384x1x16_0_0_0) (broadcastInDim S16384x1x16 ![0, 2] bcast_S16384x16_S16384x1x16_0_2 sin)))⟩]
    concatenates_S16384x1x16_S16384x1x16_S16384x1x32_d2) shapeCasts_S16384x1x32_S16384x32

/-- Every entry times the attention's scale. -/
def scaleR (p : FVec Ideal S16384x256 .f32) : FVec Ideal S16384x256 .f32 :=
  mulf p (broadcastInDim S16384x256 ![] bcast_S_S16384x256 (constant S_ .f32 0x3E38AA3B#32))

/-- The values, every block of 256 tokens transposed. -/
def flipR (p : FVec Ideal S16384x256 .f32) : FVec Ideal S64x256x256 .f32 :=
  transpose S64x256x256 [0, 2, 1] (shapeCast _ p shapeCasts_S16384x256_S64x256x256) transposes_S64x256x256_S64x256x256_0_2_1

/-- The index heads' weights, scaled, transposed and filled up with zeros. -/
def weighR (p : FVec Ideal S16384x4 .f32) : FVec Ideal S8x16384 .f32 :=
  transpose S8x16384 [1, 0] (pad S16384x8 ![0, 0] ![0, 4] ![0, 0]
    (mulf p (broadcastInDim S16384x4 ![] bcast_S_S16384x4 (constant S_ .f32 0x3DB504F3#32)))
    (sitofp .f32 (constantI S_ 32 0#32)) pads_S16384x4_S16384x8_000_040 h_S_) transposes_S16384x8_S8x16384_1_0

/-- The activation of a branch's path. -/
def siluR (v : FVec Ideal S16384x256 .f32) : FVec Ideal S16384x256 .f32 :=
  mulf v (Host.divf (broadcastInDim S16384x256 ![] bcast_S_S16384x256 (constant S_ .f32 0x3F800000#32))
    (addf (broadcastInDim S16384x256 ![] bcast_S_S16384x256 (constant S_ .f32 0x3F800000#32)) (Host.exp (Host.negf v))))

/-- A row of 256 entries laid along every token. -/
def rowR (v : FVec Ideal S256 .f32) : FVec Ideal S16384x256 .f32 :=
  broadcastInDim S16384x256 ![0, 1] bcast_S1x256_S16384x256_0_1 (broadcastInDim S1x256 ![1] bcast_S256_S1x256_1 v)

/-- The convolution over the last three tokens. -/
def convR (y : FVec Ideal S16384x256 .f32) (w : FVec Ideal S3x256 .f32) (b : FVec Ideal S256 .f32) : FVec Ideal S16384x256 .f32 :=
  addf (addf (addf
    (mulf (rowR (shapeCast _ (extractStridedSlice S1x256 ![0, 0] w slices_S3x256_S1x256_0_0) shapeCasts_S1x256_S256)) (extractStridedSlice S16384x256 ![0, 0] (pad S16386x256 ![2, 0] ![0, 0] ![0, 0] y (sitofp .f32 (constantI S_ 32 0#32)) pads_S16384x256_S16386x256_200_000 h_S_) slices_S16386x256_S16384x256_0_0))
    (mulf (rowR (shapeCast _ (extractStridedSlice S1x256 ![1, 0] w slices_S3x256_S1x256_1_0) shapeCasts_S1x256_S256)) (extractStridedSlice S16384x256 ![1, 0] (pad S16386x256 ![2, 0] ![0, 0] ![0, 0] y (sitofp .f32 (constantI S_ 32 0#32)) pads_S16384x256_S16386x256_200_000 h_S_) slices_S16386x256_S16384x256_1_0)))
    (mulf (rowR (shapeCast _ (extractStridedSlice S1x256 ![2, 0] w slices_S3x256_S1x256_2_0) shapeCasts_S1x256_S256)) y)) (rowR b)

/-- Every row's mean. -/
def meanR (d : FVec Ideal S16384x256 .f32) : FVec Ideal S16384x1 .f32 :=
  Host.divf (broadcastInDim S16384x1 ![0] bcast_S16384_S16384x1_0 (Host.reduceAdd d (constant S_ .f32 0x00000000#32) reducesTo_S16384x256_S16384_d1 h_S_)) (broadcastInDim S16384x1 ![] bcast_S_S16384x1 (constant S_ .f32 0x43800000#32))

/-- Every row less its mean. -/
def centredR (d : FVec Ideal S16384x256 .f32) : FVec Ideal S16384x256 .f32 :=
  subf d (broadcastInDim S16384x256 ![0, 1] bcast_S16384x1_S16384x256_0_1 (meanR d))

/-- Every row centred, scaled to unit variance, scaled and shifted. -/
def lnormR (d : FVec Ideal S16384x256 .f32) (g b : FVec Ideal S256 .f32) : FVec Ideal S16384x256 .f32 :=
  addf (mulf (mulf (centredR d) (broadcastInDim S16384x256 ![0, 1] bcast_S16384x1_S16384x256_0_1 (Host.rsqrt (addf
    (meanR (mulf (centredR d) (centredR d))) (broadcastInDim S16384x1 ![] bcast_S_S16384x1 (constant S_ .f32 0x358637BD#32))))))
    (rowR g)) (rowR b)

/-- The causal mixing of every block of 128 tokens, one weight matrix per group of 64 columns. -/
def mixR (v : FVec Ideal S16384x256 .f32) (w : FVec Ideal S4x128x128 .f32) (b : FVec Ideal S4x128 .f32) : FVec Ideal S16384x256 .f32 :=
  shapeCast _ (addf (transpose S128x128x4x64 [1, 3, 0, 2] (Host.dotGeneral dot_S128x128x4x64_S4x128x128_S4x128x64x128_1_2_03_1_2_0 none
    (shapeCast _ v shapeCasts_S16384x256_S128x128x4x64)
    (mulf w (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))))
    transposes_S4x128x64x128_S128x128x4x64_1_3_0_2)
    (broadcastInDim S128x128x4x64 ![0, 1, 2, 3] bcast_S1x128x4x1_S128x128x4x64_0_1_2_3 (broadcastInDim S1x128x4x1 ![1, 2] bcast_S128x4_S1x128x4x1_1_2 (transpose S128x4 [1, 0] b transposes_S4x128_S128x4_1_0))))
    shapeCasts_S128x128x4x64_S16384x256

/-! ## The stages at an index -/

theorem projR_apply (x : FVec Ideal S16384x1024 .f32) (g : FVec Ideal S1024 .f32) (w : FVec Ideal S1024x8100 .f32)
    (r : Fin 16384) (j : Fin 8100) :
    projR x g w (ix2 r j) = dot (rms (fun a => x (ix2 r a)) fun a => g (ix1 a)) fun k => w (ix2 k j) := by
  pointwise [projR, rms, dot]

theorem ropeR_lo (p : FVec Ideal S16384x256 .f32) (cos sin : FVec Ideal S16384x32 .f32) (r : Fin 16384) (h : Fin 4) (d : Fin 32) :
    ropeR p cos sin (ix2 r ⟨64 * h + d, by omega⟩)
      = p (ix2 r ⟨64 * h + d, by omega⟩) * cos (ix2 r d) - p (ix2 r ⟨64 * h + (32 + d), by omega⟩) * sin (ix2 r d) := by
  have e : (h.val * 64 + d.val) % 64 = d.val := by omega
  pointwise [ropeR, Nat.mul_comm 64, e]

theorem ropeR_hi (p : FVec Ideal S16384x256 .f32) (cos sin : FVec Ideal S16384x32 .f32) (r : Fin 16384) (h : Fin 4) (d : Fin 32) :
    ropeR p cos sin (ix2 r ⟨64 * h + (32 + d), by omega⟩)
      = p (ix2 r ⟨64 * h + (32 + d), by omega⟩) * cos (ix2 r d) + p (ix2 r ⟨64 * h + d, by omega⟩) * sin (ix2 r d) := by
  have e : (h.val * 64 + (32 + d.val)) % 64 = 32 + d.val := by omega
  pointwise [ropeR, Nat.mul_comm 64, e]

theorem ropeIR_lo (p : FVec Ideal S16384x128 .f32) (cos sin : FVec Ideal S16384x16 .f32) (r : Fin 16384) (h : Fin 4) (d : Fin 16) :
    ropeIR p cos sin (ix2 r ⟨32 * h + d, by omega⟩)
      = p (ix2 r ⟨32 * h + d, by omega⟩) * cos (ix2 r d) - p (ix2 r ⟨32 * h + (16 + d), by omega⟩) * sin (ix2 r d) := by
  have e : (h.val * 32 + d.val) % 32 = d.val := by omega
  pointwise [ropeIR, Nat.mul_comm 32, e]

theorem ropeIR_hi (p : FVec Ideal S16384x128 .f32) (cos sin : FVec Ideal S16384x16 .f32) (r : Fin 16384) (h : Fin 4) (d : Fin 16) :
    ropeIR p cos sin (ix2 r ⟨32 * h + (16 + d), by omega⟩)
      = p (ix2 r ⟨32 * h + (16 + d), by omega⟩) * cos (ix2 r d) + p (ix2 r ⟨32 * h + d, by omega⟩) * sin (ix2 r d) := by
  have e : (h.val * 32 + (16 + d.val)) % 32 = 16 + d.val := by omega
  pointwise [ropeIR, Nat.mul_comm 32, e]

theorem ropeKR_lo (p : FVec Ideal S16384x32 .f32) (cos sin : FVec Ideal S16384x16 .f32) (r : Fin 16384) (d : Fin 16) :
    ropeKR p cos sin (ix2 r ⟨d, by omega⟩)
      = p (ix2 r ⟨d, by omega⟩) * cos (ix2 r d) - p (ix2 r ⟨16 + d, by omega⟩) * sin (ix2 r d) := by
  pointwise [ropeKR]

theorem ropeKR_hi (p : FVec Ideal S16384x32 .f32) (cos sin : FVec Ideal S16384x16 .f32) (r : Fin 16384) (d : Fin 16) :
    ropeKR p cos sin (ix2 r ⟨16 + d, by omega⟩)
      = p (ix2 r ⟨16 + d, by omega⟩) * cos (ix2 r d) + p (ix2 r ⟨d, by omega⟩) * sin (ix2 r d) := by
  pointwise [ropeKR]

theorem scaleR_apply (p : FVec Ideal S16384x256 .f32) (r : Fin 16384) (j : Fin 256) :
    scaleR p (ix2 r j) = p (ix2 r j) * Ideal.ofBits .f32 0x3E38AA3B#32 := by
  pointwise [scaleR]

theorem flipR_apply (p : FVec Ideal S16384x256 .f32) (n : Fin 64) (j r : Fin 256) :
    flipR p (ix3 n j r) = p (ix2 ⟨256 * n + r, by omega⟩ j) := by
  pointwise [flipR, Nat.mul_comm 256]

theorem weighR_lo (p : FVec Ideal S16384x4 .f32) (h : Fin 4) (r : Fin 16384) :
    weighR p (ix2 ⟨h, by omega⟩ r) = p (ix2 r h) * Ideal.ofBits .f32 0x3DB504F3#32 := by
  pointwise [weighR]

theorem weighR_hi (p : FVec Ideal S16384x4 .f32) (h : Fin 4) (r : Fin 16384) :
    weighR p (ix2 ⟨4 + h, by omega⟩ r) = 0 := by
  pointwise [weighR]
  exact sitofp_zero

theorem siluR_apply (v : FVec Ideal S16384x256 .f32) (r : Fin 16384) (j : Fin 256) :
    siluR v (ix2 r j) = silu (v (ix2 r j)) := by
  pointwise [siluR, silu, sigm]

theorem rowR_apply (v : FVec Ideal S256 .f32) (r : Fin 16384) (j : Fin 256) : rowR v (ix2 r j) = v (ix1 j) := by
  pointwise [rowR]

theorem convR_apply (y : FVec Ideal S16384x256 .f32) (w : FVec Ideal S3x256 .f32) (b : FVec Ideal S256 .f32)
    (r : Fin 16384) (j : Fin 256) :
    convR y w b (ix2 r j) = conv (w (ix2 0 j)) (w (ix2 1 j)) (w (ix2 2 j)) (b (ix1 j)) (fun a => y (ix2 a j)) r := by
  have e1 : 1 + r.val - 2 = r.val - 1 := by omega
  have e2 : (2 ≤ r.val ∧ r.val - 2 < 16384) ↔ ¬ r.val < 2 := by omega
  have e3 : (2 ≤ 1 + r.val ∧ r.val - 1 < 16384) ↔ ¬ r.val < 1 := by omega
  pointwise [convR, conv, before, rowR_apply]
  simp only [e1, e2, e3, sitofp_zero, dite_not]
  rfl

theorem meanR_apply (d : FVec Ideal S16384x256 .f32) (r : Fin 16384) : meanR d (ix2 r 0) = mean fun a => d (ix2 r a) := by
  pointwise [meanR, mean]

theorem centredR_apply (d : FVec Ideal S16384x256 .f32) (r : Fin 16384) (j : Fin 256) :
    centredR d (ix2 r j) = centred (fun a => d (ix2 r a)) j := by
  pointwise [centredR, centred, meanR_apply]

theorem lnormR_apply (d : FVec Ideal S16384x256 .f32) (g b : FVec Ideal S256 .f32) (r : Fin 16384) (j : Fin 256) :
    lnormR d g b (ix2 r j) = lnorm (fun a => d (ix2 r a)) (fun a => g (ix1 a)) (fun a => b (ix1 a)) j := by
  pointwise [lnormR, lnorm, centredR_apply, meanR_apply, rowR_apply]

theorem mixR_apply (v : FVec Ideal S16384x256 .f32) (w : FVec Ideal S4x128x128 .f32) (b : FVec Ideal S4x128 .f32)
    (n t : Fin 128) (g : Fin 4) (d : Fin 64) :
    mixR v w b (ix2 ⟨128 * n + t, by omega⟩ ⟨64 * g + d, by omega⟩)
      = causal t (fun s => w (ix3 g t s)) (fun s => v (ix2 ⟨128 * n + s, by omega⟩ ⟨64 * g + d, by omega⟩)) + b (ix2 g t) := by
  have c : ∀ x : Fin 128, IntOp.cmpi .sge (IntOp.addi (BitVec.ofNat 32 t.val) 0#32) (BitVec.ofNat 32 x.val)
      = BitVec.ofBool (decide (x ≤ t)) := by
    intro x
    rw [show IntOp.addi (BitVec.ofNat 32 t.val) 0#32 = BitVec.ofNat 32 t.val from BitVec.add_zero _, WordCmp.cmpi_sge_ofNat (by omega) (by omega)]
    rfl
  pointwise [mixR, causal, Nat.mul_comm 128, Nat.mul_comm 64]
  simp only [c, Scalar.select_ofBool, decide_eq_true_eq, mul_comm (w _)]

end Cert.Proof.PreMix

end
-- ==== Proof.PreMix.Results.lean ====
/-
  The step's eleven results as whole arrays, from its thirteen arguments: the reference's own stages, one result after the other, and
  what the reference ends with.
-/
module

public import proofs.«01_k».proof.Proof.PreMix.RefSide

@[expose] public section

set_option maxRecDepth 16384

noncomputable section

namespace Cert.Proof.PreMix

open Idealize.ShloMosaic Idealize.ShloMosaic.TcCoe Idealize.SL.Sem Cert.PreMixRefIdeal Merge
open Cert.PreMixRefIdeal.Facts₀ Cert.PreMixRefIdeal.Facts

/-- The step's arguments: the tokens, the normalisation's scale, the projection's weights, the rotations' tables, the convolution's
    weights and bias, the second normalisation's scale and shift, and the mixing's weights and bias. -/
structure Args where
  x : FVec Ideal S16384x1024 .f32
  g : FVec Ideal S1024 .f32
  w : FVec Ideal S1024x8100 .f32
  cosH : FVec Ideal S16384x32 .f32
  sinH : FVec Ideal S16384x32 .f32
  cosI : FVec Ideal S16384x16 .f32
  sinI : FVec Ideal S16384x16 .f32
  convW : FVec Ideal S3x256 .f32
  convB : FVec Ideal S256 .f32
  lnG : FVec Ideal S256 .f32
  lnB : FVec Ideal S256 .f32
  mixW : FVec Ideal S4x128x128 .f32
  mixB : FVec Ideal S4x128 .f32

namespace Args

variable (a : Args)

/-- The projection. -/
def p : FVec Ideal S16384x8100 .f32 := projR a.x a.g a.w

def qa : FVec Ideal S16384x256 .f32 :=
  scaleR (ropeR (extractStridedSlice S16384x256 ![0, 0] a.p slices_S16384x8100_S16384x256_0_0) a.cosH a.sinH)

def ka : FVec Ideal S16384x256 .bf16 :=
  truncf .bf16 (ropeR (extractStridedSlice S16384x256 ![0, 256] a.p slices_S16384x8100_S16384x256_0_256) a.cosH a.sinH) bitsLt_bf16_f32

def vat : FVec Ideal S64x256x256 .bf16 :=
  truncf .bf16 (flipR (extractStridedSlice S16384x256 ![0, 512] a.p slices_S16384x8100_S16384x256_0_512)) bitsLt_bf16_f32

def iq : FVec Ideal S16384x128 .f32 :=
  ropeIR (extractStridedSlice S16384x128 ![0, 768] a.p slices_S16384x8100_S16384x128_0_768) a.cosI a.sinI

def ik : FVec Ideal S16384x32 .bf16 :=
  truncf .bf16 (ropeKR (extractStridedSlice S16384x32 ![0, 896] a.p slices_S16384x8100_S16384x32_0_896) a.cosI a.sinI) bitsLt_bf16_f32

def iwt : FVec Ideal S8x16384 .f32 :=
  weighR (extractStridedSlice S16384x4 ![0, 928] a.p slices_S16384x8100_S16384x4_0_928)

def cq : FVec Ideal S16384x256 .bf16 :=
  truncf .bf16 (scaleR (extractStridedSlice S16384x256 ![0, 1700] a.p slices_S16384x8100_S16384x256_0_1700)) bitsLt_bf16_f32

def ck : FVec Ideal S16384x256 .bf16 :=
  truncf .bf16 (extractStridedSlice S16384x256 ![0, 1956] a.p slices_S16384x8100_S16384x256_0_1956) bitsLt_bf16_f32

def cv : FVec Ideal S16384x256 .bf16 :=
  truncf .bf16 (extractStridedSlice S16384x256 ![0, 2212] a.p slices_S16384x8100_S16384x256_0_2212) bitsLt_bf16_f32

/-- The products that the short convolution runs over. -/
def y : FVec Ideal S16384x256 .f32 :=
  mulf (extractStridedSlice S16384x256 ![0, 1188] a.p slices_S16384x8100_S16384x256_0_1188)
    (extractStridedSlice S16384x256 ![0, 1444] a.p slices_S16384x8100_S16384x256_0_1444)

def ogb : FVec Ideal S16384x256 .bf16 :=
  truncf .bf16 (mulf (mulf (extractStridedSlice S16384x256 ![0, 932] a.p slices_S16384x8100_S16384x256_0_932) (convR a.y a.convW a.convB))
    (siluR (extractStridedSlice S16384x256 ![0, 3236] a.p slices_S16384x8100_S16384x256_0_3236))) bitsLt_bf16_f32

def ogd : FVec Ideal S16384x256 .bf16 :=
  truncf .bf16 (mulf (mulf (extractStridedSlice S16384x256 ![0, 2468] a.p slices_S16384x8100_S16384x256_0_2468)
      (mixR (lnormR (extractStridedSlice S16384x256 ![0, 2724] a.p slices_S16384x8100_S16384x256_0_2724) a.lnG a.lnB) a.mixW a.mixB))
    (siluR (extractStridedSlice S16384x256 ![0, 3748] a.p slices_S16384x8100_S16384x256_0_3748))) bitsLt_bf16_f32

/-! ## The results at an index -/

theorem qa_lo (r : Fin 16384) (h : Fin 4) (d : Fin 32) : a.qa (ix2 r ⟨64 * h + d, by omega⟩)
    = (a.p (ix2 r ⟨64 * h + d, by omega⟩) * a.cosH (ix2 r d) - a.p (ix2 r ⟨64 * h + (32 + d), by omega⟩) * a.sinH (ix2 r d))
        * Ideal.ofBits .f32 0x3E38AA3B#32 := by
  rw [qa, scaleR_apply, ropeR_lo]
  pointwise

theorem qa_hi (r : Fin 16384) (h : Fin 4) (d : Fin 32) : a.qa (ix2 r ⟨64 * h + (32 + d), by omega⟩)
    = (a.p (ix2 r ⟨64 * h + (32 + d), by omega⟩) * a.cosH (ix2 r d) + a.p (ix2 r ⟨64 * h + d, by omega⟩) * a.sinH (ix2 r d))
        * Ideal.ofBits .f32 0x3E38AA3B#32 := by
  rw [qa, scaleR_apply, ropeR_hi]
  pointwise

theorem ka_lo (r : Fin 16384) (h : Fin 4) (d : Fin 32) : a.ka (ix2 r ⟨64 * h + d, by omega⟩)
    = a.p (ix2 r ⟨256 + (64 * h + d), by omega⟩) * a.cosH (ix2 r d) - a.p (ix2 r ⟨256 + (64 * h + (32 + d)), by omega⟩) * a.sinH (ix2 r d) := by
  refine (ropeR_lo _ _ _ r h d).trans ?_
  pointwise

theorem ka_hi (r : Fin 16384) (h : Fin 4) (d : Fin 32) : a.ka (ix2 r ⟨64 * h + (32 + d), by omega⟩)
    = a.p (ix2 r ⟨256 + (64 * h + (32 + d)), by omega⟩) * a.cosH (ix2 r d) + a.p (ix2 r ⟨256 + (64 * h + d), by omega⟩) * a.sinH (ix2 r d) := by
  refine (ropeR_hi _ _ _ r h d).trans ?_
  pointwise

theorem vat_apply (n : Fin 64) (j r : Fin 256) : a.vat (ix3 n j r) = a.p (ix2 ⟨256 * n + r, by omega⟩ ⟨512 + j, by omega⟩) := by
  have e : a.vat (ix3 n j r)
      = flipR (extractStridedSlice S16384x256 ![0, 512] a.p slices_S16384x8100_S16384x256_0_512) (ix3 n j r) := rfl
  rw [e, flipR_apply]
  pointwise

theorem iq_lo (r : Fin 16384) (h : Fin 4) (d : Fin 16) : a.iq (ix2 r ⟨32 * h + d, by omega⟩)
    = a.p (ix2 r ⟨768 + (32 * h + d), by omega⟩) * a.cosI (ix2 r d) - a.p (ix2 r ⟨768 + (32 * h + (16 + d)), by omega⟩) * a.sinI (ix2 r d) := by
  refine (ropeIR_lo _ _ _ r h d).trans ?_
  pointwise

theorem iq_hi (r : Fin 16384) (h : Fin 4) (d : Fin 16) : a.iq (ix2 r ⟨32 * h + (16 + d), by omega⟩)
    = a.p (ix2 r ⟨768 + (32 * h + (16 + d)), by omega⟩) * a.cosI (ix2 r d) + a.p (ix2 r ⟨768 + (32 * h + d), by omega⟩) * a.sinI (ix2 r d) := by
  refine (ropeIR_hi _ _ _ r h d).trans ?_
  pointwise

theorem ik_lo (r : Fin 16384) (d : Fin 16) : a.ik (ix2 r ⟨d, by omega⟩)
    = a.p (ix2 r ⟨896 + d, by omega⟩) * a.cosI (ix2 r d) - a.p (ix2 r ⟨896 + (16 + d), by omega⟩) * a.sinI (ix2 r d) := by
  refine (ropeKR_lo _ _ _ r d).trans ?_
  pointwise

theorem ik_hi (r : Fin 16384) (d : Fin 16) : a.ik (ix2 r ⟨16 + d, by omega⟩)
    = a.p (ix2 r ⟨896 + (16 + d), by omega⟩) * a.cosI (ix2 r d) + a.p (ix2 r ⟨896 + d, by omega⟩) * a.sinI (ix2 r d) := by
  refine (ropeKR_hi _ _ _ r d).trans ?_
  pointwise

theorem iwt_lo (h : Fin 4) (r : Fin 16384) : a.iwt (ix2 ⟨h, by omega⟩ r)
    = a.p (ix2 r ⟨928 + h, by omega⟩) * Ideal.ofBits .f32 0x3DB504F3#32 := by
  refine (weighR_lo _ h r).trans ?_
  pointwise

theorem iwt_hi (h : Fin 4) (r : Fin 16384) : a.iwt (ix2 ⟨4 + h, by omega⟩ r) = 0 := weighR_hi _ h r

theorem cq_apply (r : Fin 16384) (j : Fin 256) : a.cq (ix2 r j)
    = a.p (ix2 r ⟨1700 + j, by omega⟩) * Ideal.ofBits .f32 0x3E38AA3B#32 := by
  refine (scaleR_apply _ r j).trans ?_
  pointwise

theorem ck_apply (r : Fin 16384) (j : Fin 256) : a.ck (ix2 r j) = a.p (ix2 r ⟨1956 + j, by omega⟩) := by
  pointwise [ck]

theorem cv_apply (r : Fin 16384) (j : Fin 256) : a.cv (ix2 r j) = a.p (ix2 r ⟨2212 + j, by omega⟩) := by
  pointwise [cv]

theorem y_apply (r : Fin 16384) (j : Fin 256) : a.y (ix2 r j)
    = a.p (ix2 r ⟨1188 + j, by omega⟩) * a.p (ix2 r ⟨1444 + j, by omega⟩) := by
  pointwise [y]

theorem ogb_apply (r : Fin 16384) (j : Fin 256) : a.ogb (ix2 r j)
    = a.p (ix2 r ⟨932 + j, by omega⟩)
        * conv (a.convW (ix2 0 j)) (a.convW (ix2 1 j)) (a.convW (ix2 2 j)) (a.convB (ix1 j)) (fun i => a.y (ix2 i j)) r
        * silu (a.p (ix2 r ⟨3236 + j, by omega⟩)) := by
  pointwise [ogb, convR_apply, siluR_apply]

/-- The mixing branch's normalised rows. -/
def v (r : Fin 16384) (j : Fin 256) : EReal :=
  lnorm (fun k => a.p (ix2 r ⟨2724 + k, by omega⟩)) (fun k => a.lnG (ix1 k)) (fun k => a.lnB (ix1 k)) j

theorem v_eq (r : Fin 16384) (j : Fin 256) :
    lnormR (extractStridedSlice S16384x256 ![0, 2724] a.p slices_S16384x8100_S16384x256_0_2724) a.lnG a.lnB (ix2 r j) = a.v r j := by
  refine (lnormR_apply _ _ _ r j).trans ?_
  unfold v
  congr 1
  funext k
  pointwise

theorem ogd_apply (n t : Fin 128) (g : Fin 4) (d : Fin 64) : a.ogd (ix2 ⟨128 * n + t, by omega⟩ ⟨64 * g + d, by omega⟩)
    = a.p (ix2 ⟨128 * n + t, by omega⟩ ⟨2468 + (64 * g + d), by omega⟩)
        * (causal t (fun s => a.mixW (ix3 g t s)) (fun s => a.v ⟨128 * n + s, by omega⟩ ⟨64 * g + d, by omega⟩) + a.mixB (ix2 g t))
        * silu (a.p (ix2 ⟨128 * n + t, by omega⟩ ⟨3748 + (64 * g + d), by omega⟩)) := by
  have e := mixR_apply (lnormR (extractStridedSlice S16384x256 ![0, 2724] a.p slices_S16384x8100_S16384x256_0_2724) a.lnG a.lnB)
    a.mixW a.mixB n t g d
  simp only [v_eq] at e
  rw [← e]
  pointwise [ogd, siluR_apply]

end Args

/-- The reference's arguments. -/
def refArgs (m : (ℓ : Loc nD τ sig) → Buf (Elt Ideal) ℓ) (c : Dev nD) : Args where
  x := m ((c.tc : Thread nD τ).loc main_arg0)
  g := m ((c.tc : Thread nD τ).loc main_arg1)
  w := m ((c.tc : Thread nD τ).loc main_arg2)
  cosH := m ((c.tc : Thread nD τ).loc main_arg3)
  sinH := m ((c.tc : Thread nD τ).loc main_arg4)
  cosI := m ((c.tc : Thread nD τ).loc main_arg5)
  sinI := m ((c.tc : Thread nD τ).loc main_arg6)
  convW := m ((c.tc : Thread nD τ).loc main_arg7)
  convB := m ((c.tc : Thread nD τ).loc main_arg8)
  lnG := m ((c.tc : Thread nD τ).loc main_arg9)
  lnB := m ((c.tc : Thread nD τ).loc main_arg10)
  mixW := m ((c.tc : Thread nD τ).loc main_arg11)
  mixB := m ((c.tc : Thread nD τ).loc main_arg12)

end Cert.Proof.PreMix

end
-- ==== Proof.PreMix.Points.lean ====
/-
  What each grid point stores is its part of the step's results.
-/
module

public import proofs.«01_k».proof.Proof.PreMix.Stored
public import proofs.«01_k».proof.Proof.PreMix.Blocks
public import proofs.«01_k».proof.Proof.PreMix.Results

@[expose] public section

set_option maxRecDepth 16384

noncomputable section

namespace Cert.Proof.PreMix

open Idealize.ShloMosaic Idealize.ShloMosaic.TcCoe Idealize.SL.Sem Cert.PreMixIdeal Cert.PreMixIdeal.Gen Cert.PreMixIdeal.Run Merge

variable (m : (ℓ : Loc nD τ sig) → Buf (Elt Ideal) ℓ) (c : Dev nD)

/-- The kernel's arguments. -/
def args : Args where
  x := m ((c.tc : Thread nD τ).loc main_arg0)
  g := m ((c.tc : Thread nD τ).loc main_arg1)
  w := m ((c.tc : Thread nD τ).loc main_arg2)
  cosH := m ((c.tc : Thread nD τ).loc main_arg3)
  sinH := m ((c.tc : Thread nD τ).loc main_arg4)
  cosI := m ((c.tc : Thread nD τ).loc main_arg5)
  sinI := m ((c.tc : Thread nD τ).loc main_arg6)
  convW := m ((c.tc : Thread nD τ).loc main_arg7)
  convB := m ((c.tc : Thread nD τ).loc main_arg8)
  lnG := m ((c.tc : Thread nD τ).loc main_arg9)
  lnB := m ((c.tc : Thread nD τ).loc main_arg10)
  mixW := m ((c.tc : Thread nD τ).loc main_arg11)
  mixB := m ((c.tc : Thread nD τ).loc main_arg12)

/-! ## The projections -/

/-- A point's product with a column of weights is the projection's entry, where that column is one of the projection's. -/
theorem proj_eq {n : Nat} (w : Vec Ideal (⟨2, ![1024, n]⟩ : Shape) .bf16) (t : Fin cfg0.N) (r : Fin 256) (j : Fin n) (q : Fin 8100)
    (h : ∀ k, w (ix2 k j) = (args m c).w (ix2 k q)) :
    proj (iblk m c 0 t) (iblk m c 1 t) w r j = (args m c).p (ix2 (row t r) q) := by
  unfold Args.p
  rw [projR_apply]
  unfold proj
  rw [show (fun a => iblk m c 0 t (ix2 r a)) = fun a => (args m c).x (ix2 (row t r) a) from funext fun a => rows0 m c t r a,
    show (fun a => iblk m c 1 t (ix2 0 a)) = fun a => (args m c).g (ix1 a) from funext fun a => whole1 m c t a,
    show (fun k => w (ix2 k j)) = fun k => (args m c).w (ix2 k q) from funext h]

section
variable (t : Fin cfg0.N) (r : Fin 256)

theorem proj2 (j : Fin 768) :
    proj (iblk m c 0 t) (iblk m c 1 t) (iblk m c 2 t) r j = (args m c).p (ix2 (row t r) ⟨j, by omega⟩) :=
  proj_eq m c _ t r j _ fun k => whole2 m c t k j

theorem proj3_q (j : Fin 128) :
    proj (iblk m c 0 t) (iblk m c 1 t) (iblk m c 3 t) r ⟨j, by omega⟩ = (args m c).p (ix2 (row t r) ⟨768 + j, by omega⟩) :=
  proj_eq m c _ t r _ _ fun k => (block3 m c t _).trans (wiArr_q _ k ⟨j, by omega⟩)

theorem proj3_k (j : Fin 32) :
    proj (iblk m c 0 t) (iblk m c 1 t) (iblk m c 3 t) r ⟨128 + j, by omega⟩ = (args m c).p (ix2 (row t r) ⟨896 + j, by omega⟩) :=
  proj_eq m c _ t r _ _ fun k => ((block3 m c t _).trans (wiArr_q _ k ⟨128 + j, by omega⟩)).trans
    (congrArg (fun q => (args m c).w (ix2 k q)) (Fin.ext (by dsimp only; omega)))

theorem proj3_w (j : Fin 4) :
    proj (iblk m c 0 t) (iblk m c 1 t) (iblk m c 3 t) r ⟨256 + j, by omega⟩ = (args m c).p (ix2 (row t r) ⟨928 + j, by omega⟩) :=
  proj_eq m c _ t r _ _ fun k => (block3 m c t _).trans (wiArr_w _ k j)

theorem proj3_z (j : Fin 4) : proj (iblk m c 0 t) (iblk m c 1 t) (iblk m c 3 t) r ⟨256 + (4 + j), by omega⟩ = 0 := by
  unfold proj
  rw [show (fun k => iblk m c 3 t (ix2 k ⟨256 + (4 + j), by omega⟩)) = fun _ => (0 : EReal) from
    funext fun k => (block3 m c t _).trans (wiArr_z _ k j)]
  unfold dot
  simp only [mul_zero, Finset.sum_const_zero]

theorem proj4 (j : Fin 768) :
    proj (iblk m c 0 t) (iblk m c 1 t) (iblk m c 4 t) r j = (args m c).p (ix2 (row t r) ⟨1700 + j, by omega⟩) :=
  proj_eq m c _ t r j _ fun k => whole4 m c t k j

theorem proj9_b (j : Fin 256) :
    proj (iblk m c 0 t) (iblk m c 1 t) (iblk m c 9 t) r ⟨j, by omega⟩ = (args m c).p (ix2 (row t r) ⟨932 + j, by omega⟩) :=
  proj_eq m c _ t r _ _ fun k => (block9 m c t _).trans (w2Arr_b _ k j)

theorem proj9_c (j : Fin 256) :
    proj (iblk m c 0 t) (iblk m c 1 t) (iblk m c 9 t) r ⟨256 + j, by omega⟩ = (args m c).p (ix2 (row t r) ⟨1188 + j, by omega⟩) :=
  proj_eq m c _ t r _ _ fun k => (block9 m c t _).trans (w2Arr_c _ k j)

theorem proj9_x (j : Fin 256) :
    proj (iblk m c 0 t) (iblk m c 1 t) (iblk m c 9 t) r ⟨512 + j, by omega⟩ = (args m c).p (ix2 (row t r) ⟨1444 + j, by omega⟩) :=
  proj_eq m c _ t r _ _ fun k => (block9 m c t _).trans (w2Arr_x _ k j)

theorem proj9_u (j : Fin 256) :
    proj (iblk m c 0 t) (iblk m c 1 t) (iblk m c 9 t) r ⟨768 + j, by omega⟩ = (args m c).p (ix2 (row t r) ⟨2468 + j, by omega⟩) :=
  proj_eq m c _ t r _ _ fun k => (block9 m c t _).trans (w2Arr_u _ k j)

theorem proj9_d (j : Fin 256) :
    proj (iblk m c 0 t) (iblk m c 1 t) (iblk m c 9 t) r ⟨1024 + j, by omega⟩ = (args m c).p (ix2 (row t r) ⟨2724 + j, by omega⟩) :=
  proj_eq m c _ t r _ _ fun k => (block9 m c t _).trans (w2Arr_d _ k j)

theorem proj9_p (j : Fin 256) :
    proj (iblk m c 0 t) (iblk m c 1 t) (iblk m c 9 t) r ⟨1280 + j, by omega⟩ = (args m c).p (ix2 (row t r) ⟨3236 + j, by omega⟩) :=
  proj_eq m c _ t r _ _ fun k => (block9 m c t _).trans (w2Arr_p _ k j)

theorem proj9_q (j : Fin 256) :
    proj (iblk m c 0 t) (iblk m c 1 t) (iblk m c 9 t) r ⟨1536 + j, by omega⟩ = (args m c).p (ix2 (row t r) ⟨3748 + j, by omega⟩) :=
  proj_eq m c _ t r _ _ fun k => (block9 m c t _).trans (w2Arr_q _ k j)

end

/-! ## The payloads that only pass a value on -/

theorem pay2_apply (x : Vec Ideal S256x256 .f32) (r j : Fin 256) : k0_pay2 x (ix2 r j) = x (ix2 r j) := by pointwise [k0_pay2]
theorem pay3_apply (x : Vec Ideal S256x256 .f32) (r j : Fin 256) : k0_pay3 x (ix2 r j) = x (ix2 r j) := by pointwise [k0_pay3]
theorem pay4_apply (x : Vec Ideal S256x128 .f32) (r : Fin 256) (j : Fin 128) : k0_pay4 x (ix2 r j) = x (ix2 r j) := by pointwise [k0_pay4]
theorem pay5_apply (x : Vec Ideal S256x128 .f32) (r : Fin 256) (j : Fin 128) : k0_pay5 x (ix2 r j) = x (ix2 r j) := by pointwise [k0_pay5]
theorem pay9_apply (x : Vec Ideal S256x1024 .f32) (g : Vec Ideal S1x1024 .f32) (q : Vec Ideal S256x256 .f32) (w : Vec Ideal S1024x768 .bf16)
    (r j : Fin 256) : k0_pay9 x g q w (ix2 r j) = k0_pay7 x g w (ix2 r j) * q (ix2 r j) := by pointwise [k0_pay9, pay2_apply]
theorem pay31_apply (r : Fin 8) (j : Fin 256) : k0_pay31 (F := Ideal) (ix2 r j) = 0 := by pointwise [k0_pay31]
theorem pay54_apply (v : FVec Ideal S256x256 .f32) (r : Fin 128) (j : Fin 256) : k0_pay54 v (ix2 r j) = v (ix2 ⟨r, by omega⟩ j) := by
  pointwise [k0_pay54]
theorem pay56_apply (v : FVec Ideal S256x256 .f32) (r : Fin 128) (j : Fin 256) : k0_pay56 v (ix2 r j) = v (ix2 ⟨128 + r, by omega⟩ j) := by
  pointwise [k0_pay56]

/-! ## Columns by heads -/

theorem halves64 {P : Fin 256 → Prop} (lo : ∀ (h : Fin 4) (d : Fin 32), P ⟨64 * h + d, by omega⟩)
    (hi : ∀ (h : Fin 4) (d : Fin 32), P ⟨64 * h + (32 + d), by omega⟩) (j : Fin 256) : P j := by
  by_cases e : j.val % 64 < 32
  · exact (congrArg P (Fin.ext (by dsimp only; omega))).mp (lo ⟨j.val / 64, by omega⟩ ⟨j.val % 64, e⟩)
  · exact (congrArg P (Fin.ext (by dsimp only; omega))).mp (hi ⟨j.val / 64, by omega⟩ ⟨j.val % 64 - 32, by omega⟩)

theorem halves32 {P : Fin 128 → Prop} (lo : ∀ (h : Fin 4) (d : Fin 16), P ⟨32 * h + d, by omega⟩)
    (hi : ∀ (h : Fin 4) (d : Fin 16), P ⟨32 * h + (16 + d), by omega⟩) (j : Fin 128) : P j := by
  by_cases e : j.val % 32 < 16
  · exact (congrArg P (Fin.ext (by dsimp only; omega))).mp (lo ⟨j.val / 32, by omega⟩ ⟨j.val % 32, e⟩)
  · exact (congrArg P (Fin.ext (by dsimp only; omega))).mp (hi ⟨j.val / 32, by omega⟩ ⟨j.val % 32 - 16, by omega⟩)

theorem halves16 {P : Fin 32 → Prop} (lo : ∀ d : Fin 16, P ⟨d, by omega⟩) (hi : ∀ d : Fin 16, P ⟨16 + d, by omega⟩) (j : Fin 32) : P j := by
  by_cases e : j.val < 16
  · exact lo ⟨j.val, e⟩
  · exact (congrArg P (Fin.ext (by dsimp only; omega))).mp (hi ⟨j.val - 16, by omega⟩)

theorem halves4 {P : Fin 8 → Prop} (lo : ∀ d : Fin 4, P ⟨d, by omega⟩) (hi : ∀ d : Fin 4, P ⟨4 + d, by omega⟩) (j : Fin 8) : P j := by
  by_cases e : j.val < 4
  · exact lo ⟨j.val, e⟩
  · exact (congrArg P (Fin.ext (by dsimp only; omega))).mp (hi ⟨j.val - 4, by omega⟩)

theorem groups64 {P : Fin 256 → Prop} (f : ∀ (g : Fin 4) (d : Fin 64), P ⟨64 * g + d, by omega⟩) (j : Fin 256) : P j :=
  (congrArg P (Fin.ext (by dsimp only; omega))).mp (f ⟨j.val / 64, by omega⟩ ⟨j.val % 64, by omega⟩)

theorem halves128 {P : Fin 256 → Prop} (lo : ∀ d : Fin 128, P ⟨d, by omega⟩) (hi : ∀ d : Fin 128, P ⟨128 + d, by omega⟩) (j : Fin 256) : P j := by
  by_cases e : j.val < 128
  · exact lo ⟨j.val, e⟩
  · exact (congrArg P (Fin.ext (by dsimp only; omega))).mp (hi ⟨j.val - 128, by omega⟩)

/-! ## The attention branches -/

theorem point16 (t : Fin cfg0.N) (r j : Fin 256) : (outsAt0 m c t.val t.isLt).1 (ix2 r j) = (args m c).qa (ix2 (row t r) j) := by
  rw [stored16]
  induction j using halves64 with
  | lo h d =>
    refine (pay12_lo _ _ _ r h d).trans ?_
    simp only [pay9_apply, pay7_apply, pay3_apply, block5, block6, cosArr64_lo, sinArr64_lo, proj2, Args.qa_lo, mul_neg, sub_eq_add_neg]
    rfl
  | hi h d =>
    refine (pay12_hi _ _ _ r h d).trans ?_
    simp only [pay9_apply, pay7_apply, pay3_apply, block5, block6, cosArr64_hi, sinArr64_hi, proj2, Args.qa_hi]
    rfl

theorem point17 (t : Fin cfg0.N) (r j : Fin 256) : (outsAt0 m c t.val t.isLt).2.1 (ix2 r j) = (args m c).ka (ix2 (row t r) j) := by
  rw [stored17]
  induction j using halves64 with
  | lo h d =>
    refine (pay16_lo _ _ _ r h d).trans ?_
    simp only [pay8_apply, pay2_apply, pay3_apply, block5, block6, cosArr64_lo, sinArr64_lo, proj2, Args.ka_lo, mul_neg, sub_eq_add_neg]
    rfl
  | hi h d =>
    refine (pay16_hi _ _ _ r h d).trans ?_
    simp only [pay8_apply, pay2_apply, pay3_apply, block5, block6, cosArr64_hi, sinArr64_hi, proj2, Args.ka_hi]
    rfl

theorem point18 (t : Fin cfg0.N) (j r : Fin 256) :
    (outsAt0 m c t.val t.isLt).2.2.1 (ix3 0 j r) = (args m c).vat (ix3 ⟨t.val, t.isLt⟩ j r) := by
  rw [stored18]
  refine (pay17_apply _ _ r _ j).trans ?_
  rw [proj2, Args.vat_apply]
  exact congrArg (fun a => (args m c).p (ix2 a _)) (Fin.ext (by dsimp only [row]; omega))

theorem pay21_eq (x : FVec Ideal S256x1024 .bf16) (k : FVec Ideal S256x128 .f32) (w : Vec Ideal S1024x384 .bf16) :
    k0_pay21 x k w = mulf (k0_pay19 x w) k := rfl

theorem pay23_eq (x : FVec Ideal S256x1024 .bf16) (w : Vec Ideal S1024x384 .bf16) :
    k0_pay23 x w = dynamicRotate 1 112#32 none (k0_pay19 x w) Facts₀.rotates_S256x128_d1 := rfl

theorem proj3_q_lo (t : Fin cfg0.N) (r : Fin 256) (h : Fin 4) (d : Fin 16) :
    proj (iblk m c 0 t) (iblk m c 1 t) (iblk m c 3 t) r ⟨32 * h + d, by omega⟩ = (args m c).p (ix2 (row t r) ⟨768 + (32 * h + d), by omega⟩) :=
  proj3_q m c t r ⟨32 * h + d, by omega⟩

theorem proj3_q_hi (t : Fin cfg0.N) (r : Fin 256) (h : Fin 4) (d : Fin 16) :
    proj (iblk m c 0 t) (iblk m c 1 t) (iblk m c 3 t) r ⟨32 * h + (16 + d), by omega⟩
      = (args m c).p (ix2 (row t r) ⟨768 + (32 * h + (16 + d)), by omega⟩) :=
  proj3_q m c t r ⟨32 * h + (16 + d), by omega⟩

theorem point19 (t : Fin cfg0.N) (r : Fin 256) (j : Fin 128) :
    (outsAt0 m c t.val t.isLt).2.2.2.1 (ix2 r j) = (args m c).iq (ix2 (row t r) j) := by
  rw [stored19, pay21_eq, pay23_eq]
  induction j using halves32 with
  | lo h d =>
    rw [rot32_lo]
    simp only [pay19_apply, pay4_apply, pay5_apply, block7, block8, cosArr32_lo, sinArr32_lo, proj3_q_lo, proj3_q_hi, Args.iq_lo, mul_neg, sub_eq_add_neg]
    rfl
  | hi h d =>
    rw [rot32_hi]
    simp only [pay19_apply, pay4_apply, pay5_apply, block7, block8, cosArr32_hi, sinArr32_hi, proj3_q_lo, proj3_q_hi, Args.iq_hi]
    rfl

/-- The first head's columns of the tables. -/
theorem table_lo (t : Fin cfg0.N) (r : Fin 256) (d : Fin 16) :
    iblk m c 7 t (ix2 r ⟨d, by omega⟩) = (args m c).cosI (ix2 (row t r) d) ∧ iblk m c 8 t (ix2 r ⟨d, by omega⟩) = -(args m c).sinI (ix2 (row t r) d) := by
  have e : (⟨d, by omega⟩ : Fin 128) = ⟨32 * (0 : Fin 4) + d, by simp; omega⟩ := Fin.ext (by simp)
  exact ⟨(block7 m c t r _).trans ((congrArg (fun q => cosArr32 _ (ix2 (row t r) q)) e).trans (cosArr32_lo _ _ 0 d)),
    (block8 m c t r _).trans ((congrArg (fun q => sinArr32 _ (ix2 (row t r) q)) e).trans (sinArr32_lo _ _ 0 d))⟩

theorem table_hi (t : Fin cfg0.N) (r : Fin 256) (d : Fin 16) :
    iblk m c 7 t (ix2 r ⟨16 + d, by omega⟩) = (args m c).cosI (ix2 (row t r) d)
      ∧ iblk m c 8 t (ix2 r ⟨16 + d, by omega⟩) = (args m c).sinI (ix2 (row t r) d) := by
  have e : (⟨16 + d, by omega⟩ : Fin 128) = ⟨32 * (0 : Fin 4) + (16 + d), by simp; omega⟩ := Fin.ext (by simp)
  exact ⟨(block7 m c t r _).trans ((congrArg (fun q => cosArr32 _ (ix2 (row t r) q)) e).trans (cosArr32_hi _ _ 0 d)),
    (block8 m c t r _).trans ((congrArg (fun q => sinArr32 _ (ix2 (row t r) q)) e).trans (sinArr32_hi _ _ 0 d))⟩

theorem proj3_k_lo (t : Fin cfg0.N) (r : Fin 256) (d : Fin 16) :
    proj (iblk m c 0 t) (iblk m c 1 t) (iblk m c 3 t) r ⟨128 + d, by omega⟩ = (args m c).p (ix2 (row t r) ⟨896 + d, by omega⟩) :=
  proj3_k m c t r ⟨d, by omega⟩

theorem proj3_k_hi (t : Fin cfg0.N) (r : Fin 256) (d : Fin 16) :
    proj (iblk m c 0 t) (iblk m c 1 t) (iblk m c 3 t) r ⟨128 + (16 + d), by omega⟩ = (args m c).p (ix2 (row t r) ⟨896 + (16 + d), by omega⟩) :=
  proj3_k m c t r ⟨16 + d, by omega⟩

theorem point20 (t : Fin cfg0.N) (r : Fin 256) (j : Fin 32) :
    (outsAt0 m c t.val t.isLt).2.2.2.2.1 (ix2 r j) = (args m c).ik (ix2 (row t r) j) := by
  rw [stored20]
  induction j using halves16 with
  | lo d =>
    refine (pay25_lo _ _ _ r d).trans ?_
    simp only [pay20_apply, pay4_apply, pay5_apply, (table_lo m c t r d).1, (table_lo m c t r d).2, proj3_k_lo, proj3_k_hi, Args.ik_lo, mul_neg,
      sub_eq_add_neg]
  | hi d =>
    refine (pay25_hi _ _ _ r d).trans ?_
    simp only [pay20_apply, pay4_apply, pay5_apply, (table_hi m c t r d).1, (table_hi m c t r d).2, proj3_k_lo, proj3_k_hi, Args.ik_hi]

theorem point21 (t : Fin cfg0.N) (i : Fin 8) (r : Fin 256) :
    (outsAt0 m c t.val t.isLt).2.2.2.2.2.1 (ix2 i r) = (args m c).iwt (ix2 i (row t r)) := by
  rw [stored21]
  induction i using halves4 with
  | lo d =>
    refine (pay26_apply _ _ r _ _).trans ?_
    rw [Args.iwt_lo]
    exact congrArg (· * _) (proj3_w m c t r d)
  | hi d =>
    refine (pay26_apply _ _ r _ _).trans ?_
    rw [Args.iwt_hi]
    exact (congrArg (· * _) (proj3_z m c t r d)).trans (zero_mul _)

theorem point22 (t : Fin cfg0.N) (r j : Fin 256) :
    (outsAt0 m c t.val t.isLt).2.2.2.2.2.2.1 (ix2 r j) = (args m c).cq (ix2 (row t r) j) := by
  rw [stored22]
  refine (pay28_apply _ _ r _ j).trans ?_
  rw [proj4, Args.cq_apply]

theorem point23 (t : Fin cfg0.N) (r j : Fin 256) :
    (outsAt0 m c t.val t.isLt).2.2.2.2.2.2.2.1 (ix2 r j) = (args m c).ck (ix2 (row t r) j) := by
  rw [stored23]
  refine (pay29_apply _ _ r _ j).trans ?_
  rw [proj4, Args.ck_apply]
  exact congrArg (fun q => (args m c).p (ix2 (row t r) q)) (Fin.ext (by dsimp only; omega))

theorem point24 (t : Fin cfg0.N) (r j : Fin 256) :
    (outsAt0 m c t.val t.isLt).2.2.2.2.2.2.2.2.1 (ix2 r j) = (args m c).cv (ix2 (row t r) j) := by
  rw [stored24]
  refine (pay30_apply _ _ r _ j).trans ?_
  rw [proj4, Args.cv_apply]
  exact congrArg (fun q => (args m c).p (ix2 (row t r) q)) (Fin.ext (by dsimp only; omega))

/-! ## The convolution branch -/

/-- A point's products are its rows of the products. -/
theorem product_eq (t : Fin cfg0.N) (r j : Fin 256) :
    proj (iblk m c 0 t) (iblk m c 1 t) (iblk m c 9 t) r ⟨256 + j, by omega⟩ * proj (iblk m c 0 t) (iblk m c 1 t) (iblk m c 9 t) r ⟨512 + j, by omega⟩
      = (args m c).y (ix2 (row t r) j) := by
  rw [proj9_c, proj9_x, Args.y_apply]

/-- The rows found `8 - k` before the point's own are those of the products so many tokens before. -/
theorem back_eq (t : Fin cfg0.N) (k : Nat) (hk : k ≤ 8) (r j : Fin 256) :
    back m c t k hk (ix2 r j) = before (fun i => (args m c).y (ix2 i j)) (row t r) (8 - k) := by
  have ht : t.val < 64 := t.isLt
  unfold before
  by_cases h : k + r.val < 8
  · refine (dif_pos h).trans ?_
    unfold carried
    by_cases h0 : t.val % 64 = 0
    · rw [if_pos h0, if_pos (by dsimp only [row]; omega)]
      exact pay31_apply _ _
    · rw [if_neg h0, if_neg (by dsimp only [row]; omega)]
      refine (pay40_apply _ _ _ _ _).trans ((product_eq m c _ _ _).trans ?_)
      exact congrArg (fun q => (args m c).y (ix2 q j)) (Fin.ext (by
        show (t.val - 1) * 256 + (248 + (k + r.val)) = t.val * 256 + r.val - (8 - k)
        omega))
  · refine (dif_neg h).trans ?_
    rw [if_neg (by dsimp only [row]; omega)]
    refine (pay39_apply _ _ _ _ _).trans ((product_eq m c _ _ _).trans ?_)
    exact congrArg (fun q => (args m c).y (ix2 q j)) (Fin.ext (by
      show t.val * 256 + (k + r.val - 8) = t.val * 256 + r.val - (8 - k)
      omega))

theorem line_apply (t : Fin cfg0.N) (k : Fin 3) (j : Fin 256) :
    line (iblk m c 10 t) ⟨k, by omega⟩ (ix2 0 j) = (args m c).convW (ix2 k j) :=
  (block10 m c t _).trans (padArr_apply _ k j)

theorem point25 (t : Fin cfg0.N) (r j : Fin 256) :
    (outsAt0 m c t.val t.isLt).2.2.2.2.2.2.2.2.2.1 (ix2 r j) = (args m c).ogb (ix2 (row t r) j) := by
  rw [stored25, pay43_apply, pay41_apply, pay33_apply, pay36_apply, pay38_apply, back_eq, back_eq, proj9_b, proj9_p, product_eq, whole11,
    Args.ogb_apply, show line (iblk m c 10 t) 2 (ix2 0 j) = _ from line_apply m c t 2 j,
    show line (iblk m c 10 t) 1 (ix2 0 j) = _ from line_apply m c t 1 j, show line (iblk m c 10 t) 0 (ix2 0 j) = _ from line_apply m c t 0 j]
  unfold conv
  congr 3
  rw [add_comm ((args m c).convW (ix2 0 j) * _), add_comm _ ((args m c).convW (ix2 2 j) * _), add_assoc]

/-! ## The mixing branch -/

theorem normed_eq (t : Fin cfg0.N) (r j : Fin 256) : normed m c t (ix2 r j) = (args m c).v (row t r) j := by
  refine (pay44_apply _ _ _ r j).trans ?_
  unfold Args.v
  exact congrFun (congr (congr (congrArg lnorm (funext fun k => (pay35_apply _ _ r _ k).trans (proj9_d m c t r k)))
    (funext fun k => whole12 m c t k)) (funext fun k => whole13 m c t k)) j

theorem pick_eq (X : Vec Ideal S4x128x128 .f32) (g : Fin 4) (r s : Fin 128) :
    pick (k0_pay50 (plane X 0)) (k0_pay51 (plane X 1)) (k0_pay52 (plane X 2)) (k0_pay53 (plane X 3)) g (ix2 r s)
      = if s ≤ r then X (ix3 g r s) else 0 := by
  fin_cases g
  · exact pay50_apply _ r s
  · exact pay51_apply _ r s
  · exact pay52_apply _ r s
  · exact pay53_apply _ r s

/-- One half of a point's rows, mixed. -/
theorem mix_eq (t : Fin cfg0.N) (v : FVec Ideal S128x256 .f32) (V : Fin 128 → EReal) (r : Fin 128) (g : Fin 4) (d : Fin 64)
    (hv : ∀ s : Fin 128, v (ix2 s ⟨64 * g + d, by omega⟩) = V s) :
    k0_pay55 groups (k0_pay50 (plane (iblk m c 14 t) 0)) (k0_pay51 (plane (iblk m c 14 t) 1)) (k0_pay52 (plane (iblk m c 14 t) 2))
        (k0_pay53 (plane (iblk m c 14 t) 3)) v (iblk m c 15 t) (ix2 r ⟨64 * g + d, by omega⟩)
      = causal r (fun s => (args m c).mixW (ix3 g r s)) V + (args m c).mixB (ix2 g r) := by
  rw [pay55_apply, add_comm]
  refine congrArg₂ (· + ·) ?_ ((block15 m c t _).trans (biasArr_apply _ r g d))
  unfold causal
  refine Finset.sum_congr rfl fun s _ => ?_
  rw [pick_eq, hv s]
  split_ifs
  · exact congrArg (· * V s) (whole14 m c t g r s)
  · exact zero_mul _

/-- The mixing's result, the block's tokens given by `R`. -/
theorem ogd_row (a : Args) (R : Fin 128 → Fin 16384) (n : Fin 128) (hR : ∀ s : Fin 128, R s = ⟨128 * n + s, by omega⟩)
    (r : Fin 128) (g : Fin 4) (d : Fin 64) : a.ogd (ix2 (R r) ⟨64 * g + d, by omega⟩)
      = a.p (ix2 (R r) ⟨2468 + (64 * g + d), by omega⟩)
        * (causal r (fun s => a.mixW (ix3 g r s)) (fun s => a.v (R s) ⟨64 * g + d, by omega⟩) + a.mixB (ix2 g r))
        * silu (a.p (ix2 (R r) ⟨3748 + (64 * g + d), by omega⟩)) := by
  obtain rfl : R = fun s => ⟨128 * n + s, by omega⟩ := funext hR
  exact a.ogd_apply n r g d

theorem point26 (t : Fin cfg0.N) (r j : Fin 256) :
    (outsAt0 m c t.val t.isLt).2.2.2.2.2.2.2.2.2.2.1 (ix2 r j) = (args m c).ogd (ix2 (row t r) j) := by
  have ht : t.val < 64 := t.isLt
  rw [stored26]
  induction r using halves128 with
  | lo r =>
    refine (pay59_lo _ _ _ _ _ _ _ _ _ r j).trans ?_
    rw [pay34_apply, pay37_apply, proj9_u, proj9_q]
    induction j using groups64 with
    | f g d =>
    rw [mix_eq m c t _ (fun s => (args m c).v (row t ⟨s, by omega⟩) ⟨64 * g + d, by omega⟩) r g d
      fun s => (pay54_apply _ s _).trans (normed_eq m c t _ _)]
    exact (ogd_row (args m c) (fun s => row t ⟨s, by omega⟩) ⟨2 * t.val, by omega⟩
      (fun s => Fin.ext (by dsimp only [row]; omega)) r g d).symm
  | hi r =>
    refine (pay59_hi _ _ _ _ _ _ _ _ _ r j).trans ?_
    rw [pay34_apply, pay37_apply, proj9_u, proj9_q]
    induction j using groups64 with
    | f g d =>
    rw [mix_eq m c t _ (fun s => (args m c).v (row t ⟨128 + s, by omega⟩) ⟨64 * g + d, by omega⟩) r g d
      fun s => (pay56_apply _ s _).trans (normed_eq m c t _ _)]
    exact (ogd_row (args m c) (fun s => row t ⟨128 + s, by omega⟩) ⟨2 * t.val + 1, by omega⟩
      (fun s => Fin.ext (by dsimp only [row]; omega)) r g d).symm

end Cert.Proof.PreMix

end
-- ==== Proof.PreMix.RefEnd.lean ====
/-
  What the reference ends with: its results are the step's, from its own arguments.
-/
module

public import proofs.«01_k».proof.Proof.PreMix.Results

@[expose] public section

set_option maxRecDepth 16384

noncomputable section

namespace Cert.Proof.PreMix

open Idealize.ShloMosaic Idealize.ShloMosaic.TcCoe Idealize.SL.Sem Idealize.ShloMosaic.StableHlo Cert.PreMixRefIdeal Cert.PreMixRefIdeal.Value

variable (m : (ℓ : Loc nD τ sig) → Buf (Elt Ideal) ℓ) (c : Dev nD)

theorem res_p : res_main_v13 (launchContents m c) = (refArgs m c).p := rfl

theorem ends_qa : val4 (launchContents m c) (Proc.devRef .tc main_v158) = (refArgs m c).qa :=
  (val4_main_v158 _).trans rfl

theorem ends_ka : val4 (launchContents m c) (Proc.devRef .tc main_v159) = (refArgs m c).ka :=
  (val4_main_v159 _).trans rfl

theorem ends_vat : val4 (launchContents m c) (Proc.devRef .tc main_v162) = (refArgs m c).vat :=
  (val4_main_v162 _).trans rfl

theorem ends_iq : val4 (launchContents m c) (Proc.devRef .tc main_v68) = (refArgs m c).iq :=
  (val4_main_v68 _).trans rfl

theorem ends_ik : val4 (launchContents m c) (Proc.devRef .tc main_v163) = (refArgs m c).ik :=
  (val4_main_v163 _).trans rfl

theorem ends_iwt : val4 (launchContents m c) (Proc.devRef .tc main_v167) = (refArgs m c).iwt :=
  (val4_main_v167 _).trans rfl

theorem ends_cq : val4 (launchContents m c) (Proc.devRef .tc main_v170) = (refArgs m c).cq :=
  (val4_main_v170 _).trans rfl

theorem ends_ck : val4 (launchContents m c) (Proc.devRef .tc main_v171) = (refArgs m c).ck :=
  (val4_main_v171 _).trans rfl

theorem ends_cv : val4 (launchContents m c) (Proc.devRef .tc main_v172) = (refArgs m c).cv :=
  (val4_main_v172 _).trans rfl

theorem ends_ogb : val4 (launchContents m c) (Proc.devRef .tc main_v175) = (refArgs m c).ogb :=
  (val4_main_v175 _).trans rfl

theorem ends_ogd : val4 (launchContents m c) (Proc.devRef .tc main_v178) = (refArgs m c).ogd :=
  (val4_main_v178 _).trans rfl

end Cert.Proof.PreMix

end
-- ==== Proof.PreMix.Algebraic.lean ====
/-
  The claims about the layer's first step: the kernel's and the reference's eleven results are the same arrays over the reals.
-/
module

public import proofs.«01_k».proof.Defs
public import proofs.«01_k».proof.Proof.PreMix.Frame
public import proofs.«01_k».proof.Proof.PreMix.Points
public import proofs.«01_k».proof.Proof.PreMix.RefEnd

@[expose] public section

set_option maxRecDepth 16384

noncomputable section

namespace Cert.Proof.PreMix

open Idealize.ShloMosaic Idealize.ShloMosaic.TcCoe Idealize.SL.Sem

section
open Cert.PreMixIdeal Cert.PreMixIdeal.Gen Cert.PreMixIdeal.Run

variable (m : (ℓ : Loc nD τ sig) → Buf (Elt Ideal) ℓ) (c : Dev nD)

/-! ## The kernel's result arrays -/

theorem final16 : (dats m 0 c).arrAt 16 cfg0.N = (args m c).qa := by
  refine (dats m 0 c).arrAt_eq_of_covers 16 _ (by decide +kernel) fun t hf y => ?_
  blk_simp
  rw [after0_16]
  rw [eq_ix2 y]
  refine (point16 m c t (y 0) (y 1)).trans (congrArg (args m c).qa ?_)
  blk_ext [idxOut t, row]

theorem final17 : (dats m 0 c).arrAt 17 cfg0.N = (args m c).ka := by
  refine (dats m 0 c).arrAt_eq_of_covers 17 _ (by decide +kernel) fun t hf y => ?_
  blk_simp
  rw [after0_17]
  rw [eq_ix2 y]
  refine (point17 m c t (y 0) (y 1)).trans (congrArg (args m c).ka ?_)
  blk_ext [idxOut t, row]

theorem final18 : (dats m 0 c).arrAt 18 cfg0.N = (args m c).vat := by
  refine (dats m 0 c).arrAt_eq_of_covers 18 _ (by decide +kernel) fun t hf y => ?_
  blk_simp
  rw [after0_18]
  have hy : y = ix3 0 (y 1) (y 2) := by
    funext a
    fin_cases a
    · exact Fin.ext (by
        have : (y 0).val < 1 := (y 0).isLt
        show (y 0).val = 0
        omega)
    · rfl
    · rfl
  rw [hy]
  refine (point18 m c t (y 1) (y 2)).trans (congrArg (args m c).vat ?_)
  blk_ext [idxOut t]

theorem final19 : (dats m 0 c).arrAt 19 cfg0.N = (args m c).iq := by
  refine (dats m 0 c).arrAt_eq_of_covers 19 _ (by decide +kernel) fun t hf y => ?_
  blk_simp
  rw [after0_19]
  rw [eq_ix2 y]
  refine (point19 m c t (y 0) (y 1)).trans (congrArg (args m c).iq ?_)
  blk_ext [idxOut t, row]

theorem final20 : (dats m 0 c).arrAt 20 cfg0.N = (args m c).ik := by
  refine (dats m 0 c).arrAt_eq_of_covers 20 _ (by decide +kernel) fun t hf y => ?_
  blk_simp
  rw [after0_20]
  rw [eq_ix2 y]
  refine (point20 m c t (y 0) (y 1)).trans (congrArg (args m c).ik ?_)
  blk_ext [idxOut t, row]

theorem final21 : (dats m 0 c).arrAt 21 cfg0.N = (args m c).iwt := by
  refine (dats m 0 c).arrAt_eq_of_covers 21 _ (by decide +kernel) fun t hf y => ?_
  blk_simp
  rw [after0_21]
  rw [eq_ix2 y]
  refine (point21 m c t (y 0) (y 1)).trans (congrArg (args m c).iwt ?_)
  blk_ext [idxOut t, row]

theorem final22 : (dats m 0 c).arrAt 22 cfg0.N = (args m c).cq := by
  refine (dats m 0 c).arrAt_eq_of_covers 22 _ (by decide +kernel) fun t hf y => ?_
  blk_simp
  rw [after0_22]
  rw [eq_ix2 y]
  refine (point22 m c t (y 0) (y 1)).trans (congrArg (args m c).cq ?_)
  blk_ext [idxOut t, row]

theorem final23 : (dats m 0 c).arrAt 23 cfg0.N = (args m c).ck := by
  refine (dats m 0 c).arrAt_eq_of_covers 23 _ (by decide +kernel) fun t hf y => ?_
  blk_simp
  rw [after0_23]
  rw [eq_ix2 y]
  refine (point23 m c t (y 0) (y 1)).trans (congrArg (args m c).ck ?_)
  blk_ext [idxOut t, row]

theorem final24 : (dats m 0 c).arrAt 24 cfg0.N = (args m c).cv := by
  refine (dats m 0 c).arrAt_eq_of_covers 24 _ (by decide +kernel) fun t hf y => ?_
  blk_simp
  rw [after0_24]
  rw [eq_ix2 y]
  refine (point24 m c t (y 0) (y 1)).trans (congrArg (args m c).cv ?_)
  blk_ext [idxOut t, row]

theorem final25 : (dats m 0 c).arrAt 25 cfg0.N = (args m c).ogb := by
  refine (dats m 0 c).arrAt_eq_of_covers 25 _ (by decide +kernel) fun t hf y => ?_
  blk_simp
  rw [after0_25]
  rw [eq_ix2 y]
  refine (point25 m c t (y 0) (y 1)).trans (congrArg (args m c).ogb ?_)
  blk_ext [idxOut t, row]

theorem final26 : (dats m 0 c).arrAt 26 cfg0.N = (args m c).ogd := by
  refine (dats m 0 c).arrAt_eq_of_covers 26 _ (by decide +kernel) fun t hf y => ?_
  blk_simp
  rw [after0_26]
  rw [eq_ix2 y]
  refine (point26 m c t (y 0) (y 1)).trans (congrArg (args m c).ogd ?_)
  blk_ext [idxOut t, row]

/-! ## What the kernel ends with -/

theorem post16 (r : PUnit × MemSt nD τ sig (Elt Ideal)) (h : Pipeline.FramePost cfgs (dats m) 0 (V m) r) :
    r.2.mem ((c : Thread nD τ).loc main_v32_0) = (args m c).qa :=
  ((h c).1 16).trans (final16 m c)

theorem post17 (r : PUnit × MemSt nD τ sig (Elt Ideal)) (h : Pipeline.FramePost cfgs (dats m) 0 (V m) r) :
    r.2.mem ((c : Thread nD τ).loc main_v32_1) = (args m c).ka :=
  ((h c).1 17).trans (final17 m c)

theorem post18 (r : PUnit × MemSt nD τ sig (Elt Ideal)) (h : Pipeline.FramePost cfgs (dats m) 0 (V m) r) :
    r.2.mem ((c : Thread nD τ).loc main_v32_2) = (args m c).vat :=
  ((h c).1 18).trans (final18 m c)

theorem post19 (r : PUnit × MemSt nD τ sig (Elt Ideal)) (h : Pipeline.FramePost cfgs (dats m) 0 (V m) r) :
    r.2.mem ((c : Thread nD τ).loc main_v32_3) = (args m c).iq :=
  ((h c).1 19).trans (final19 m c)

theorem post20 (r : PUnit × MemSt nD τ sig (Elt Ideal)) (h : Pipeline.FramePost cfgs (dats m) 0 (V m) r) :
    r.2.mem ((c : Thread nD τ).loc main_v32_4) = (args m c).ik :=
  ((h c).1 20).trans (final20 m c)

theorem post21 (r : PUnit × MemSt nD τ sig (Elt Ideal)) (h : Pipeline.FramePost cfgs (dats m) 0 (V m) r) :
    r.2.mem ((c : Thread nD τ).loc main_v32_5) = (args m c).iwt :=
  ((h c).1 21).trans (final21 m c)

theorem post22 (r : PUnit × MemSt nD τ sig (Elt Ideal)) (h : Pipeline.FramePost cfgs (dats m) 0 (V m) r) :
    r.2.mem ((c : Thread nD τ).loc main_v32_6) = (args m c).cq :=
  ((h c).1 22).trans (final22 m c)

theorem post23 (r : PUnit × MemSt nD τ sig (Elt Ideal)) (h : Pipeline.FramePost cfgs (dats m) 0 (V m) r) :
    r.2.mem ((c : Thread nD τ).loc main_v32_7) = (args m c).ck :=
  ((h c).1 23).trans (final23 m c)

theorem post24 (r : PUnit × MemSt nD τ sig (Elt Ideal)) (h : Pipeline.FramePost cfgs (dats m) 0 (V m) r) :
    r.2.mem ((c : Thread nD τ).loc main_v32_8) = (args m c).cv :=
  ((h c).1 24).trans (final24 m c)

theorem post25 (r : PUnit × MemSt nD τ sig (Elt Ideal)) (h : Pipeline.FramePost cfgs (dats m) 0 (V m) r) :
    r.2.mem ((c : Thread nD τ).loc main_v32_9) = (args m c).ogb :=
  ((h c).1 25).trans (final25 m c)

theorem post26 (r : PUnit × MemSt nD τ sig (Elt Ideal)) (h : Pipeline.FramePost cfgs (dats m) 0 (V m) r) :
    r.2.mem ((c : Thread nD τ).loc main_v32_10) = (args m c).ogd :=
  ((h c).1 26).trans (final26 m c)

end

/-! ## The reference's results -/

section
open Cert.PreMixRefIdeal

/-- The reference ends with its arguments unchanged; it declares no semaphore. -/
theorem ref_frame : Cert.quiescent_PreMixRefIdeal (hPreMixRefIdeal := Cert.PreMixRefIdeal.Gen.facts) := fun m g _ =>
  (θ_run (Cert.PreMixRefIdeal.defs (F := Ideal)) _ _).mono
    (fun r h => ⟨fun c => (h c).2.2.2.2.2.2.2.2.2.2.2, sem_eq_zero_of_no_sems (by decide) r.2⟩) (Cert.PreMixRefIdeal.Value.run m g)

end

theorem algebraic : Cert.algebraic_PreMixIdeal_PreMixRefIdeal (hPreMixIdeal := Cert.PreMixIdeal.Gen.facts)
    (hPreMixRefIdeal := Cert.PreMixRefIdeal.Gen.facts) := by
  intro m g m' g' _ hargs
  refine ⟨fun c => (args m c).qa, fun c => (args m c).ka, fun c => (args m c).vat, fun c => (args m c).iq, fun c => (args m c).ik, fun c => (args m c).iwt, fun c => (args m c).cq, fun c => (args m c).ck, fun c => (args m c).cv, fun c => (args m c).ogb, fun c => (args m c).ogd, ?_, ?_⟩
  · refine (θ_run (Cert.PreMixIdeal.defs (F := Ideal)) _ _).mono (fun r h c => ?_)
      (θ_run_and (Cert.PreMixIdeal.Run.run_main (F := Ideal) m g) (Cert.PreMixIdeal.Run.unchanged (F := Ideal) m g))
    exact ⟨post16 m c r h.1, post17 m c r h.1, post18 m c r h.1, post19 m c r h.1, post20 m c r h.1, post21 m c r h.1, post22 m c r h.1, post23 m c r h.1, post24 m c r h.1, post25 m c r h.1, post26 m c r h.1, h.2 c⟩
  · refine (θ_run (Cert.PreMixRefIdeal.defs (F := Ideal)) _ _).mono (fun r h c => ?_) (Cert.PreMixRefIdeal.Value.run m' g')
    have e : refArgs m' c = args m c := by
      obtain ⟨h0, h1, h2, h3, h4, h5, h6, h7, h8, h9, h10, h11, h12⟩ := hargs c
      unfold refArgs args
      rw [h0, h1, h2, h3, h4, h5, h6, h7, h8, h9, h10, h11, h12]
    obtain ⟨r0, r1, r2, r3, r4, r5, r6, r7, r8, r9, r10, rest⟩ := h c
    have q {β : Type} (f : Args → β) : f (refArgs m' c) = f (args m c) := by rw [e]
    have k0 := (Cert.PreMixRefIdeal.Value.val4_main_v158 (StableHlo.launchContents m' c)).symm.trans ((ends_qa m' c).trans (q Args.qa))
    have k1 := (Cert.PreMixRefIdeal.Value.val4_main_v159 (StableHlo.launchContents m' c)).symm.trans ((ends_ka m' c).trans (q Args.ka))
    have k2 := (Cert.PreMixRefIdeal.Value.val4_main_v162 (StableHlo.launchContents m' c)).symm.trans ((ends_vat m' c).trans (q Args.vat))
    have k3 := (Cert.PreMixRefIdeal.Value.val4_main_v68 (StableHlo.launchContents m' c)).symm.trans ((ends_iq m' c).trans (q Args.iq))
    have k4 := (Cert.PreMixRefIdeal.Value.val4_main_v163 (StableHlo.launchContents m' c)).symm.trans ((ends_ik m' c).trans (q Args.ik))
    have k5 := (Cert.PreMixRefIdeal.Value.val4_main_v167 (StableHlo.launchContents m' c)).symm.trans ((ends_iwt m' c).trans (q Args.iwt))
    have k6 := (Cert.PreMixRefIdeal.Value.val4_main_v170 (StableHlo.launchContents m' c)).symm.trans ((ends_cq m' c).trans (q Args.cq))
    have k7 := (Cert.PreMixRefIdeal.Value.val4_main_v171 (StableHlo.launchContents m' c)).symm.trans ((ends_ck m' c).trans (q Args.ck))
    have k8 := (Cert.PreMixRefIdeal.Value.val4_main_v172 (StableHlo.launchContents m' c)).symm.trans ((ends_cv m' c).trans (q Args.cv))
    have k9 := (Cert.PreMixRefIdeal.Value.val4_main_v175 (StableHlo.launchContents m' c)).symm.trans ((ends_ogb m' c).trans (q Args.ogb))
    have k10 := (Cert.PreMixRefIdeal.Value.val4_main_v178 (StableHlo.launchContents m' c)).symm.trans ((ends_ogd m' c).trans (q Args.ogd))
    exact ⟨r0.trans k0, r1.trans k1, r2.trans k2, r3.trans k3, r4.trans k4, r5.trans k5, r6.trans k6, r7.trans k7, r8.trans k8, r9.trans k9, r10.trans k10, rest⟩

end Cert.Proof.PreMix

end
-- ==== Proof.lean ====
/-
  The proof of `Cert.Claim` (Defs.lean): the frame of the sparse-attention call, and for the merge call and
  the layer's first step (`PreMix`) their frames and that they compute, over the reals, what their references do.
-/
module

public import proofs.«01_k».proof.Defs
public import proofs.«01_k».proof.Proof.Gen.Kernel
public import proofs.«01_k».proof.Proof.DsaFrame
public import proofs.«01_k».proof.Proof.Gen.Merge.Frame
public import proofs.«01_k».proof.Proof.Gen.MergeIdeal.Value
public import proofs.«01_k».proof.Proof.Gen.MergeRefIdeal.Run
public import proofs.«01_k».proof.Proof.Merge.Algebraic
public import proofs.«01_k».proof.Proof.PreMix.Bits.Frame
public import proofs.«01_k».proof.Proof.Gen.PreMixRefIdeal.Run
public import proofs.«01_k».proof.Proof.PreMix.Algebraic

@[expose] public section

noncomputable section

namespace Cert.Proof

open Idealize.ShloMosaic

theorem claim : Cert.Claim :=
  ⟨Cert.Kernel.Gen.facts, Cert.Merge.Gen.facts, Cert.MergeIdeal.Gen.facts, Cert.MergeRefIdeal.Gen.facts,
    Cert.PreMix.Gen.facts, Cert.PreMixIdeal.Gen.facts, Cert.PreMixRefIdeal.Gen.facts,
    fun m g _ => Dsa.frame m g,
    fun m g _ => Cert.Merge.Gen.frame m g, fun m g _ => Cert.MergeIdeal.Gen.frame m g, Merge.ref_frame,
    fun m g _ => Cert.PreMix.Run.frame (F := Bits) m g, fun m g _ => Cert.PreMixIdeal.Run.frame (F := Ideal) m g,
    PreMix.ref_frame, trivial, Merge.algebraic, trivial, PreMix.algebraic⟩

end Cert.Proof

end
